-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_varied [hPre_finite_and_varied : Cert.Pre_finite_and_varied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_varied [hPre_finite_and_varied : Cert.Pre_finite_and_varied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_and_varied [hKernelIdeal : Cert.KernelIdeal.Facts] [hPre_finite_and_varied : Cert.Pre_finite_and_varied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_varied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_and_varied [hReferenceIdeal : Cert.ReferenceIdeal.Facts] [hPre_finite_and_varied : Cert.Pre_finite_and_varied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_varied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_and_varied [hKernelIdeal : Cert.KernelIdeal.Facts] [hReferenceIdeal : Cert.ReferenceIdeal.Facts] [hPre_finite_and_varied : Cert.Pre_finite_and_varied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_varied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v355)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v355) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v724) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_and_varied : Cert.Pre_finite_and_varied.Facts),
    quiescent_Kernel (hKernel := hKernel)
    ∧ quiescent_KernelIdeal (hKernelIdeal := hKernelIdeal)
    ∧ quiescent_KernelIdeal_pre_finite_and_varied (hKernelIdeal := hKernelIdeal) (hPre_finite_and_varied := hPre_finite_and_varied)
    ∧ quiescent_ReferenceIdeal (hReferenceIdeal := hReferenceIdeal)
    ∧ quiescent_ReferenceIdeal_pre_finite_and_varied (hReferenceIdeal := hReferenceIdeal) (hPre_finite_and_varied := hPre_finite_and_varied)
    ∧ preserves_Kernel_KernelIdeal
    ∧ algebraic_KernelIdeal_ReferenceIdeal_pre_finite_and_varied (hKernelIdeal := hKernelIdeal) (hReferenceIdeal := hReferenceIdeal) (hPre_finite_and_varied := hPre_finite_and_varied)
-- ==== Pre_finite_and_varied.lean ====
abbrev S8x3x256x256 : Shape := ⟨4, ![8, 3, 256, 256]⟩
abbrev S64x6x3x3 : Shape := ⟨4, ![64, 6, 3, 3]⟩
abbrev S64 : Shape := ⟨1, ![64]⟩
abbrev S3x2x64x64x3x3 : Shape := ⟨6, ![3, 2, 64, 64, 3, 3]⟩
abbrev S3x2x64 : Shape := ⟨3, ![3, 2, 64]⟩
abbrev S3x64x3x3 : Shape := ⟨4, ![3, 64, 3, 3]⟩
abbrev S3 : Shape := ⟨1, ![3]⟩
abbrev S_ : Shape := ⟨0, ![]⟩
abbrev S8x3 : Shape := ⟨2, ![8, 3]⟩

class Facts : Prop where
  bcast_S_S8x3x256x256 : S_.BroadcastsInDim S8x3x256x256 (![] : Fin 0 → Fin S8x3x256x256.rank)
  bcast_S_S64x6x3x3 : S_.BroadcastsInDim S64x6x3x3 (![] : Fin 0 → Fin S64x6x3x3.rank)
  bcast_S_S64 : S_.BroadcastsInDim S64 (![] : Fin 0 → Fin S64.rank)
  bcast_S_S3x2x64x64x3x3 : S_.BroadcastsInDim S3x2x64x64x3x3 (![] : Fin 0 → Fin S3x2x64x64x3x3.rank)
  bcast_S_S3x2x64 : S_.BroadcastsInDim S3x2x64 (![] : Fin 0 → Fin S3x2x64.rank)
  reducesTo_S8x3x256x256_S8x3_d2_3 : S8x3x256x256.ReducesTo [2, 3] S8x3
  h_S_ : 0 < S_.numel

variable [Facts]

def fn_part1 {F : FTy → Type} [FloatOps F] (main_arg0 : FVec F S8x3x256x256 .f32) (main_arg6 : FVec F S3x2x64 .f32) (main_arg7 : FVec F S3x2x64 .f32) (main_arg8 : FVec F S3x2x64 .f32) (main_v2 : IVec S8x3x256x256 1) (main_v5 : IVec S64x6x3x3 1) (main_v8 : IVec S64 1) (main_v11 : IVec S64 1) (main_v14 : IVec S64 1) (main_v17 : IVec S3x2x64x64x3x3 1) : IVec S8x3x256x256 1 × IVec S64x6x3x3 1 × IVec S64 1 × IVec S64 1 × IVec S64 1 × IVec S3x2x64x64x3x3 1 × IVec S3x2x64 1 × IVec S3x2x64 1 × IVec S3x2x64 1 × IVec S8x3 1 :=
  let main_v18 : FVec F S3x2x64 .f32 := Host.absf main_arg6
  let main_cst_5 : FVec F S_ .f32 := constant S_ .f32 0x7F800000#32
  let main_v19 : FVec F S3x2x64 .f32 := broadcastInDim S3x2x64 ![] bcast_S_S3x2x64 main_cst_5
  let main_v20 : IVec S3x2x64 1 := cmpf .olt main_v18 main_v19
  let main_v21 : FVec F S3x2x64 .f32 := Host.absf main_arg7
  let main_cst_6 : FVec F S_ .f32 := constant S_ .f32 0x7F800000#32
  let main_v22 : FVec F S3x2x64 .f32 := broadcastInDim S3x2x64 ![] bcast_S_S3x2x64 main_cst_6
  let main_v23 : IVec S3x2x64 1 := cmpf .olt main_v21 main_v22
  let main_v24 : FVec F S3x2x64 .f32 := Host.absf main_arg8
  let main_cst_7 : FVec F S_ .f32 := constant S_ .f32 0x7F800000#32
  let main_v25 : FVec F S3x2x64 .f32 := broadcastInDim S3x2x64 ![] bcast_S_S3x2x64 main_cst_7
  let main_v26 : IVec S3x2x64 1 := cmpf .olt main_v24 main_v25
  let main_cst_8 : FVec F S_ .f32 := constant S_ .f32 0x7F800000#32
  let main_v27 : FVec F S8x3 .f32 := (fun x v => Host.reduce FloatOps.minimumf x v reducesTo_S8x3x256x256_S8x3_d2_3 h_S_) main_arg0 main_cst_8
  let main_cst_9 : FVec F S_ .f32 := constant S_ .f32 0xFF800000#32
  let main_v28 : FVec F S8x3 .f32 := (fun x v => Host.reduce FloatOps.maximumf x v reducesTo_S8x3x256x256_S8x3_d2_3 h_S_) main_arg0 main_cst_9
  let main_v29 : IVec S8x3 1 := cmpf .olt main_v27 main_v28
  (main_v2, main_v5, main_v8, main_v11, main_v14, main_v17, main_v20, main_v23, main_v26, main_v29)

def fn {F : FTy → Type} [FloatOps F] (main_arg0 : FVec F S8x3x256x256 .f32) (main_arg1 : FVec F S64x6x3x3 .f32) (main_arg2 : FVec F S64 .f32) (main_arg3 : FVec F S64 .f32) (main_arg4 : FVec F S64 .f32) (main_arg5 : FVec F S3x2x64x64x3x3 .f32) (main_arg6 : FVec F S3x2x64 .f32) (main_arg7 : FVec F S3x2x64 .f32) (main_arg8 : FVec F S3x2x64 .f32) (main_arg9 : FVec F S3x64x3x3 .f32) (main_arg10 : FVec F S3 .f32) : IVec S8x3x256x256 1 × IVec S64x6x3x3 1 × IVec S64 1 × IVec S64 1 × IVec S64 1 × IVec S3x2x64x64x3x3 1 × IVec S3x2x64 1 × IVec S3x2x64 1 × IVec S3x2x64 1 × IVec S8x3 1 :=
  let main_v0 : FVec F S8x3x256x256 .f32 := Host.absf main_arg0
  let main_cst : FVec F S_ .f32 := constant S_ .f32 0x7F800000#32
  let main_v1 : FVec F S8x3x256x256 .f32 := broadcastInDim S8x3x256x256 ![] bcast_S_S8x3x256x256 main_cst
  let main_v2 : IVec S8x3x256x256 1 := cmpf .olt main_v0 main_v1
  let main_v3 : FVec F S64x6x3x3 .f32 := Host.absf main_arg1
  let main_cst_0 : FVec F S_ .f32 := constant S_ .f32 0x7F800000#32
  let main_v4 : FVec F S64x6x3x3 .f32 := broadcastInDim S64x6x3x3 ![] bcast_S_S64x6x3x3 main_cst_0
  let main_v5 : IVec S64x6x3x3 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S3x2x64x64x3x3 .f32 := Host.absf main_arg5
  let main_cst_4 : FVec F S_ .f32 := constant S_ .f32 0x7F800000#32
  let main_v16 : FVec F S3x2x64x64x3x3 .f32 := broadcastInDim S3x2x64x64x3x3 ![] bcast_S_S3x2x64x64x3x3 main_cst_4
  let main_v17 : IVec S3x2x64x64x3x3 1 := cmpf .olt main_v15 main_v16
  fn_part1 (F := F) main_arg0 main_arg6 main_arg7 main_arg8 main_v2 main_v5 main_v8 main_v11 main_v14 main_v17
-- ==== Kernel.lean ====
abbrev S8x3x256x256 : Shape := ⟨4, ![8, 3, 256, 256]⟩
abbrev S64x6x3x3 : Shape := ⟨4, ![64, 6, 3, 3]⟩
abbrev S64 : Shape := ⟨1, ![64]⟩
abbrev S3x2x64x64x3x3 : Shape := ⟨6, ![3, 2, 64, 64, 3, 3]⟩
abbrev S3x2x64 : Shape := ⟨3, ![3, 2, 64]⟩
abbrev S3x64x3x3 : Shape := ⟨4, ![3, 64, 3, 3]⟩
abbrev S3 : Shape := ⟨1, ![3]⟩
abbrev S3x3x6x64 : Shape := ⟨4, ![3, 3, 6, 64]⟩
abbrev S54x64 : Shape := ⟨2, ![54, 64]⟩
abbrev S1x1x64x64x3x3 : Shape := ⟨6, ![1, 1, 64, 64, 3, 3]⟩
abbrev S64x64x3x3 : Shape := ⟨4, ![64, 64, 3, 3]⟩
abbrev S3x3x64x64 : Shape := ⟨4, ![3, 3, 64, 64]⟩
abbrev S3x192x64 : Shape := ⟨3, ![3, 192, 64]⟩
abbrev S1x192x64 : Shape := ⟨3, ![1, 192, 64]⟩
abbrev S192x64 : Shape := ⟨2, ![192, 64]⟩
abbrev S_ : Shape := ⟨0, ![]⟩
abbrev S192x256 : Shape := ⟨2, ![192, 256]⟩
abbrev S3x3x64x3 : Shape := ⟨4, ![3, 3, 64, 3]⟩
abbrev S3x192x3 : Shape := ⟨3, ![3, 192, 3]⟩
abbrev S1x192x3 : Shape := ⟨3, ![1, 192, 3]⟩
abbrev S192x3 : Shape := ⟨2, ![192, 3]⟩
abbrev S8x8x8 : Shape := ⟨3, ![8, 8, 8]⟩
abbrev S1x3x256x256 : Shape := ⟨4, ![1, 3, 256, 256]⟩
abbrev S1x8x8 : Shape := ⟨3, ![1, 8, 8]⟩
abbrev S3x256x256 : Shape := ⟨3, ![3, 256, 256]⟩
abbrev S3x1x1 : Shape := ⟨3, ![3, 1, 1]⟩
abbrev S5 : Shape := ⟨1, ![5]⟩
abbrev S8 : Shape := ⟨1, ![8]⟩
abbrev S1x8 : Shape := ⟨2, ![1, 8]⟩
abbrev S6x8 : Shape := ⟨2, ![6, 8]⟩
abbrev S8x8 : Shape := ⟨2, ![8, 8]⟩
abbrev S2048x256x3 : Shape := ⟨3, ![2048, 256, 3]⟩
abbrev S1x3x32x256 : Shape := ⟨4, ![1, 3, 32, 256]⟩
abbrev S32x256x3 : Shape := ⟨3, ![32, 256, 3]⟩
abbrev S3x32x256 : Shape := ⟨3, ![3, 32, 256]⟩
abbrev S2048x128x6 : Shape := ⟨3, ![2048, 128, 6]⟩
abbrev S2048x128x128 : Shape := ⟨3, ![2048, 128, 128]⟩
abbrev S64x8x128 : Shape := ⟨3, ![64, 8, 128]⟩
abbrev S32x128x6 : Shape := ⟨3, ![32, 128, 6]⟩
abbrev S1x128x6 : Shape := ⟨3, ![1, 128, 6]⟩
abbrev S32x128x128 : Shape := ⟨3, ![32, 128, 128]⟩
abbrev S1x8x128 : Shape := ⟨3, ![1, 8, 128]⟩
abbrev S34x128x12 : Shape := ⟨3, ![34, 128, 12]⟩
abbrev S32x128x54 : Shape := ⟨3, ![32, 128, 54]⟩
abbrev S1x3 : Shape := ⟨2, ![1, 3]⟩
abbrev S6 : Shape := ⟨1, ![6]⟩
abbrev S1x1x6 : Shape := ⟨3, ![1, 1, 6]⟩
abbrev S1x128x3 : Shape := ⟨3, ![1, 128, 3]⟩
abbrev S1x128x12 : Shape := ⟨3, ![1, 128, 12]⟩
abbrev S32x128x3 : Shape := ⟨3, ![32, 128, 3]⟩
abbrev S32x128x12 : Shape := ⟨3, ![32, 128, 12]⟩
abbrev S32x1x6 : Shape := ⟨3, ![32, 1, 6]⟩
abbrev S32x127x6 : Shape := ⟨3, ![32, 127, 6]⟩
abbrev S128 : Shape := ⟨1, ![128]⟩
abbrev S8x128x54 : Shape := ⟨3, ![8, 128, 54]⟩
abbrev S1024x54 : Shape := ⟨2, ![1024, 54]⟩
abbrev S1024x64 : Shape := ⟨2, ![1024, 64]⟩
abbrev S8x128x64 : Shape := ⟨3, ![8, 128, 64]⟩
abbrev S8x128x128 : Shape := ⟨3, ![8, 128, 128]⟩
abbrev S1x128 : Shape := ⟨2, ![1, 128]⟩
abbrev S6x128 : Shape := ⟨2, ![6, 128]⟩
abbrev S8x128 : Shape := ⟨2, ![8, 128]⟩
abbrev S64x1x128 : Shape := ⟨3, ![64, 1, 128]⟩
abbrev S64x128 : Shape := ⟨2, ![64, 128]⟩
abbrev S1x128x128 : Shape := ⟨3, ![1, 128, 128]⟩
abbrev S34x128x192 : Shape := ⟨3, ![34, 128, 192]⟩
abbrev S34x128x256 : Shape := ⟨3, ![34, 128, 256]⟩
abbrev S1x1x128 : Shape := ⟨3, ![1, 1, 128]⟩
abbrev S1x128x64 : Shape := ⟨3, ![1, 128, 64]⟩
abbrev S1x127x64 : Shape := ⟨3, ![1, 127, 64]⟩
abbrev S32x128x64 : Shape := ⟨3, ![32, 128, 64]⟩
abbrev S32x127x64 : Shape := ⟨3, ![32, 127, 64]⟩
abbrev S34x1x64 : Shape := ⟨3, ![34, 1, 64]⟩
abbrev S7x128x192 : Shape := ⟨3, ![7, 128, 192]⟩
abbrev S896x192 : Shape := ⟨2, ![896, 192]⟩
abbrev S896x256 : Shape := ⟨2, ![896, 256]⟩
abbrev S7x128x256 : Shape := ⟨3, ![7, 128, 256]⟩
abbrev S6x128x192 : Shape := ⟨3, ![6, 128, 192]⟩
abbrev S768x192 : Shape := ⟨2, ![768, 192]⟩
abbrev S768x256 : Shape := ⟨2, ![768, 256]⟩
abbrev S6x128x256 : Shape := ⟨3, ![6, 128, 256]⟩
abbrev S1x1x64 : Shape := ⟨3, ![1, 1, 64]⟩
abbrev S122 : Shape := ⟨1, ![122]⟩
abbrev S5x128 : Shape := ⟨2, ![5, 128]⟩
abbrev S8x128x3 : Shape := ⟨3, ![8, 128, 3]⟩
abbrev S8x128x6 : Shape := ⟨3, ![8, 128, 6]⟩

abbrev nBuf : Space → Nat
  | .hbm => 469
  | .vmem => 163
  | .smem => 0
  | _ => 0

abbrev hbmTy0_0 (i : Nat) : BufTy := match i % 128 with
  | 0 => ⟨S8x3x256x256, .f32⟩
  | 1 => ⟨S64x6x3x3, .f32⟩
  | 2 => ⟨S64, .f32⟩
  | 3 => ⟨S64, .f32⟩
  | 4 => ⟨S64, .f32⟩
  | 5 => ⟨S3x2x64x64x3x3, .f32⟩
  | 6 => ⟨S3x2x64, .f32⟩
  | 7 => ⟨S3x2x64, .f32⟩
  | 8 => ⟨S3x2x64, .f32⟩
  | 9 => ⟨S3x64x3x3, .f32⟩
  | 10 => ⟨S3, .f32⟩
  | 11 => ⟨S3x3x6x64, .f32⟩
  | 12 => ⟨S54x64, .f32⟩
  | 13 => ⟨S1x1x64x64x3x3, .f32⟩
  | 14 => ⟨S64x64x3x3, .f32⟩
  | 15 => ⟨S3x3x64x64, .f32⟩
  | 16 => ⟨S3x192x64, .f32⟩
  | 17 => ⟨S1x192x64, .f32⟩
  | 18 => ⟨S192x64, .f32⟩
  | 19 => ⟨S_, .i32⟩
  | 20 => ⟨S_, .f32⟩
  | 21 => ⟨S192x64, .f32⟩
  | 22 => ⟨S1x192x64, .f32⟩
  | 23 => ⟨S192x64, .f32⟩
  | 24 => ⟨S_, .i32⟩
  | 25 => ⟨S_, .f32⟩
  | 26 => ⟨S192x64, .f32⟩
  | 27 => ⟨S1x192x64, .f32⟩
  | 28 => ⟨S192x64, .f32⟩
  | 29 => ⟨S_, .i32⟩
  | 30 => ⟨S_, .f32⟩
  | 31 => ⟨S192x64, .f32⟩
  | 32 => ⟨S_, .f32⟩
  | 33 => ⟨S192x64, .f32⟩
  | 34 => ⟨S192x256, .f32⟩
  | 35 => ⟨S1x1x64x64x3x3, .f32⟩
  | 36 => ⟨S64x64x3x3, .f32⟩
  | 37 => ⟨S3x3x64x64, .f32⟩
  | 38 => ⟨S3x192x64, .f32⟩
  | 39 => ⟨S1x192x64, .f32⟩
  | 40 => ⟨S192x64, .f32⟩
  | 41 => ⟨S_, .i32⟩
  | 42 => ⟨S_, .f32⟩
  | 43 => ⟨S192x64, .f32⟩
  | 44 => ⟨S1x192x64, .f32⟩
  | 45 => ⟨S192x64, .f32⟩
  | 46 => ⟨S_, .i32⟩
  | 47 => ⟨S_, .f32⟩
  | 48 => ⟨S192x64, .f32⟩
  | 49 => ⟨S1x192x64, .f32⟩
  | 50 => ⟨S192x64, .f32⟩
  | 51 => ⟨S_, .i32⟩
  | 52 => ⟨S_, .f32⟩
  | 53 => ⟨S192x64, .f32⟩
  | 54 => ⟨S_, .f32⟩
  | 55 => ⟨S192x64, .f32⟩
  | 56 => ⟨S192x256, .f32⟩
  | 57 => ⟨S1x1x64x64x3x3, .f32⟩
  | 58 => ⟨S64x64x3x3, .f32⟩
  | 59 => ⟨S3x3x64x64, .f32⟩
  | 60 => ⟨S3x192x64, .f32⟩
  | 61 => ⟨S1x192x64, .f32⟩
  | 62 => ⟨S192x64, .f32⟩
  | 63 => ⟨S_, .i32⟩
  | 64 => ⟨S_, .f32⟩
  | 65 => ⟨S192x64, .f32⟩
  | 66 => ⟨S1x192x64, .f32⟩
  | 67 => ⟨S192x64, .f32⟩
  | 68 => ⟨S_, .i32⟩
  | 69 => ⟨S_, .f32⟩
  | 70 => ⟨S192x64, .f32⟩
  | 71 => ⟨S1x192x64, .f32⟩
  | 72 => ⟨S192x64, .f32⟩
  | 73 => ⟨S_, .i32⟩
  | 74 => ⟨S_, .f32⟩
  | 75 => ⟨S192x64, .f32⟩
  | 76 => ⟨S_, .f32⟩
  | 77 => ⟨S192x64, .f32⟩
  | 78 => ⟨S192x256, .f32⟩
  | 79 => ⟨S1x1x64x64x3x3, .f32⟩
  | 80 => ⟨S64x64x3x3, .f32⟩
  | 81 => ⟨S3x3x64x64, .f32⟩
  | 82 => ⟨S3x192x64, .f32⟩
  | 83 => ⟨S1x192x64, .f32⟩
  | 84 => ⟨S192x64, .f32⟩
  | 85 => ⟨S_, .i32⟩
  | 86 => ⟨S_, .f32⟩
  | 87 => ⟨S192x64, .f32⟩
  | 88 => ⟨S1x192x64, .f32⟩
  | 89 => ⟨S192x64, .f32⟩
  | 90 => ⟨S_, .i32⟩
  | 91 => ⟨S_, .f32⟩
  | 92 => ⟨S192x64, .f32⟩
  | 93 => ⟨S1x192x64, .f32⟩
  | 94 => ⟨S192x64, .f32⟩
  | 95 => ⟨S_, .i32⟩
  | 96 => ⟨S_, .f32⟩
  | 97 => ⟨S192x64, .f32⟩
  | 98 => ⟨S_, .f32⟩
  | 99 => ⟨S192x64, .f32⟩
  | 100 => ⟨S192x256, .f32⟩
  | 101 => ⟨S1x1x64x64x3x3, .f32⟩
  | 102 => ⟨S64x64x3x3, .f32⟩
  | 103 => ⟨S3x3x64x64, .f32⟩
  | 104 => ⟨S3x192x64, .f32⟩
  | 105 => ⟨S1x192x64, .f32⟩
  | 106 => ⟨S192x64, .f32⟩
  | 107 => ⟨S_, .i32⟩
  | 108 => ⟨S_, .f32⟩
  | 109 => ⟨S192x64, .f32⟩
  | 110 => ⟨S1x192x64, .f32⟩
  | 111 => ⟨S192x64, .f32⟩
  | 112 => ⟨S_, .i32⟩
  | 113 => ⟨S_, .f32⟩
  | 114 => ⟨S192x64, .f32⟩
  | 115 => ⟨S1x192x64, .f32⟩
  | 116 => ⟨S192x64, .f32⟩
  | 117 => ⟨S_, .i32⟩
  | 118 => ⟨S_, .f32⟩
  | 119 => ⟨S192x64, .f32⟩
  | 120 => ⟨S_, .f32⟩
  | 121 => ⟨S192x64, .f32⟩
  | 122 => ⟨S192x256, .f32⟩
  | 123 => ⟨S1x1x64x64x3x3, .f32⟩
  | 124 => ⟨S64x64x3x3, .f32⟩
  | 125 => ⟨S3x3x64x64, .f32⟩
  | 126 => ⟨S3x192x64, .f32⟩
  | 127 => ⟨S1x192x64, .f32⟩
  | _ => ⟨S8x3x256x256, .f32⟩

abbrev hbmTy0_1 (i : Nat) : BufTy := match i % 128 with
  | 0 => ⟨S192x64, .f32⟩
  | 1 => ⟨S_, .i32⟩
  | 2 => ⟨S_, .f32⟩
  | 3 => ⟨S192x64, .f32⟩
  | 4 => ⟨S1x192x64, .f32⟩
  | 5 => ⟨S192x64, .f32⟩
  | 6 => ⟨S_, .i32⟩
  | 7 => ⟨S_, .f32⟩
  | 8 => ⟨S192x64, .f32⟩
  | 9 => ⟨S1x192x64, .f32⟩
  | 10 => ⟨S192x64, .f32⟩
  | 11 => ⟨S_, .i32⟩
  | 12 => ⟨S_, .f32⟩
  | 13 => ⟨S192x64, .f32⟩
  | 14 => ⟨S_, .f32⟩
  | 15 => ⟨S192x64, .f32⟩
  | 16 => ⟨S192x256, .f32⟩
  | 17 => ⟨S3x3x64x3, .f32⟩
  | 18 => ⟨S3x192x3, .f32⟩
  | 19 => ⟨S1x192x3, .f32⟩
  | 20 => ⟨S192x3, .f32⟩
  | 21 => ⟨S_, .i32⟩
  | 22 => ⟨S_, .f32⟩
  | 23 => ⟨S192x64, .f32⟩
  | 24 => ⟨S1x192x3, .f32⟩
  | 25 => ⟨S192x3, .f32⟩
  | 26 => ⟨S_, .i32⟩
  | 27 => ⟨S_, .f32⟩
  | 28 => ⟨S192x64, .f32⟩
  | 29 => ⟨S1x192x3, .f32⟩
  | 30 => ⟨S192x3, .f32⟩
  | 31 => ⟨S_, .i32⟩
  | 32 => ⟨S_, .f32⟩
  | 33 => ⟨S192x64, .f32⟩
  | 34 => ⟨S_, .f32⟩
  | 35 => ⟨S192x64, .f32⟩
  | 36 => ⟨S192x256, .f32⟩
  | 37 => ⟨S8x8x8, .f32⟩
  | 38 => ⟨S2048x256x3, .f32⟩
  | 39 => ⟨S2048x128x6, .f32⟩
  | 40 => ⟨S2048x128x128, .f32⟩
  | 41 => ⟨S64x8x128, .f32⟩
  | 42 => ⟨S64x1x128, .f32⟩
  | 43 => ⟨S64x128, .f32⟩
  | 44 => ⟨S_, .f32⟩
  | 45 => ⟨S128, .f32⟩
  | 46 => ⟨S64x1x128, .f32⟩
  | 47 => ⟨S64x128, .f32⟩
  | 48 => ⟨S_, .f32⟩
  | 49 => ⟨S128, .f32⟩
  | 50 => ⟨S64, .f32⟩
  | 51 => ⟨S64, .f32⟩
  | 52 => ⟨S64, .f32⟩
  | 53 => ⟨S64, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S64, .f32⟩
  | 63 => ⟨S64, .f32⟩
  | 64 => ⟨S_, .f32⟩
  | 65 => ⟨S64, .f32⟩
  | 66 => ⟨S64, .f32⟩
  | 67 => ⟨S64, .f32⟩
  | 68 => ⟨S64, .f32⟩
  | 69 => ⟨S64, .f32⟩
  | 70 => ⟨S64, .f32⟩
  | 71 => ⟨S128, .f32⟩
  | 72 => ⟨S1x128, .f32⟩
  | 73 => ⟨S128, .f32⟩
  | 74 => ⟨S1x128, .f32⟩
  | 75 => ⟨S_, .f32⟩
  | 76 => ⟨S6x128, .f32⟩
  | 77 => ⟨S8x128, .f32⟩
  | 78 => ⟨S2048x128x128, .f32⟩
  | 79 => ⟨S64x8x128, .f32⟩
  | 80 => ⟨S2048x128x128, .f32⟩
  | 81 => ⟨S1x1x64, .f32⟩
  | 82 => ⟨S64, .f32⟩
  | 83 => ⟨S1x1x64, .f32⟩
  | 84 => ⟨S64, .f32⟩
  | 85 => ⟨S64x1x128, .f32⟩
  | 86 => ⟨S64x128, .f32⟩
  | 87 => ⟨S_, .f32⟩
  | 88 => ⟨S128, .f32⟩
  | 89 => ⟨S64x1x128, .f32⟩
  | 90 => ⟨S64x128, .f32⟩
  | 91 => ⟨S_, .f32⟩
  | 92 => ⟨S128, .f32⟩
  | 93 => ⟨S64, .f32⟩
  | 94 => ⟨S64, .f32⟩
  | 95 => ⟨S64, .f32⟩
  | 96 => ⟨S64, .f32⟩
  | 97 => ⟨S64, .f32⟩
  | 98 => ⟨S64, .f32⟩
  | 99 => ⟨S_, .f32⟩
  | 100 => ⟨S64, .f32⟩
  | 101 => ⟨S64, .f32⟩
  | 102 => ⟨S_, .f32⟩
  | 103 => ⟨S64, .f32⟩
  | 104 => ⟨S64, .f32⟩
  | 105 => ⟨S64, .f32⟩
  | 106 => ⟨S64, .f32⟩
  | 107 => ⟨S_, .f32⟩
  | 108 => ⟨S64, .f32⟩
  | 109 => ⟨S64, .f32⟩
  | 110 => ⟨S64, .f32⟩
  | 111 => ⟨S64, .f32⟩
  | 112 => ⟨S64, .f32⟩
  | 113 => ⟨S64, .f32⟩
  | 114 => ⟨S128, .f32⟩
  | 115 => ⟨S1x128, .f32⟩
  | 116 => ⟨S128, .f32⟩
  | 117 => ⟨S1x128, .f32⟩
  | 118 => ⟨S_, .f32⟩
  | 119 => ⟨S6x128, .f32⟩
  | 120 => ⟨S8x128, .f32⟩
  | 121 => ⟨S2048x128x128, .f32⟩
  | 122 => ⟨S64x8x128, .f32⟩
  | 123 => ⟨S1x1x64, .f32⟩
  | 124 => ⟨S64, .f32⟩
  | 125 => ⟨S1x1x64, .f32⟩
  | 126 => ⟨S64, .f32⟩
  | 127 => ⟨S64x1x128, .f32⟩
  | _ => ⟨S8x3x256x256, .f32⟩

abbrev hbmTy0_2 (i : Nat) : BufTy := match i % 128 with
  | 0 => ⟨S64x128, .f32⟩
  | 1 => ⟨S_, .f32⟩
  | 2 => ⟨S128, .f32⟩
  | 3 => ⟨S64x1x128, .f32⟩
  | 4 => ⟨S64x128, .f32⟩
  | 5 => ⟨S_, .f32⟩
  | 6 => ⟨S128, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S64, .f32⟩
  | 20 => ⟨S64, .f32⟩
  | 21 => ⟨S_, .f32⟩
  | 22 => ⟨S64, .f32⟩
  | 23 => ⟨S64, .f32⟩
  | 24 => ⟨S64, .f32⟩
  | 25 => ⟨S64, .f32⟩
  | 26 => ⟨S64, .f32⟩
  | 27 => ⟨S64, .f32⟩
  | 28 => ⟨S128, .f32⟩
  | 29 => ⟨S1x128, .f32⟩
  | 30 => ⟨S128, .f32⟩
  | 31 => ⟨S1x128, .f32⟩
  | 32 => ⟨S_, .f32⟩
  | 33 => ⟨S6x128, .f32⟩
  | 34 => ⟨S8x128, .f32⟩
  | 35 => ⟨S2048x128x128, .f32⟩
  | 36 => ⟨S64x8x128, .f32⟩
  | 37 => ⟨S2048x128x128, .f32⟩
  | 38 => ⟨S1x1x64, .f32⟩
  | 39 => ⟨S64, .f32⟩
  | 40 => ⟨S1x1x64, .f32⟩
  | 41 => ⟨S64, .f32⟩
  | 42 => ⟨S64x1x128, .f32⟩
  | 43 => ⟨S64x128, .f32⟩
  | 44 => ⟨S_, .f32⟩
  | 45 => ⟨S128, .f32⟩
  | 46 => ⟨S64x1x128, .f32⟩
  | 47 => ⟨S64x128, .f32⟩
  | 48 => ⟨S_, .f32⟩
  | 49 => ⟨S128, .f32⟩
  | 50 => ⟨S64, .f32⟩
  | 51 => ⟨S64, .f32⟩
  | 52 => ⟨S64, .f32⟩
  | 53 => ⟨S64, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S64, .f32⟩
  | 63 => ⟨S64, .f32⟩
  | 64 => ⟨S_, .f32⟩
  | 65 => ⟨S64, .f32⟩
  | 66 => ⟨S64, .f32⟩
  | 67 => ⟨S64, .f32⟩
  | 68 => ⟨S64, .f32⟩
  | 69 => ⟨S64, .f32⟩
  | 70 => ⟨S64, .f32⟩
  | 71 => ⟨S128, .f32⟩
  | 72 => ⟨S1x128, .f32⟩
  | 73 => ⟨S128, .f32⟩
  | 74 => ⟨S1x128, .f32⟩
  | 75 => ⟨S_, .f32⟩
  | 76 => ⟨S6x128, .f32⟩
  | 77 => ⟨S8x128, .f32⟩
  | 78 => ⟨S2048x128x128, .f32⟩
  | 79 => ⟨S64x8x128, .f32⟩
  | 80 => ⟨S1x1x64, .f32⟩
  | 81 => ⟨S64, .f32⟩
  | 82 => ⟨S1x1x64, .f32⟩
  | 83 => ⟨S64, .f32⟩
  | 84 => ⟨S64x1x128, .f32⟩
  | 85 => ⟨S64x128, .f32⟩
  | 86 => ⟨S_, .f32⟩
  | 87 => ⟨S128, .f32⟩
  | 88 => ⟨S64x1x128, .f32⟩
  | 89 => ⟨S64x128, .f32⟩
  | 90 => ⟨S_, .f32⟩
  | 91 => ⟨S128, .f32⟩
  | 92 => ⟨S64, .f32⟩
  | 93 => ⟨S64, .f32⟩
  | 94 => ⟨S64, .f32⟩
  | 95 => ⟨S64, .f32⟩
  | 96 => ⟨S64, .f32⟩
  | 97 => ⟨S64, .f32⟩
  | 98 => ⟨S_, .f32⟩
  | 99 => ⟨S64, .f32⟩
  | 100 => ⟨S64, .f32⟩
  | 101 => ⟨S_, .f32⟩
  | 102 => ⟨S64, .f32⟩
  | 103 => ⟨S64, .f32⟩
  | 104 => ⟨S64, .f32⟩
  | 105 => ⟨S64, .f32⟩
  | 106 => ⟨S_, .f32⟩
  | 107 => ⟨S64, .f32⟩
  | 108 => ⟨S64, .f32⟩
  | 109 => ⟨S64, .f32⟩
  | 110 => ⟨S64, .f32⟩
  | 111 => ⟨S64, .f32⟩
  | 112 => ⟨S64, .f32⟩
  | 113 => ⟨S128, .f32⟩
  | 114 => ⟨S1x128, .f32⟩
  | 115 => ⟨S128, .f32⟩
  | 116 => ⟨S1x128, .f32⟩
  | 117 => ⟨S_, .f32⟩
  | 118 => ⟨S6x128, .f32⟩
  | 119 => ⟨S8x128, .f32⟩
  | 120 => ⟨S2048x128x128, .f32⟩
  | 121 => ⟨S64x8x128, .f32⟩
  | 122 => ⟨S2048x128x128, .f32⟩
  | 123 => ⟨S1x1x64, .f32⟩
  | 124 => ⟨S64, .f32⟩
  | 125 => ⟨S1x1x64, .f32⟩
  | 126 => ⟨S64, .f32⟩
  | 127 => ⟨S64x1x128, .f32⟩
  | _ => ⟨S8x3x256x256, .f32⟩

abbrev hbmTy0_3 (i : Nat) : BufTy := match i % 128 with
  | 0 => ⟨S64x128, .f32⟩
  | 1 => ⟨S_, .f32⟩
  | 2 => ⟨S128, .f32⟩
  | 3 => ⟨S64x1x128, .f32⟩
  | 4 => ⟨S64x128, .f32⟩
  | 5 => ⟨S_, .f32⟩
  | 6 => ⟨S128, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S64, .f32⟩
  | 20 => ⟨S64, .f32⟩
  | 21 => ⟨S_, .f32⟩
  | 22 => ⟨S64, .f32⟩
  | 23 => ⟨S64, .f32⟩
  | 24 => ⟨S64, .f32⟩
  | 25 => ⟨S64, .f32⟩
  | 26 => ⟨S64, .f32⟩
  | 27 => ⟨S64, .f32⟩
  | 28 => ⟨S128, .f32⟩
  | 29 => ⟨S1x128, .f32⟩
  | 30 => ⟨S128, .f32⟩
  | 31 => ⟨S1x128, .f32⟩
  | 32 => ⟨S_, .f32⟩
  | 33 => ⟨S6x128, .f32⟩
  | 34 => ⟨S8x128, .f32⟩
  | 35 => ⟨S2048x128x128, .f32⟩
  | 36 => ⟨S64x8x128, .f32⟩
  | 37 => ⟨S1x1x64, .f32⟩
  | 38 => ⟨S64, .f32⟩
  | 39 => ⟨S1x1x64, .f32⟩
  | 40 => ⟨S64, .f32⟩
  | 41 => ⟨S64x1x128, .f32⟩
  | 42 => ⟨S64x128, .f32⟩
  | 43 => ⟨S_, .f32⟩
  | 44 => ⟨S128, .f32⟩
  | 45 => ⟨S64x1x128, .f32⟩
  | 46 => ⟨S64x128, .f32⟩
  | 47 => ⟨S_, .f32⟩
  | 48 => ⟨S128, .f32⟩
  | 49 => ⟨S64, .f32⟩
  | 50 => ⟨S64, .f32⟩
  | 51 => ⟨S64, .f32⟩
  | 52 => ⟨S64, .f32⟩
  | 53 => ⟨S64, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S64, .f32⟩
  | 62 => ⟨S64, .f32⟩
  | 63 => ⟨S_, .f32⟩
  | 64 => ⟨S64, .f32⟩
  | 65 => ⟨S64, .f32⟩
  | 66 => ⟨S64, .f32⟩
  | 67 => ⟨S64, .f32⟩
  | 68 => ⟨S64, .f32⟩
  | 69 => ⟨S64, .f32⟩
  | 70 => ⟨S6, .f32⟩
  | 71 => ⟨S128, .f32⟩
  | 72 => ⟨S1x128, .f32⟩
  | 73 => ⟨S128, .f32⟩
  | 74 => ⟨S1x128, .f32⟩
  | 75 => ⟨S_, .f32⟩
  | 76 => ⟨S122, .f32⟩
  | 77 => ⟨S128, .f32⟩
  | 78 => ⟨S1x128, .f32⟩
  | 79 => ⟨S_, .f32⟩
  | 80 => ⟨S5x128, .f32⟩
  | 81 => ⟨S8x128, .f32⟩
  | 82 => ⟨S2048x128x6, .f32⟩
  | 83 => ⟨S2048x256x3, .f32⟩
  | 84 => ⟨S8x3x256x256, .f32⟩
  | _ => ⟨S8x3x256x256, .f32⟩

abbrev hbmTy (i : Nat) : BufTy := match i / 128 with
  | 0 => hbmTy0_0 i
  | 1 => hbmTy0_1 i
  | 2 => hbmTy0_2 i
  | 3 => hbmTy0_3 i
  | _ => ⟨S8x3x256x256, .f32⟩

abbrev vmemTy0_0 (i : Nat) : BufTy := match i % 128 with
  | 0 => ⟨S1x3x256x256, .f32⟩
  | 1 => ⟨S1x3x256x256, .f32⟩
  | 2 => ⟨S1x8x8, .f32⟩
  | 3 => ⟨S1x8x8, .f32⟩
  | 4 => ⟨S1x3x32x256, .f32⟩
  | 5 => ⟨S1x3x32x256, .f32⟩
  | 6 => ⟨S32x256x3, .f32⟩
  | 7 => ⟨S32x256x3, .f32⟩
  | 8 => ⟨S32x128x6, .f32⟩
  | 9 => ⟨S32x128x6, .f32⟩
  | 10 => ⟨S1x128x6, .f32⟩
  | 11 => ⟨S1x128x6, .f32⟩
  | 12 => ⟨S1x128x6, .f32⟩
  | 13 => ⟨S1x128x6, .f32⟩
  | 14 => ⟨S8x8x8, .f32⟩
  | 15 => ⟨S54x64, .f32⟩
  | 16 => ⟨S32x128x128, .f32⟩
  | 17 => ⟨S32x128x128, .f32⟩
  | 18 => ⟨S1x8x128, .f32⟩
  | 19 => ⟨S1x8x128, .f32⟩
  | 20 => ⟨S34x128x12, .f32⟩
  | 21 => ⟨S32x128x54, .f32⟩
  | 22 => ⟨S32x128x54, .f32⟩
  | 23 => ⟨S32x128x128, .f32⟩
  | 24 => ⟨S32x128x128, .f32⟩
  | 25 => ⟨S1x128x128, .f32⟩
  | 26 => ⟨S1x128x128, .f32⟩
  | 27 => ⟨S1x128x128, .f32⟩
  | 28 => ⟨S1x128x128, .f32⟩
  | 29 => ⟨S8x128, .f32⟩
  | 30 => ⟨S192x256, .f32⟩
  | 31 => ⟨S32x128x128, .f32⟩
  | 32 => ⟨S32x128x128, .f32⟩
  | 33 => ⟨S1x8x128, .f32⟩
  | 34 => ⟨S1x8x128, .f32⟩
  | 35 => ⟨S32x128x128, .f32⟩
  | 36 => ⟨S32x128x128, .f32⟩
  | 37 => ⟨S34x128x192, .f32⟩
  | 38 => ⟨S34x128x192, .f32⟩
  | 39 => ⟨S34x128x256, .f32⟩
  | 40 => ⟨S34x128x256, .f32⟩
  | 41 => ⟨S32x128x128, .f32⟩
  | 42 => ⟨S32x128x128, .f32⟩
  | 43 => ⟨S1x128x128, .f32⟩
  | 44 => ⟨S1x128x128, .f32⟩
  | 45 => ⟨S1x128x128, .f32⟩
  | 46 => ⟨S1x128x128, .f32⟩
  | 47 => ⟨S8x128, .f32⟩
  | 48 => ⟨S192x256, .f32⟩
  | 49 => ⟨S32x128x128, .f32⟩
  | 50 => ⟨S32x128x128, .f32⟩
  | 51 => ⟨S1x8x128, .f32⟩
  | 52 => ⟨S1x8x128, .f32⟩
  | 53 => ⟨S34x128x192, .f32⟩
  | 54 => ⟨S34x128x192, .f32⟩
  | 55 => ⟨S34x128x256, .f32⟩
  | 56 => ⟨S34x128x256, .f32⟩
  | 57 => ⟨S32x128x128, .f32⟩
  | 58 => ⟨S32x128x128, .f32⟩
  | 59 => ⟨S1x128x128, .f32⟩
  | 60 => ⟨S1x128x128, .f32⟩
  | 61 => ⟨S1x128x128, .f32⟩
  | 62 => ⟨S1x128x128, .f32⟩
  | 63 => ⟨S32x128x128, .f32⟩
  | 64 => ⟨S32x128x128, .f32⟩
  | 65 => ⟨S1x128x128, .f32⟩
  | 66 => ⟨S1x128x128, .f32⟩
  | 67 => ⟨S1x128x128, .f32⟩
  | 68 => ⟨S1x128x128, .f32⟩
  | 69 => ⟨S8x128, .f32⟩
  | 70 => ⟨S192x256, .f32⟩
  | 71 => ⟨S32x128x128, .f32⟩
  | 72 => ⟨S32x128x128, .f32⟩
  | 73 => ⟨S1x8x128, .f32⟩
  | 74 => ⟨S1x8x128, .f32⟩
  | 75 => ⟨S32x128x128, .f32⟩
  | 76 => ⟨S32x128x128, .f32⟩
  | 77 => ⟨S34x128x192, .f32⟩
  | 78 => ⟨S34x128x192, .f32⟩
  | 79 => ⟨S34x128x256, .f32⟩
  | 80 => ⟨S34x128x256, .f32⟩
  | 81 => ⟨S32x128x128, .f32⟩
  | 82 => ⟨S32x128x128, .f32⟩
  | 83 => ⟨S1x128x128, .f32⟩
  | 84 => ⟨S1x128x128, .f32⟩
  | 85 => ⟨S1x128x128, .f32⟩
  | 86 => ⟨S1x128x128, .f32⟩
  | 87 => ⟨S8x128, .f32⟩
  | 88 => ⟨S192x256, .f32⟩
  | 89 => ⟨S32x128x128, .f32⟩
  | 90 => ⟨S32x128x128, .f32⟩
  | 91 => ⟨S1x8x128, .f32⟩
  | 92 => ⟨S1x8x128, .f32⟩
  | 93 => ⟨S34x128x192, .f32⟩
  | 94 => ⟨S34x128x192, .f32⟩
  | 95 => ⟨S34x128x256, .f32⟩
  | 96 => ⟨S34x128x256, .f32⟩
  | 97 => ⟨S32x128x128, .f32⟩
  | 98 => ⟨S32x128x128, .f32⟩
  | 99 => ⟨S1x128x128, .f32⟩
  | 100 => ⟨S1x128x128, .f32⟩
  | 101 => ⟨S1x128x128, .f32⟩
  | 102 => ⟨S1x128x128, .f32⟩
  | 103 => ⟨S32x128x128, .f32⟩
  | 104 => ⟨S32x128x128, .f32⟩
  | 105 => ⟨S1x128x128, .f32⟩
  | 106 => ⟨S1x128x128, .f32⟩
  | 107 => ⟨S1x128x128, .f32⟩
  | 108 => ⟨S1x128x128, .f32⟩
  | 109 => ⟨S8x128, .f32⟩
  | 110 => ⟨S192x256, .f32⟩
  | 111 => ⟨S32x128x128, .f32⟩
  | 112 => ⟨S32x128x128, .f32⟩
  | 113 => ⟨S1x8x128, .f32⟩
  | 114 => ⟨S1x8x128, .f32⟩
  | 115 => ⟨S32x128x128, .f32⟩
  | 116 => ⟨S32x128x128, .f32⟩
  | 117 => ⟨S34x128x192, .f32⟩
  | 118 => ⟨S34x128x192, .f32⟩
  | 119 => ⟨S34x128x256, .f32⟩
  | 120 => ⟨S34x128x256, .f32⟩
  | 121 => ⟨S32x128x128, .f32⟩
  | 122 => ⟨S32x128x128, .f32⟩
  | 123 => ⟨S1x128x128, .f32⟩
  | 124 => ⟨S1x128x128, .f32⟩
  | 125 => ⟨S1x128x128, .f32⟩
  | 126 => ⟨S1x128x128, .f32⟩
  | 127 => ⟨S8x128, .f32⟩
  | _ => ⟨S8x3x256x256, .f32⟩

abbrev vmemTy0_1 (i : Nat) : BufTy := match i % 128 with
  | 0 => ⟨S192x256, .f32⟩
  | 1 => ⟨S32x128x128, .f32⟩
  | 2 => ⟨S32x128x128, .f32⟩
  | 3 => ⟨S1x8x128, .f32⟩
  | 4 => ⟨S1x8x128, .f32⟩
  | 5 => ⟨S34x128x192, .f32⟩
  | 6 => ⟨S34x128x192, .f32⟩
  | 7 => ⟨S34x128x256, .f32⟩
  | 8 => ⟨S34x128x256, .f32⟩
  | 9 => ⟨S32x128x128, .f32⟩
  | 10 => ⟨S32x128x128, .f32⟩
  | 11 => ⟨S1x128x128, .f32⟩
  | 12 => ⟨S1x128x128, .f32⟩
  | 13 => ⟨S1x128x128, .f32⟩
  | 14 => ⟨S1x128x128, .f32⟩
  | 15 => ⟨S32x128x128, .f32⟩
  | 16 => ⟨S32x128x128, .f32⟩
  | 17 => ⟨S1x128x128, .f32⟩
  | 18 => ⟨S1x128x128, .f32⟩
  | 19 => ⟨S1x128x128, .f32⟩
  | 20 => ⟨S1x128x128, .f32⟩
  | 21 => ⟨S8x128, .f32⟩
  | 22 => ⟨S192x256, .f32⟩
  | 23 => ⟨S32x128x6, .f32⟩
  | 24 => ⟨S32x128x6, .f32⟩
  | 25 => ⟨S32x128x6, .f32⟩
  | 26 => ⟨S32x128x6, .f32⟩
  | 27 => ⟨S34x128x192, .f32⟩
  | 28 => ⟨S34x128x192, .f32⟩
  | 29 => ⟨S34x128x256, .f32⟩
  | 30 => ⟨S34x128x256, .f32⟩
  | 31 => ⟨S32x256x3, .f32⟩
  | 32 => ⟨S32x256x3, .f32⟩
  | 33 => ⟨S1x3x32x256, .f32⟩
  | 34 => ⟨S1x3x32x256, .f32⟩
  | _ => ⟨S8x3x256x256, .f32⟩

abbrev vmemTy (i : Nat) : BufTy := match i / 128 with
  | 0 => vmemTy0_0 i
  | 1 => vmemTy0_1 i
  | _ => ⟨S8x3x256x256, .f32⟩

abbrev bufTy : (tb : Table) → Fin (tcTables nBuf tb) → BufTy
  | .hbm, ⟨i, _⟩ => hbmTy i
  | .local _ .vmem, ⟨i, _⟩ => vmemTy i
  | _, _ => ⟨S8x3x256x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_call2_v0 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_call3_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_call4_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_call5_v0 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_call6_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_7 : Ref sig .tc := ⟨.hbm, 68, rfl⟩
abbrev main_call7_v0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_8 : Ref sig .tc := ⟨.hbm, 73, rfl⟩
abbrev main_call8_v0 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_10 : Ref sig .tc := ⟨.hbm, 85, rfl⟩
abbrev main_call9_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_11 : Ref sig .tc := ⟨.hbm, 90, rfl⟩
abbrev main_call10_v0 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_12 : Ref sig .tc := ⟨.hbm, 95, rfl⟩
abbrev main_call11_v0 : Ref sig .tc := ⟨.hbm, 96, rfl⟩
abbrev main_v59 : Ref sig .tc := ⟨.hbm, 97, rfl⟩
abbrev main_cst_13 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_14 : Ref sig .tc := ⟨.hbm, 107, rfl⟩
abbrev main_call12_v0 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_15 : Ref sig .tc := ⟨.hbm, 112, rfl⟩
abbrev main_call13_v0 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_16 : Ref sig .tc := ⟨.hbm, 117, rfl⟩
abbrev main_call14_v0 : Ref sig .tc := ⟨.hbm, 118, rfl⟩
abbrev main_v74 : Ref sig .tc := ⟨.hbm, 119, rfl⟩
abbrev main_cst_17 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_c_18 : Ref sig .tc := ⟨.hbm, 129, rfl⟩
abbrev main_call15_v0 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_19 : Ref sig .tc := ⟨.hbm, 134, rfl⟩
abbrev main_call16_v0 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_c_20 : Ref sig .tc := ⟨.hbm, 139, rfl⟩
abbrev main_call17_v0 : Ref sig .tc := ⟨.hbm, 140, rfl⟩
abbrev main_v89 : Ref sig .tc := ⟨.hbm, 141, rfl⟩
abbrev main_cst_21 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_22 : Ref sig .tc := ⟨.hbm, 149, rfl⟩
abbrev main_call18_v0 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_23 : Ref sig .tc := ⟨.hbm, 154, rfl⟩
abbrev main_call19_v0 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_c_24 : Ref sig .tc := ⟨.hbm, 159, rfl⟩
abbrev main_call20_v0 : Ref sig .tc := ⟨.hbm, 160, rfl⟩
abbrev main_v102 : Ref sig .tc := ⟨.hbm, 161, rfl⟩
abbrev main_cst_25 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108_0 : Ref sig .tc := ⟨.hbm, 168, rfl⟩
abbrev main_v108_1 : Ref sig .tc := ⟨.hbm, 169, rfl⟩
abbrev main_v109 : Ref sig .tc := ⟨.hbm, 170, rfl⟩
abbrev main_v110 : Ref sig .tc := ⟨.hbm, 171, rfl⟩
abbrev main_cst_26 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_27 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_cst_28 : Ref sig .tc := ⟨.hbm, 184, rfl⟩
abbrev main_v121 : Ref sig .tc := ⟨.hbm, 185, rfl⟩
abbrev main_v122 : Ref sig .tc := ⟨.hbm, 186, rfl⟩
abbrev main_cst_29 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_cst_30 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_cst_31 : Ref sig .tc := ⟨.hbm, 203, rfl⟩
abbrev main_v137 : Ref sig .tc := ⟨.hbm, 204, rfl⟩
abbrev main_v138 : Ref sig .tc := ⟨.hbm, 205, rfl⟩
abbrev main_v139_0 : Ref sig .tc := ⟨.hbm, 206, rfl⟩
abbrev main_v139_1 : Ref sig .tc := ⟨.hbm, 207, rfl⟩
abbrev main_v139_2 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_32 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_cst_33 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_cst_34 : Ref sig .tc := ⟨.hbm, 227, rfl⟩
abbrev main_v156 : Ref sig .tc := ⟨.hbm, 228, rfl⟩
abbrev main_v157 : Ref sig .tc := ⟨.hbm, 229, rfl⟩
abbrev main_cst_35 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_cst_36 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_cst_37 : Ref sig .tc := ⟨.hbm, 246, rfl⟩
abbrev main_v172 : Ref sig .tc := ⟨.hbm, 247, rfl⟩
abbrev main_v173 : Ref sig .tc := ⟨.hbm, 248, rfl⟩
abbrev main_v174_0 : Ref sig .tc := ⟨.hbm, 249, rfl⟩
abbrev main_v174_1 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_cst_38 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_cst_39 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_cst_40 : Ref sig .tc := ⟨.hbm, 269, rfl⟩
abbrev main_v191 : Ref sig .tc := ⟨.hbm, 270, rfl⟩
abbrev main_v192 : Ref sig .tc := ⟨.hbm, 271, rfl⟩
abbrev main_cst_41 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_cst_42 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_cst_43 : Ref sig .tc := ⟨.hbm, 288, rfl⟩
abbrev main_v207 : Ref sig .tc := ⟨.hbm, 289, rfl⟩
abbrev main_v208 : Ref sig .tc := ⟨.hbm, 290, rfl⟩
abbrev main_v209_0 : Ref sig .tc := ⟨.hbm, 291, rfl⟩
abbrev main_v209_1 : Ref sig .tc := ⟨.hbm, 292, rfl⟩
abbrev main_v209_2 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_cst_44 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_cst_45 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_cst_46 : Ref sig .tc := ⟨.hbm, 312, rfl⟩
abbrev main_v226 : Ref sig .tc := ⟨.hbm, 313, rfl⟩
abbrev main_v227 : Ref sig .tc := ⟨.hbm, 314, rfl⟩
abbrev main_cst_47 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_cst_48 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_cst_49 : Ref sig .tc := ⟨.hbm, 331, rfl⟩
abbrev main_v242 : Ref sig .tc := ⟨.hbm, 332, rfl⟩
abbrev main_v243 : Ref sig .tc := ⟨.hbm, 333, rfl⟩
abbrev main_v244_0 : Ref sig .tc := ⟨.hbm, 334, rfl⟩
abbrev main_v244_1 : Ref sig .tc := ⟨.hbm, 335, rfl⟩
abbrev main_v245 : Ref sig .tc := ⟨.hbm, 336, rfl⟩
abbrev main_v246 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩
abbrev main_v250 : Ref sig .tc := ⟨.hbm, 341, rfl⟩
abbrev main_cst_50 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_cst_51 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_v257 : Ref sig .tc := ⟨.hbm, 350, rfl⟩
abbrev main_v258 : Ref sig .tc := ⟨.hbm, 351, rfl⟩
abbrev main_v259 : Ref sig .tc := ⟨.hbm, 352, rfl⟩
abbrev main_v260 : Ref sig .tc := ⟨.hbm, 353, rfl⟩
abbrev main_cst_52 : Ref sig .tc := ⟨.hbm, 354, rfl⟩
abbrev main_v261 : Ref sig .tc := ⟨.hbm, 355, rfl⟩
abbrev main_v262 : Ref sig .tc := ⟨.hbm, 356, rfl⟩
abbrev main_cst_53 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_cst_54 : Ref sig .tc := ⟨.hbm, 362, rfl⟩
abbrev main_v267 : Ref sig .tc := ⟨.hbm, 363, rfl⟩
abbrev main_v268 : Ref sig .tc := ⟨.hbm, 364, rfl⟩
abbrev main_v269 : Ref sig .tc := ⟨.hbm, 365, rfl⟩
abbrev main_v270 : Ref sig .tc := ⟨.hbm, 366, rfl⟩
abbrev main_v271 : Ref sig .tc := ⟨.hbm, 367, rfl⟩
abbrev main_v272 : Ref sig .tc := ⟨.hbm, 368, rfl⟩
abbrev main_v273 : Ref sig .tc := ⟨.hbm, 369, rfl⟩
abbrev main_v274 : Ref sig .tc := ⟨.hbm, 370, rfl⟩
abbrev main_v275 : Ref sig .tc := ⟨.hbm, 371, rfl⟩
abbrev main_v276 : Ref sig .tc := ⟨.hbm, 372, rfl⟩
abbrev main_cst_55 : Ref sig .tc := ⟨.hbm, 373, rfl⟩
abbrev main_v277 : Ref sig .tc := ⟨.hbm, 374, rfl⟩
abbrev main_v278 : Ref sig .tc := ⟨.hbm, 375, rfl⟩
abbrev main_v279_0 : Ref sig .tc := ⟨.hbm, 376, rfl⟩
abbrev main_v279_1 : Ref sig .tc := ⟨.hbm, 377, rfl⟩
abbrev main_v279_2 : Ref sig .tc := ⟨.hbm, 378, rfl⟩
abbrev main_v280 : Ref sig .tc := ⟨.hbm, 379, rfl⟩
abbrev main_v281 : Ref sig .tc := ⟨.hbm, 380, rfl⟩
abbrev main_v282 : Ref sig .tc := ⟨.hbm, 381, rfl⟩
abbrev main_v283 : Ref sig .tc := ⟨.hbm, 382, rfl⟩
abbrev main_v284 : Ref sig .tc := ⟨.hbm, 383, rfl⟩
abbrev main_v285 : Ref sig .tc := ⟨.hbm, 384, rfl⟩
abbrev main_cst_56 : Ref sig .tc := ⟨.hbm, 385, rfl⟩
abbrev main_v286 : Ref sig .tc := ⟨.hbm, 386, rfl⟩
abbrev main_v287 : Ref sig .tc := ⟨.hbm, 387, rfl⟩
abbrev main_v288 : Ref sig .tc := ⟨.hbm, 388, rfl⟩
abbrev main_cst_57 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_v294 : Ref sig .tc := ⟨.hbm, 395, rfl⟩
abbrev main_v295 : Ref sig .tc := ⟨.hbm, 396, rfl⟩
abbrev main_cst_58 : Ref sig .tc := ⟨.hbm, 397, rfl⟩
abbrev main_v296 : Ref sig .tc := ⟨.hbm, 398, rfl⟩
abbrev main_v297 : Ref sig .tc := ⟨.hbm, 399, rfl⟩
abbrev main_cst_59 : Ref sig .tc := ⟨.hbm, 400, rfl⟩
abbrev main_v298 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_cst_60 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_v306 : Ref sig .tc := ⟨.hbm, 410, rfl⟩
abbrev main_v307 : Ref sig .tc := ⟨.hbm, 411, rfl⟩
abbrev main_v308 : Ref sig .tc := ⟨.hbm, 412, rfl⟩
abbrev main_v309 : Ref sig .tc := ⟨.hbm, 413, rfl⟩
abbrev main_v310 : Ref sig .tc := ⟨.hbm, 414, rfl⟩
abbrev main_v311 : Ref sig .tc := ⟨.hbm, 415, rfl⟩
abbrev main_cst_61 : Ref sig .tc := ⟨.hbm, 416, rfl⟩
abbrev main_v312 : Ref sig .tc := ⟨.hbm, 417, rfl⟩
abbrev main_v313 : Ref sig .tc := ⟨.hbm, 418, rfl⟩
abbrev main_v314_0 : Ref sig .tc := ⟨.hbm, 419, rfl⟩
abbrev main_v314_1 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_v320 : Ref sig .tc := ⟨.hbm, 426, rfl⟩
abbrev main_cst_62 : Ref sig .tc := ⟨.hbm, 427, rfl⟩
abbrev main_v321 : Ref sig .tc := ⟨.hbm, 428, rfl⟩
abbrev main_v322 : Ref sig .tc := ⟨.hbm, 429, rfl⟩
abbrev main_v323 : Ref sig .tc := ⟨.hbm, 430, rfl⟩
abbrev main_cst_63 : Ref sig .tc := ⟨.hbm, 431, rfl⟩
abbrev main_v324 : Ref sig .tc := ⟨.hbm, 432, rfl⟩
abbrev main_v325 : Ref sig .tc := ⟨.hbm, 433, rfl⟩
abbrev main_v326 : Ref sig .tc := ⟨.hbm, 434, rfl⟩
abbrev main_v327 : Ref sig .tc := ⟨.hbm, 435, rfl⟩
abbrev main_v328 : Ref sig .tc := ⟨.hbm, 436, rfl⟩
abbrev main_v329 : Ref sig .tc := ⟨.hbm, 437, rfl⟩
abbrev main_v330 : Ref sig .tc := ⟨.hbm, 438, rfl⟩
abbrev main_cst_64 : Ref sig .tc := ⟨.hbm, 439, rfl⟩
abbrev main_v331 : Ref sig .tc := ⟨.hbm, 440, rfl⟩
abbrev main_v332 : Ref sig .tc := ⟨.hbm, 441, rfl⟩
abbrev main_cst_65 : Ref sig .tc := ⟨.hbm, 442, rfl⟩
abbrev main_v333 : Ref sig .tc := ⟨.hbm, 443, rfl⟩
abbrev main_v334 : Ref sig .tc := ⟨.hbm, 444, rfl⟩
abbrev main_v335 : Ref sig .tc := ⟨.hbm, 445, rfl⟩
abbrev main_v336 : Ref sig .tc := ⟨.hbm, 446, rfl⟩
abbrev main_cst_66 : Ref sig .tc := ⟨.hbm, 447, rfl⟩
abbrev main_v337 : Ref sig .tc := ⟨.hbm, 448, rfl⟩
abbrev main_v338 : Ref sig .tc := ⟨.hbm, 449, rfl⟩
abbrev main_v339 : Ref sig .tc := ⟨.hbm, 450, rfl⟩
abbrev main_v340 : Ref sig .tc := ⟨.hbm, 451, rfl⟩
abbrev main_v341 : Ref sig .tc := ⟨.hbm, 452, rfl⟩
abbrev main_v342 : Ref sig .tc := ⟨.hbm, 453, rfl⟩
abbrev main_v343 : Ref sig .tc := ⟨.hbm, 454, rfl⟩
abbrev main_v344 : Ref sig .tc := ⟨.hbm, 455, rfl⟩
abbrev main_v345 : Ref sig .tc := ⟨.hbm, 456, rfl⟩
abbrev main_v346 : Ref sig .tc := ⟨.hbm, 457, rfl⟩
abbrev main_v347 : Ref sig .tc := ⟨.hbm, 458, rfl⟩
abbrev main_cst_67 : Ref sig .tc := ⟨.hbm, 459, rfl⟩
abbrev main_v348 : Ref sig .tc := ⟨.hbm, 460, rfl⟩
abbrev main_v349 : Ref sig .tc := ⟨.hbm, 461, rfl⟩
abbrev main_v350 : Ref sig .tc := ⟨.hbm, 462, rfl⟩
abbrev main_cst_68 : Ref sig .tc := ⟨.hbm, 463, rfl⟩
abbrev main_v351 : Ref sig .tc := ⟨.hbm, 464, rfl⟩
abbrev main_v352 : Ref sig .tc := ⟨.hbm, 465, rfl⟩
abbrev main_v353 : Ref sig .tc := ⟨.hbm, 466, rfl⟩
abbrev main_v354 : Ref sig .tc := ⟨.hbm, 467, rfl⟩
abbrev main_v355 : Ref sig .tc := ⟨.hbm, 468, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg6_1 : Ref sig .tc := ⟨.vmem, 19, rfl⟩
abbrev cc2_scratch0 : Ref sig .tc := ⟨.vmem, 20, rfl⟩
abbrev cc2_scratch1 : Ref sig .tc := ⟨.vmem, 21, rfl⟩
abbrev cc2_scratch2 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc3_stg7_0 : Ref sig .tc := ⟨.vmem, 35, rfl⟩
abbrev cc3_stg7_1 : Ref sig .tc := ⟨.vmem, 36, rfl⟩
abbrev cc3_scratch0 : Ref sig .tc := ⟨.vmem, 37, rfl⟩
abbrev cc3_scratch1 : Ref sig .tc := ⟨.vmem, 38, rfl⟩
abbrev cc3_scratch2 : Ref sig .tc := ⟨.vmem, 39, rfl⟩
abbrev cc3_scratch3 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg6_1 : Ref sig .tc := ⟨.vmem, 52, rfl⟩
abbrev cc4_scratch0 : Ref sig .tc := ⟨.vmem, 53, rfl⟩
abbrev cc4_scratch1 : Ref sig .tc := ⟨.vmem, 54, rfl⟩
abbrev cc4_scratch2 : Ref sig .tc := ⟨.vmem, 55, rfl⟩
abbrev cc4_scratch3 : Ref sig .tc := ⟨.vmem, 56, rfl⟩
abbrev cc5_stg0_0 : Ref sig .tc := ⟨.vmem, 57, rfl⟩
abbrev cc5_stg0_1 : Ref sig .tc := ⟨.vmem, 58, rfl⟩
abbrev cc5_stg1_0 : Ref sig .tc := ⟨.vmem, 59, rfl⟩
abbrev cc5_stg1_1 : Ref sig .tc := ⟨.vmem, 60, rfl⟩
abbrev cc5_stg2_0 : Ref sig .tc := ⟨.vmem, 61, rfl⟩
abbrev cc5_stg2_1 : Ref sig .tc := ⟨.vmem, 62, rfl⟩
abbrev cc5_stg3_0 : Ref sig .tc := ⟨.vmem, 63, rfl⟩
abbrev cc5_stg3_1 : Ref sig .tc := ⟨.vmem, 64, rfl⟩
abbrev cc5_stg4_0 : Ref sig .tc := ⟨.vmem, 65, rfl⟩
abbrev cc5_stg4_1 : Ref sig .tc := ⟨.vmem, 66, rfl⟩
abbrev cc5_stg5_0 : Ref sig .tc := ⟨.vmem, 67, rfl⟩
abbrev cc5_stg5_1 : Ref sig .tc := ⟨.vmem, 68, rfl⟩
abbrev cc5_stg6_0 : Ref sig .tc := ⟨.vmem, 69, rfl⟩
abbrev cc5_stg7_0 : Ref sig .tc := ⟨.vmem, 70, rfl⟩
abbrev cc5_stg8_0 : Ref sig .tc := ⟨.vmem, 71, rfl⟩
abbrev cc5_stg8_1 : Ref sig .tc := ⟨.vmem, 72, rfl⟩
abbrev cc5_stg9_0 : Ref sig .tc := ⟨.vmem, 73, rfl⟩
abbrev cc5_stg9_1 : Ref sig .tc := ⟨.vmem, 74, rfl⟩
abbrev cc5_stg10_0 : Ref sig .tc := ⟨.vmem, 75, rfl⟩
abbrev cc5_stg10_1 : Ref sig .tc := ⟨.vmem, 76, rfl⟩
abbrev cc5_scratch0 : Ref sig .tc := ⟨.vmem, 77, rfl⟩
abbrev cc5_scratch1 : Ref sig .tc := ⟨.vmem, 78, rfl⟩
abbrev cc5_scratch2 : Ref sig .tc := ⟨.vmem, 79, rfl⟩
abbrev cc5_scratch3 : Ref sig .tc := ⟨.vmem, 80, rfl⟩
abbrev cc6_stg0_0 : Ref sig .tc := ⟨.vmem, 81, rfl⟩
abbrev cc6_stg0_1 : Ref sig .tc := ⟨.vmem, 82, rfl⟩
abbrev cc6_stg1_0 : Ref sig .tc := ⟨.vmem, 83, rfl⟩
abbrev cc6_stg1_1 : Ref sig .tc := ⟨.vmem, 84, rfl⟩
abbrev cc6_stg2_0 : Ref sig .tc := ⟨.vmem, 85, rfl⟩
abbrev cc6_stg2_1 : Ref sig .tc := ⟨.vmem, 86, rfl⟩
abbrev cc6_stg3_0 : Ref sig .tc := ⟨.vmem, 87, rfl⟩
abbrev cc6_stg4_0 : Ref sig .tc := ⟨.vmem, 88, rfl⟩
abbrev cc6_stg5_0 : Ref sig .tc := ⟨.vmem, 89, rfl⟩
abbrev cc6_stg5_1 : Ref sig .tc := ⟨.vmem, 90, rfl⟩
abbrev cc6_stg6_0 : Ref sig .tc := ⟨.vmem, 91, rfl⟩
abbrev cc6_stg6_1 : Ref sig .tc := ⟨.vmem, 92, rfl⟩
abbrev cc6_scratch0 : Ref sig .tc := ⟨.vmem, 93, rfl⟩
abbrev cc6_scratch1 : Ref sig .tc := ⟨.vmem, 94, rfl⟩
abbrev cc6_scratch2 : Ref sig .tc := ⟨.vmem, 95, rfl⟩
abbrev cc6_scratch3 : Ref sig .tc := ⟨.vmem, 96, rfl⟩
abbrev cc7_stg0_0 : Ref sig .tc := ⟨.vmem, 97, rfl⟩
abbrev cc7_stg0_1 : Ref sig .tc := ⟨.vmem, 98, rfl⟩
abbrev cc7_stg1_0 : Ref sig .tc := ⟨.vmem, 99, rfl⟩
abbrev cc7_stg1_1 : Ref sig .tc := ⟨.vmem, 100, rfl⟩
abbrev cc7_stg2_0 : Ref sig .tc := ⟨.vmem, 101, rfl⟩
abbrev cc7_stg2_1 : Ref sig .tc := ⟨.vmem, 102, rfl⟩
abbrev cc7_stg3_0 : Ref sig .tc := ⟨.vmem, 103, rfl⟩
abbrev cc7_stg3_1 : Ref sig .tc := ⟨.vmem, 104, rfl⟩
abbrev cc7_stg4_0 : Ref sig .tc := ⟨.vmem, 105, rfl⟩
abbrev cc7_stg4_1 : Ref sig .tc := ⟨.vmem, 106, rfl⟩
abbrev cc7_stg5_0 : Ref sig .tc := ⟨.vmem, 107, rfl⟩
abbrev cc7_stg5_1 : Ref sig .tc := ⟨.vmem, 108, rfl⟩
abbrev cc7_stg6_0 : Ref sig .tc := ⟨.vmem, 109, rfl⟩
abbrev cc7_stg7_0 : Ref sig .tc := ⟨.vmem, 110, rfl⟩
abbrev cc7_stg8_0 : Ref sig .tc := ⟨.vmem, 111, rfl⟩
abbrev cc7_stg8_1 : Ref sig .tc := ⟨.vmem, 112, rfl⟩
abbrev cc7_stg9_0 : Ref sig .tc := ⟨.vmem, 113, rfl⟩
abbrev cc7_stg9_1 : Ref sig .tc := ⟨.vmem, 114, rfl⟩
abbrev cc7_stg10_0 : Ref sig .tc := ⟨.vmem, 115, rfl⟩
abbrev cc7_stg10_1 : Ref sig .tc := ⟨.vmem, 116, rfl⟩
abbrev cc7_scratch0 : Ref sig .tc := ⟨.vmem, 117, rfl⟩
abbrev cc7_scratch1 : Ref sig .tc := ⟨.vmem, 118, rfl⟩
abbrev cc7_scratch2 : Ref sig .tc := ⟨.vmem, 119, rfl⟩
abbrev cc7_scratch3 : Ref sig .tc := ⟨.vmem, 120, rfl⟩
abbrev cc8_stg0_0 : Ref sig .tc := ⟨.vmem, 121, rfl⟩
abbrev cc8_stg0_1 : Ref sig .tc := ⟨.vmem, 122, rfl⟩
abbrev cc8_stg1_0 : Ref sig .tc := ⟨.vmem, 123, rfl⟩
abbrev cc8_stg1_1 : Ref sig .tc := ⟨.vmem, 124, rfl⟩
abbrev cc8_stg2_0 : Ref sig .tc := ⟨.vmem, 125, rfl⟩
abbrev cc8_stg2_1 : Ref sig .tc := ⟨.vmem, 126, rfl⟩
abbrev cc8_stg3_0 : Ref sig .tc := ⟨.vmem, 127, rfl⟩
abbrev cc8_stg4_0 : Ref sig .tc := ⟨.vmem, 128, rfl⟩
abbrev cc8_stg5_0 : Ref sig .tc := ⟨.vmem, 129, rfl⟩
abbrev cc8_stg5_1 : Ref sig .tc := ⟨.vmem, 130, rfl⟩
abbrev cc8_stg6_0 : Ref sig .tc := ⟨.vmem, 131, rfl⟩
abbrev cc8_stg6_1 : Ref sig .tc := ⟨.vmem, 132, rfl⟩
abbrev cc8_scratch0 : Ref sig .tc := ⟨.vmem, 133, rfl⟩
abbrev cc8_scratch1 : Ref sig .tc := ⟨.vmem, 134, rfl⟩
abbrev cc8_scratch2 : Ref sig .tc := ⟨.vmem, 135, rfl⟩
abbrev cc8_scratch3 : Ref sig .tc := ⟨.vmem, 136, rfl⟩
abbrev cc9_stg0_0 : Ref sig .tc := ⟨.vmem, 137, rfl⟩
abbrev cc9_stg0_1 : Ref sig .tc := ⟨.vmem, 138, rfl⟩
abbrev cc9_stg1_0 : Ref sig .tc := ⟨.vmem, 139, rfl⟩
abbrev cc9_stg1_1 : Ref sig .tc := ⟨.vmem, 140, rfl⟩
abbrev cc9_stg2_0 : Ref sig .tc := ⟨.vmem, 141, rfl⟩
abbrev cc9_stg2_1 : Ref sig .tc := ⟨.vmem, 142, rfl⟩
abbrev cc9_stg3_0 : Ref sig .tc := ⟨.vmem, 143, rfl⟩
abbrev cc9_stg3_1 : Ref sig .tc := ⟨.vmem, 144, rfl⟩
abbrev cc9_stg4_0 : Ref sig .tc := ⟨.vmem, 145, rfl⟩
abbrev cc9_stg4_1 : Ref sig .tc := ⟨.vmem, 146, rfl⟩
abbrev cc9_stg5_0 : Ref sig .tc := ⟨.vmem, 147, rfl⟩
abbrev cc9_stg5_1 : Ref sig .tc := ⟨.vmem, 148, rfl⟩
abbrev cc9_stg6_0 : Ref sig .tc := ⟨.vmem, 149, rfl⟩
abbrev cc9_stg7_0 : Ref sig .tc := ⟨.vmem, 150, rfl⟩
abbrev cc9_stg8_0 : Ref sig .tc := ⟨.vmem, 151, rfl⟩
abbrev cc9_stg8_1 : Ref sig .tc := ⟨.vmem, 152, rfl⟩
abbrev cc9_stg9_0 : Ref sig .tc := ⟨.vmem, 153, rfl⟩
abbrev cc9_stg9_1 : Ref sig .tc := ⟨.vmem, 154, rfl⟩
abbrev cc9_scratch0 : Ref sig .tc := ⟨.vmem, 155, rfl⟩
abbrev cc9_scratch1 : Ref sig .tc := ⟨.vmem, 156, rfl⟩
abbrev cc9_scratch2 : Ref sig .tc := ⟨.vmem, 157, rfl⟩
abbrev cc9_scratch3 : Ref sig .tc := ⟨.vmem, 158, rfl⟩
abbrev cc10_stg0_0 : Ref sig .tc := ⟨.vmem, 159, rfl⟩
abbrev cc10_stg0_1 : Ref sig .tc := ⟨.vmem, 160, rfl⟩
abbrev cc10_stg1_0 : Ref sig .tc := ⟨.vmem, 161, rfl⟩
abbrev cc10_stg1_1 : Ref sig .tc := ⟨.vmem, 162, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem4_0 : DmaSem sig := 15
abbrev cc2_sem5_0 : DmaSem sig := 16
abbrev cc2_sem5_1 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29
abbrev cc3_sem6_0 : DmaSem sig := 30
abbrev cc3_sem6_1 : DmaSem sig := 31
abbrev cc3_sem7_0 : DmaSem sig := 32
abbrev cc3_sem7_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51
abbrev cc5_sem3_0 : DmaSem sig := 52
abbrev cc5_sem3_1 : DmaSem sig := 53
abbrev cc5_sem4_0 : DmaSem sig := 54
abbrev cc5_sem4_1 : DmaSem sig := 55
abbrev cc5_sem5_0 : DmaSem sig := 56
abbrev cc5_sem5_1 : DmaSem sig := 57
abbrev cc5_sem6_0 : DmaSem sig := 58
abbrev cc5_sem7_0 : DmaSem sig := 59
abbrev cc5_sem8_0 : DmaSem sig := 60
abbrev cc5_sem8_1 : DmaSem sig := 61
abbrev cc5_sem9_0 : DmaSem sig := 62
abbrev cc5_sem9_1 : DmaSem sig := 63
abbrev cc5_sem10_0 : DmaSem sig := 64
abbrev cc5_sem10_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem2_1 : DmaSem sig := 71
abbrev cc6_sem3_0 : DmaSem sig := 72
abbrev cc6_sem4_0 : DmaSem sig := 73
abbrev cc6_sem5_0 : DmaSem sig := 74
abbrev cc6_sem5_1 : DmaSem sig := 75
abbrev cc6_sem6_0 : DmaSem sig := 76
abbrev cc6_sem6_1 : DmaSem sig := 77
abbrev cc7_sem0_0 : DmaSem sig := 78
abbrev cc7_sem0_1 : DmaSem sig := 79
abbrev cc7_sem1_0 : DmaSem sig := 80
abbrev cc7_sem1_1 : DmaSem sig := 81
abbrev cc7_sem2_0 : DmaSem sig := 82
abbrev cc7_sem2_1 : DmaSem sig := 83
abbrev cc7_sem3_0 : DmaSem sig := 84
abbrev cc7_sem3_1 : DmaSem sig := 85
abbrev cc7_sem4_0 : DmaSem sig := 86
abbrev cc7_sem4_1 : DmaSem sig := 87
abbrev cc7_sem5_0 : DmaSem sig := 88
abbrev cc7_sem5_1 : DmaSem sig := 89
abbrev cc7_sem6_0 : DmaSem sig := 90
abbrev cc7_sem7_0 : DmaSem sig := 91
abbrev cc7_sem8_0 : DmaSem sig := 92
abbrev cc7_sem8_1 : DmaSem sig := 93
abbrev cc7_sem9_0 : DmaSem sig := 94
abbrev cc7_sem9_1 : DmaSem sig := 95
abbrev cc7_sem10_0 : DmaSem sig := 96
abbrev cc7_sem10_1 : DmaSem sig := 97
abbrev cc8_sem0_0 : DmaSem sig := 98
abbrev cc8_sem0_1 : DmaSem sig := 99
abbrev cc8_sem1_0 : DmaSem sig := 100
abbrev cc8_sem1_1 : DmaSem sig := 101
abbrev cc8_sem2_0 : DmaSem sig := 102
abbrev cc8_sem2_1 : DmaSem sig := 103
abbrev cc8_sem3_0 : DmaSem sig := 104
abbrev cc8_sem4_0 : DmaSem sig := 105
abbrev cc8_sem5_0 : DmaSem sig := 106
abbrev cc8_sem5_1 : DmaSem sig := 107
abbrev cc8_sem6_0 : DmaSem sig := 108
abbrev cc8_sem6_1 : DmaSem sig := 109
abbrev cc9_sem0_0 : DmaSem sig := 110
abbrev cc9_sem0_1 : DmaSem sig := 111
abbrev cc9_sem1_0 : DmaSem sig := 112
abbrev cc9_sem1_1 : DmaSem sig := 113
abbrev cc9_sem2_0 : DmaSem sig := 114
abbrev cc9_sem2_1 : DmaSem sig := 115
abbrev cc9_sem3_0 : DmaSem sig := 116
abbrev cc9_sem3_1 : DmaSem sig := 117
abbrev cc9_sem4_0 : DmaSem sig := 118
abbrev cc9_sem4_1 : DmaSem sig := 119
abbrev cc9_sem5_0 : DmaSem sig := 120
abbrev cc9_sem5_1 : DmaSem sig := 121
abbrev cc9_sem6_0 : DmaSem sig := 122
abbrev cc9_sem7_0 : DmaSem sig := 123
abbrev cc9_sem8_0 : DmaSem sig := 124
abbrev cc9_sem8_1 : DmaSem sig := 125
abbrev cc9_sem9_0 : DmaSem sig := 126
abbrev cc9_sem9_1 : DmaSem sig := 127
abbrev cc10_sem0_0 : DmaSem sig := 128
abbrev cc10_sem0_1 : DmaSem sig := 129
abbrev cc10_sem1_0 : DmaSem sig := 130
abbrev cc10_sem1_1 : DmaSem sig := 131

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 32], ![false, false]⟩

def cc1_transform_0 (i : grid1.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c32_i32_4 : BitVec 32 := 32#32
  let v19 : BitVec 32 := Scalar.muli arg0 c32_i32_4
  let v20 : BitVec 32 := Scalar.addi v19 arg1
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, c0_i32_11.toNat, v30.toNat, c0_i32_12.toNat]

def cc1_transform_1 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x3x32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x256x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![2, 32], ![false, false]⟩

def k2_off1 (i : grid2.Coords) : Fin 3 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v41 : Index := Scalar.indexCast v18
  let c0 : Index := 0#32
  let c0_17 : Index := 0#32
  ![v41.toNat, 0, 0]
def cc2_transform_0 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  ![v4.toNat, c0_i32_1.toNat, c0_i32_2.toNat]

def cc2_transform_2 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c32_i32_1 : BitVec 32 := 32#32
  let v3 : BitVec 32 := Scalar.addi v2 c32_i32_1
  let c2047_i32 : BitVec 32 := 2047#32
  let v4 : BitVec 32 := Scalar.minsi v3 c2047_i32
  let c0_i32 : BitVec 32 := 0#32
  let c0_i32_2 : BitVec 32 := 0#32
  let c0_i32_3 : BitVec 32 := 0#32
  ![v4.toNat, c0_i32.toNat, c0_i32_2.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage2_0 : Fin 2 → Memref sig .tc .vmem S32x128x6 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x6 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128x6 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S8x8x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S54x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S32x128x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![2, 32], ![false, false]⟩

def cc3_transform_0 (i : grid3.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  ![v4.toNat, c0_i32_1.toNat, c0_i32_2.toNat]

def cc3_transform_2 (i : grid3.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c32_i32_1 : BitVec 32 := 32#32
  let v3 : BitVec 32 := Scalar.addi v2 c32_i32_1
  let c2047_i32 : BitVec 32 := 2047#32
  let v4 : BitVec 32 := Scalar.minsi v3 c2047_i32
  let c0_i32 : BitVec 32 := 0#32
  let c0_i32_2 : BitVec 32 := 0#32
  let c0_i32_3 : BitVec 32 := 0#32
  ![v4.toNat, c0_i32.toNat, c0_i32_2.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage3_0 : Fin 2 → Memref sig .tc .vmem S32x128x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S8x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S192x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S32x128x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x8x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S32x128x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨2, ![2, 32], ![false, false]⟩

def cc4_transform_0 (i : grid4.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  ![v4.toNat, c0_i32_1.toNat, c0_i32_2.toNat]

def cc4_transform_2 (i : grid4.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c32_i32_1 : BitVec 32 := 32#32
  let v3 : BitVec 32 := Scalar.addi v2 c32_i32_1
  let c2047_i32 : BitVec 32 := 2047#32
  let v4 : BitVec 32 := Scalar.minsi v3 c2047_i32
  let c0_i32 : BitVec 32 := 0#32
  let c0_i32_2 : BitVec 32 := 0#32
  let c0_i32_3 : BitVec 32 := 0#32
  ![v4.toNat, c0_i32.toNat, c0_i32_2.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage4_0 : Fin 2 → Memref sig .tc .vmem S32x128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x128x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x128x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S8x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S192x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S32x128x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1x8x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨2, ![2, 32], ![false, false]⟩

def cc5_transform_0 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_1 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  ![v4.toNat, c0_i32_1.toNat, c0_i32_2.toNat]

def cc5_transform_2 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c32_i32_1 : BitVec 32 := 32#32
  let v3 : BitVec 32 := Scalar.addi v2 c32_i32_1
  let c2047_i32 : BitVec 32 := 2047#32
  let v4 : BitVec 32 := Scalar.minsi v3 c2047_i32
  let c0_i32 : BitVec 32 := 0#32
  let c0_i32_2 : BitVec 32 := 0#32
  let c0_i32_3 : BitVec 32 := 0#32
  ![v4.toNat, c0_i32.toNat, c0_i32_2.toNat]

def cc5_transform_3 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  ![v4.toNat, c0_i32_1.toNat, c0_i32_2.toNat]

def cc5_transform_5 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c32_i32_1 : BitVec 32 := 32#32
  let v3 : BitVec 32 := Scalar.addi v2 c32_i32_1
  let c2047_i32 : BitVec 32 := 2047#32
  let v4 : BitVec 32 := Scalar.minsi v3 c2047_i32
  let c0_i32 : BitVec 32 := 0#32
  let c0_i32_2 : BitVec 32 := 0#32
  let c0_i32_3 : BitVec 32 := 0#32
  ![v4.toNat, c0_i32.toNat, c0_i32_2.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_9 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_10 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage5_0 : Fin 2 → Memref sig .tc .vmem S32x128x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x128x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x128x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S32x128x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S1x128x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1x128x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 1 → Memref sig .tc .vmem S8x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 1 → Memref sig .tc .vmem S192x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev stage5_8 : Fin 2 → Memref sig .tc .vmem S32x128x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true]

abbrev stage5_9 : Fin 2 → Memref sig .tc .vmem S1x8x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, true]

abbrev stage5_10 : Fin 2 → Memref sig .tc .vmem S32x128x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true, true]

abbrev grid6 : Pipeline.Grid := ⟨2, ![2, 32], ![false, false]⟩

def cc6_transform_0 (i : grid6.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc6_transform_1 (i : grid6.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  ![v4.toNat, c0_i32_1.toNat, c0_i32_2.toNat]

def cc6_transform_2 (i : grid6.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c32_i32_1 : BitVec 32 := 32#32
  let v3 : BitVec 32 := Scalar.addi v2 c32_i32_1
  let c2047_i32 : BitVec 32 := 2047#32
  let v4 : BitVec 32 := Scalar.minsi v3 c2047_i32
  let c0_i32 : BitVec 32 := 0#32
  let c0_i32_2 : BitVec 32 := 0#32
  let c0_i32_3 : BitVec 32 := 0#32
  ![v4.toNat, c0_i32.toNat, c0_i32_2.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc6_transform_6 (i : grid6.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage6_0 : Fin 2 → Memref sig .tc .vmem S32x128x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x128x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x128x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 1 → Memref sig .tc .vmem S8x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S192x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 2 → Memref sig .tc .vmem S32x128x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S1x8x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev grid7 : Pipeline.Grid := ⟨2, ![2, 32], ![false, false]⟩

def cc7_transform_0 (i : grid7.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc7_transform_1 (i : grid7.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  ![v4.toNat, c0_i32_1.toNat, c0_i32_2.toNat]

def cc7_transform_2 (i : grid7.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c32_i32_1 : BitVec 32 := 32#32
  let v3 : BitVec 32 := Scalar.addi v2 c32_i32_1
  let c2047_i32 : BitVec 32 := 2047#32
  let v4 : BitVec 32 := Scalar.minsi v3 c2047_i32
  let c0_i32 : BitVec 32 := 0#32
  let c0_i32_2 : BitVec 32 := 0#32
  let c0_i32_3 : BitVec 32 := 0#32
  ![v4.toNat, c0_i32.toNat, c0_i32_2.toNat]

def cc7_transform_3 (i : grid7.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  ![v4.toNat, c0_i32_1.toNat, c0_i32_2.toNat]

def cc7_transform_5 (i : grid7.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c32_i32_1 : BitVec 32 := 32#32
  let v3 : BitVec 32 := Scalar.addi v2 c32_i32_1
  let c2047_i32 : BitVec 32 := 2047#32
  let v4 : BitVec 32 := Scalar.minsi v3 c2047_i32
  let c0_i32 : BitVec 32 := 0#32
  let c0_i32_2 : BitVec 32 := 0#32
  let c0_i32_3 : BitVec 32 := 0#32
  ![v4.toNat, c0_i32.toNat, c0_i32_2.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc7_transform_9 (i : grid7.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc7_transform_10 (i : grid7.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage7_0 : Fin 2 → Memref sig .tc .vmem S32x128x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x128x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x128x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S32x128x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S1x128x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S1x128x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 1 → Memref sig .tc .vmem S8x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false, false]

abbrev stage7_7 : Fin 1 → Memref sig .tc .vmem S192x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false, false]

abbrev stage7_8 : Fin 2 → Memref sig .tc .vmem S32x128x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true, true]

abbrev stage7_9 : Fin 2 → Memref sig .tc .vmem S1x8x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true, true]

abbrev stage7_10 : Fin 2 → Memref sig .tc .vmem S32x128x128 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true, true]

abbrev grid8 : Pipeline.Grid := ⟨2, ![2, 32], ![false, false]⟩

def cc8_transform_0 (i : grid8.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc8_transform_1 (i : grid8.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  ![v4.toNat, c0_i32_1.toNat, c0_i32_2.toNat]

def cc8_transform_2 (i : grid8.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c32_i32_1 : BitVec 32 := 32#32
  let v3 : BitVec 32 := Scalar.addi v2 c32_i32_1
  let c2047_i32 : BitVec 32 := 2047#32
  let v4 : BitVec 32 := Scalar.minsi v3 c2047_i32
  let c0_i32 : BitVec 32 := 0#32
  let c0_i32_2 : BitVec 32 := 0#32
  let c0_i32_3 : BitVec 32 := 0#32
  ![v4.toNat, c0_i32.toNat, c0_i32_2.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc8_transform_6 (i : grid8.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage8_0 : Fin 2 → Memref sig .tc .vmem S32x128x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x128x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S1x128x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev stage8_3 : Fin 1 → Memref sig .tc .vmem S8x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 1 → Memref sig .tc .vmem S192x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false, false]

abbrev stage8_5 : Fin 2 → Memref sig .tc .vmem S32x128x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true]

abbrev stage8_6 : Fin 2 → Memref sig .tc .vmem S1x8x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, true]

abbrev grid9 : Pipeline.Grid := ⟨2, ![2, 32], ![false, false]⟩

def cc9_transform_0 (i : grid9.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc9_transform_1 (i : grid9.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  ![v4.toNat, c0_i32_1.toNat, c0_i32_2.toNat]

def cc9_transform_2 (i : grid9.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c32_i32_1 : BitVec 32 := 32#32
  let v3 : BitVec 32 := Scalar.addi v2 c32_i32_1
  let c2047_i32 : BitVec 32 := 2047#32
  let v4 : BitVec 32 := Scalar.minsi v3 c2047_i32
  let c0_i32 : BitVec 32 := 0#32
  let c0_i32_2 : BitVec 32 := 0#32
  let c0_i32_3 : BitVec 32 := 0#32
  ![v4.toNat, c0_i32.toNat, c0_i32_2.toNat]

def cc9_transform_3 (i : grid9.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc9_transform_4 (i : grid9.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  ![v4.toNat, c0_i32_1.toNat, c0_i32_2.toNat]

def cc9_transform_5 (i : grid9.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c32_i32_1 : BitVec 32 := 32#32
  let v3 : BitVec 32 := Scalar.addi v2 c32_i32_1
  let c2047_i32 : BitVec 32 := 2047#32
  let v4 : BitVec 32 := Scalar.minsi v3 c2047_i32
  let c0_i32 : BitVec 32 := 0#32
  let c0_i32_2 : BitVec 32 := 0#32
  let c0_i32_3 : BitVec 32 := 0#32
  ![v4.toNat, c0_i32.toNat, c0_i32_2.toNat]

def cc9_transform_6 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc9_transform_9 (i : grid9.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage9_0 : Fin 2 → Memref sig .tc .vmem S32x128x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x128x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 2 → Memref sig .tc .vmem S1x128x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S32x128x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev stage9_4 : Fin 2 → Memref sig .tc .vmem S1x128x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]

abbrev stage9_5 : Fin 2 → Memref sig .tc .vmem S1x128x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true]

abbrev stage9_6 : Fin 1 → Memref sig .tc .vmem S8x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false, false]

abbrev stage9_7 : Fin 1 → Memref sig .tc .vmem S192x256 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false, false]

abbrev stage9_8 : Fin 2 → Memref sig .tc .vmem S32x128x6 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true, true]

abbrev stage9_9 : Fin 2 → Memref sig .tc .vmem S32x128x6 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true, true]

abbrev grid10 : Pipeline.Grid := ⟨2, ![2, 32], ![false, false]⟩

def cc10_transform_0 (i : grid10.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc10_transform_1 (i : grid10.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c32_i32_4 : BitVec 32 := 32#32
  let v19 : BitVec 32 := Scalar.muli arg0 c32_i32_4
  let v20 : BitVec 32 := Scalar.addi v19 arg1
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, c0_i32_11.toNat, v30.toNat, c0_i32_12.toNat]

abbrev stage10_0 : Fin 2 → Memref sig .tc .vmem S32x256x3 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1x3x32x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]
-- ==== ReferenceIdeal.lean ====
abbrev S8x3x256x256 : Shape := ⟨4, ![8, 3, 256, 256]⟩
abbrev S64x6x3x3 : Shape := ⟨4, ![64, 6, 3, 3]⟩
abbrev S64 : Shape := ⟨1, ![64]⟩
abbrev S3x2x64x64x3x3 : Shape := ⟨6, ![3, 2, 64, 64, 3, 3]⟩
abbrev S3x2x64 : Shape := ⟨3, ![3, 2, 64]⟩
abbrev S3x64x3x3 : Shape := ⟨4, ![3, 64, 3, 3]⟩
abbrev S3 : Shape := ⟨1, ![3]⟩
abbrev S_ : Shape := ⟨0, ![]⟩
abbrev S8x3 : Shape := ⟨2, ![8, 3]⟩
abbrev S8x3x1x1 : Shape := ⟨4, ![8, 3, 1, 1]⟩
abbrev S8x6x256x256 : Shape := ⟨4, ![8, 6, 256, 256]⟩
abbrev S8x6x258x258 : Shape := ⟨4, ![8, 6, 258, 258]⟩
abbrev S64x6x1x1 : Shape := ⟨4, ![64, 6, 1, 1]⟩
abbrev S64x6 : Shape := ⟨2, ![64, 6]⟩
abbrev S8x256x256x64 : Shape := ⟨4, ![8, 256, 256, 64]⟩
abbrev S8x64x256x256 : Shape := ⟨4, ![8, 64, 256, 256]⟩
abbrev S1x64x1x1 : Shape := ⟨4, ![1, 64, 1, 1]⟩
abbrev S1x2x64x64x3x3 : Shape := ⟨6, ![1, 2, 64, 64, 3, 3]⟩
abbrev S2x64x64x3x3 : Shape := ⟨5, ![2, 64, 64, 3, 3]⟩
abbrev S1x2x64 : Shape := ⟨3, ![1, 2, 64]⟩
abbrev S2x64 : Shape := ⟨2, ![2, 64]⟩
abbrev S1x64x64x3x3 : Shape := ⟨5, ![1, 64, 64, 3, 3]⟩
abbrev S64x64x3x3 : Shape := ⟨4, ![64, 64, 3, 3]⟩
abbrev S1x64 : Shape := ⟨2, ![1, 64]⟩
abbrev S8x64x258x258 : Shape := ⟨4, ![8, 64, 258, 258]⟩
abbrev S64x64x1x1 : Shape := ⟨4, ![64, 64, 1, 1]⟩
abbrev S64x64 : Shape := ⟨2, ![64, 64]⟩
abbrev S3x64x1x1 : Shape := ⟨4, ![3, 64, 1, 1]⟩
abbrev S3x64 : Shape := ⟨2, ![3, 64]⟩
abbrev S8x256x256x3 : Shape := ⟨4, ![8, 256, 256, 3]⟩
abbrev S1x3x1x1 : Shape := ⟨4, ![1, 3, 1, 1]⟩

abbrev nBuf : Space → Nat
  | .hbm => 895
  | .vmem => 0
  | .smem => 0
  | _ => 0

abbrev hbmTy0_0 (i : Nat) : BufTy := match i % 128 with
  | 0 => ⟨S8x3x256x256, .f32⟩
  | 1 => ⟨S64x6x3x3, .f32⟩
  | 2 => ⟨S64, .f32⟩
  | 3 => ⟨S64, .f32⟩
  | 4 => ⟨S64, .f32⟩
  | 5 => ⟨S3x2x64x64x3x3, .f32⟩
  | 6 => ⟨S3x2x64, .f32⟩
  | 7 => ⟨S3x2x64, .f32⟩
  | 8 => ⟨S3x2x64, .f32⟩
  | 9 => ⟨S3x64x3x3, .f32⟩
  | 10 => ⟨S3, .f32⟩
  | 11 => ⟨S_, .f32⟩
  | 12 => ⟨S8x3, .f32⟩
  | 13 => ⟨S8x3x1x1, .f32⟩
  | 14 => ⟨S_, .f32⟩
  | 15 => ⟨S8x3x1x1, .f32⟩
  | 16 => ⟨S8x3x1x1, .f32⟩
  | 17 => ⟨S8x3x256x256, .f32⟩
  | 18 => ⟨S8x3x256x256, .f32⟩
  | 19 => ⟨S8x3x256x256, .f32⟩
  | 20 => ⟨S_, .f32⟩
  | 21 => ⟨S8x3, .f32⟩
  | 22 => ⟨S8x3x1x1, .f32⟩
  | 23 => ⟨S_, .f32⟩
  | 24 => ⟨S8x3x1x1, .f32⟩
  | 25 => ⟨S8x3x1x1, .f32⟩
  | 26 => ⟨S8x3x256x256, .f32⟩
  | 27 => ⟨S8x3x256x256, .f32⟩
  | 28 => ⟨S8x3x1x1, .f32⟩
  | 29 => ⟨S8x3x256x256, .f32⟩
  | 30 => ⟨S8x3x256x256, .f32⟩
  | 31 => ⟨S8x6x256x256, .f32⟩
  | 32 => ⟨S_, .i32⟩
  | 33 => ⟨S_, .f32⟩
  | 34 => ⟨S8x6x258x258, .f32⟩
  | 35 => ⟨S64x6x1x1, .f32⟩
  | 36 => ⟨S64x6, .f32⟩
  | 37 => ⟨S8x6x256x256, .f32⟩
  | 38 => ⟨S8x256x256x64, .f32⟩
  | 39 => ⟨S8x64x256x256, .f32⟩
  | 40 => ⟨S64x6x1x1, .f32⟩
  | 41 => ⟨S64x6, .f32⟩
  | 42 => ⟨S8x6x256x256, .f32⟩
  | 43 => ⟨S8x256x256x64, .f32⟩
  | 44 => ⟨S8x64x256x256, .f32⟩
  | 45 => ⟨S8x64x256x256, .f32⟩
  | 46 => ⟨S64x6x1x1, .f32⟩
  | 47 => ⟨S64x6, .f32⟩
  | 48 => ⟨S8x6x256x256, .f32⟩
  | 49 => ⟨S8x256x256x64, .f32⟩
  | 50 => ⟨S8x64x256x256, .f32⟩
  | 51 => ⟨S8x64x256x256, .f32⟩
  | 52 => ⟨S64x6x1x1, .f32⟩
  | 53 => ⟨S64x6, .f32⟩
  | 54 => ⟨S8x6x256x256, .f32⟩
  | 55 => ⟨S8x256x256x64, .f32⟩
  | 56 => ⟨S8x64x256x256, .f32⟩
  | 57 => ⟨S8x64x256x256, .f32⟩
  | 58 => ⟨S64x6x1x1, .f32⟩
  | 59 => ⟨S64x6, .f32⟩
  | 60 => ⟨S8x6x256x256, .f32⟩
  | 61 => ⟨S8x256x256x64, .f32⟩
  | 62 => ⟨S8x64x256x256, .f32⟩
  | 63 => ⟨S8x64x256x256, .f32⟩
  | 64 => ⟨S64x6x1x1, .f32⟩
  | 65 => ⟨S64x6, .f32⟩
  | 66 => ⟨S8x6x256x256, .f32⟩
  | 67 => ⟨S8x256x256x64, .f32⟩
  | 68 => ⟨S8x64x256x256, .f32⟩
  | 69 => ⟨S8x64x256x256, .f32⟩
  | 70 => ⟨S64x6x1x1, .f32⟩
  | 71 => ⟨S64x6, .f32⟩
  | 72 => ⟨S8x6x256x256, .f32⟩
  | 73 => ⟨S8x256x256x64, .f32⟩
  | 74 => ⟨S8x64x256x256, .f32⟩
  | 75 => ⟨S8x64x256x256, .f32⟩
  | 76 => ⟨S64x6x1x1, .f32⟩
  | 77 => ⟨S64x6, .f32⟩
  | 78 => ⟨S8x6x256x256, .f32⟩
  | 79 => ⟨S8x256x256x64, .f32⟩
  | 80 => ⟨S8x64x256x256, .f32⟩
  | 81 => ⟨S8x64x256x256, .f32⟩
  | 82 => ⟨S64x6x1x1, .f32⟩
  | 83 => ⟨S64x6, .f32⟩
  | 84 => ⟨S8x6x256x256, .f32⟩
  | 85 => ⟨S8x256x256x64, .f32⟩
  | 86 => ⟨S8x64x256x256, .f32⟩
  | 87 => ⟨S8x64x256x256, .f32⟩
  | 88 => ⟨S1x64x1x1, .f32⟩
  | 89 => ⟨S8x64x256x256, .f32⟩
  | 90 => ⟨S8x64x256x256, .f32⟩
  | 91 => ⟨S_, .f32⟩
  | 92 => ⟨S64, .f32⟩
  | 93 => ⟨S1x64x1x1, .f32⟩
  | 94 => ⟨S_, .f32⟩
  | 95 => ⟨S1x64x1x1, .f32⟩
  | 96 => ⟨S1x64x1x1, .f32⟩
  | 97 => ⟨S8x64x256x256, .f32⟩
  | 98 => ⟨S8x64x256x256, .f32⟩
  | 99 => ⟨S8x64x256x256, .f32⟩
  | 100 => ⟨S_, .f32⟩
  | 101 => ⟨S64, .f32⟩
  | 102 => ⟨S1x64x1x1, .f32⟩
  | 103 => ⟨S_, .f32⟩
  | 104 => ⟨S1x64x1x1, .f32⟩
  | 105 => ⟨S1x64x1x1, .f32⟩
  | 106 => ⟨S8x64x256x256, .f32⟩
  | 107 => ⟨S8x64x256x256, .f32⟩
  | 108 => ⟨S_, .f32⟩
  | 109 => ⟨S1x64x1x1, .f32⟩
  | 110 => ⟨S1x64x1x1, .f32⟩
  | 111 => ⟨S1x64x1x1, .f32⟩
  | 112 => ⟨S8x64x256x256, .f32⟩
  | 113 => ⟨S8x64x256x256, .f32⟩
  | 114 => ⟨S1x64x1x1, .f32⟩
  | 115 => ⟨S8x64x256x256, .f32⟩
  | 116 => ⟨S8x64x256x256, .f32⟩
  | 117 => ⟨S1x64x1x1, .f32⟩
  | 118 => ⟨S8x64x256x256, .f32⟩
  | 119 => ⟨S8x64x256x256, .f32⟩
  | 120 => ⟨S_, .f32⟩
  | 121 => ⟨S8x64x256x256, .f32⟩
  | 122 => ⟨S8x64x256x256, .f32⟩
  | 123 => ⟨S_, .f32⟩
  | 124 => ⟨S8x64x256x256, .f32⟩
  | 125 => ⟨S8x64x256x256, .f32⟩
  | 126 => ⟨S_, .f32⟩
  | 127 => ⟨S8x64x256x256, .f32⟩
  | _ => ⟨S8x3x256x256, .f32⟩

abbrev hbmTy0_1 (i : Nat) : BufTy := match i % 128 with
  | 0 => ⟨S8x64x256x256, .f32⟩
  | 1 => ⟨S8x64x256x256, .f32⟩
  | 2 => ⟨S_, .f32⟩
  | 3 => ⟨S8x64x256x256, .f32⟩
  | 4 => ⟨S8x64x256x256, .f32⟩
  | 5 => ⟨S8x64x256x256, .f32⟩
  | 6 => ⟨S1x2x64x64x3x3, .f32⟩
  | 7 => ⟨S2x64x64x3x3, .f32⟩
  | 8 => ⟨S1x2x64, .f32⟩
  | 9 => ⟨S2x64, .f32⟩
  | 10 => ⟨S1x2x64, .f32⟩
  | 11 => ⟨S2x64, .f32⟩
  | 12 => ⟨S1x2x64, .f32⟩
  | 13 => ⟨S2x64, .f32⟩
  | 14 => ⟨S1x64x64x3x3, .f32⟩
  | 15 => ⟨S64x64x3x3, .f32⟩
  | 16 => ⟨S1x64, .f32⟩
  | 17 => ⟨S64, .f32⟩
  | 18 => ⟨S_, .i32⟩
  | 19 => ⟨S_, .f32⟩
  | 20 => ⟨S8x64x258x258, .f32⟩
  | 21 => ⟨S64x64x1x1, .f32⟩
  | 22 => ⟨S64x64, .f32⟩
  | 23 => ⟨S8x64x256x256, .f32⟩
  | 24 => ⟨S8x256x256x64, .f32⟩
  | 25 => ⟨S8x64x256x256, .f32⟩
  | 26 => ⟨S64x64x1x1, .f32⟩
  | 27 => ⟨S64x64, .f32⟩
  | 28 => ⟨S8x64x256x256, .f32⟩
  | 29 => ⟨S8x256x256x64, .f32⟩
  | 30 => ⟨S8x64x256x256, .f32⟩
  | 31 => ⟨S8x64x256x256, .f32⟩
  | 32 => ⟨S64x64x1x1, .f32⟩
  | 33 => ⟨S64x64, .f32⟩
  | 34 => ⟨S8x64x256x256, .f32⟩
  | 35 => ⟨S8x256x256x64, .f32⟩
  | 36 => ⟨S8x64x256x256, .f32⟩
  | 37 => ⟨S8x64x256x256, .f32⟩
  | 38 => ⟨S64x64x1x1, .f32⟩
  | 39 => ⟨S64x64, .f32⟩
  | 40 => ⟨S8x64x256x256, .f32⟩
  | 41 => ⟨S8x256x256x64, .f32⟩
  | 42 => ⟨S8x64x256x256, .f32⟩
  | 43 => ⟨S8x64x256x256, .f32⟩
  | 44 => ⟨S64x64x1x1, .f32⟩
  | 45 => ⟨S64x64, .f32⟩
  | 46 => ⟨S8x64x256x256, .f32⟩
  | 47 => ⟨S8x256x256x64, .f32⟩
  | 48 => ⟨S8x64x256x256, .f32⟩
  | 49 => ⟨S8x64x256x256, .f32⟩
  | 50 => ⟨S64x64x1x1, .f32⟩
  | 51 => ⟨S64x64, .f32⟩
  | 52 => ⟨S8x64x256x256, .f32⟩
  | 53 => ⟨S8x256x256x64, .f32⟩
  | 54 => ⟨S8x64x256x256, .f32⟩
  | 55 => ⟨S8x64x256x256, .f32⟩
  | 56 => ⟨S64x64x1x1, .f32⟩
  | 57 => ⟨S64x64, .f32⟩
  | 58 => ⟨S8x64x256x256, .f32⟩
  | 59 => ⟨S8x256x256x64, .f32⟩
  | 60 => ⟨S8x64x256x256, .f32⟩
  | 61 => ⟨S8x64x256x256, .f32⟩
  | 62 => ⟨S64x64x1x1, .f32⟩
  | 63 => ⟨S64x64, .f32⟩
  | 64 => ⟨S8x64x256x256, .f32⟩
  | 65 => ⟨S8x256x256x64, .f32⟩
  | 66 => ⟨S8x64x256x256, .f32⟩
  | 67 => ⟨S8x64x256x256, .f32⟩
  | 68 => ⟨S64x64x1x1, .f32⟩
  | 69 => ⟨S64x64, .f32⟩
  | 70 => ⟨S8x64x256x256, .f32⟩
  | 71 => ⟨S8x256x256x64, .f32⟩
  | 72 => ⟨S8x64x256x256, .f32⟩
  | 73 => ⟨S8x64x256x256, .f32⟩
  | 74 => ⟨S1x64x1x1, .f32⟩
  | 75 => ⟨S8x64x256x256, .f32⟩
  | 76 => ⟨S8x64x256x256, .f32⟩
  | 77 => ⟨S1x64, .f32⟩
  | 78 => ⟨S64, .f32⟩
  | 79 => ⟨S1x64, .f32⟩
  | 80 => ⟨S64, .f32⟩
  | 81 => ⟨S_, .f32⟩
  | 82 => ⟨S64, .f32⟩
  | 83 => ⟨S1x64x1x1, .f32⟩
  | 84 => ⟨S_, .f32⟩
  | 85 => ⟨S1x64x1x1, .f32⟩
  | 86 => ⟨S1x64x1x1, .f32⟩
  | 87 => ⟨S8x64x256x256, .f32⟩
  | 88 => ⟨S8x64x256x256, .f32⟩
  | 89 => ⟨S8x64x256x256, .f32⟩
  | 90 => ⟨S_, .f32⟩
  | 91 => ⟨S64, .f32⟩
  | 92 => ⟨S1x64x1x1, .f32⟩
  | 93 => ⟨S_, .f32⟩
  | 94 => ⟨S1x64x1x1, .f32⟩
  | 95 => ⟨S1x64x1x1, .f32⟩
  | 96 => ⟨S8x64x256x256, .f32⟩
  | 97 => ⟨S8x64x256x256, .f32⟩
  | 98 => ⟨S_, .f32⟩
  | 99 => ⟨S1x64x1x1, .f32⟩
  | 100 => ⟨S1x64x1x1, .f32⟩
  | 101 => ⟨S1x64x1x1, .f32⟩
  | 102 => ⟨S8x64x256x256, .f32⟩
  | 103 => ⟨S8x64x256x256, .f32⟩
  | 104 => ⟨S1x64x1x1, .f32⟩
  | 105 => ⟨S8x64x256x256, .f32⟩
  | 106 => ⟨S8x64x256x256, .f32⟩
  | 107 => ⟨S1x64x1x1, .f32⟩
  | 108 => ⟨S8x64x256x256, .f32⟩
  | 109 => ⟨S8x64x256x256, .f32⟩
  | 110 => ⟨S_, .f32⟩
  | 111 => ⟨S8x64x256x256, .f32⟩
  | 112 => ⟨S8x64x256x256, .f32⟩
  | 113 => ⟨S_, .f32⟩
  | 114 => ⟨S8x64x256x256, .f32⟩
  | 115 => ⟨S8x64x256x256, .f32⟩
  | 116 => ⟨S_, .f32⟩
  | 117 => ⟨S8x64x256x256, .f32⟩
  | 118 => ⟨S8x64x256x256, .f32⟩
  | 119 => ⟨S8x64x256x256, .f32⟩
  | 120 => ⟨S_, .f32⟩
  | 121 => ⟨S8x64x256x256, .f32⟩
  | 122 => ⟨S8x64x256x256, .f32⟩
  | 123 => ⟨S8x64x256x256, .f32⟩
  | 124 => ⟨S1x64x64x3x3, .f32⟩
  | 125 => ⟨S64x64x3x3, .f32⟩
  | 126 => ⟨S1x64, .f32⟩
  | 127 => ⟨S64, .f32⟩
  | _ => ⟨S8x3x256x256, .f32⟩

abbrev hbmTy0_2 (i : Nat) : BufTy := match i % 128 with
  | 0 => ⟨S_, .i32⟩
  | 1 => ⟨S_, .f32⟩
  | 2 => ⟨S8x64x258x258, .f32⟩
  | 3 => ⟨S64x64x1x1, .f32⟩
  | 4 => ⟨S64x64, .f32⟩
  | 5 => ⟨S8x64x256x256, .f32⟩
  | 6 => ⟨S8x256x256x64, .f32⟩
  | 7 => ⟨S8x64x256x256, .f32⟩
  | 8 => ⟨S64x64x1x1, .f32⟩
  | 9 => ⟨S64x64, .f32⟩
  | 10 => ⟨S8x64x256x256, .f32⟩
  | 11 => ⟨S8x256x256x64, .f32⟩
  | 12 => ⟨S8x64x256x256, .f32⟩
  | 13 => ⟨S8x64x256x256, .f32⟩
  | 14 => ⟨S64x64x1x1, .f32⟩
  | 15 => ⟨S64x64, .f32⟩
  | 16 => ⟨S8x64x256x256, .f32⟩
  | 17 => ⟨S8x256x256x64, .f32⟩
  | 18 => ⟨S8x64x256x256, .f32⟩
  | 19 => ⟨S8x64x256x256, .f32⟩
  | 20 => ⟨S64x64x1x1, .f32⟩
  | 21 => ⟨S64x64, .f32⟩
  | 22 => ⟨S8x64x256x256, .f32⟩
  | 23 => ⟨S8x256x256x64, .f32⟩
  | 24 => ⟨S8x64x256x256, .f32⟩
  | 25 => ⟨S8x64x256x256, .f32⟩
  | 26 => ⟨S64x64x1x1, .f32⟩
  | 27 => ⟨S64x64, .f32⟩
  | 28 => ⟨S8x64x256x256, .f32⟩
  | 29 => ⟨S8x256x256x64, .f32⟩
  | 30 => ⟨S8x64x256x256, .f32⟩
  | 31 => ⟨S8x64x256x256, .f32⟩
  | 32 => ⟨S64x64x1x1, .f32⟩
  | 33 => ⟨S64x64, .f32⟩
  | 34 => ⟨S8x64x256x256, .f32⟩
  | 35 => ⟨S8x256x256x64, .f32⟩
  | 36 => ⟨S8x64x256x256, .f32⟩
  | 37 => ⟨S8x64x256x256, .f32⟩
  | 38 => ⟨S64x64x1x1, .f32⟩
  | 39 => ⟨S64x64, .f32⟩
  | 40 => ⟨S8x64x256x256, .f32⟩
  | 41 => ⟨S8x256x256x64, .f32⟩
  | 42 => ⟨S8x64x256x256, .f32⟩
  | 43 => ⟨S8x64x256x256, .f32⟩
  | 44 => ⟨S64x64x1x1, .f32⟩
  | 45 => ⟨S64x64, .f32⟩
  | 46 => ⟨S8x64x256x256, .f32⟩
  | 47 => ⟨S8x256x256x64, .f32⟩
  | 48 => ⟨S8x64x256x256, .f32⟩
  | 49 => ⟨S8x64x256x256, .f32⟩
  | 50 => ⟨S64x64x1x1, .f32⟩
  | 51 => ⟨S64x64, .f32⟩
  | 52 => ⟨S8x64x256x256, .f32⟩
  | 53 => ⟨S8x256x256x64, .f32⟩
  | 54 => ⟨S8x64x256x256, .f32⟩
  | 55 => ⟨S8x64x256x256, .f32⟩
  | 56 => ⟨S1x64x1x1, .f32⟩
  | 57 => ⟨S8x64x256x256, .f32⟩
  | 58 => ⟨S8x64x256x256, .f32⟩
  | 59 => ⟨S1x64, .f32⟩
  | 60 => ⟨S64, .f32⟩
  | 61 => ⟨S1x64, .f32⟩
  | 62 => ⟨S64, .f32⟩
  | 63 => ⟨S_, .f32⟩
  | 64 => ⟨S64, .f32⟩
  | 65 => ⟨S1x64x1x1, .f32⟩
  | 66 => ⟨S_, .f32⟩
  | 67 => ⟨S1x64x1x1, .f32⟩
  | 68 => ⟨S1x64x1x1, .f32⟩
  | 69 => ⟨S8x64x256x256, .f32⟩
  | 70 => ⟨S8x64x256x256, .f32⟩
  | 71 => ⟨S8x64x256x256, .f32⟩
  | 72 => ⟨S_, .f32⟩
  | 73 => ⟨S64, .f32⟩
  | 74 => ⟨S1x64x1x1, .f32⟩
  | 75 => ⟨S_, .f32⟩
  | 76 => ⟨S1x64x1x1, .f32⟩
  | 77 => ⟨S1x64x1x1, .f32⟩
  | 78 => ⟨S8x64x256x256, .f32⟩
  | 79 => ⟨S8x64x256x256, .f32⟩
  | 80 => ⟨S_, .f32⟩
  | 81 => ⟨S1x64x1x1, .f32⟩
  | 82 => ⟨S1x64x1x1, .f32⟩
  | 83 => ⟨S1x64x1x1, .f32⟩
  | 84 => ⟨S8x64x256x256, .f32⟩
  | 85 => ⟨S8x64x256x256, .f32⟩
  | 86 => ⟨S1x64x1x1, .f32⟩
  | 87 => ⟨S8x64x256x256, .f32⟩
  | 88 => ⟨S8x64x256x256, .f32⟩
  | 89 => ⟨S1x64x1x1, .f32⟩
  | 90 => ⟨S8x64x256x256, .f32⟩
  | 91 => ⟨S8x64x256x256, .f32⟩
  | 92 => ⟨S_, .f32⟩
  | 93 => ⟨S8x64x256x256, .f32⟩
  | 94 => ⟨S8x64x256x256, .f32⟩
  | 95 => ⟨S_, .f32⟩
  | 96 => ⟨S8x64x256x256, .f32⟩
  | 97 => ⟨S8x64x256x256, .f32⟩
  | 98 => ⟨S_, .f32⟩
  | 99 => ⟨S8x64x256x256, .f32⟩
  | 100 => ⟨S8x64x256x256, .f32⟩
  | 101 => ⟨S8x64x256x256, .f32⟩
  | 102 => ⟨S_, .f32⟩
  | 103 => ⟨S8x64x256x256, .f32⟩
  | 104 => ⟨S8x64x256x256, .f32⟩
  | 105 => ⟨S8x64x256x256, .f32⟩
  | 106 => ⟨S8x64x256x256, .f32⟩
  | 107 => ⟨S1x2x64x64x3x3, .f32⟩
  | 108 => ⟨S2x64x64x3x3, .f32⟩
  | 109 => ⟨S1x2x64, .f32⟩
  | 110 => ⟨S2x64, .f32⟩
  | 111 => ⟨S1x2x64, .f32⟩
  | 112 => ⟨S2x64, .f32⟩
  | 113 => ⟨S1x2x64, .f32⟩
  | 114 => ⟨S2x64, .f32⟩
  | 115 => ⟨S1x64x64x3x3, .f32⟩
  | 116 => ⟨S64x64x3x3, .f32⟩
  | 117 => ⟨S1x64, .f32⟩
  | 118 => ⟨S64, .f32⟩
  | 119 => ⟨S_, .i32⟩
  | 120 => ⟨S_, .f32⟩
  | 121 => ⟨S8x64x258x258, .f32⟩
  | 122 => ⟨S64x64x1x1, .f32⟩
  | 123 => ⟨S64x64, .f32⟩
  | 124 => ⟨S8x64x256x256, .f32⟩
  | 125 => ⟨S8x256x256x64, .f32⟩
  | 126 => ⟨S8x64x256x256, .f32⟩
  | 127 => ⟨S64x64x1x1, .f32⟩
  | _ => ⟨S8x3x256x256, .f32⟩

abbrev hbmTy0_3 (i : Nat) : BufTy := match i % 128 with
  | 0 => ⟨S64x64, .f32⟩
  | 1 => ⟨S8x64x256x256, .f32⟩
  | 2 => ⟨S8x256x256x64, .f32⟩
  | 3 => ⟨S8x64x256x256, .f32⟩
  | 4 => ⟨S8x64x256x256, .f32⟩
  | 5 => ⟨S64x64x1x1, .f32⟩
  | 6 => ⟨S64x64, .f32⟩
  | 7 => ⟨S8x64x256x256, .f32⟩
  | 8 => ⟨S8x256x256x64, .f32⟩
  | 9 => ⟨S8x64x256x256, .f32⟩
  | 10 => ⟨S8x64x256x256, .f32⟩
  | 11 => ⟨S64x64x1x1, .f32⟩
  | 12 => ⟨S64x64, .f32⟩
  | 13 => ⟨S8x64x256x256, .f32⟩
  | 14 => ⟨S8x256x256x64, .f32⟩
  | 15 => ⟨S8x64x256x256, .f32⟩
  | 16 => ⟨S8x64x256x256, .f32⟩
  | 17 => ⟨S64x64x1x1, .f32⟩
  | 18 => ⟨S64x64, .f32⟩
  | 19 => ⟨S8x64x256x256, .f32⟩
  | 20 => ⟨S8x256x256x64, .f32⟩
  | 21 => ⟨S8x64x256x256, .f32⟩
  | 22 => ⟨S8x64x256x256, .f32⟩
  | 23 => ⟨S64x64x1x1, .f32⟩
  | 24 => ⟨S64x64, .f32⟩
  | 25 => ⟨S8x64x256x256, .f32⟩
  | 26 => ⟨S8x256x256x64, .f32⟩
  | 27 => ⟨S8x64x256x256, .f32⟩
  | 28 => ⟨S8x64x256x256, .f32⟩
  | 29 => ⟨S64x64x1x1, .f32⟩
  | 30 => ⟨S64x64, .f32⟩
  | 31 => ⟨S8x64x256x256, .f32⟩
  | 32 => ⟨S8x256x256x64, .f32⟩
  | 33 => ⟨S8x64x256x256, .f32⟩
  | 34 => ⟨S8x64x256x256, .f32⟩
  | 35 => ⟨S64x64x1x1, .f32⟩
  | 36 => ⟨S64x64, .f32⟩
  | 37 => ⟨S8x64x256x256, .f32⟩
  | 38 => ⟨S8x256x256x64, .f32⟩
  | 39 => ⟨S8x64x256x256, .f32⟩
  | 40 => ⟨S8x64x256x256, .f32⟩
  | 41 => ⟨S64x64x1x1, .f32⟩
  | 42 => ⟨S64x64, .f32⟩
  | 43 => ⟨S8x64x256x256, .f32⟩
  | 44 => ⟨S8x256x256x64, .f32⟩
  | 45 => ⟨S8x64x256x256, .f32⟩
  | 46 => ⟨S8x64x256x256, .f32⟩
  | 47 => ⟨S1x64x1x1, .f32⟩
  | 48 => ⟨S8x64x256x256, .f32⟩
  | 49 => ⟨S8x64x256x256, .f32⟩
  | 50 => ⟨S1x64, .f32⟩
  | 51 => ⟨S64, .f32⟩
  | 52 => ⟨S1x64, .f32⟩
  | 53 => ⟨S64, .f32⟩
  | 54 => ⟨S_, .f32⟩
  | 55 => ⟨S64, .f32⟩
  | 56 => ⟨S1x64x1x1, .f32⟩
  | 57 => ⟨S_, .f32⟩
  | 58 => ⟨S1x64x1x1, .f32⟩
  | 59 => ⟨S1x64x1x1, .f32⟩
  | 60 => ⟨S8x64x256x256, .f32⟩
  | 61 => ⟨S8x64x256x256, .f32⟩
  | 62 => ⟨S8x64x256x256, .f32⟩
  | 63 => ⟨S_, .f32⟩
  | 64 => ⟨S64, .f32⟩
  | 65 => ⟨S1x64x1x1, .f32⟩
  | 66 => ⟨S_, .f32⟩
  | 67 => ⟨S1x64x1x1, .f32⟩
  | 68 => ⟨S1x64x1x1, .f32⟩
  | 69 => ⟨S8x64x256x256, .f32⟩
  | 70 => ⟨S8x64x256x256, .f32⟩
  | 71 => ⟨S_, .f32⟩
  | 72 => ⟨S1x64x1x1, .f32⟩
  | 73 => ⟨S1x64x1x1, .f32⟩
  | 74 => ⟨S1x64x1x1, .f32⟩
  | 75 => ⟨S8x64x256x256, .f32⟩
  | 76 => ⟨S8x64x256x256, .f32⟩
  | 77 => ⟨S1x64x1x1, .f32⟩
  | 78 => ⟨S8x64x256x256, .f32⟩
  | 79 => ⟨S8x64x256x256, .f32⟩
  | 80 => ⟨S1x64x1x1, .f32⟩
  | 81 => ⟨S8x64x256x256, .f32⟩
  | 82 => ⟨S8x64x256x256, .f32⟩
  | 83 => ⟨S_, .f32⟩
  | 84 => ⟨S8x64x256x256, .f32⟩
  | 85 => ⟨S8x64x256x256, .f32⟩
  | 86 => ⟨S_, .f32⟩
  | 87 => ⟨S8x64x256x256, .f32⟩
  | 88 => ⟨S8x64x256x256, .f32⟩
  | 89 => ⟨S_, .f32⟩
  | 90 => ⟨S8x64x256x256, .f32⟩
  | 91 => ⟨S8x64x256x256, .f32⟩
  | 92 => ⟨S8x64x256x256, .f32⟩
  | 93 => ⟨S_, .f32⟩
  | 94 => ⟨S8x64x256x256, .f32⟩
  | 95 => ⟨S8x64x256x256, .f32⟩
  | 96 => ⟨S8x64x256x256, .f32⟩
  | 97 => ⟨S1x64x64x3x3, .f32⟩
  | 98 => ⟨S64x64x3x3, .f32⟩
  | 99 => ⟨S1x64, .f32⟩
  | 100 => ⟨S64, .f32⟩
  | 101 => ⟨S_, .i32⟩
  | 102 => ⟨S_, .f32⟩
  | 103 => ⟨S8x64x258x258, .f32⟩
  | 104 => ⟨S64x64x1x1, .f32⟩
  | 105 => ⟨S64x64, .f32⟩
  | 106 => ⟨S8x64x256x256, .f32⟩
  | 107 => ⟨S8x256x256x64, .f32⟩
  | 108 => ⟨S8x64x256x256, .f32⟩
  | 109 => ⟨S64x64x1x1, .f32⟩
  | 110 => ⟨S64x64, .f32⟩
  | 111 => ⟨S8x64x256x256, .f32⟩
  | 112 => ⟨S8x256x256x64, .f32⟩
  | 113 => ⟨S8x64x256x256, .f32⟩
  | 114 => ⟨S8x64x256x256, .f32⟩
  | 115 => ⟨S64x64x1x1, .f32⟩
  | 116 => ⟨S64x64, .f32⟩
  | 117 => ⟨S8x64x256x256, .f32⟩
  | 118 => ⟨S8x256x256x64, .f32⟩
  | 119 => ⟨S8x64x256x256, .f32⟩
  | 120 => ⟨S8x64x256x256, .f32⟩
  | 121 => ⟨S64x64x1x1, .f32⟩
  | 122 => ⟨S64x64, .f32⟩
  | 123 => ⟨S8x64x256x256, .f32⟩
  | 124 => ⟨S8x256x256x64, .f32⟩
  | 125 => ⟨S8x64x256x256, .f32⟩
  | 126 => ⟨S8x64x256x256, .f32⟩
  | 127 => ⟨S64x64x1x1, .f32⟩
  | _ => ⟨S8x3x256x256, .f32⟩

abbrev hbmTy0_4 (i : Nat) : BufTy := match i % 128 with
  | 0 => ⟨S64x64, .f32⟩
  | 1 => ⟨S8x64x256x256, .f32⟩
  | 2 => ⟨S8x256x256x64, .f32⟩
  | 3 => ⟨S8x64x256x256, .f32⟩
  | 4 => ⟨S8x64x256x256, .f32⟩
  | 5 => ⟨S64x64x1x1, .f32⟩
  | 6 => ⟨S64x64, .f32⟩
  | 7 => ⟨S8x64x256x256, .f32⟩
  | 8 => ⟨S8x256x256x64, .f32⟩
  | 9 => ⟨S8x64x256x256, .f32⟩
  | 10 => ⟨S8x64x256x256, .f32⟩
  | 11 => ⟨S64x64x1x1, .f32⟩
  | 12 => ⟨S64x64, .f32⟩
  | 13 => ⟨S8x64x256x256, .f32⟩
  | 14 => ⟨S8x256x256x64, .f32⟩
  | 15 => ⟨S8x64x256x256, .f32⟩
  | 16 => ⟨S8x64x256x256, .f32⟩
  | 17 => ⟨S64x64x1x1, .f32⟩
  | 18 => ⟨S64x64, .f32⟩
  | 19 => ⟨S8x64x256x256, .f32⟩
  | 20 => ⟨S8x256x256x64, .f32⟩
  | 21 => ⟨S8x64x256x256, .f32⟩
  | 22 => ⟨S8x64x256x256, .f32⟩
  | 23 => ⟨S64x64x1x1, .f32⟩
  | 24 => ⟨S64x64, .f32⟩
  | 25 => ⟨S8x64x256x256, .f32⟩
  | 26 => ⟨S8x256x256x64, .f32⟩
  | 27 => ⟨S8x64x256x256, .f32⟩
  | 28 => ⟨S8x64x256x256, .f32⟩
  | 29 => ⟨S1x64x1x1, .f32⟩
  | 30 => ⟨S8x64x256x256, .f32⟩
  | 31 => ⟨S8x64x256x256, .f32⟩
  | 32 => ⟨S1x64, .f32⟩
  | 33 => ⟨S64, .f32⟩
  | 34 => ⟨S1x64, .f32⟩
  | 35 => ⟨S64, .f32⟩
  | 36 => ⟨S_, .f32⟩
  | 37 => ⟨S64, .f32⟩
  | 38 => ⟨S1x64x1x1, .f32⟩
  | 39 => ⟨S_, .f32⟩
  | 40 => ⟨S1x64x1x1, .f32⟩
  | 41 => ⟨S1x64x1x1, .f32⟩
  | 42 => ⟨S8x64x256x256, .f32⟩
  | 43 => ⟨S8x64x256x256, .f32⟩
  | 44 => ⟨S8x64x256x256, .f32⟩
  | 45 => ⟨S_, .f32⟩
  | 46 => ⟨S64, .f32⟩
  | 47 => ⟨S1x64x1x1, .f32⟩
  | 48 => ⟨S_, .f32⟩
  | 49 => ⟨S1x64x1x1, .f32⟩
  | 50 => ⟨S1x64x1x1, .f32⟩
  | 51 => ⟨S8x64x256x256, .f32⟩
  | 52 => ⟨S8x64x256x256, .f32⟩
  | 53 => ⟨S_, .f32⟩
  | 54 => ⟨S1x64x1x1, .f32⟩
  | 55 => ⟨S1x64x1x1, .f32⟩
  | 56 => ⟨S1x64x1x1, .f32⟩
  | 57 => ⟨S8x64x256x256, .f32⟩
  | 58 => ⟨S8x64x256x256, .f32⟩
  | 59 => ⟨S1x64x1x1, .f32⟩
  | 60 => ⟨S8x64x256x256, .f32⟩
  | 61 => ⟨S8x64x256x256, .f32⟩
  | 62 => ⟨S1x64x1x1, .f32⟩
  | 63 => ⟨S8x64x256x256, .f32⟩
  | 64 => ⟨S8x64x256x256, .f32⟩
  | 65 => ⟨S_, .f32⟩
  | 66 => ⟨S8x64x256x256, .f32⟩
  | 67 => ⟨S8x64x256x256, .f32⟩
  | 68 => ⟨S_, .f32⟩
  | 69 => ⟨S8x64x256x256, .f32⟩
  | 70 => ⟨S8x64x256x256, .f32⟩
  | 71 => ⟨S_, .f32⟩
  | 72 => ⟨S8x64x256x256, .f32⟩
  | 73 => ⟨S8x64x256x256, .f32⟩
  | 74 => ⟨S8x64x256x256, .f32⟩
  | 75 => ⟨S_, .f32⟩
  | 76 => ⟨S8x64x256x256, .f32⟩
  | 77 => ⟨S8x64x256x256, .f32⟩
  | 78 => ⟨S8x64x256x256, .f32⟩
  | 79 => ⟨S8x64x256x256, .f32⟩
  | 80 => ⟨S1x2x64x64x3x3, .f32⟩
  | 81 => ⟨S2x64x64x3x3, .f32⟩
  | 82 => ⟨S1x2x64, .f32⟩
  | 83 => ⟨S2x64, .f32⟩
  | 84 => ⟨S1x2x64, .f32⟩
  | 85 => ⟨S2x64, .f32⟩
  | 86 => ⟨S1x2x64, .f32⟩
  | 87 => ⟨S2x64, .f32⟩
  | 88 => ⟨S1x64x64x3x3, .f32⟩
  | 89 => ⟨S64x64x3x3, .f32⟩
  | 90 => ⟨S1x64, .f32⟩
  | 91 => ⟨S64, .f32⟩
  | 92 => ⟨S_, .i32⟩
  | 93 => ⟨S_, .f32⟩
  | 94 => ⟨S8x64x258x258, .f32⟩
  | 95 => ⟨S64x64x1x1, .f32⟩
  | 96 => ⟨S64x64, .f32⟩
  | 97 => ⟨S8x64x256x256, .f32⟩
  | 98 => ⟨S8x256x256x64, .f32⟩
  | 99 => ⟨S8x64x256x256, .f32⟩
  | 100 => ⟨S64x64x1x1, .f32⟩
  | 101 => ⟨S64x64, .f32⟩
  | 102 => ⟨S8x64x256x256, .f32⟩
  | 103 => ⟨S8x256x256x64, .f32⟩
  | 104 => ⟨S8x64x256x256, .f32⟩
  | 105 => ⟨S8x64x256x256, .f32⟩
  | 106 => ⟨S64x64x1x1, .f32⟩
  | 107 => ⟨S64x64, .f32⟩
  | 108 => ⟨S8x64x256x256, .f32⟩
  | 109 => ⟨S8x256x256x64, .f32⟩
  | 110 => ⟨S8x64x256x256, .f32⟩
  | 111 => ⟨S8x64x256x256, .f32⟩
  | 112 => ⟨S64x64x1x1, .f32⟩
  | 113 => ⟨S64x64, .f32⟩
  | 114 => ⟨S8x64x256x256, .f32⟩
  | 115 => ⟨S8x256x256x64, .f32⟩
  | 116 => ⟨S8x64x256x256, .f32⟩
  | 117 => ⟨S8x64x256x256, .f32⟩
  | 118 => ⟨S64x64x1x1, .f32⟩
  | 119 => ⟨S64x64, .f32⟩
  | 120 => ⟨S8x64x256x256, .f32⟩
  | 121 => ⟨S8x256x256x64, .f32⟩
  | 122 => ⟨S8x64x256x256, .f32⟩
  | 123 => ⟨S8x64x256x256, .f32⟩
  | 124 => ⟨S64x64x1x1, .f32⟩
  | 125 => ⟨S64x64, .f32⟩
  | 126 => ⟨S8x64x256x256, .f32⟩
  | 127 => ⟨S8x256x256x64, .f32⟩
  | _ => ⟨S8x3x256x256, .f32⟩

abbrev hbmTy0_5 (i : Nat) : BufTy := match i % 128 with
  | 0 => ⟨S8x64x256x256, .f32⟩
  | 1 => ⟨S8x64x256x256, .f32⟩
  | 2 => ⟨S64x64x1x1, .f32⟩
  | 3 => ⟨S64x64, .f32⟩
  | 4 => ⟨S8x64x256x256, .f32⟩
  | 5 => ⟨S8x256x256x64, .f32⟩
  | 6 => ⟨S8x64x256x256, .f32⟩
  | 7 => ⟨S8x64x256x256, .f32⟩
  | 8 => ⟨S64x64x1x1, .f32⟩
  | 9 => ⟨S64x64, .f32⟩
  | 10 => ⟨S8x64x256x256, .f32⟩
  | 11 => ⟨S8x256x256x64, .f32⟩
  | 12 => ⟨S8x64x256x256, .f32⟩
  | 13 => ⟨S8x64x256x256, .f32⟩
  | 14 => ⟨S64x64x1x1, .f32⟩
  | 15 => ⟨S64x64, .f32⟩
  | 16 => ⟨S8x64x256x256, .f32⟩
  | 17 => ⟨S8x256x256x64, .f32⟩
  | 18 => ⟨S8x64x256x256, .f32⟩
  | 19 => ⟨S8x64x256x256, .f32⟩
  | 20 => ⟨S1x64x1x1, .f32⟩
  | 21 => ⟨S8x64x256x256, .f32⟩
  | 22 => ⟨S8x64x256x256, .f32⟩
  | 23 => ⟨S1x64, .f32⟩
  | 24 => ⟨S64, .f32⟩
  | 25 => ⟨S1x64, .f32⟩
  | 26 => ⟨S64, .f32⟩
  | 27 => ⟨S_, .f32⟩
  | 28 => ⟨S64, .f32⟩
  | 29 => ⟨S1x64x1x1, .f32⟩
  | 30 => ⟨S_, .f32⟩
  | 31 => ⟨S1x64x1x1, .f32⟩
  | 32 => ⟨S1x64x1x1, .f32⟩
  | 33 => ⟨S8x64x256x256, .f32⟩
  | 34 => ⟨S8x64x256x256, .f32⟩
  | 35 => ⟨S8x64x256x256, .f32⟩
  | 36 => ⟨S_, .f32⟩
  | 37 => ⟨S64, .f32⟩
  | 38 => ⟨S1x64x1x1, .f32⟩
  | 39 => ⟨S_, .f32⟩
  | 40 => ⟨S1x64x1x1, .f32⟩
  | 41 => ⟨S1x64x1x1, .f32⟩
  | 42 => ⟨S8x64x256x256, .f32⟩
  | 43 => ⟨S8x64x256x256, .f32⟩
  | 44 => ⟨S_, .f32⟩
  | 45 => ⟨S1x64x1x1, .f32⟩
  | 46 => ⟨S1x64x1x1, .f32⟩
  | 47 => ⟨S1x64x1x1, .f32⟩
  | 48 => ⟨S8x64x256x256, .f32⟩
  | 49 => ⟨S8x64x256x256, .f32⟩
  | 50 => ⟨S1x64x1x1, .f32⟩
  | 51 => ⟨S8x64x256x256, .f32⟩
  | 52 => ⟨S8x64x256x256, .f32⟩
  | 53 => ⟨S1x64x1x1, .f32⟩
  | 54 => ⟨S8x64x256x256, .f32⟩
  | 55 => ⟨S8x64x256x256, .f32⟩
  | 56 => ⟨S_, .f32⟩
  | 57 => ⟨S8x64x256x256, .f32⟩
  | 58 => ⟨S8x64x256x256, .f32⟩
  | 59 => ⟨S_, .f32⟩
  | 60 => ⟨S8x64x256x256, .f32⟩
  | 61 => ⟨S8x64x256x256, .f32⟩
  | 62 => ⟨S_, .f32⟩
  | 63 => ⟨S8x64x256x256, .f32⟩
  | 64 => ⟨S8x64x256x256, .f32⟩
  | 65 => ⟨S8x64x256x256, .f32⟩
  | 66 => ⟨S_, .f32⟩
  | 67 => ⟨S8x64x256x256, .f32⟩
  | 68 => ⟨S8x64x256x256, .f32⟩
  | 69 => ⟨S8x64x256x256, .f32⟩
  | 70 => ⟨S1x64x64x3x3, .f32⟩
  | 71 => ⟨S64x64x3x3, .f32⟩
  | 72 => ⟨S1x64, .f32⟩
  | 73 => ⟨S64, .f32⟩
  | 74 => ⟨S_, .i32⟩
  | 75 => ⟨S_, .f32⟩
  | 76 => ⟨S8x64x258x258, .f32⟩
  | 77 => ⟨S64x64x1x1, .f32⟩
  | 78 => ⟨S64x64, .f32⟩
  | 79 => ⟨S8x64x256x256, .f32⟩
  | 80 => ⟨S8x256x256x64, .f32⟩
  | 81 => ⟨S8x64x256x256, .f32⟩
  | 82 => ⟨S64x64x1x1, .f32⟩
  | 83 => ⟨S64x64, .f32⟩
  | 84 => ⟨S8x64x256x256, .f32⟩
  | 85 => ⟨S8x256x256x64, .f32⟩
  | 86 => ⟨S8x64x256x256, .f32⟩
  | 87 => ⟨S8x64x256x256, .f32⟩
  | 88 => ⟨S64x64x1x1, .f32⟩
  | 89 => ⟨S64x64, .f32⟩
  | 90 => ⟨S8x64x256x256, .f32⟩
  | 91 => ⟨S8x256x256x64, .f32⟩
  | 92 => ⟨S8x64x256x256, .f32⟩
  | 93 => ⟨S8x64x256x256, .f32⟩
  | 94 => ⟨S64x64x1x1, .f32⟩
  | 95 => ⟨S64x64, .f32⟩
  | 96 => ⟨S8x64x256x256, .f32⟩
  | 97 => ⟨S8x256x256x64, .f32⟩
  | 98 => ⟨S8x64x256x256, .f32⟩
  | 99 => ⟨S8x64x256x256, .f32⟩
  | 100 => ⟨S64x64x1x1, .f32⟩
  | 101 => ⟨S64x64, .f32⟩
  | 102 => ⟨S8x64x256x256, .f32⟩
  | 103 => ⟨S8x256x256x64, .f32⟩
  | 104 => ⟨S8x64x256x256, .f32⟩
  | 105 => ⟨S8x64x256x256, .f32⟩
  | 106 => ⟨S64x64x1x1, .f32⟩
  | 107 => ⟨S64x64, .f32⟩
  | 108 => ⟨S8x64x256x256, .f32⟩
  | 109 => ⟨S8x256x256x64, .f32⟩
  | 110 => ⟨S8x64x256x256, .f32⟩
  | 111 => ⟨S8x64x256x256, .f32⟩
  | 112 => ⟨S64x64x1x1, .f32⟩
  | 113 => ⟨S64x64, .f32⟩
  | 114 => ⟨S8x64x256x256, .f32⟩
  | 115 => ⟨S8x256x256x64, .f32⟩
  | 116 => ⟨S8x64x256x256, .f32⟩
  | 117 => ⟨S8x64x256x256, .f32⟩
  | 118 => ⟨S64x64x1x1, .f32⟩
  | 119 => ⟨S64x64, .f32⟩
  | 120 => ⟨S8x64x256x256, .f32⟩
  | 121 => ⟨S8x256x256x64, .f32⟩
  | 122 => ⟨S8x64x256x256, .f32⟩
  | 123 => ⟨S8x64x256x256, .f32⟩
  | 124 => ⟨S64x64x1x1, .f32⟩
  | 125 => ⟨S64x64, .f32⟩
  | 126 => ⟨S8x64x256x256, .f32⟩
  | 127 => ⟨S8x256x256x64, .f32⟩
  | _ => ⟨S8x3x256x256, .f32⟩

abbrev hbmTy0_6 (i : Nat) : BufTy := match i % 128 with
  | 0 => ⟨S8x64x256x256, .f32⟩
  | 1 => ⟨S8x64x256x256, .f32⟩
  | 2 => ⟨S1x64x1x1, .f32⟩
  | 3 => ⟨S8x64x256x256, .f32⟩
  | 4 => ⟨S8x64x256x256, .f32⟩
  | 5 => ⟨S1x64, .f32⟩
  | 6 => ⟨S64, .f32⟩
  | 7 => ⟨S1x64, .f32⟩
  | 8 => ⟨S64, .f32⟩
  | 9 => ⟨S_, .f32⟩
  | 10 => ⟨S64, .f32⟩
  | 11 => ⟨S1x64x1x1, .f32⟩
  | 12 => ⟨S_, .f32⟩
  | 13 => ⟨S1x64x1x1, .f32⟩
  | 14 => ⟨S1x64x1x1, .f32⟩
  | 15 => ⟨S8x64x256x256, .f32⟩
  | 16 => ⟨S8x64x256x256, .f32⟩
  | 17 => ⟨S8x64x256x256, .f32⟩
  | 18 => ⟨S_, .f32⟩
  | 19 => ⟨S64, .f32⟩
  | 20 => ⟨S1x64x1x1, .f32⟩
  | 21 => ⟨S_, .f32⟩
  | 22 => ⟨S1x64x1x1, .f32⟩
  | 23 => ⟨S1x64x1x1, .f32⟩
  | 24 => ⟨S8x64x256x256, .f32⟩
  | 25 => ⟨S8x64x256x256, .f32⟩
  | 26 => ⟨S_, .f32⟩
  | 27 => ⟨S1x64x1x1, .f32⟩
  | 28 => ⟨S1x64x1x1, .f32⟩
  | 29 => ⟨S1x64x1x1, .f32⟩
  | 30 => ⟨S8x64x256x256, .f32⟩
  | 31 => ⟨S8x64x256x256, .f32⟩
  | 32 => ⟨S1x64x1x1, .f32⟩
  | 33 => ⟨S8x64x256x256, .f32⟩
  | 34 => ⟨S8x64x256x256, .f32⟩
  | 35 => ⟨S1x64x1x1, .f32⟩
  | 36 => ⟨S8x64x256x256, .f32⟩
  | 37 => ⟨S8x64x256x256, .f32⟩
  | 38 => ⟨S_, .f32⟩
  | 39 => ⟨S8x64x256x256, .f32⟩
  | 40 => ⟨S8x64x256x256, .f32⟩
  | 41 => ⟨S_, .f32⟩
  | 42 => ⟨S8x64x256x256, .f32⟩
  | 43 => ⟨S8x64x256x256, .f32⟩
  | 44 => ⟨S_, .f32⟩
  | 45 => ⟨S8x64x256x256, .f32⟩
  | 46 => ⟨S8x64x256x256, .f32⟩
  | 47 => ⟨S8x64x256x256, .f32⟩
  | 48 => ⟨S_, .f32⟩
  | 49 => ⟨S8x64x256x256, .f32⟩
  | 50 => ⟨S8x64x256x256, .f32⟩
  | 51 => ⟨S8x64x256x256, .f32⟩
  | 52 => ⟨S8x64x256x256, .f32⟩
  | 53 => ⟨S_, .i32⟩
  | 54 => ⟨S_, .f32⟩
  | 55 => ⟨S8x64x258x258, .f32⟩
  | 56 => ⟨S3x64x1x1, .f32⟩
  | 57 => ⟨S3x64, .f32⟩
  | 58 => ⟨S8x64x256x256, .f32⟩
  | 59 => ⟨S8x256x256x3, .f32⟩
  | 60 => ⟨S8x3x256x256, .f32⟩
  | 61 => ⟨S3x64x1x1, .f32⟩
  | 62 => ⟨S3x64, .f32⟩
  | 63 => ⟨S8x64x256x256, .f32⟩
  | 64 => ⟨S8x256x256x3, .f32⟩
  | 65 => ⟨S8x3x256x256, .f32⟩
  | 66 => ⟨S8x3x256x256, .f32⟩
  | 67 => ⟨S3x64x1x1, .f32⟩
  | 68 => ⟨S3x64, .f32⟩
  | 69 => ⟨S8x64x256x256, .f32⟩
  | 70 => ⟨S8x256x256x3, .f32⟩
  | 71 => ⟨S8x3x256x256, .f32⟩
  | 72 => ⟨S8x3x256x256, .f32⟩
  | 73 => ⟨S3x64x1x1, .f32⟩
  | 74 => ⟨S3x64, .f32⟩
  | 75 => ⟨S8x64x256x256, .f32⟩
  | 76 => ⟨S8x256x256x3, .f32⟩
  | 77 => ⟨S8x3x256x256, .f32⟩
  | 78 => ⟨S8x3x256x256, .f32⟩
  | 79 => ⟨S3x64x1x1, .f32⟩
  | 80 => ⟨S3x64, .f32⟩
  | 81 => ⟨S8x64x256x256, .f32⟩
  | 82 => ⟨S8x256x256x3, .f32⟩
  | 83 => ⟨S8x3x256x256, .f32⟩
  | 84 => ⟨S8x3x256x256, .f32⟩
  | 85 => ⟨S3x64x1x1, .f32⟩
  | 86 => ⟨S3x64, .f32⟩
  | 87 => ⟨S8x64x256x256, .f32⟩
  | 88 => ⟨S8x256x256x3, .f32⟩
  | 89 => ⟨S8x3x256x256, .f32⟩
  | 90 => ⟨S8x3x256x256, .f32⟩
  | 91 => ⟨S3x64x1x1, .f32⟩
  | 92 => ⟨S3x64, .f32⟩
  | 93 => ⟨S8x64x256x256, .f32⟩
  | 94 => ⟨S8x256x256x3, .f32⟩
  | 95 => ⟨S8x3x256x256, .f32⟩
  | 96 => ⟨S8x3x256x256, .f32⟩
  | 97 => ⟨S3x64x1x1, .f32⟩
  | 98 => ⟨S3x64, .f32⟩
  | 99 => ⟨S8x64x256x256, .f32⟩
  | 100 => ⟨S8x256x256x3, .f32⟩
  | 101 => ⟨S8x3x256x256, .f32⟩
  | 102 => ⟨S8x3x256x256, .f32⟩
  | 103 => ⟨S3x64x1x1, .f32⟩
  | 104 => ⟨S3x64, .f32⟩
  | 105 => ⟨S8x64x256x256, .f32⟩
  | 106 => ⟨S8x256x256x3, .f32⟩
  | 107 => ⟨S8x3x256x256, .f32⟩
  | 108 => ⟨S8x3x256x256, .f32⟩
  | 109 => ⟨S1x3x1x1, .f32⟩
  | 110 => ⟨S8x3x256x256, .f32⟩
  | 111 => ⟨S8x3x256x256, .f32⟩
  | 112 => ⟨S_, .f32⟩
  | 113 => ⟨S8x3x256x256, .f32⟩
  | 114 => ⟨S8x3x256x256, .f32⟩
  | 115 => ⟨S_, .f32⟩
  | 116 => ⟨S8x3x256x256, .f32⟩
  | 117 => ⟨S8x3x256x256, .f32⟩
  | 118 => ⟨S_, .f32⟩
  | 119 => ⟨S8x3x256x256, .f32⟩
  | 120 => ⟨S8x3x256x256, .f32⟩
  | 121 => ⟨S8x3x256x256, .f32⟩
  | 122 => ⟨S_, .f32⟩
  | 123 => ⟨S8x3x256x256, .f32⟩
  | 124 => ⟨S8x3x256x256, .f32⟩
  | 125 => ⟨S8x3x256x256, .f32⟩
  | 126 => ⟨S8x3x256x256, .f32⟩
  | _ => ⟨S8x3x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x3x256x256, .f32⟩

abbrev bufTy : (tb : Table) → Fin (tcTables nBuf tb) → BufTy
  | .hbm, ⟨i, _⟩ => hbmTy i
  | _, _ => ⟨S8x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_3 : Ref sig .tc := ⟨.hbm, 91, rfl⟩
abbrev main_v74 : Ref sig .tc := ⟨.hbm, 92, rfl⟩
abbrev main_v75 : Ref sig .tc := ⟨.hbm, 93, rfl⟩
abbrev main_cst_4 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_5 : Ref sig .tc := ⟨.hbm, 100, rfl⟩
abbrev main_v81 : Ref sig .tc := ⟨.hbm, 101, rfl⟩
abbrev main_v82 : Ref sig .tc := ⟨.hbm, 102, rfl⟩
abbrev main_cst_6 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_7 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_call1_cst : Ref sig .tc := ⟨.hbm, 120, rfl⟩
abbrev main_call1_v0 : Ref sig .tc := ⟨.hbm, 121, rfl⟩
abbrev main_call1_v1 : Ref sig .tc := ⟨.hbm, 122, rfl⟩
abbrev main_call1_cst_0 : Ref sig .tc := ⟨.hbm, 123, rfl⟩
abbrev main_call1_v2 : Ref sig .tc := ⟨.hbm, 124, rfl⟩
abbrev main_call1_v3 : Ref sig .tc := ⟨.hbm, 125, rfl⟩
abbrev main_call1_cst_1 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_2 : Ref sig .tc := ⟨.hbm, 130, rfl⟩
abbrev main_call1_v7 : Ref sig .tc := ⟨.hbm, 131, rfl⟩
abbrev main_call1_v8 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_8 : Ref sig .tc := ⟨.hbm, 146, rfl⟩
abbrev main_call2_v0 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_cst_9 : Ref sig .tc := ⟨.hbm, 209, rfl⟩
abbrev main_v172 : Ref sig .tc := ⟨.hbm, 210, rfl⟩
abbrev main_v173 : Ref sig .tc := ⟨.hbm, 211, rfl⟩
abbrev main_cst_10 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_cst_11 : Ref sig .tc := ⟨.hbm, 218, rfl⟩
abbrev main_v179 : Ref sig .tc := ⟨.hbm, 219, rfl⟩
abbrev main_v180 : Ref sig .tc := ⟨.hbm, 220, rfl⟩
abbrev main_cst_12 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_cst_13 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_call3_cst : Ref sig .tc := ⟨.hbm, 238, rfl⟩
abbrev main_call3_v0 : Ref sig .tc := ⟨.hbm, 239, rfl⟩
abbrev main_call3_v1 : Ref sig .tc := ⟨.hbm, 240, rfl⟩
abbrev main_call3_cst_0 : Ref sig .tc := ⟨.hbm, 241, rfl⟩
abbrev main_call3_v2 : Ref sig .tc := ⟨.hbm, 242, rfl⟩
abbrev main_call3_v3 : Ref sig .tc := ⟨.hbm, 243, rfl⟩
abbrev main_call3_cst_1 : Ref sig .tc := ⟨.hbm, 244, rfl⟩
abbrev main_call3_v4 : Ref sig .tc := ⟨.hbm, 245, rfl⟩
abbrev main_call3_v5 : Ref sig .tc := ⟨.hbm, 246, rfl⟩
abbrev main_call3_v6 : Ref sig .tc := ⟨.hbm, 247, rfl⟩
abbrev main_call3_cst_2 : Ref sig .tc := ⟨.hbm, 248, rfl⟩
abbrev main_call3_v7 : Ref sig .tc := ⟨.hbm, 249, rfl⟩
abbrev main_call3_v8 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_c_14 : Ref sig .tc := ⟨.hbm, 256, rfl⟩
abbrev main_call4_v0 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_cst_15 : Ref sig .tc := ⟨.hbm, 319, rfl⟩
abbrev main_v262 : Ref sig .tc := ⟨.hbm, 320, rfl⟩
abbrev main_v263 : Ref sig .tc := ⟨.hbm, 321, rfl⟩
abbrev main_cst_16 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_cst_17 : Ref sig .tc := ⟨.hbm, 328, rfl⟩
abbrev main_v269 : Ref sig .tc := ⟨.hbm, 329, rfl⟩
abbrev main_v270 : Ref sig .tc := ⟨.hbm, 330, rfl⟩
abbrev main_cst_18 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_cst_19 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_call5_cst : Ref sig .tc := ⟨.hbm, 348, rfl⟩
abbrev main_call5_v0 : Ref sig .tc := ⟨.hbm, 349, rfl⟩
abbrev main_call5_v1 : Ref sig .tc := ⟨.hbm, 350, rfl⟩
abbrev main_call5_cst_0 : Ref sig .tc := ⟨.hbm, 351, rfl⟩
abbrev main_call5_v2 : Ref sig .tc := ⟨.hbm, 352, rfl⟩
abbrev main_call5_v3 : Ref sig .tc := ⟨.hbm, 353, rfl⟩
abbrev main_call5_cst_1 : Ref sig .tc := ⟨.hbm, 354, rfl⟩
abbrev main_call5_v4 : Ref sig .tc := ⟨.hbm, 355, rfl⟩
abbrev main_call5_v5 : Ref sig .tc := ⟨.hbm, 356, rfl⟩
abbrev main_call5_v6 : Ref sig .tc := ⟨.hbm, 357, rfl⟩
abbrev main_call5_cst_2 : Ref sig .tc := ⟨.hbm, 358, rfl⟩
abbrev main_call5_v7 : Ref sig .tc := ⟨.hbm, 359, rfl⟩
abbrev main_call5_v8 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_c_20 : Ref sig .tc := ⟨.hbm, 375, rfl⟩
abbrev main_call6_v0 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_v306 : Ref sig .tc := ⟨.hbm, 383, rfl⟩
abbrev main_v307 : Ref sig .tc := ⟨.hbm, 384, rfl⟩
abbrev main_v308 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_v314 : Ref sig .tc := ⟨.hbm, 391, rfl⟩
abbrev main_v315 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_v322 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_v327 : Ref sig .tc := ⟨.hbm, 404, rfl⟩
abbrev main_v328 : Ref sig .tc := ⟨.hbm, 405, rfl⟩
abbrev main_v329 : Ref sig .tc := ⟨.hbm, 406, rfl⟩
abbrev main_v330 : Ref sig .tc := ⟨.hbm, 407, rfl⟩
abbrev main_v331 : Ref sig .tc := ⟨.hbm, 408, rfl⟩
abbrev main_v332 : Ref sig .tc := ⟨.hbm, 409, rfl⟩
abbrev main_v333 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_v344 : Ref sig .tc := ⟨.hbm, 421, rfl⟩
abbrev main_v345 : Ref sig .tc := ⟨.hbm, 422, rfl⟩
abbrev main_v346 : Ref sig .tc := ⟨.hbm, 423, rfl⟩
abbrev main_v347 : Ref sig .tc := ⟨.hbm, 424, rfl⟩
abbrev main_v348 : Ref sig .tc := ⟨.hbm, 425, rfl⟩
abbrev main_v349 : Ref sig .tc := ⟨.hbm, 426, rfl⟩
abbrev main_v350 : Ref sig .tc := ⟨.hbm, 427, rfl⟩
abbrev main_v351 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_v355 : Ref sig .tc := ⟨.hbm, 432, rfl⟩
abbrev main_v356 : Ref sig .tc := ⟨.hbm, 433, rfl⟩
abbrev main_v357 : Ref sig .tc := ⟨.hbm, 434, rfl⟩
abbrev main_v358 : Ref sig .tc := ⟨.hbm, 435, rfl⟩
abbrev main_v359 : Ref sig .tc := ⟨.hbm, 436, rfl⟩
abbrev main_v360 : Ref sig .tc := ⟨.hbm, 437, rfl⟩
abbrev main_cst_21 : Ref sig .tc := ⟨.hbm, 438, rfl⟩
abbrev main_v361 : Ref sig .tc := ⟨.hbm, 439, rfl⟩
abbrev main_v362 : Ref sig .tc := ⟨.hbm, 440, rfl⟩
abbrev main_cst_22 : Ref sig .tc := ⟨.hbm, 441, rfl⟩
abbrev main_v363 : Ref sig .tc := ⟨.hbm, 442, rfl⟩
abbrev main_v364 : Ref sig .tc := ⟨.hbm, 443, rfl⟩
abbrev main_v365 : Ref sig .tc := ⟨.hbm, 444, rfl⟩
abbrev main_v366 : Ref sig .tc := ⟨.hbm, 445, rfl⟩
abbrev main_v367 : Ref sig .tc := ⟨.hbm, 446, rfl⟩
abbrev main_cst_23 : Ref sig .tc := ⟨.hbm, 447, rfl⟩
abbrev main_v368 : Ref sig .tc := ⟨.hbm, 448, rfl⟩
abbrev main_v369 : Ref sig .tc := ⟨.hbm, 449, rfl⟩
abbrev main_cst_24 : Ref sig .tc := ⟨.hbm, 450, rfl⟩
abbrev main_v370 : Ref sig .tc := ⟨.hbm, 451, rfl⟩
abbrev main_v371 : Ref sig .tc := ⟨.hbm, 452, rfl⟩
abbrev main_v372 : Ref sig .tc := ⟨.hbm, 453, rfl⟩
abbrev main_v373 : Ref sig .tc := ⟨.hbm, 454, rfl⟩
abbrev main_cst_25 : Ref sig .tc := ⟨.hbm, 455, rfl⟩
abbrev main_v374 : Ref sig .tc := ⟨.hbm, 456, rfl⟩
abbrev main_v375 : Ref sig .tc := ⟨.hbm, 457, rfl⟩
abbrev main_v376 : Ref sig .tc := ⟨.hbm, 458, rfl⟩
abbrev main_v377 : Ref sig .tc := ⟨.hbm, 459, rfl⟩
abbrev main_v378 : Ref sig .tc := ⟨.hbm, 460, rfl⟩
abbrev main_v379 : Ref sig .tc := ⟨.hbm, 461, rfl⟩
abbrev main_v380 : Ref sig .tc := ⟨.hbm, 462, rfl⟩
abbrev main_v381 : Ref sig .tc := ⟨.hbm, 463, rfl⟩
abbrev main_v382 : Ref sig .tc := ⟨.hbm, 464, rfl⟩
abbrev main_v383 : Ref sig .tc := ⟨.hbm, 465, rfl⟩
abbrev main_v384 : Ref sig .tc := ⟨.hbm, 466, rfl⟩
abbrev main_call7_cst : Ref sig .tc := ⟨.hbm, 467, rfl⟩
abbrev main_call7_v0 : Ref sig .tc := ⟨.hbm, 468, rfl⟩
abbrev main_call7_v1 : Ref sig .tc := ⟨.hbm, 469, rfl⟩
abbrev main_call7_cst_0 : Ref sig .tc := ⟨.hbm, 470, rfl⟩
abbrev main_call7_v2 : Ref sig .tc := ⟨.hbm, 471, rfl⟩
abbrev main_call7_v3 : Ref sig .tc := ⟨.hbm, 472, rfl⟩
abbrev main_call7_cst_1 : Ref sig .tc := ⟨.hbm, 473, rfl⟩
abbrev main_call7_v4 : Ref sig .tc := ⟨.hbm, 474, rfl⟩
abbrev main_call7_v5 : Ref sig .tc := ⟨.hbm, 475, rfl⟩
abbrev main_call7_v6 : Ref sig .tc := ⟨.hbm, 476, rfl⟩
abbrev main_call7_cst_2 : Ref sig .tc := ⟨.hbm, 477, rfl⟩
abbrev main_call7_v7 : Ref sig .tc := ⟨.hbm, 478, rfl⟩
abbrev main_call7_v8 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_v389 : Ref sig .tc := ⟨.hbm, 484, rfl⟩
abbrev main_c_26 : Ref sig .tc := ⟨.hbm, 485, rfl⟩
abbrev main_call8_v0 : Ref sig .tc := ⟨.hbm, 486, rfl⟩
abbrev main_v390 : Ref sig .tc := ⟨.hbm, 487, rfl⟩
abbrev main_v391 : Ref sig .tc := ⟨.hbm, 488, rfl⟩
abbrev main_v392 : Ref sig .tc := ⟨.hbm, 489, rfl⟩
abbrev main_v393 : Ref sig .tc := ⟨.hbm, 490, rfl⟩
abbrev main_v394 : Ref sig .tc := ⟨.hbm, 491, rfl⟩
abbrev main_v395 : Ref sig .tc := ⟨.hbm, 492, rfl⟩
abbrev main_v396 : Ref sig .tc := ⟨.hbm, 493, rfl⟩
abbrev main_v397 : Ref sig .tc := ⟨.hbm, 494, rfl⟩
abbrev main_v398 : Ref sig .tc := ⟨.hbm, 495, rfl⟩
abbrev main_v399 : Ref sig .tc := ⟨.hbm, 496, rfl⟩
abbrev main_v400 : Ref sig .tc := ⟨.hbm, 497, rfl⟩
abbrev main_v401 : Ref sig .tc := ⟨.hbm, 498, rfl⟩
abbrev main_v402 : Ref sig .tc := ⟨.hbm, 499, rfl⟩
abbrev main_v403 : Ref sig .tc := ⟨.hbm, 500, rfl⟩
abbrev main_v404 : Ref sig .tc := ⟨.hbm, 501, rfl⟩
abbrev main_v405 : Ref sig .tc := ⟨.hbm, 502, rfl⟩
abbrev main_v406 : Ref sig .tc := ⟨.hbm, 503, rfl⟩
abbrev main_v407 : Ref sig .tc := ⟨.hbm, 504, rfl⟩
abbrev main_v408 : Ref sig .tc := ⟨.hbm, 505, rfl⟩
abbrev main_v409 : Ref sig .tc := ⟨.hbm, 506, rfl⟩
abbrev main_v410 : Ref sig .tc := ⟨.hbm, 507, rfl⟩
abbrev main_v411 : Ref sig .tc := ⟨.hbm, 508, rfl⟩
abbrev main_v412 : Ref sig .tc := ⟨.hbm, 509, rfl⟩
abbrev main_v413 : Ref sig .tc := ⟨.hbm, 510, rfl⟩
abbrev main_v414 : Ref sig .tc := ⟨.hbm, 511, rfl⟩
abbrev main_v415 : Ref sig .tc := ⟨.hbm, 512, rfl⟩
abbrev main_v416 : Ref sig .tc := ⟨.hbm, 513, rfl⟩
abbrev main_v417 : Ref sig .tc := ⟨.hbm, 514, rfl⟩
abbrev main_v418 : Ref sig .tc := ⟨.hbm, 515, rfl⟩
abbrev main_v419 : Ref sig .tc := ⟨.hbm, 516, rfl⟩
abbrev main_v420 : Ref sig .tc := ⟨.hbm, 517, rfl⟩
abbrev main_v421 : Ref sig .tc := ⟨.hbm, 518, rfl⟩
abbrev main_v422 : Ref sig .tc := ⟨.hbm, 519, rfl⟩
abbrev main_v423 : Ref sig .tc := ⟨.hbm, 520, rfl⟩
abbrev main_v424 : Ref sig .tc := ⟨.hbm, 521, rfl⟩
abbrev main_v425 : Ref sig .tc := ⟨.hbm, 522, rfl⟩
abbrev main_v426 : Ref sig .tc := ⟨.hbm, 523, rfl⟩
abbrev main_v427 : Ref sig .tc := ⟨.hbm, 524, rfl⟩
abbrev main_v428 : Ref sig .tc := ⟨.hbm, 525, rfl⟩
abbrev main_v429 : Ref sig .tc := ⟨.hbm, 526, rfl⟩
abbrev main_v430 : Ref sig .tc := ⟨.hbm, 527, rfl⟩
abbrev main_v431 : Ref sig .tc := ⟨.hbm, 528, rfl⟩
abbrev main_v432 : Ref sig .tc := ⟨.hbm, 529, rfl⟩
abbrev main_v433 : Ref sig .tc := ⟨.hbm, 530, rfl⟩
abbrev main_v434 : Ref sig .tc := ⟨.hbm, 531, rfl⟩
abbrev main_v435 : Ref sig .tc := ⟨.hbm, 532, rfl⟩
abbrev main_v436 : Ref sig .tc := ⟨.hbm, 533, rfl⟩
abbrev main_v437 : Ref sig .tc := ⟨.hbm, 534, rfl⟩
abbrev main_v438 : Ref sig .tc := ⟨.hbm, 535, rfl⟩
abbrev main_v439 : Ref sig .tc := ⟨.hbm, 536, rfl⟩
abbrev main_v440 : Ref sig .tc := ⟨.hbm, 537, rfl⟩
abbrev main_v441 : Ref sig .tc := ⟨.hbm, 538, rfl⟩
abbrev main_v442 : Ref sig .tc := ⟨.hbm, 539, rfl⟩
abbrev main_v443 : Ref sig .tc := ⟨.hbm, 540, rfl⟩
abbrev main_v444 : Ref sig .tc := ⟨.hbm, 541, rfl⟩
abbrev main_v445 : Ref sig .tc := ⟨.hbm, 542, rfl⟩
abbrev main_v446 : Ref sig .tc := ⟨.hbm, 543, rfl⟩
abbrev main_v447 : Ref sig .tc := ⟨.hbm, 544, rfl⟩
abbrev main_v448 : Ref sig .tc := ⟨.hbm, 545, rfl⟩
abbrev main_v449 : Ref sig .tc := ⟨.hbm, 546, rfl⟩
abbrev main_v450 : Ref sig .tc := ⟨.hbm, 547, rfl⟩
abbrev main_cst_27 : Ref sig .tc := ⟨.hbm, 548, rfl⟩
abbrev main_v451 : Ref sig .tc := ⟨.hbm, 549, rfl⟩
abbrev main_v452 : Ref sig .tc := ⟨.hbm, 550, rfl⟩
abbrev main_cst_28 : Ref sig .tc := ⟨.hbm, 551, rfl⟩
abbrev main_v453 : Ref sig .tc := ⟨.hbm, 552, rfl⟩
abbrev main_v454 : Ref sig .tc := ⟨.hbm, 553, rfl⟩
abbrev main_v455 : Ref sig .tc := ⟨.hbm, 554, rfl⟩
abbrev main_v456 : Ref sig .tc := ⟨.hbm, 555, rfl⟩
abbrev main_v457 : Ref sig .tc := ⟨.hbm, 556, rfl⟩
abbrev main_cst_29 : Ref sig .tc := ⟨.hbm, 557, rfl⟩
abbrev main_v458 : Ref sig .tc := ⟨.hbm, 558, rfl⟩
abbrev main_v459 : Ref sig .tc := ⟨.hbm, 559, rfl⟩
abbrev main_cst_30 : Ref sig .tc := ⟨.hbm, 560, rfl⟩
abbrev main_v460 : Ref sig .tc := ⟨.hbm, 561, rfl⟩
abbrev main_v461 : Ref sig .tc := ⟨.hbm, 562, rfl⟩
abbrev main_v462 : Ref sig .tc := ⟨.hbm, 563, rfl⟩
abbrev main_v463 : Ref sig .tc := ⟨.hbm, 564, rfl⟩
abbrev main_cst_31 : Ref sig .tc := ⟨.hbm, 565, rfl⟩
abbrev main_v464 : Ref sig .tc := ⟨.hbm, 566, rfl⟩
abbrev main_v465 : Ref sig .tc := ⟨.hbm, 567, rfl⟩
abbrev main_v466 : Ref sig .tc := ⟨.hbm, 568, rfl⟩
abbrev main_v467 : Ref sig .tc := ⟨.hbm, 569, rfl⟩
abbrev main_v468 : Ref sig .tc := ⟨.hbm, 570, rfl⟩
abbrev main_v469 : Ref sig .tc := ⟨.hbm, 571, rfl⟩
abbrev main_v470 : Ref sig .tc := ⟨.hbm, 572, rfl⟩
abbrev main_v471 : Ref sig .tc := ⟨.hbm, 573, rfl⟩
abbrev main_v472 : Ref sig .tc := ⟨.hbm, 574, rfl⟩
abbrev main_v473 : Ref sig .tc := ⟨.hbm, 575, rfl⟩
abbrev main_v474 : Ref sig .tc := ⟨.hbm, 576, rfl⟩
abbrev main_call9_cst : Ref sig .tc := ⟨.hbm, 577, rfl⟩
abbrev main_call9_v0 : Ref sig .tc := ⟨.hbm, 578, rfl⟩
abbrev main_call9_v1 : Ref sig .tc := ⟨.hbm, 579, rfl⟩
abbrev main_call9_cst_0 : Ref sig .tc := ⟨.hbm, 580, rfl⟩
abbrev main_call9_v2 : Ref sig .tc := ⟨.hbm, 581, rfl⟩
abbrev main_call9_v3 : Ref sig .tc := ⟨.hbm, 582, rfl⟩
abbrev main_call9_cst_1 : Ref sig .tc := ⟨.hbm, 583, rfl⟩
abbrev main_call9_v4 : Ref sig .tc := ⟨.hbm, 584, rfl⟩
abbrev main_call9_v5 : Ref sig .tc := ⟨.hbm, 585, rfl⟩
abbrev main_call9_v6 : Ref sig .tc := ⟨.hbm, 586, rfl⟩
abbrev main_call9_cst_2 : Ref sig .tc := ⟨.hbm, 587, rfl⟩
abbrev main_call9_v7 : Ref sig .tc := ⟨.hbm, 588, rfl⟩
abbrev main_call9_v8 : Ref sig .tc := ⟨.hbm, 589, rfl⟩
abbrev main_v475 : Ref sig .tc := ⟨.hbm, 590, rfl⟩
abbrev main_v476 : Ref sig .tc := ⟨.hbm, 591, rfl⟩
abbrev main_v477 : Ref sig .tc := ⟨.hbm, 592, rfl⟩
abbrev main_v478 : Ref sig .tc := ⟨.hbm, 593, rfl⟩
abbrev main_v479 : Ref sig .tc := ⟨.hbm, 594, rfl⟩
abbrev main_v480 : Ref sig .tc := ⟨.hbm, 595, rfl⟩
abbrev main_v481 : Ref sig .tc := ⟨.hbm, 596, rfl⟩
abbrev main_v482 : Ref sig .tc := ⟨.hbm, 597, rfl⟩
abbrev main_v483 : Ref sig .tc := ⟨.hbm, 598, rfl⟩
abbrev main_v484 : Ref sig .tc := ⟨.hbm, 599, rfl⟩
abbrev main_v485 : Ref sig .tc := ⟨.hbm, 600, rfl⟩
abbrev main_v486 : Ref sig .tc := ⟨.hbm, 601, rfl⟩
abbrev main_v487 : Ref sig .tc := ⟨.hbm, 602, rfl⟩
abbrev main_v488 : Ref sig .tc := ⟨.hbm, 603, rfl⟩
abbrev main_c_32 : Ref sig .tc := ⟨.hbm, 604, rfl⟩
abbrev main_call10_v0 : Ref sig .tc := ⟨.hbm, 605, rfl⟩
abbrev main_v489 : Ref sig .tc := ⟨.hbm, 606, rfl⟩
abbrev main_v490 : Ref sig .tc := ⟨.hbm, 607, rfl⟩
abbrev main_v491 : Ref sig .tc := ⟨.hbm, 608, rfl⟩
abbrev main_v492 : Ref sig .tc := ⟨.hbm, 609, rfl⟩
abbrev main_v493 : Ref sig .tc := ⟨.hbm, 610, rfl⟩
abbrev main_v494 : Ref sig .tc := ⟨.hbm, 611, rfl⟩
abbrev main_v495 : Ref sig .tc := ⟨.hbm, 612, rfl⟩
abbrev main_v496 : Ref sig .tc := ⟨.hbm, 613, rfl⟩
abbrev main_v497 : Ref sig .tc := ⟨.hbm, 614, rfl⟩
abbrev main_v498 : Ref sig .tc := ⟨.hbm, 615, rfl⟩
abbrev main_v499 : Ref sig .tc := ⟨.hbm, 616, rfl⟩
abbrev main_v500 : Ref sig .tc := ⟨.hbm, 617, rfl⟩
abbrev main_v501 : Ref sig .tc := ⟨.hbm, 618, rfl⟩
abbrev main_v502 : Ref sig .tc := ⟨.hbm, 619, rfl⟩
abbrev main_v503 : Ref sig .tc := ⟨.hbm, 620, rfl⟩
abbrev main_v504 : Ref sig .tc := ⟨.hbm, 621, rfl⟩
abbrev main_v505 : Ref sig .tc := ⟨.hbm, 622, rfl⟩
abbrev main_v506 : Ref sig .tc := ⟨.hbm, 623, rfl⟩
abbrev main_v507 : Ref sig .tc := ⟨.hbm, 624, rfl⟩
abbrev main_v508 : Ref sig .tc := ⟨.hbm, 625, rfl⟩
abbrev main_v509 : Ref sig .tc := ⟨.hbm, 626, rfl⟩
abbrev main_v510 : Ref sig .tc := ⟨.hbm, 627, rfl⟩
abbrev main_v511 : Ref sig .tc := ⟨.hbm, 628, rfl⟩
abbrev main_v512 : Ref sig .tc := ⟨.hbm, 629, rfl⟩
abbrev main_v513 : Ref sig .tc := ⟨.hbm, 630, rfl⟩
abbrev main_v514 : Ref sig .tc := ⟨.hbm, 631, rfl⟩
abbrev main_v515 : Ref sig .tc := ⟨.hbm, 632, rfl⟩
abbrev main_v516 : Ref sig .tc := ⟨.hbm, 633, rfl⟩
abbrev main_v517 : Ref sig .tc := ⟨.hbm, 634, rfl⟩
abbrev main_v518 : Ref sig .tc := ⟨.hbm, 635, rfl⟩
abbrev main_v519 : Ref sig .tc := ⟨.hbm, 636, rfl⟩
abbrev main_v520 : Ref sig .tc := ⟨.hbm, 637, rfl⟩
abbrev main_v521 : Ref sig .tc := ⟨.hbm, 638, rfl⟩
abbrev main_v522 : Ref sig .tc := ⟨.hbm, 639, rfl⟩
abbrev main_v523 : Ref sig .tc := ⟨.hbm, 640, rfl⟩
abbrev main_v524 : Ref sig .tc := ⟨.hbm, 641, rfl⟩
abbrev main_v525 : Ref sig .tc := ⟨.hbm, 642, rfl⟩
abbrev main_v526 : Ref sig .tc := ⟨.hbm, 643, rfl⟩
abbrev main_v527 : Ref sig .tc := ⟨.hbm, 644, rfl⟩
abbrev main_v528 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_v532 : Ref sig .tc := ⟨.hbm, 649, rfl⟩
abbrev main_v533 : Ref sig .tc := ⟨.hbm, 650, rfl⟩
abbrev main_v534 : Ref sig .tc := ⟨.hbm, 651, rfl⟩
abbrev main_v535 : Ref sig .tc := ⟨.hbm, 652, rfl⟩
abbrev main_v536 : Ref sig .tc := ⟨.hbm, 653, rfl⟩
abbrev main_v537 : Ref sig .tc := ⟨.hbm, 654, rfl⟩
abbrev main_v538 : Ref sig .tc := ⟨.hbm, 655, rfl⟩
abbrev main_v539 : Ref sig .tc := ⟨.hbm, 656, rfl⟩
abbrev main_v540 : Ref sig .tc := ⟨.hbm, 657, rfl⟩
abbrev main_v541 : Ref sig .tc := ⟨.hbm, 658, rfl⟩
abbrev main_v542 : Ref sig .tc := ⟨.hbm, 659, rfl⟩
abbrev main_v543 : Ref sig .tc := ⟨.hbm, 660, rfl⟩
abbrev main_v544 : Ref sig .tc := ⟨.hbm, 661, rfl⟩
abbrev main_v545 : Ref sig .tc := ⟨.hbm, 662, rfl⟩
abbrev main_v546 : Ref sig .tc := ⟨.hbm, 663, rfl⟩
abbrev main_v547 : Ref sig .tc := ⟨.hbm, 664, rfl⟩
abbrev main_v548 : Ref sig .tc := ⟨.hbm, 665, rfl⟩
abbrev main_v549 : Ref sig .tc := ⟨.hbm, 666, rfl⟩
abbrev main_cst_33 : Ref sig .tc := ⟨.hbm, 667, rfl⟩
abbrev main_v550 : Ref sig .tc := ⟨.hbm, 668, rfl⟩
abbrev main_v551 : Ref sig .tc := ⟨.hbm, 669, rfl⟩
abbrev main_cst_34 : Ref sig .tc := ⟨.hbm, 670, rfl⟩
abbrev main_v552 : Ref sig .tc := ⟨.hbm, 671, rfl⟩
abbrev main_v553 : Ref sig .tc := ⟨.hbm, 672, rfl⟩
abbrev main_v554 : Ref sig .tc := ⟨.hbm, 673, rfl⟩
abbrev main_v555 : Ref sig .tc := ⟨.hbm, 674, rfl⟩
abbrev main_v556 : Ref sig .tc := ⟨.hbm, 675, rfl⟩
abbrev main_cst_35 : Ref sig .tc := ⟨.hbm, 676, rfl⟩
abbrev main_v557 : Ref sig .tc := ⟨.hbm, 677, rfl⟩
abbrev main_v558 : Ref sig .tc := ⟨.hbm, 678, rfl⟩
abbrev main_cst_36 : Ref sig .tc := ⟨.hbm, 679, rfl⟩
abbrev main_v559 : Ref sig .tc := ⟨.hbm, 680, rfl⟩
abbrev main_v560 : Ref sig .tc := ⟨.hbm, 681, rfl⟩
abbrev main_v561 : Ref sig .tc := ⟨.hbm, 682, rfl⟩
abbrev main_v562 : Ref sig .tc := ⟨.hbm, 683, rfl⟩
abbrev main_cst_37 : Ref sig .tc := ⟨.hbm, 684, rfl⟩
abbrev main_v563 : Ref sig .tc := ⟨.hbm, 685, rfl⟩
abbrev main_v564 : Ref sig .tc := ⟨.hbm, 686, rfl⟩
abbrev main_v565 : Ref sig .tc := ⟨.hbm, 687, rfl⟩
abbrev main_v566 : Ref sig .tc := ⟨.hbm, 688, rfl⟩
abbrev main_v567 : Ref sig .tc := ⟨.hbm, 689, rfl⟩
abbrev main_v568 : Ref sig .tc := ⟨.hbm, 690, rfl⟩
abbrev main_v569 : Ref sig .tc := ⟨.hbm, 691, rfl⟩
abbrev main_v570 : Ref sig .tc := ⟨.hbm, 692, rfl⟩
abbrev main_v571 : Ref sig .tc := ⟨.hbm, 693, rfl⟩
abbrev main_v572 : Ref sig .tc := ⟨.hbm, 694, rfl⟩
abbrev main_v573 : Ref sig .tc := ⟨.hbm, 695, rfl⟩
abbrev main_call11_cst : Ref sig .tc := ⟨.hbm, 696, rfl⟩
abbrev main_call11_v0 : Ref sig .tc := ⟨.hbm, 697, rfl⟩
abbrev main_call11_v1 : Ref sig .tc := ⟨.hbm, 698, rfl⟩
abbrev main_call11_cst_0 : Ref sig .tc := ⟨.hbm, 699, rfl⟩
abbrev main_call11_v2 : Ref sig .tc := ⟨.hbm, 700, rfl⟩
abbrev main_call11_v3 : Ref sig .tc := ⟨.hbm, 701, rfl⟩
abbrev main_call11_cst_1 : Ref sig .tc := ⟨.hbm, 702, rfl⟩
abbrev main_call11_v4 : Ref sig .tc := ⟨.hbm, 703, rfl⟩
abbrev main_call11_v5 : Ref sig .tc := ⟨.hbm, 704, rfl⟩
abbrev main_call11_v6 : Ref sig .tc := ⟨.hbm, 705, rfl⟩
abbrev main_call11_cst_2 : Ref sig .tc := ⟨.hbm, 706, rfl⟩
abbrev main_call11_v7 : Ref sig .tc := ⟨.hbm, 707, rfl⟩
abbrev main_call11_v8 : Ref sig .tc := ⟨.hbm, 708, rfl⟩
abbrev main_v574 : Ref sig .tc := ⟨.hbm, 709, rfl⟩
abbrev main_v575 : Ref sig .tc := ⟨.hbm, 710, rfl⟩
abbrev main_v576 : Ref sig .tc := ⟨.hbm, 711, rfl⟩
abbrev main_v577 : Ref sig .tc := ⟨.hbm, 712, rfl⟩
abbrev main_v578 : Ref sig .tc := ⟨.hbm, 713, rfl⟩
abbrev main_c_38 : Ref sig .tc := ⟨.hbm, 714, rfl⟩
abbrev main_call12_v0 : Ref sig .tc := ⟨.hbm, 715, rfl⟩
abbrev main_v579 : Ref sig .tc := ⟨.hbm, 716, rfl⟩
abbrev main_v580 : Ref sig .tc := ⟨.hbm, 717, rfl⟩
abbrev main_v581 : Ref sig .tc := ⟨.hbm, 718, rfl⟩
abbrev main_v582 : Ref sig .tc := ⟨.hbm, 719, rfl⟩
abbrev main_v583 : Ref sig .tc := ⟨.hbm, 720, rfl⟩
abbrev main_v584 : Ref sig .tc := ⟨.hbm, 721, rfl⟩
abbrev main_v585 : Ref sig .tc := ⟨.hbm, 722, rfl⟩
abbrev main_v586 : Ref sig .tc := ⟨.hbm, 723, rfl⟩
abbrev main_v587 : Ref sig .tc := ⟨.hbm, 724, rfl⟩
abbrev main_v588 : Ref sig .tc := ⟨.hbm, 725, rfl⟩
abbrev main_v589 : Ref sig .tc := ⟨.hbm, 726, rfl⟩
abbrev main_v590 : Ref sig .tc := ⟨.hbm, 727, rfl⟩
abbrev main_v591 : Ref sig .tc := ⟨.hbm, 728, rfl⟩
abbrev main_v592 : Ref sig .tc := ⟨.hbm, 729, rfl⟩
abbrev main_v593 : Ref sig .tc := ⟨.hbm, 730, rfl⟩
abbrev main_v594 : Ref sig .tc := ⟨.hbm, 731, rfl⟩
abbrev main_v595 : Ref sig .tc := ⟨.hbm, 732, rfl⟩
abbrev main_v596 : Ref sig .tc := ⟨.hbm, 733, rfl⟩
abbrev main_v597 : Ref sig .tc := ⟨.hbm, 734, rfl⟩
abbrev main_v598 : Ref sig .tc := ⟨.hbm, 735, rfl⟩
abbrev main_v599 : Ref sig .tc := ⟨.hbm, 736, rfl⟩
abbrev main_v600 : Ref sig .tc := ⟨.hbm, 737, rfl⟩
abbrev main_v601 : Ref sig .tc := ⟨.hbm, 738, rfl⟩
abbrev main_v602 : Ref sig .tc := ⟨.hbm, 739, rfl⟩
abbrev main_v603 : Ref sig .tc := ⟨.hbm, 740, rfl⟩
abbrev main_v604 : Ref sig .tc := ⟨.hbm, 741, rfl⟩
abbrev main_v605 : Ref sig .tc := ⟨.hbm, 742, rfl⟩
abbrev main_v606 : Ref sig .tc := ⟨.hbm, 743, rfl⟩
abbrev main_v607 : Ref sig .tc := ⟨.hbm, 744, rfl⟩
abbrev main_v608 : Ref sig .tc := ⟨.hbm, 745, rfl⟩
abbrev main_v609 : Ref sig .tc := ⟨.hbm, 746, rfl⟩
abbrev main_v610 : Ref sig .tc := ⟨.hbm, 747, rfl⟩
abbrev main_v611 : Ref sig .tc := ⟨.hbm, 748, rfl⟩
abbrev main_v612 : Ref sig .tc := ⟨.hbm, 749, rfl⟩
abbrev main_v613 : Ref sig .tc := ⟨.hbm, 750, rfl⟩
abbrev main_v614 : Ref sig .tc := ⟨.hbm, 751, rfl⟩
abbrev main_v615 : Ref sig .tc := ⟨.hbm, 752, rfl⟩
abbrev main_v616 : Ref sig .tc := ⟨.hbm, 753, rfl⟩
abbrev main_v617 : Ref sig .tc := ⟨.hbm, 754, rfl⟩
abbrev main_v618 : Ref sig .tc := ⟨.hbm, 755, rfl⟩
abbrev main_v619 : Ref sig .tc := ⟨.hbm, 756, rfl⟩
abbrev main_v620 : Ref sig .tc := ⟨.hbm, 757, rfl⟩
abbrev main_v621 : Ref sig .tc := ⟨.hbm, 758, rfl⟩
abbrev main_v622 : Ref sig .tc := ⟨.hbm, 759, rfl⟩
abbrev main_v623 : Ref sig .tc := ⟨.hbm, 760, rfl⟩
abbrev main_v624 : Ref sig .tc := ⟨.hbm, 761, rfl⟩
abbrev main_v625 : Ref sig .tc := ⟨.hbm, 762, rfl⟩
abbrev main_v626 : Ref sig .tc := ⟨.hbm, 763, rfl⟩
abbrev main_v627 : Ref sig .tc := ⟨.hbm, 764, rfl⟩
abbrev main_v628 : Ref sig .tc := ⟨.hbm, 765, rfl⟩
abbrev main_v629 : Ref sig .tc := ⟨.hbm, 766, rfl⟩
abbrev main_v630 : Ref sig .tc := ⟨.hbm, 767, rfl⟩
abbrev main_v631 : Ref sig .tc := ⟨.hbm, 768, rfl⟩
abbrev main_v632 : Ref sig .tc := ⟨.hbm, 769, rfl⟩
abbrev main_v633 : Ref sig .tc := ⟨.hbm, 770, rfl⟩
abbrev main_v634 : Ref sig .tc := ⟨.hbm, 771, rfl⟩
abbrev main_v635 : Ref sig .tc := ⟨.hbm, 772, rfl⟩
abbrev main_v636 : Ref sig .tc := ⟨.hbm, 773, rfl⟩
abbrev main_v637 : Ref sig .tc := ⟨.hbm, 774, rfl⟩
abbrev main_v638 : Ref sig .tc := ⟨.hbm, 775, rfl⟩
abbrev main_v639 : Ref sig .tc := ⟨.hbm, 776, rfl⟩
abbrev main_cst_39 : Ref sig .tc := ⟨.hbm, 777, rfl⟩
abbrev main_v640 : Ref sig .tc := ⟨.hbm, 778, rfl⟩
abbrev main_v641 : Ref sig .tc := ⟨.hbm, 779, rfl⟩
abbrev main_cst_40 : Ref sig .tc := ⟨.hbm, 780, rfl⟩
abbrev main_v642 : Ref sig .tc := ⟨.hbm, 781, rfl⟩
abbrev main_v643 : Ref sig .tc := ⟨.hbm, 782, rfl⟩
abbrev main_v644 : Ref sig .tc := ⟨.hbm, 783, rfl⟩
abbrev main_v645 : Ref sig .tc := ⟨.hbm, 784, rfl⟩
abbrev main_v646 : Ref sig .tc := ⟨.hbm, 785, rfl⟩
abbrev main_cst_41 : Ref sig .tc := ⟨.hbm, 786, rfl⟩
abbrev main_v647 : Ref sig .tc := ⟨.hbm, 787, rfl⟩
abbrev main_v648 : Ref sig .tc := ⟨.hbm, 788, rfl⟩
abbrev main_cst_42 : Ref sig .tc := ⟨.hbm, 789, rfl⟩
abbrev main_v649 : Ref sig .tc := ⟨.hbm, 790, rfl⟩
abbrev main_v650 : Ref sig .tc := ⟨.hbm, 791, rfl⟩
abbrev main_v651 : Ref sig .tc := ⟨.hbm, 792, rfl⟩
abbrev main_v652 : Ref sig .tc := ⟨.hbm, 793, rfl⟩
abbrev main_cst_43 : Ref sig .tc := ⟨.hbm, 794, rfl⟩
abbrev main_v653 : Ref sig .tc := ⟨.hbm, 795, rfl⟩
abbrev main_v654 : Ref sig .tc := ⟨.hbm, 796, rfl⟩
abbrev main_v655 : Ref sig .tc := ⟨.hbm, 797, rfl⟩
abbrev main_v656 : Ref sig .tc := ⟨.hbm, 798, rfl⟩
abbrev main_v657 : Ref sig .tc := ⟨.hbm, 799, rfl⟩
abbrev main_v658 : Ref sig .tc := ⟨.hbm, 800, rfl⟩
abbrev main_v659 : Ref sig .tc := ⟨.hbm, 801, rfl⟩
abbrev main_v660 : Ref sig .tc := ⟨.hbm, 802, rfl⟩
abbrev main_v661 : Ref sig .tc := ⟨.hbm, 803, rfl⟩
abbrev main_v662 : Ref sig .tc := ⟨.hbm, 804, rfl⟩
abbrev main_v663 : Ref sig .tc := ⟨.hbm, 805, rfl⟩
abbrev main_call13_cst : Ref sig .tc := ⟨.hbm, 806, rfl⟩
abbrev main_call13_v0 : Ref sig .tc := ⟨.hbm, 807, rfl⟩
abbrev main_call13_v1 : Ref sig .tc := ⟨.hbm, 808, rfl⟩
abbrev main_call13_cst_0 : Ref sig .tc := ⟨.hbm, 809, rfl⟩
abbrev main_call13_v2 : Ref sig .tc := ⟨.hbm, 810, rfl⟩
abbrev main_call13_v3 : Ref sig .tc := ⟨.hbm, 811, rfl⟩
abbrev main_call13_cst_1 : Ref sig .tc := ⟨.hbm, 812, rfl⟩
abbrev main_call13_v4 : Ref sig .tc := ⟨.hbm, 813, rfl⟩
abbrev main_call13_v5 : Ref sig .tc := ⟨.hbm, 814, rfl⟩
abbrev main_call13_v6 : Ref sig .tc := ⟨.hbm, 815, rfl⟩
abbrev main_call13_cst_2 : Ref sig .tc := ⟨.hbm, 816, rfl⟩
abbrev main_call13_v7 : Ref sig .tc := ⟨.hbm, 817, rfl⟩
abbrev main_call13_v8 : Ref sig .tc := ⟨.hbm, 818, rfl⟩
abbrev main_v664 : Ref sig .tc := ⟨.hbm, 819, rfl⟩
abbrev main_v665 : Ref sig .tc := ⟨.hbm, 820, rfl⟩
abbrev main_c_44 : Ref sig .tc := ⟨.hbm, 821, rfl⟩
abbrev main_call14_v0 : Ref sig .tc := ⟨.hbm, 822, rfl⟩
abbrev main_v666 : Ref sig .tc := ⟨.hbm, 823, rfl⟩
abbrev main_v667 : Ref sig .tc := ⟨.hbm, 824, rfl⟩
abbrev main_v668 : Ref sig .tc := ⟨.hbm, 825, rfl⟩
abbrev main_v669 : Ref sig .tc := ⟨.hbm, 826, rfl⟩
abbrev main_v670 : Ref sig .tc := ⟨.hbm, 827, rfl⟩
abbrev main_v671 : Ref sig .tc := ⟨.hbm, 828, rfl⟩
abbrev main_v672 : Ref sig .tc := ⟨.hbm, 829, rfl⟩
abbrev main_v673 : Ref sig .tc := ⟨.hbm, 830, rfl⟩
abbrev main_v674 : Ref sig .tc := ⟨.hbm, 831, rfl⟩
abbrev main_v675 : Ref sig .tc := ⟨.hbm, 832, rfl⟩
abbrev main_v676 : Ref sig .tc := ⟨.hbm, 833, rfl⟩
abbrev main_v677 : Ref sig .tc := ⟨.hbm, 834, rfl⟩
abbrev main_v678 : Ref sig .tc := ⟨.hbm, 835, rfl⟩
abbrev main_v679 : Ref sig .tc := ⟨.hbm, 836, rfl⟩
abbrev main_v680 : Ref sig .tc := ⟨.hbm, 837, rfl⟩
abbrev main_v681 : Ref sig .tc := ⟨.hbm, 838, rfl⟩
abbrev main_v682 : Ref sig .tc := ⟨.hbm, 839, rfl⟩
abbrev main_v683 : Ref sig .tc := ⟨.hbm, 840, rfl⟩
abbrev main_v684 : Ref sig .tc := ⟨.hbm, 841, rfl⟩
abbrev main_v685 : Ref sig .tc := ⟨.hbm, 842, rfl⟩
abbrev main_v686 : Ref sig .tc := ⟨.hbm, 843, rfl⟩
abbrev main_v687 : Ref sig .tc := ⟨.hbm, 844, rfl⟩
abbrev main_v688 : Ref sig .tc := ⟨.hbm, 845, rfl⟩
abbrev main_v689 : Ref sig .tc := ⟨.hbm, 846, rfl⟩
abbrev main_v690 : Ref sig .tc := ⟨.hbm, 847, rfl⟩
abbrev main_v691 : Ref sig .tc := ⟨.hbm, 848, rfl⟩
abbrev main_v692 : Ref sig .tc := ⟨.hbm, 849, rfl⟩
abbrev main_v693 : Ref sig .tc := ⟨.hbm, 850, rfl⟩
abbrev main_v694 : Ref sig .tc := ⟨.hbm, 851, rfl⟩
abbrev main_v695 : Ref sig .tc := ⟨.hbm, 852, rfl⟩
abbrev main_v696 : Ref sig .tc := ⟨.hbm, 853, rfl⟩
abbrev main_v697 : Ref sig .tc := ⟨.hbm, 854, rfl⟩
abbrev main_v698 : Ref sig .tc := ⟨.hbm, 855, rfl⟩
abbrev main_v699 : Ref sig .tc := ⟨.hbm, 856, rfl⟩
abbrev main_v700 : Ref sig .tc := ⟨.hbm, 857, rfl⟩
abbrev main_v701 : Ref sig .tc := ⟨.hbm, 858, rfl⟩
abbrev main_v702 : Ref sig .tc := ⟨.hbm, 859, rfl⟩
abbrev main_v703 : Ref sig .tc := ⟨.hbm, 860, rfl⟩
abbrev main_v704 : Ref sig .tc := ⟨.hbm, 861, rfl⟩
abbrev main_v705 : Ref sig .tc := ⟨.hbm, 862, rfl⟩
abbrev main_v706 : Ref sig .tc := ⟨.hbm, 863, rfl⟩
abbrev main_v707 : Ref sig .tc := ⟨.hbm, 864, rfl⟩
abbrev main_v708 : Ref sig .tc := ⟨.hbm, 865, rfl⟩
abbrev main_v709 : Ref sig .tc := ⟨.hbm, 866, rfl⟩
abbrev main_v710 : Ref sig .tc := ⟨.hbm, 867, rfl⟩
abbrev main_v711 : Ref sig .tc := ⟨.hbm, 868, rfl⟩
abbrev main_v712 : Ref sig .tc := ⟨.hbm, 869, rfl⟩
abbrev main_v713 : Ref sig .tc := ⟨.hbm, 870, rfl⟩
abbrev main_v714 : Ref sig .tc := ⟨.hbm, 871, rfl⟩
abbrev main_v715 : Ref sig .tc := ⟨.hbm, 872, rfl⟩
abbrev main_v716 : Ref sig .tc := ⟨.hbm, 873, rfl⟩
abbrev main_v717 : Ref sig .tc := ⟨.hbm, 874, rfl⟩
abbrev main_v718 : Ref sig .tc := ⟨.hbm, 875, rfl⟩
abbrev main_v719 : Ref sig .tc := ⟨.hbm, 876, rfl⟩
abbrev main_v720 : Ref sig .tc := ⟨.hbm, 877, rfl⟩
abbrev main_v721 : Ref sig .tc := ⟨.hbm, 878, rfl⟩
abbrev main_v722 : Ref sig .tc := ⟨.hbm, 879, rfl⟩
abbrev main_call15_cst : Ref sig .tc := ⟨.hbm, 880, rfl⟩
abbrev main_call15_v0 : Ref sig .tc := ⟨.hbm, 881, rfl⟩
abbrev main_call15_v1 : Ref sig .tc := ⟨.hbm, 882, rfl⟩
abbrev main_call15_cst_0 : Ref sig .tc := ⟨.hbm, 883, rfl⟩
abbrev main_call15_v2 : Ref sig .tc := ⟨.hbm, 884, rfl⟩
abbrev main_call15_v3 : Ref sig .tc := ⟨.hbm, 885, rfl⟩
abbrev main_call15_cst_1 : Ref sig .tc := ⟨.hbm, 886, rfl⟩
abbrev main_call15_v4 : Ref sig .tc := ⟨.hbm, 887, rfl⟩
abbrev main_call15_v5 : Ref sig .tc := ⟨.hbm, 888, rfl⟩
abbrev main_call15_v6 : Ref sig .tc := ⟨.hbm, 889, rfl⟩
abbrev main_call15_cst_2 : Ref sig .tc := ⟨.hbm, 890, rfl⟩
abbrev main_call15_v7 : Ref sig .tc := ⟨.hbm, 891, rfl⟩
abbrev main_call15_v8 : Ref sig .tc := ⟨.hbm, 892, rfl⟩
abbrev main_v723 : Ref sig .tc := ⟨.hbm, 893, rfl⟩
abbrev main_v724 : Ref sig .tc := ⟨.hbm, 894, rfl⟩

abbrev nD : Nat := 1
abbrev τ : Topo := Topo.v7x

variable {F : FTy → Type} [FloatOps F]
-- ==== Proof.Sums.lean ====
/- Sums over several axes of an array at an index of what is left, and sums cut into parts. -/
module

public import Idealize.ShloMosaic.Lib.Pointwise

@[expose] public section

noncomputable section

namespace Cert.KernelIdeal.Val

open Idealize.ShloMosaic Idealize.ShloMosaic.TcCoe

/-- A sum over the two leading axes of a three-dimensional array, at an index of the last one. -/
theorem reduceAdd_lead {n0 n1 n2 : ℕ} (h : (⟨3, ![n0, n1, n2]⟩ : Shape).Reduces [0, 1] ⟨1, ![n2]⟩)
    (v : (⟨3, ![n0, n1, n2]⟩ : Shape).Idx → EReal) (l : Fin n2) :
    Ideal.reduceAdd h v (ix1 l) = ∑ a : Fin n0, ∑ b : Fin n1, v (ix3 a b l) := by
  refine (Finset.sum_filter_eq_sum_of_fiber (fun i => h.drop i = ix1 l) (fun k : Fin n0 × Fin n1 => ix3 k.1 k.2 l)
    (fun _ _ e => Prod.ext (congrFun e 0) (congrFun e 1)) (fun i => ?_) v).trans ?_
  · have hd : (h.drop i 0 : ℕ) = i 2 := rfl
    constructor
    · intro e
      refine ⟨(i 0, i 1), ?_⟩
      funext a
      apply Fin.ext
      match a with
      | ⟨0, _⟩ => rfl
      | ⟨1, _⟩ => rfl
      | ⟨2, _⟩ => rw [e] at hd; exact hd
    · rintro ⟨k, rfl⟩
      funext b
      apply Fin.ext
      match b with
      | ⟨0, _⟩ => exact hd
  · simp only [Fintype.sum_prod_type]

/-- A sum over the two trailing axes of a three-dimensional array, at an index of the first one. -/
theorem reduceAdd_trail {n0 n1 n2 : ℕ} (h : (⟨3, ![n0, n1, n2]⟩ : Shape).Reduces [1, 2] ⟨1, ![n0]⟩)
    (v : (⟨3, ![n0, n1, n2]⟩ : Shape).Idx → EReal) (l : Fin n0) :
    Ideal.reduceAdd h v (ix1 l) = ∑ a : Fin n1, ∑ b : Fin n2, v (ix3 l a b) := by
  refine (Finset.sum_filter_eq_sum_of_fiber (fun i => h.drop i = ix1 l) (fun k : Fin n1 × Fin n2 => ix3 l k.1 k.2)
    (fun _ _ e => Prod.ext (congrFun e 1) (congrFun e 2)) (fun i => ?_) v).trans ?_
  · have hd : (h.drop i 0 : ℕ) = i 0 := rfl
    constructor
    · intro e
      refine ⟨(i 1, i 2), ?_⟩
      funext a
      apply Fin.ext
      match a with
      | ⟨0, _⟩ => rw [e] at hd; exact hd
      | ⟨1, _⟩ => rfl
      | ⟨2, _⟩ => rfl
    · rintro ⟨k, rfl⟩
      funext b
      apply Fin.ext
      match b with
      | ⟨0, _⟩ => exact hd
  · simp only [Fintype.sum_prod_type]

/-- The host's sum over all axes but the second of a four-dimensional array. -/
theorem hostReduceAdd_but1 {n0 n1 n2 n3 : ℕ} (h : (⟨4, ![n0, n1, n2, n3]⟩ : Shape).ReducesTo [0, 2, 3] ⟨1, ![n1]⟩)
    (v : (⟨4, ![n0, n1, n2, n3]⟩ : Shape).Idx → EReal) (c : EReal) (l : Fin n1) :
    Ideal.hostReduceAdd h v c (ix1 l) = c + ∑ n : Fin n0, ∑ y : Fin n2, ∑ x : Fin n3, v (ix4 n l y x) := by
  refine congrArg (c + ·) ((Finset.sum_filter_eq_sum_of_fiber (fun i => h.drop i = ix1 l)
    (fun k : Fin n0 × Fin n2 × Fin n3 => ix4 k.1 l k.2.1 k.2.2)
    (fun _ _ e => Prod.ext (congrFun e 0) (Prod.ext (congrFun e 2) (congrFun e 3))) (fun i => ?_) v).trans ?_)
  · have hd : (h.drop i 0 : ℕ) = i 1 := rfl
    constructor
    · intro e
      refine ⟨(i 0, i 2, i 3), ?_⟩
      funext a
      apply Fin.ext
      match a with
      | ⟨0, _⟩ => rfl
      | ⟨1, _⟩ => rw [e] at hd; exact hd
      | ⟨2, _⟩ => rfl
      | ⟨3, _⟩ => rfl
    · rintro ⟨k, rfl⟩
      funext b
      apply Fin.ext
      match b with
      | ⟨0, _⟩ => exact hd
  · simp only [Fintype.sum_prod_type]

/-- A sum of 32 terms is the sum of its four quarters. -/
theorem sum_quarters {M : Type*} [AddCommMonoid M] (f : ℕ → M) :
    ∑ t : Fin 32, f t = ∑ t : Fin 8, f t + ∑ t : Fin 8, f (8 + t) + ∑ t : Fin 8, f (16 + t) + ∑ t : Fin 8, f (24 + t) := by
  simp only [Fin.sum_univ_eq_sum_range (fun t => f t), Fin.sum_univ_eq_sum_range (fun t => f (8 + t)),
    Fin.sum_univ_eq_sum_range (fun t => f (16 + t)), Fin.sum_univ_eq_sum_range (fun t => f (24 + t))]
  rw [show 32 = 8 + 8 + 8 + 8 from rfl, Finset.sum_range_add, Finset.sum_range_add, Finset.sum_range_add]

end Cert.KernelIdeal.Val

end
-- ==== Proof.ImageVal.lean ====
/- The arrays that the three small kernels leave: the means and inverse deviations of the image's
   channels, the image by rows, and the result by images. -/
module

public import proofs.«01_k».proof.Proof.Sums
public import proofs.«01_k».proof.Proof.Gen.KernelIdeal.Frame.Region0
public import proofs.«01_k».proof.Proof.Gen.KernelIdeal.Frame.Region1
public import proofs.«01_k».proof.Proof.Gen.KernelIdeal.Frame.Region10
public import Idealize.ShloMosaic.Lib.Pipeline.ValueKit

@[expose] public section

set_option maxRecDepth 16384

noncomputable section

namespace Cert.KernelIdeal.Val

open Idealize.ShloMosaic Idealize.ShloMosaic.TcCoe Cert.KernelIdeal.Gen Cert.KernelIdeal

/-- The number of pixels of an image. -/
def pix : EReal := Ideal.ofBits .f32 0x47800000#32
/-- One less. -/
def pix1 : EReal := Ideal.ofBits .f32 0x477fff00#32

/-- The mean of a channel's pixels. -/
def chMean (P : ℕ → ℕ → EReal) : EReal := Ideal.div (∑ h : Fin 256, ∑ w : Fin 256, P h w) pix

/-- The unbiased variance of a channel's pixels. -/
def chVar (P : ℕ → ℕ → EReal) : EReal :=
  Ideal.div (∑ h : Fin 256, ∑ w : Fin 256, (P h w - chMean P) * (P h w - chMean P)) pix1

/-- Row 0: the means of an image's three channels; row 1: the inverse deviations. -/
def instVal (X : ℕ → ℕ → ℕ → ℕ → EReal) (n i k : ℕ) : EReal :=
  if k < 3 then (if i = 0 then chMean (X n k) else if i = 1 then Ideal.rsqrt (chVar (X n k)) else 0) else 0

/-- The mean and inverse deviation of one image's channels. -/
theorem inst_apply (x : FVec Ideal S1x3x256x256 .f32) (X : ℕ → ℕ → ℕ → EReal)
    (hx : ∀ y, x y = X (y 1).val (y 2).val (y 3).val) (y : S1x8x8.Idx) :
    k0_pay1 (F := Ideal) x y = instVal (fun _ => X) 0 (y 1).val (y 2).val := by
  have h1 : (y 1).val < 8 := (y 1).isLt
  have h2 : (y 2).val < 8 := (y 2).isLt
  pointwise [k0_pay1]
  unfold instVal chMean chVar chMean
  simp only [hx]
  by_cases h3 : (y 2).val < 3
  · by_cases ha : (y 1).val = 0
    · rw [dif_pos (by omega), dif_pos h3, if_pos h3, if_pos ha]
      rfl
    · rw [dif_neg (by omega), if_pos h3, if_neg ha]
      by_cases hb : (y 1).val = 1
      · rw [dif_pos (by omega), dif_pos h3, if_pos hb]
        rfl
      · rw [dif_neg (by omega), if_neg hb]
  · simp only [h3, dite_false, if_false]
    simp

/-- Step `t` of the statistics call reads and writes image `t`. -/
theorem index0 : ∀ t : Fin cfg0.grid.N, win0_0.index t = ![t.val, 0, 0, 0] ∧ win0_1.index t = ![t.val, 0, 0] :=
  (by decide +kernel : ∀ t : Fin grid0.N, _)

/-- Step `t` of the transposition to rows reads rows `32 (t % 8)` on of image `t / 8`, and writes row block `t`. -/
theorem index1 : ∀ t : Fin cfg1.grid.N, win1_0.index t = ![t.val / 8, 0, t.val % 8, 0] ∧ win1_1.index t = ![t.val, 0, 0] :=
  (by decide +kernel : ∀ t : Fin grid1.N, _)

/-- Step `t` of the transposition back reads row block `t`, and writes rows `32 (t % 8)` on of image `t / 8`. -/
theorem index10 : ∀ t : Fin cfg10.grid.N, win10_0.index t = ![t.val, 0, 0] ∧ win10_1.index t = ![t.val / 8, 0, t.val % 8, 0] :=
  (by decide +kernel : ∀ t : Fin grid10.N, _)

variable (V : (c : Dev nD) → (b : Ref sig .tc) → Buf (Elt Ideal) ((c.tc : Thread nD τ).loc b)) (c : Dev nD)

/-- The first kernel leaves every image's means and inverse deviations. -/
theorem arr0_1 (X : ℕ → ℕ → ℕ → ℕ → EReal)
    (hX : ∀ y : S8x3x256x256.Idx, V c (Pipeline.arrRef spec0 0) y = X (y 0).val (y 1).val (y 2).val (y 3).val) :
    (dat0 V c).arrAt 1 cfg0.N = fun i => instVal X (i 0).val (i 1).val (i 2).val := by
  refine (dat0 V c).arrAt_eq_of_covers 1 _ (by decide +kernel) fun t hf y => ?_
  obtain ⟨e0, e1⟩ := index0 t
  blk_simp
  rw [after0_1]
  frame_out
  have hx : ∀ y : S1x3x256x256.Idx, iblk0 V c 0 t y = X t.val (y 1).val (y 2).val (y 3).val := by
    intro y
    have h0 : (y 0).val < 1 := (y 0).isLt
    refine (hX _).trans ?_
    blk_simp [e0]
  have h0 : (y 0).val < 1 := (y 0).isLt
  refine (inst_apply _ _ hx y).trans ?_
  simp [e1, instVal]

/-- The second kernel leaves the image by rows, channels last. -/
theorem arr1_1 (X : ℕ → ℕ → ℕ → ℕ → EReal)
    (hX : ∀ y : S8x3x256x256.Idx, V c (Pipeline.arrRef spec1 0) y = X (y 0).val (y 1).val (y 2).val (y 3).val) :
    (dat1 V c).arrAt 1 cfg1.N = fun i => X ((i 0).val / 256) (i 2).val ((i 0).val % 256) (i 1).val := by
  refine (dat1 V c).arrAt_eq_of_covers 1 _ (by decide +kernel) fun t hf y => ?_
  obtain ⟨e0, e1⟩ := index1 t
  blk_simp
  rw [after1_1]
  frame_out
  have hx : ∀ y : S1x3x32x256.Idx, iblk1 V c 0 t y = X (t.val / 8) (y 1).val (t.val % 8 * 32 + (y 2).val) (y 3).val := by
    intro y
    have h0 : (y 0).val < 1 := (y 0).isLt
    refine (hX _).trans ?_
    blk_simp [e0]
  have h0 : (y 0).val < 32 := (y 0).isLt
  pointwise [k1_pay1]
  have h1 : t.val < 64 := t.isLt
  refine (hx _).trans ?_
  simp only [e1]
  rw [show (![t.val, 0, 0] : Fin 3 → ℕ) 0 = t.val from rfl, show (t.val * 32 + (y 0).val) / 256 = t.val / 8 by omega,
    show (t.val * 32 + (y 0).val) % 256 = t.val % 8 * 32 + (y 0).val by omega]
  simp

/-- The last kernel leaves the result by images. -/
theorem arr10_1 (Y : ℕ → ℕ → ℕ → EReal)
    (hY : ∀ y : S2048x256x3.Idx, V c (Pipeline.arrRef spec10 0) y = Y (y 0).val (y 1).val (y 2).val) :
    (dat10 V c).arrAt 1 cfg10.N = fun i => Y (256 * (i 0).val + (i 2).val) (i 3).val (i 1).val := by
  refine (dat10 V c).arrAt_eq_of_covers 1 _ (by decide +kernel) fun t hf y => ?_
  obtain ⟨e0, e1⟩ := index10 t
  blk_simp
  rw [after10_1]
  frame_out
  have hx : ∀ y : S32x256x3.Idx, iblk10 V c 0 t y = Y (32 * t.val + (y 0).val) (y 1).val (y 2).val := by
    intro y
    refine (hY _).trans ?_
    blk_simp [e0]
    simp [Nat.mul_comm]
  have h0 : (y 0).val < 1 := (y 0).isLt
  pointwise [k10_pay1]
  refine (hx _).trans ?_
  simp only [e1]
  rw [show 256 * (![t.val / 8, 0, t.val % 8, 0] : Fin 4 → ℕ) 0 = 256 * (t.val / 8) from rfl,
    show (![t.val / 8, 0, t.val % 8, 0] : Fin 4 → ℕ) 2 = t.val % 8 from rfl,
    show 256 * (t.val / 8) + (t.val % 8 * 32 + (y 2).val) = 32 * t.val + (y 2).val by omega]
  simp

end Cert.KernelIdeal.Val

end
-- ==== Proof.HostVal.lean ====
/- The host operations between the kernels: the scale and shift of a batch normalisation from the
   blocks' channel sums. -/
module

public import proofs.«01_k».proof.Proof.Sums
public import proofs.«01_k».proof.Proof.Gen.KernelIdeal.Launch
public import Idealize.ShloMosaic.Lib.StableHlo.RunRead

@[expose] public section

set_option maxRecDepth 16384

noncomputable section

namespace Cert.KernelIdeal.Val

open Idealize.ShloMosaic Idealize.ShloMosaic.TcCoe Cert.KernelIdeal.Gen Cert.KernelIdeal

/-! ## The arrays -/

/-- The sum over the blocks of a row of the statistics, both halves of the lanes added. -/
def sumS (st : FVec Ideal S64x8x128 .f32) : FVec Ideal S64 .f32 :=
  addf (extractStridedSlice S64 ![0] (Host.reduceAdd (shapeCast S64x128 (extractStridedSlice S64x1x128 ![0, 0, 0] st
      slices_S64x8x128_S64x1x128_0_0_0) shapeCasts_S64x1x128_S64x128) (constant S_ .f32 0x00000000#32)
      reducesTo_S64x128_S128_d0 h_S_) slices_S128_S64_0)
    (extractStridedSlice S64 ![64] (Host.reduceAdd (shapeCast S64x128 (extractStridedSlice S64x1x128 ![0, 0, 0] st
      slices_S64x8x128_S64x1x128_0_0_0) shapeCasts_S64x1x128_S64x128) (constant S_ .f32 0x00000000#32)
      reducesTo_S64x128_S128_d0 h_S_) slices_S128_S64_64)

@[inherit_doc sumS] def sumQ (st : FVec Ideal S64x8x128 .f32) : FVec Ideal S64 .f32 :=
  addf (extractStridedSlice S64 ![0] (Host.reduceAdd (shapeCast S64x128 (extractStridedSlice S64x1x128 ![0, 1, 0] st
      slices_S64x8x128_S64x1x128_0_1_0) shapeCasts_S64x1x128_S64x128) (constant S_ .f32 0x00000000#32)
      reducesTo_S64x128_S128_d0 h_S_) slices_S128_S64_0)
    (extractStridedSlice S64 ![64] (Host.reduceAdd (shapeCast S64x128 (extractStridedSlice S64x1x128 ![0, 1, 0] st
      slices_S64x8x128_S64x1x128_0_1_0) shapeCasts_S64x1x128_S64x128) (constant S_ .f32 0x00000000#32)
      reducesTo_S64x128_S128_d0 h_S_) slices_S128_S64_64)

/-- The channel means. -/
def meanA (st : FVec Ideal S64x8x128 .f32) : FVec Ideal S64 .f32 :=
  Host.divf (sumS st) (broadcastInDim S64 ![] bcast_S_S64 (constant S_ .f32 0x49000000#32))

/-- The scale. -/
def scaleA (st : FVec Ideal S64x8x128 .f32) (g : FVec Ideal S64 .f32) : FVec Ideal S64 .f32 :=
  mulf g (Host.rsqrt (addf (subf (Host.divf (sumQ st) (broadcastInDim S64 ![] bcast_S_S64
    (constant S_ .f32 0x49000000#32))) (mulf (meanA st) (meanA st)))
    (broadcastInDim S64 ![] bcast_S_S64 (constant S_ .f32 0x3727C5AC#32))))

/-- The shift. -/
def shiftA (st : FVec Ideal S64x8x128 .f32) (g be : FVec Ideal S64 .f32) : FVec Ideal S64 .f32 :=
  subf be (mulf (meanA st) (scaleA st g))

/-- One row of the array of scales and shifts: 64 values, twice. -/
def twiceA (v : FVec Ideal S64 .f32) : FVec Ideal S1x128 .f32 :=
  broadcastInDim S1x128 ![1] bcast_S128_S1x128_1 (concatenate S128 0 [⟨S64, v⟩, ⟨S64, v⟩] concatenates_S64_S64_S128_d0)

/-- The array of scales and shifts. -/
def packA (sc sh : FVec Ideal S64 .f32) : FVec Ideal S8x128 .f32 :=
  concatenate S8x128 0 [⟨S1x128, twiceA sc⟩, ⟨S1x128, twiceA sh⟩,
    ⟨S6x128, broadcastInDim S6x128 ![] bcast_S_S6x128 (constant S_ .f32 0x00000000#32)⟩]
    concatenates_S1x128_S1x128_S6x128_S8x128_d0

/-- A row of scales or shifts out of their table. -/
def rowA (v : FVec Ideal S3x2x64 .f32) (o : Fin 3 → ℕ) (h : S3x2x64.Slices o S1x1x64) : FVec Ideal S64 .f32 :=
  shapeCast S64 (extractStridedSlice S1x1x64 o v h) shapeCasts_S1x1x64_S64

/-- The array of scales, shifts and biases of the last stage. -/
def packF (sc sh : FVec Ideal S64 .f32) (b : FVec Ideal S3 .f32) : FVec Ideal S8x128 .f32 :=
  concatenate S8x128 0 [⟨S1x128, twiceA sc⟩, ⟨S1x128, twiceA sh⟩,
    ⟨S1x128, broadcastInDim S1x128 ![1] bcast_S128_S1x128_1 (concatenate S128 0
      [⟨S6, concatenate S6 0 [⟨S3, b⟩, ⟨S3, b⟩] concatenates_S3_S3_S6_d0⟩,
        ⟨S122, broadcastInDim S122 ![] bcast_S_S122 (constant S_ .f32 0x00000000#32)⟩] concatenates_S6_S122_S128_d0)⟩,
    ⟨S5x128, broadcastInDim S5x128 ![] bcast_S_S5x128 (constant S_ .f32 0x00000000#32)⟩]
    concatenates_S1x128_S1x128_S1x128_S5x128_S8x128_d0

/-! ## What each stretch of host operations leaves -/

variable (V : Valuation τ sig (Elt Ideal))

/-- Between the small calls and the first stage: the image rows, reshaped. -/
theorem host2_val : StableHlo.after (hostOps2 (F := Ideal)) V (Proc.devRef .tc main_v107)
    = shapeCast S2048x128x6 (V (Proc.devRef .tc main_v106) : FVec Ideal S2048x256x3 .f32) shapeCasts_S2048x256x3_S2048x128x6 := by
  after_reads_simp
  rfl

/-- After the last stage: its rows, reshaped. -/
theorem host10_val : StableHlo.after (hostOps10 (F := Ideal)) V (Proc.devRef .tc main_v354)
    = shapeCast S2048x256x3 (V (Proc.devRef .tc main_v353) : FVec Ideal S2048x128x6 .f32) shapeCasts_S2048x128x6_S2048x256x3 := by
  after_reads_simp
  rfl

/-- Before a stage of 64 channels: scale and shift from the sums of the stage before. -/
theorem host3_val : StableHlo.after (hostOps3 (F := Ideal)) V (Proc.devRef .tc main_v138)
    = packA (scaleA (V (Proc.devRef .tc main_v108_1)) (V (Proc.devRef .tc main_arg3)))
      (shiftA (V (Proc.devRef .tc main_v108_1)) (V (Proc.devRef .tc main_arg3)) (V (Proc.devRef .tc main_arg4))) := by
  after_reads_simp
  rfl

/-- Before a stage of 64 channels: scale and shift from the sums of the stage before. -/
theorem host4_val : StableHlo.after (hostOps4 (F := Ideal)) V (Proc.devRef .tc main_v173)
    = packA (scaleA (V (Proc.devRef .tc main_v139_1)) (rowA (V (Proc.devRef .tc main_arg7)) ![0, 0, 0] slices_S3x2x64_S1x1x64_0_0_0))
      (shiftA (V (Proc.devRef .tc main_v139_1)) (rowA (V (Proc.devRef .tc main_arg7)) ![0, 0, 0] slices_S3x2x64_S1x1x64_0_0_0)
        (rowA (V (Proc.devRef .tc main_arg8)) ![0, 0, 0] slices_S3x2x64_S1x1x64_0_0_0)) := by
  after_reads_simp
  rfl

/-- Before a stage of 64 channels: scale and shift from the sums of the stage before. -/
theorem host5_val : StableHlo.after (hostOps5 (F := Ideal)) V (Proc.devRef .tc main_v208)
    = packA (scaleA (V (Proc.devRef .tc main_v174_1)) (rowA (V (Proc.devRef .tc main_arg7)) ![0, 1, 0] slices_S3x2x64_S1x1x64_0_1_0))
      (shiftA (V (Proc.devRef .tc main_v174_1)) (rowA (V (Proc.devRef .tc main_arg7)) ![0, 1, 0] slices_S3x2x64_S1x1x64_0_1_0)
        (rowA (V (Proc.devRef .tc main_arg8)) ![0, 1, 0] slices_S3x2x64_S1x1x64_0_1_0)) := by
  after_reads_simp
  rfl

/-- Before a stage of 64 channels: scale and shift from the sums of the stage before. -/
theorem host6_val : StableHlo.after (hostOps6 (F := Ideal)) V (Proc.devRef .tc main_v243)
    = packA (scaleA (V (Proc.devRef .tc main_v209_1)) (rowA (V (Proc.devRef .tc main_arg7)) ![1, 0, 0] slices_S3x2x64_S1x1x64_1_0_0))
      (shiftA (V (Proc.devRef .tc main_v209_1)) (rowA (V (Proc.devRef .tc main_arg7)) ![1, 0, 0] slices_S3x2x64_S1x1x64_1_0_0)
        (rowA (V (Proc.devRef .tc main_arg8)) ![1, 0, 0] slices_S3x2x64_S1x1x64_1_0_0)) := by
  after_reads_simp
  rfl

/-- Before a stage of 64 channels: scale and shift from the sums of the stage before. -/
theorem host7_val : StableHlo.after (hostOps7 (F := Ideal)) V (Proc.devRef .tc main_v278)
    = packA (scaleA (V (Proc.devRef .tc main_v244_1)) (rowA (V (Proc.devRef .tc main_arg7)) ![1, 1, 0] slices_S3x2x64_S1x1x64_1_1_0))
      (shiftA (V (Proc.devRef .tc main_v244_1)) (rowA (V (Proc.devRef .tc main_arg7)) ![1, 1, 0] slices_S3x2x64_S1x1x64_1_1_0)
        (rowA (V (Proc.devRef .tc main_arg8)) ![1, 1, 0] slices_S3x2x64_S1x1x64_1_1_0)) := by
  after_reads_simp
  rfl

/-- Before a stage of 64 channels: scale and shift from the sums of the stage before. -/
theorem host8_val : StableHlo.after (hostOps8 (F := Ideal)) V (Proc.devRef .tc main_v313)
    = packA (scaleA (V (Proc.devRef .tc main_v279_1)) (rowA (V (Proc.devRef .tc main_arg7)) ![2, 0, 0] slices_S3x2x64_S1x1x64_2_0_0))
      (shiftA (V (Proc.devRef .tc main_v279_1)) (rowA (V (Proc.devRef .tc main_arg7)) ![2, 0, 0] slices_S3x2x64_S1x1x64_2_0_0)
        (rowA (V (Proc.devRef .tc main_arg8)) ![2, 0, 0] slices_S3x2x64_S1x1x64_2_0_0)) := by
  after_reads_simp
  rfl

/-- Before the last stage: scale, shift and bias. -/
theorem host9_val : StableHlo.after (hostOps9 (F := Ideal)) V (Proc.devRef .tc main_v352)
    = packF (scaleA (V (Proc.devRef .tc main_v314_1)) (rowA (V (Proc.devRef .tc main_arg7)) ![2, 1, 0] slices_S3x2x64_S1x1x64_2_1_0))
      (shiftA (V (Proc.devRef .tc main_v314_1)) (rowA (V (Proc.devRef .tc main_arg7)) ![2, 1, 0] slices_S3x2x64_S1x1x64_2_1_0)
        (rowA (V (Proc.devRef .tc main_arg8)) ![2, 1, 0] slices_S3x2x64_S1x1x64_2_1_0)) (V (Proc.devRef .tc main_arg10)) := by
  after_reads_simp
  rfl

/-! ## The values -/

/-- The sum over the blocks and both halves of the lanes. -/
def sumV (T : ℕ → ℕ → ℕ → EReal) (i c : ℕ) : EReal := ∑ b : Fin 64, T b i c + ∑ b : Fin 64, T b i (64 + c)

/-- The number of pixels of all images. -/
def npix : EReal := Ideal.ofBits .f32 0x49000000#32
/-- The small number under the root. -/
def eps : EReal := Ideal.ofBits .f32 0x3727C5AC#32

/-- The channel means. -/
def meanV (T : ℕ → ℕ → ℕ → EReal) (c : ℕ) : EReal := Ideal.div (sumV T 0 c) npix

/-- The scale. -/
def scaleV (T : ℕ → ℕ → ℕ → EReal) (g : ℕ → EReal) (c : ℕ) : EReal :=
  g c * Ideal.rsqrt (Ideal.div (sumV T 1 c) npix - meanV T c * meanV T c + eps)

/-- The shift. -/
def shiftV (T : ℕ → ℕ → ℕ → EReal) (g be : ℕ → EReal) (c : ℕ) : EReal := be c - meanV T c * scaleV T g c

section

variable (st : FVec Ideal S64x8x128 .f32) (T : ℕ → ℕ → ℕ → EReal) (hT : ∀ y, st y = T (y 0).val (y 1).val (y 2).val)
  (g be : FVec Ideal S64 .f32) (G Be : ℕ → EReal) (hG : ∀ y, g y = G (y 0).val) (hBe : ∀ y, be y = Be (y 0).val)

include hT

/-- The sum of a channel over blocks and column parities. -/
theorem sumS_apply (y : S64.Idx) : sumS st y = sumV T 0 (y 0).val := by
  have h : (y 0).val < 64 := (y 0).isLt
  pointwise [sumS]
  simp only [hT]
  rfl

/-- The sum of squares of a channel over blocks and column parities. -/
theorem sumQ_apply (y : S64.Idx) : sumQ st y = sumV T 1 (y 0).val := by
  have h : (y 0).val < 64 := (y 0).isLt
  pointwise [sumQ]
  simp only [hT]
  rfl

/-- A channel's mean. -/
theorem meanA_apply (y : S64.Idx) : meanA st y = meanV T (y 0).val := by
  have h := sumS_apply st T hT y
  unfold meanA meanV
  rw [← h]
  generalize sumS st = q
  pointwise
  rfl

include hG in
/-- A channel's scale. -/
theorem scaleA_apply (y : S64.Idx) : scaleA st g y = scaleV T G (y 0).val := by
  have h := sumQ_apply st T hT y
  have h' := meanA_apply st T hT y
  unfold scaleA scaleV
  rw [← h, ← h', ← hG]
  generalize sumQ st = q
  generalize meanA st = r
  pointwise
  rfl

include hG hBe in
/-- A channel's shift. -/
theorem shiftA_apply (y : S64.Idx) : shiftA st g be y = shiftV T G Be (y 0).val := by
  have h := scaleA_apply st T hT g G hG y
  have h' := meanA_apply st T hT y
  unfold shiftA shiftV
  rw [← h, ← h', ← hBe]
  rfl

end

/-- A row of 64 values written twice. -/
theorem twiceA_apply (v : FVec Ideal S64 .f32) (A : ℕ → EReal) (hv : ∀ y, v y = A (y 0).val) (y : S1x128.Idx) :
    twiceA v y = A ((y 1).val % 64) := by
  have h : (y 1).val < 128 := (y 1).isLt
  pointwise [twiceA]
  by_cases h1 : (y 1).val < 64
  · rw [dif_pos h1]
    exact (hv _).trans (congrArg A (show (y 1).val = (y 1).val % 64 by omega))
  · rw [dif_neg h1]
    exact (hv _).trans (congrArg A (show (y 1).val - 64 = (y 1).val % 64 by omega))

/-- Row 0 the scales, twice, row 1 the shifts, twice. -/
def packV (A B : ℕ → EReal) (i l : ℕ) : EReal := if i = 0 then A (l % 64) else if i = 1 then B (l % 64) else 0

/-- The table of scale and shift at an index. -/
theorem packA_apply (sc sh : FVec Ideal S64 .f32) (A B : ℕ → EReal) (hA : ∀ y, sc y = A (y 0).val)
    (hB : ∀ y, sh y = B (y 0).val) (y : S8x128.Idx) : packA sc sh y = packV A B (y 0).val (y 1).val := by
  have h0 : (y 0).val < 8 := (y 0).isLt
  have h1 : (y 1).val < 128 := (y 1).isLt
  have ea := twiceA_apply sc A hA
  have eb := twiceA_apply sh B hB
  unfold packA packV
  generalize twiceA sc = q at *
  generalize twiceA sh = r at *
  pointwise
  by_cases h2 : (y 0).val = 0
  · rw [dif_pos (by omega), if_pos h2]
    exact ea _
  · rw [dif_neg (by omega), if_neg h2]
    by_cases h3 : (y 0).val = 1
    · rw [dif_pos (by omega), if_pos h3]
      exact eb _
    · rw [dif_neg (by omega), if_neg h3]

/-- The same with the biases in row 2. -/
def packVF (A B C : ℕ → EReal) (i l : ℕ) : EReal :=
  if i = 0 then A (l % 64) else if i = 1 then B (l % 64) else if i = 2 ∧ l < 6 then C (l % 3) else 0

/-- The table of scale, shift and bias at an index. -/
theorem packF_apply (sc sh : FVec Ideal S64 .f32) (b : FVec Ideal S3 .f32) (A B C : ℕ → EReal)
    (hA : ∀ y, sc y = A (y 0).val) (hB : ∀ y, sh y = B (y 0).val) (hC : ∀ y, b y = C (y 0).val)
    (y : S8x128.Idx) : packF sc sh b y = packVF A B C (y 0).val (y 1).val := by
  have h0 : (y 0).val < 8 := (y 0).isLt
  have h1 : (y 1).val < 128 := (y 1).isLt
  have ea := twiceA_apply sc A hA
  have eb := twiceA_apply sh B hB
  unfold packF packVF
  generalize twiceA sc = q at *
  generalize twiceA sh = r at *
  pointwise
  by_cases h2 : (y 0).val = 0
  · rw [dif_pos (by omega), if_pos h2]
    exact ea _
  · rw [dif_neg (by omega), if_neg h2]
    by_cases h3 : (y 0).val = 1
    · rw [dif_pos (by omega), if_pos h3]
      exact eb _
    · rw [dif_neg (by omega), if_neg h3]
      by_cases h4 : (y 0).val = 2
      · rw [dif_pos (by omega)]
        by_cases h5 : (y 1).val < 6
        · rw [dif_pos h5]
          refine Eq.trans ?_ (if_pos ⟨h4, h5⟩).symm
          by_cases h6 : (y 1).val < 3
          · rw [dif_pos h6]
            exact (hC _).trans (congrArg C (show (y 1).val = (y 1).val % 3 by omega))
          · rw [dif_neg h6]
            exact (hC _).trans (congrArg C (show (y 1).val - 3 = (y 1).val % 3 by omega))
        · rw [dif_neg h5, if_neg (by omega)]
      · rw [dif_neg (by omega), if_neg (by omega)]

/-- One row of the parameters of the stages inside. -/
theorem rowA_apply (v : FVec Ideal S3x2x64 .f32) (A : ℕ → ℕ → ℕ → EReal) (hv : ∀ y, v y = A (y 0).val (y 1).val (y 2).val)
    (i j : ℕ) (h : S3x2x64.Slices ![i, j, 0] S1x1x64) (y : S64.Idx) : rowA v ![i, j, 0] h y = A i j (y 0).val := by
  pointwise [rowA]
  exact hv _

end Cert.KernelIdeal.Val

end
-- ==== Proof.Net.lean ====
/- The network over arrays read at (image, channel, row, column): the mathematics of the reference. -/
module

public import proofs.«01_k».proof.Proof.ImageVal
public import proofs.«01_k».proof.Proof.HostVal

@[expose] public section

noncomputable section

namespace Cert.Net

open Idealize.ShloMosaic Cert.KernelIdeal.Val

/-- An array of images with a border of zeros one pixel wide. -/
def pd (X : ℕ → ℕ → ℕ → ℕ → EReal) (n i h w : ℕ) : EReal :=
  if 1 ≤ h ∧ h < 257 ∧ 1 ≤ w ∧ w < 257 then X n i (h - 1) (w - 1) else 0

/-- One tap of a convolution of `K` channels. -/
def tapR (K : ℕ) (X W : ℕ → ℕ → ℕ → ℕ → EReal) (kh kw n o h w : ℕ) : EReal :=
  ∑ i : Fin K, pd X n i (kh + h) (kw + w) * W o i kh kw

/-- A convolution of `K` channels: its nine taps. -/
def cvR (K : ℕ) (X W : ℕ → ℕ → ℕ → ℕ → EReal) (n o h w : ℕ) : EReal :=
  tapR K X W 0 0 n o h w + tapR K X W 0 1 n o h w + tapR K X W 0 2 n o h w
    + tapR K X W 1 0 n o h w + tapR K X W 1 1 n o h w + tapR K X W 1 2 n o h w
    + tapR K X W 2 0 n o h w + tapR K X W 2 1 n o h w + tapR K X W 2 2 n o h w

/-- A convolution with its bias. -/
def cvb (K : ℕ) (X W : ℕ → ℕ → ℕ → ℕ → EReal) (b : ℕ → EReal) (n o h w : ℕ) : EReal := cvR K X W n o h w + b o

/-- The sum of a channel over images, rows and columns. -/
def total (X : ℕ → ℕ → ℕ → ℕ → EReal) (c : ℕ) : EReal :=
  ∑ n : Fin 8, ∑ h : Fin 256, ∑ w : Fin 256, X n c h w

/-- A channel's mean. -/
def meanR (X : ℕ → ℕ → ℕ → ℕ → EReal) (c : ℕ) : EReal := Ideal.div (total X c) npix

/-- A channel's variance: the mean of the squared deviation. -/
def varR (X : ℕ → ℕ → ℕ → ℕ → EReal) (c : ℕ) : EReal :=
  Ideal.div (total (fun n c h w => (X n c h w - meanR X c) * (X n c h w - meanR X c)) c) npix

/-- Batch normalisation. -/
def bnR (X : ℕ → ℕ → ℕ → ℕ → EReal) (g be : ℕ → EReal) (n c h w : ℕ) : EReal :=
  (X n c h w - meanR X c) * Ideal.rsqrt (varR X c + eps) * g c + be c

/-- The reference's celu. -/
def celuR (x : EReal) : EReal := max x 0 + (Ideal.exp (Ideal.div (min x 0) 1) - 1)

/-- One stage: convolution, batch normalisation and celu. -/
def stageR (K : ℕ) (X W : ℕ → ℕ → ℕ → ℕ → EReal) (b g be : ℕ → EReal) (n c h w : ℕ) : EReal :=
  celuR (bnR (cvb K X W b) g be n c h w)

/-- The image and its instance normalisation, channel after channel. -/
def inputR (X : ℕ → ℕ → ℕ → ℕ → EReal) (n c h w : ℕ) : EReal :=
  if c < 3 then X n c h w
  else Ideal.div (X n (c - 3) h w - chMean (X n (c - 3))) (Ideal.sqrt (chVar (X n (c - 3))))

end Cert.Net

end
-- ==== Proof.StageDef.lean ====
/- The pieces that one grid step of a 64-channel stage writes, as functions of the activated rows it
   starts from: the two widened row buffers (one for the even columns, one for the odd ones), the two
   buffers of products with the packed filter, the rows of the result, and the two channel sums. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Cert.KernelIdeal.Gen Cert.KernelIdeal

/-! ## The loads of the input blocks -/

/-- A block of 32 rows, loaded whole. -/
def load32 (m : Memref sig .tc .vmem S32x128x128 .f32) (hm : m.IsWhole) (x : Vec Ideal S32x128x128 .f32) :
    Vec Ideal S32x128x128 .f32 :=
  View.readAt (Elt Ideal) m.view (Rect.unit (s := S32x128x128) ![0, 0, 0] S32x128x128.size
    inb_S32x128x128_S32x128x128_0_0_0).toLoadRect (hm.unread x)

/-- A block of one row, loaded whole. -/
def load1 (m : Memref sig .tc .vmem S1x128x128 .f32) (hm : m.IsWhole) (x : Vec Ideal S1x128x128 .f32) :
    Vec Ideal S1x128x128 .f32 :=
  View.readAt (Elt Ideal) m.view (Rect.unit (s := S1x128x128) ![0, 0, 0] S1x128x128.size
    inb_S1x128x128_S1x128x128_0_0_0).toLoadRect (hm.unread x)

/-- The packed filter, loaded whole. -/
def loadW (m : Memref sig .tc .vmem S192x256 .f32) (hm : m.IsWhole) (x : Vec Ideal S192x256 .f32) :
    Vec Ideal S192x256 .f32 :=
  View.readAt (Elt Ideal) m.view (Rect.unit (s := S192x256) ![0, 0] S192x256.size
    inb_S192x256_S192x256_0_0).toLoadRect (hm.unread x)

/-- Row 0 of the scales and shifts: the scales. -/
def loadSc (m : Memref sig .tc .vmem S8x128 .f32) (hm : m.IsWhole) (x : Vec Ideal S8x128 .f32) :
    Vec Ideal S1x128 .f32 :=
  View.readAt (Elt Ideal) m.view (Rect.unit (s := S8x128) ![0, 0] S1x128.size
    inb_S8x128_S1x128_0_0).toLoadRect (hm.unread x)

/-- Row 1 of the scales and shifts: the shifts. -/
def loadSh (m : Memref sig .tc .vmem S8x128 .f32) (hm : m.IsWhole) (x : Vec Ideal S8x128 .f32) :
    Vec Ideal S1x128 .f32 :=
  View.readAt (Elt Ideal) m.view (Rect.unit (s := S8x128) ![1, 0] S1x128.size
    inb_S8x128_S1x128_1_0).toLoadRect (hm.unread x)

/-- A block of 32 rows loaded whole is the block. -/
theorem load32_eq (m : Memref sig .tc .vmem S32x128x128 .f32) (hm : m.IsWhole) (x : Vec Ideal S32x128x128 .f32) :
    load32 m hm x = x := by
  unfold load32
  rw [View.readAt_eq_ld, hm.read_unread, View.ld_unit_lit' (h := by decide)]

/-- A block of one row loaded whole is the block. -/
theorem load1_eq (m : Memref sig .tc .vmem S1x128x128 .f32) (hm : m.IsWhole) (x : Vec Ideal S1x128x128 .f32) :
    load1 m hm x = x := by
  unfold load1
  rw [View.readAt_eq_ld, hm.read_unread, View.ld_unit_lit' (h := by decide)]

/-- The packed filter loaded whole is the filter. -/
theorem loadW_eq (m : Memref sig .tc .vmem S192x256 .f32) (hm : m.IsWhole) (x : Vec Ideal S192x256 .f32) :
    loadW m hm x = x := by
  unfold loadW
  rw [View.readAt_eq_ld, hm.read_unread, View.ld_unit_lit' (h := by decide)]

/-- The scales are row 0. -/
theorem loadSc_apply (m : Memref sig .tc .vmem S8x128 .f32) (hm : m.IsWhole) (x : Vec Ideal S8x128 .f32)
    (y : S1x128.Idx) : loadSc m hm x y = x (ix2 0 (y 1)) := by
  unfold loadSc
  rw [View.readAt_eq_ld, hm.read_unread]
  refine congrArg x (funext fun a => Fin.ext ?_)
  have h0 := (y 0).isLt
  fin_cases a
  · simpa [Rect.toLoadRect, LoadRect.idx, Rect.emb] using h0
  · simp [Rect.toLoadRect, LoadRect.idx, Rect.emb]

/-- The shifts are row 1. -/
theorem loadSh_apply (m : Memref sig .tc .vmem S8x128 .f32) (hm : m.IsWhole) (x : Vec Ideal S8x128 .f32)
    (y : S1x128.Idx) : loadSh m hm x y = x (ix2 1 (y 1)) := by
  unfold loadSh
  rw [View.readAt_eq_ld, hm.read_unread]
  refine congrArg x (funext fun a => Fin.ext ?_)
  have h0 := (y 0).isLt
  fin_cases a
  · simpa [Rect.toLoadRect, LoadRect.idx, Rect.emb] using h0
  · simp [Rect.toLoadRect, LoadRect.idx, Rect.emb]

/-! ## The activation -/

/-- A row of scales or shifts, as the kernel spreads it over 32 rows of pixels. -/
def spread32 (s : FVec Ideal S1x128 .f32) : FVec Ideal S32x128x128 .f32 :=
  broadcastTo S32x128x128 (shapeCast S1x1x128 (shapeCast S128 s shapeCasts_S1x128_S128) shapeCasts_S128_S1x1x128)
    broadcasts_S1x1x128_S32x128x128

/-- The same over one row of pixels. -/
def spread1 (s : FVec Ideal S1x128 .f32) : FVec Ideal S1x128x128 .f32 :=
  broadcastTo S1x128x128 (shapeCast S1x1x128 (shapeCast S128 s shapeCasts_S1x128_S128) shapeCasts_S128_S1x1x128)
    broadcasts_S1x1x128_S1x128x128

/-- The kernel's celu of 32 rows. -/
def celu32 (v : FVec Ideal S32x128x128 .f32) : FVec Ideal S32x128x128 .f32 :=
  maximumf v (subf (exp (minimumf v (broadcast S32x128x128 (Scalar.ofBits (F := Ideal) .f32 0x00000000#32))))
    (broadcast S32x128x128 (Scalar.ofBits (F := Ideal) .f32 0x3F800000#32)))

/-- The kernel's celu of one row. -/
def celu1 (v : FVec Ideal S1x128x128 .f32) : FVec Ideal S1x128x128 .f32 :=
  maximumf v (subf (exp (minimumf v (broadcast S1x128x128 (Scalar.ofBits (F := Ideal) .f32 0x00000000#32))))
    (broadcast S1x128x128 (Scalar.ofBits (F := Ideal) .f32 0x3F800000#32)))

/-- The 32 rows of a block, scaled, shifted and activated. -/
def act32 (sc sh : FVec Ideal S1x128 .f32) (v : FVec Ideal S32x128x128 .f32) : FVec Ideal S32x128x128 .f32 :=
  celu32 (addf (mulf (shapeCast S32x128x128 v shapeCasts_S32x128x128_S32x128x128) (spread32 sc)) (spread32 sh))

/-- One row, scaled, shifted and activated. -/
def act1 (sc sh : FVec Ideal S1x128 .f32) (v : FVec Ideal S1x128x128 .f32) : FVec Ideal S1x128x128 .f32 :=
  celu1 (addf (mulf (shapeCast S1x128x128 v shapeCasts_S1x128x128_S1x128x128) (spread1 sc)) (spread1 sh))

/-- A row beyond the block, which is zero when the block ends the image there. -/
def edge (b : BitVec 1) (v : FVec Ideal S1x128x128 .f32) : FVec Ideal S1x128x128 .f32 :=
  Scalar.select b (broadcast S1x128x128 (Scalar.ofBits (F := Ideal) .f32 0x00000000#32)) v

/-! ## The widened rows -/

/-- The even columns of one row. -/
def ev1 (v : FVec Ideal S1x128x128 .f32) : FVec Ideal S1x128x64 .f32 :=
  extractStridedSlice S1x128x64 ![0, 0, 0] v slices_S1x128x128_o0_0_0_S1x128x64
/-- The odd columns of one row. -/
def od1 (v : FVec Ideal S1x128x128 .f32) : FVec Ideal S1x128x64 .f32 :=
  extractStridedSlice S1x128x64 ![0, 0, 64] v slices_S1x128x128_o0_0_64_S1x128x64
/-- The even columns of 32 rows. -/
def ev32 (v : FVec Ideal S32x128x128 .f32) : FVec Ideal S32x128x64 .f32 :=
  extractStridedSlice S32x128x64 ![0, 0, 0] v slices_S32x128x128_o0_0_0_S32x128x64
/-- The odd columns of 32 rows. -/
def od32 (v : FVec Ideal S32x128x128 .f32) : FVec Ideal S32x128x64 .f32 :=
  extractStridedSlice S32x128x64 ![0, 0, 64] v slices_S32x128x128_o0_0_64_S32x128x64

/-- What is stored into the buffer for the even columns, last store first. -/
def evenPieces (top bot : FVec Ideal S1x128x128 .f32) (main : FVec Ideal S32x128x128 .f32) :
    List (View.Piece (Elt Ideal) S34x128x192 .f32) :=
  [⟨Rect.unit ![0, 0, 0] S34x1x64.size inb_S34x128x192_S34x1x64_0_0_0,
      shapeCast S34x1x64 (broadcast S34x1x64 (Scalar.ofBits (F := Ideal) .f32 0x00000000#32)) shapeCasts_S34x1x64_S34x1x64⟩,
    ⟨Rect.unit ![33, 0, 128] S1x128x64.size inb_S34x128x192_S1x128x64_33_0_128,
      shapeCast S1x128x64 (od1 bot) shapeCasts_S1x128x64_S1x128x64⟩,
    ⟨Rect.unit ![33, 0, 64] S1x128x64.size inb_S34x128x192_S1x128x64_33_0_64,
      shapeCast S1x128x64 (ev1 bot) shapeCasts_S1x128x64_S1x128x64⟩,
    ⟨Rect.unit ![33, 1, 0] S1x127x64.size inb_S34x128x192_S1x127x64_33_1_0,
      shapeCast S1x127x64 (extractStridedSlice S1x127x64 ![0, 0, 0] (od1 bot) slices_S1x128x64_o0_0_0_S1x127x64)
        shapeCasts_S1x127x64_S1x127x64⟩,
    ⟨Rect.unit ![1, 0, 128] S32x128x64.size inb_S34x128x192_S32x128x64_1_0_128,
      shapeCast S32x128x64 (od32 main) shapeCasts_S32x128x64_S32x128x64⟩,
    ⟨Rect.unit ![1, 0, 64] S32x128x64.size inb_S34x128x192_S32x128x64_1_0_64,
      shapeCast S32x128x64 (ev32 main) shapeCasts_S32x128x64_S32x128x64⟩,
    ⟨Rect.unit ![1, 1, 0] S32x127x64.size inb_S34x128x192_S32x127x64_1_1_0,
      shapeCast S32x127x64 (extractStridedSlice S32x127x64 ![0, 0, 0] (od32 main) slices_S32x128x64_o0_0_0_S32x127x64)
        shapeCasts_S32x127x64_S32x127x64⟩,
    ⟨Rect.unit ![0, 0, 128] S1x128x64.size inb_S34x128x192_S1x128x64_0_0_128,
      shapeCast S1x128x64 (od1 top) shapeCasts_S1x128x64_S1x128x64⟩,
    ⟨Rect.unit ![0, 0, 64] S1x128x64.size inb_S34x128x192_S1x128x64_0_0_64,
      shapeCast S1x128x64 (ev1 top) shapeCasts_S1x128x64_S1x128x64⟩,
    ⟨Rect.unit ![0, 1, 0] S1x127x64.size inb_S34x128x192_S1x127x64_0_1_0,
      shapeCast S1x127x64 (extractStridedSlice S1x127x64 ![0, 0, 0] (od1 top) slices_S1x128x64_o0_0_0_S1x127x64)
        shapeCasts_S1x127x64_S1x127x64⟩]

/-- What is stored into the buffer for the odd columns, last store first. -/
def oddPieces (top bot : FVec Ideal S1x128x128 .f32) (main : FVec Ideal S32x128x128 .f32) :
    List (View.Piece (Elt Ideal) S34x128x192 .f32) :=
  [⟨Rect.unit ![0, 127, 128] S34x1x64.size inb_S34x128x192_S34x1x64_0_127_128,
      shapeCast S34x1x64 (broadcast S34x1x64 (Scalar.ofBits (F := Ideal) .f32 0x00000000#32)) shapeCasts_S34x1x64_S34x1x64⟩,
    ⟨Rect.unit ![33, 0, 128] S1x127x64.size inb_S34x128x192_S1x127x64_33_0_128,
      shapeCast S1x127x64 (extractStridedSlice S1x127x64 ![0, 1, 0] (ev1 bot) slices_S1x128x64_o0_1_0_S1x127x64)
        shapeCasts_S1x127x64_S1x127x64⟩,
    ⟨Rect.unit ![33, 0, 64] S1x128x64.size inb_S34x128x192_S1x128x64_33_0_64,
      shapeCast S1x128x64 (od1 bot) shapeCasts_S1x128x64_S1x128x64⟩,
    ⟨Rect.unit ![33, 0, 0] S1x128x64.size inb_S34x128x192_S1x128x64_33_0_0,
      shapeCast S1x128x64 (ev1 bot) shapeCasts_S1x128x64_S1x128x64⟩,
    ⟨Rect.unit ![1, 0, 128] S32x127x64.size inb_S34x128x192_S32x127x64_1_0_128,
      shapeCast S32x127x64 (extractStridedSlice S32x127x64 ![0, 1, 0] (ev32 main) slices_S32x128x64_o0_1_0_S32x127x64)
        shapeCasts_S32x127x64_S32x127x64⟩,
    ⟨Rect.unit ![1, 0, 64] S32x128x64.size inb_S34x128x192_S32x128x64_1_0_64,
      shapeCast S32x128x64 (od32 main) shapeCasts_S32x128x64_S32x128x64⟩,
    ⟨Rect.unit ![1, 0, 0] S32x128x64.size inb_S34x128x192_S32x128x64_1_0_0,
      shapeCast S32x128x64 (ev32 main) shapeCasts_S32x128x64_S32x128x64⟩,
    ⟨Rect.unit ![0, 0, 128] S1x127x64.size inb_S34x128x192_S1x127x64_0_0_128,
      shapeCast S1x127x64 (extractStridedSlice S1x127x64 ![0, 1, 0] (ev1 top) slices_S1x128x64_o0_1_0_S1x127x64)
        shapeCasts_S1x127x64_S1x127x64⟩,
    ⟨Rect.unit ![0, 0, 64] S1x128x64.size inb_S34x128x192_S1x128x64_0_0_64,
      shapeCast S1x128x64 (od1 top) shapeCasts_S1x128x64_S1x128x64⟩,
    ⟨Rect.unit ![0, 0, 0] S1x128x64.size inb_S34x128x192_S1x128x64_0_0_0,
      shapeCast S1x128x64 (ev1 top) shapeCasts_S1x128x64_S1x128x64⟩]

/-! ## The products -/

/-- Seven widened rows times the packed filter. -/
def mm7 (x : Vec Ideal S7x128x192 .f32) (w : Vec Ideal S192x256 .f32) : FVec Ideal S7x128x256 .f32 :=
  shapeCast S7x128x256 (shapeCast S7x128x256
    (matmul dot_S896x192_S192x256_S896x256_1_0_0_1_n_n none
      (shapeCast S896x192 (x : FVec Ideal S7x128x192 .f32) shapeCasts_S7x128x192_S896x192 : FVec Ideal S896x192 .f32)
      (shapeCast S192x256 (w : FVec Ideal S192x256 .f32) shapeCasts_S192x256_S192x256 : FVec Ideal S192x256 .f32)
      (constant S896x256 .f32 0x00000000#32)) shapeCasts_S896x256_S7x128x256) shapeCasts_S7x128x256_S7x128x256

/-- Six widened rows times the packed filter. -/
def mm6 (x : Vec Ideal S6x128x192 .f32) (w : Vec Ideal S192x256 .f32) : FVec Ideal S6x128x256 .f32 :=
  shapeCast S6x128x256 (shapeCast S6x128x256
    (matmul dot_S768x192_S192x256_S768x256_1_0_0_1_n_n none
      (shapeCast S768x192 (x : FVec Ideal S6x128x192 .f32) shapeCasts_S6x128x192_S768x192 : FVec Ideal S768x192 .f32)
      (shapeCast S192x256 (w : FVec Ideal S192x256 .f32) shapeCasts_S192x256_S192x256 : FVec Ideal S192x256 .f32)
      (constant S768x256 .f32 0x00000000#32)) shapeCasts_S768x256_S6x128x256) shapeCasts_S6x128x256_S6x128x256

/-- Seven widened rows read from a buffer with the stores `L`. -/
def take7 (m : Memref sig .tc .vmem S34x128x192 .f32) (L : List (View.Piece (Elt Ideal) S34x128x192 .f32))
    (o : Fin 3 → ℕ) (h : ∀ a, o a + S7x128x192.size a ≤ S34x128x192.size a) : Vec Ideal S7x128x192 .f32 :=
  m.view.readCov L (Rect.unit (s := S34x128x192) o S7x128x192.size h).toLoadRect

/-- Six widened rows read from a buffer with the stores `L`. -/
def take6 (m : Memref sig .tc .vmem S34x128x192 .f32) (L : List (View.Piece (Elt Ideal) S34x128x192 .f32))
    (o : Fin 3 → ℕ) (h : ∀ a, o a + S6x128x192.size a ≤ S34x128x192.size a) : Vec Ideal S6x128x192 .f32 :=
  m.view.readCov L (Rect.unit (s := S34x128x192) o S6x128x192.size h).toLoadRect

/-- What is stored into a buffer of products, last store first, from the stores `L` into the widened rows `m`. -/
def zPieces (m : Memref sig .tc .vmem S34x128x192 .f32) (L : List (View.Piece (Elt Ideal) S34x128x192 .f32))
    (w : Vec Ideal S192x256 .f32) : List (View.Piece (Elt Ideal) S34x128x256 .f32) :=
  [⟨Rect.unit ![28, 0, 0] S6x128x256.size inb_S34x128x256_S6x128x256_28_0_0,
      mm6 (take6 m L ![28, 0, 0] inb_S34x128x192_S6x128x192_28_0_0) w⟩,
    ⟨Rect.unit ![21, 0, 0] S7x128x256.size inb_S34x128x256_S7x128x256_21_0_0,
      mm7 (take7 m L ![21, 0, 0] inb_S34x128x192_S7x128x192_21_0_0) w⟩,
    ⟨Rect.unit ![14, 0, 0] S7x128x256.size inb_S34x128x256_S7x128x256_14_0_0,
      mm7 (take7 m L ![14, 0, 0] inb_S34x128x192_S7x128x192_14_0_0) w⟩,
    ⟨Rect.unit ![7, 0, 0] S7x128x256.size inb_S34x128x256_S7x128x256_7_0_0,
      mm7 (take7 m L ![7, 0, 0] inb_S34x128x192_S7x128x192_7_0_0) w⟩,
    ⟨Rect.unit ![0, 0, 0] S7x128x256.size inb_S34x128x256_S7x128x256_0_0_0,
      mm7 (take7 m L ![0, 0, 0] inb_S34x128x192_S7x128x192_0_0_0) w⟩]

/-! ## The results -/

/-- Eight rows of the result, from the three shifted parts of the two buffers of products. -/
def join8 (a b c a' b' c' : Vec Ideal S8x128x64 .f32) : FVec Ideal S8x128x128 .f32 :=
  concatenate S8x128x128 2
    [⟨S8x128x64, addf (addf (a : FVec Ideal S8x128x64 .f32) b) c⟩,
      ⟨S8x128x64, addf (addf (a' : FVec Ideal S8x128x64 .f32) b') c'⟩]
    concatenates_S8x128x64_S8x128x64_S8x128x128_d2

/-- Eight rows read from a buffer of products with the stores `L`. -/
def take64 (m : Memref sig .tc .vmem S34x128x256 .f32) (L : List (View.Piece (Elt Ideal) S34x128x256 .f32))
    (o : Fin 3 → ℕ) (h : ∀ a, o a + S8x128x64.size a ≤ S34x128x256.size a) : Vec Ideal S8x128x64 .f32 :=
  m.view.readCov L (Rect.unit (s := S34x128x256) o S8x128x64.size h).toLoadRect

/-- Rows 0 to 7 of the result. -/
def rows0 (m m' : Memref sig .tc .vmem S34x128x256 .f32) (L L' : List (View.Piece (Elt Ideal) S34x128x256 .f32)) :
    FVec Ideal S8x128x128 .f32 :=
  join8 (take64 m L ![0, 0, 0] inb_S34x128x256_S8x128x64_0_0_0)
    (take64 m L ![1, 0, 64] inb_S34x128x256_S8x128x64_1_0_64)
    (take64 m L ![2, 0, 128] inb_S34x128x256_S8x128x64_2_0_128)
    (take64 m' L' ![0, 0, 0] inb_S34x128x256_S8x128x64_0_0_0)
    (take64 m' L' ![1, 0, 64] inb_S34x128x256_S8x128x64_1_0_64)
    (take64 m' L' ![2, 0, 128] inb_S34x128x256_S8x128x64_2_0_128)

/-- Rows 8 to 15 of the result. -/
def rows8 (m m' : Memref sig .tc .vmem S34x128x256 .f32) (L L' : List (View.Piece (Elt Ideal) S34x128x256 .f32)) :
    FVec Ideal S8x128x128 .f32 :=
  join8 (take64 m L ![8, 0, 0] inb_S34x128x256_S8x128x64_8_0_0)
    (take64 m L ![9, 0, 64] inb_S34x128x256_S8x128x64_9_0_64)
    (take64 m L ![10, 0, 128] inb_S34x128x256_S8x128x64_10_0_128)
    (take64 m' L' ![8, 0, 0] inb_S34x128x256_S8x128x64_8_0_0)
    (take64 m' L' ![9, 0, 64] inb_S34x128x256_S8x128x64_9_0_64)
    (take64 m' L' ![10, 0, 128] inb_S34x128x256_S8x128x64_10_0_128)

/-- Rows 16 to 23 of the result. -/
def rows16 (m m' : Memref sig .tc .vmem S34x128x256 .f32) (L L' : List (View.Piece (Elt Ideal) S34x128x256 .f32)) :
    FVec Ideal S8x128x128 .f32 :=
  join8 (take64 m L ![16, 0, 0] inb_S34x128x256_S8x128x64_16_0_0)
    (take64 m L ![17, 0, 64] inb_S34x128x256_S8x128x64_17_0_64)
    (take64 m L ![18, 0, 128] inb_S34x128x256_S8x128x64_18_0_128)
    (take64 m' L' ![16, 0, 0] inb_S34x128x256_S8x128x64_16_0_0)
    (take64 m' L' ![17, 0, 64] inb_S34x128x256_S8x128x64_17_0_64)
    (take64 m' L' ![18, 0, 128] inb_S34x128x256_S8x128x64_18_0_128)

/-- Rows 24 to 31 of the result. -/
def rows24 (m m' : Memref sig .tc .vmem S34x128x256 .f32) (L L' : List (View.Piece (Elt Ideal) S34x128x256 .f32)) :
    FVec Ideal S8x128x128 .f32 :=
  join8 (take64 m L ![24, 0, 0] inb_S34x128x256_S8x128x64_24_0_0)
    (take64 m L ![25, 0, 64] inb_S34x128x256_S8x128x64_25_0_64)
    (take64 m L ![26, 0, 128] inb_S34x128x256_S8x128x64_26_0_128)
    (take64 m' L' ![24, 0, 0] inb_S34x128x256_S8x128x64_24_0_0)
    (take64 m' L' ![25, 0, 64] inb_S34x128x256_S8x128x64_25_0_64)
    (take64 m' L' ![26, 0, 128] inb_S34x128x256_S8x128x64_26_0_128)

/-- The result block's stores, last store first. -/
def outPieces (m m' : Memref sig .tc .vmem S34x128x256 .f32) (L L' : List (View.Piece (Elt Ideal) S34x128x256 .f32)) :
    List (View.Piece (Elt Ideal) S32x128x128 .f32) :=
  [⟨Rect.unit ![24, 0, 0] S8x128x128.size inb_S32x128x128_S8x128x128_24_0_0, rows24 m m' L L'⟩,
    ⟨Rect.unit ![16, 0, 0] S8x128x128.size inb_S32x128x128_S8x128x128_16_0_0, rows16 m m' L L'⟩,
    ⟨Rect.unit ![8, 0, 0] S8x128x128.size inb_S32x128x128_S8x128x128_8_0_0, rows8 m m' L L'⟩,
    ⟨Rect.unit ![0, 0, 0] S8x128x128.size inb_S32x128x128_S8x128x128_0_0_0, rows0 m m' L L'⟩]

/-- The sum of eight rows over their pixels. -/
def sum8 (v : FVec Ideal S8x128x128 .f32) : FVec Ideal S128 .f32 :=
  multiReduction .add [0, 1] S128 v 0x00000000#32 reduces_S8x128x128_S128 (.inl rfl) rfl

/-- The channel sums of four groups of eight rows, the channel sums of the squares, and six rows of zeros. -/
def statBlock (a b c d : FVec Ideal S8x128x128 .f32) : FVec Ideal S1x8x128 .f32 :=
  shapeCast S1x8x128 (concatenate S8x128 0
    [⟨S1x128, shapeCast S1x128 (addf (addf (addf (addf
        (broadcast S128 (Scalar.ofBits (F := Ideal) .f32 0x00000000#32)) (sum8 a)) (sum8 b)) (sum8 c)) (sum8 d))
        shapeCasts_S128_S1x128⟩,
      ⟨S1x128, shapeCast S1x128 (addf (addf (addf (addf
        (broadcast S128 (Scalar.ofBits (F := Ideal) .f32 0x00000000#32)) (sum8 (mulf a a))) (sum8 (mulf b b)))
        (sum8 (mulf c c))) (sum8 (mulf d d))) shapeCasts_S128_S1x128⟩,
      ⟨S6x128, broadcast S6x128 (Scalar.ofBits (F := Ideal) .f32 0x00000000#32)⟩]
    concatenates_S1x128_S1x128_S6x128_S8x128_d0) shapeCasts_S8x128_S1x8x128

/-- The channel sums' one store. -/
def statPieces (m m' : Memref sig .tc .vmem S34x128x256 .f32) (L L' : List (View.Piece (Elt Ideal) S34x128x256 .f32)) :
    List (View.Piece (Elt Ideal) S1x8x128 .f32) :=
  [⟨Rect.unit ![0, 0, 0] S1x8x128.size inb_S1x8x128_S1x8x128_0_0_0,
      statBlock (rows0 m m' L L') (rows8 m m' L L') (rows16 m m' L L') (rows24 m m' L L')⟩]

end Cert.KernelIdeal.Val

end
-- ==== Proof.StageVal.lean ====
/- What one grid step of a 64-channel stage computes, entry by entry: the widened rows, the products
   with the packed filter, the rows of the result and the channel sums. Arrays are read through
   functions of natural numbers, so that rows beyond a block and shifted columns are plain arithmetic. -/
module

public import proofs.«01_k».proof.Proof.StageDef
public import proofs.«01_k».proof.Proof.Sums

@[expose] public section

set_option maxRecDepth 16384

noncomputable section

namespace Cert.KernelIdeal.Val

open Idealize.ShloMosaic Idealize.ShloMosaic.TcCoe Cert.KernelIdeal.Gen Cert.KernelIdeal

/-! ## The values -/

/-- The celu of an extended real, as the kernel computes it. -/
def celu (x : EReal) : EReal := max x (Ideal.exp (min x 0) - 1)

/-- The widened row for the even columns: the odd column to the left, the even column, the odd column. -/
def xe (A : ℕ → ℕ → ℕ → EReal) (r p k : ℕ) : EReal :=
  if k < 64 then (if p = 0 then 0 else A r (p - 1) (k + 64)) else A r p (k - 64)

/-- The widened row for the odd columns: the even column, the odd column, the even column to the right. -/
def xo (A : ℕ → ℕ → ℕ → EReal) (r p k : ℕ) : EReal :=
  if k < 128 then A r p k else (if p = 127 then 0 else A r (p + 1) (k - 128))

/-- The product of a widened row with the packed filter. -/
def zz (X : ℕ → ℕ → ℕ → EReal) (w : ℕ → ℕ → EReal) (r p j : ℕ) : EReal :=
  ∑ k : Fin 192, X r p k * w k j

/-- The sum of the products' three shifted parts. -/
def tap (Z : ℕ → ℕ → ℕ → EReal) (t p l : ℕ) : EReal :=
  Z t p l + Z (t + 1) p (64 + l) + Z (t + 2) p (128 + l)

/-- Row `t` of the result: even columns in the first 64 lanes, odd columns in the last. -/
def conv (A : ℕ → ℕ → ℕ → EReal) (w : ℕ → ℕ → EReal) (t p l : ℕ) : EReal :=
  if l < 64 then tap (zz (xe A) w) t p l else tap (zz (xo A) w) t p (l - 64)

/-! ## The activation, read at an index -/

/-- The activated block at an index. -/
theorem act32_apply (sc sh : FVec Ideal S1x128 .f32) (v : FVec Ideal S32x128x128 .f32) (y : S32x128x128.Idx) :
    act32 sc sh v y = celu (v y * sc (ix2 0 (y 2)) + sh (ix2 0 (y 2))) := by
  pointwise [act32, celu32, spread32, celu]

/-- The activated row above or below at an index. -/
theorem act1_apply (sc sh : FVec Ideal S1x128 .f32) (v : FVec Ideal S1x128x128 .f32) (y : S1x128x128.Idx) :
    act1 sc sh v y = celu (v y * sc (ix2 0 (y 2)) + sh (ix2 0 (y 2))) := by
  pointwise [act1, celu1, spread1, celu]

/-- The row above or below, zero at the border of an image. -/
theorem edge_apply (b : BitVec 1) (v : FVec Ideal S1x128x128 .f32) (y : S1x128x128.Idx) :
    edge b v y = if b = 1#1 then 0 else v y := by
  unfold edge
  pointwise
  rfl

/-! ## The widened rows -/

/-- The buffer for the even columns holds the widened rows for the even columns. -/
theorem even_apply (A : ℕ → ℕ → ℕ → EReal) (top bot : FVec Ideal S1x128x128 .f32) (main : FVec Ideal S32x128x128 .f32)
    (ht : ∀ y, top y = A 0 (y 1).val (y 2).val) (hb : ∀ y, bot y = A 33 (y 1).val (y 2).val)
    (hm : ∀ y, main y = A ((y 0).val + 1) (y 1).val (y 2).val) (y : S34x128x192.Idx) :
    View.canon (evenPieces top bot main) y = xe A (y 0).val (y 1).val (y 2).val := by
  refine View.canon_apply_of_pieces (Val := Elt Ideal) (e := .f32)
    (fun y => xe A (y 0).val (y 1).val (y 2).val) _ ?_ y ?_
  · simp only [evenPieces, List.forall_mem_cons, List.not_mem_nil, false_imp_iff, implies_true, and_true]
    refine ⟨?_, ?_, ?_, ?_, ?_, ?_, ?_, ?_, ?_, ?_⟩ <;> intro z <;>
      (have h0 : (z 0).val < _ := (z 0).isLt; have h1 : (z 1).val < _ := (z 1).isLt
       have h2 : (z 2).val < _ := (z 2).isLt
       pointwise [ev1, od1, ev32, od32]
       simp only [ValueKit.rect_emb_unit_val, ht, hb, hm, xe]
       simp at h0 h1 h2
       simp
       try (split_ifs <;> first | rfl | omega | (congr 1 <;> omega))
       try (first | omega | (congr 1 <;> omega)))
  · have h0 : (y 0).val < 34 := (y 0).isLt
    have h1 : (y 1).val < 128 := (y 1).isLt
    have h2 : (y 2).val < 192 := (y 2).isLt
    simp only [evenPieces, List.exists_mem_cons_iff, List.not_mem_nil, false_and, exists_false, or_false,
      Rect.mem_set_unit, Fin.forall_fin_succ, IsEmpty.forall_iff, and_true]
    simp
    omega

/-- The buffer for the odd columns holds the widened rows for the odd columns. -/
theorem odd_apply (A : ℕ → ℕ → ℕ → EReal) (top bot : FVec Ideal S1x128x128 .f32) (main : FVec Ideal S32x128x128 .f32)
    (ht : ∀ y, top y = A 0 (y 1).val (y 2).val) (hb : ∀ y, bot y = A 33 (y 1).val (y 2).val)
    (hm : ∀ y, main y = A ((y 0).val + 1) (y 1).val (y 2).val) (y : S34x128x192.Idx) :
    View.canon (oddPieces top bot main) y = xo A (y 0).val (y 1).val (y 2).val := by
  refine View.canon_apply_of_pieces (Val := Elt Ideal) (e := .f32)
    (fun y => xo A (y 0).val (y 1).val (y 2).val) _ ?_ y ?_
  · simp only [oddPieces, List.forall_mem_cons, List.not_mem_nil, false_imp_iff, implies_true, and_true]
    refine ⟨?_, ?_, ?_, ?_, ?_, ?_, ?_, ?_, ?_, ?_⟩ <;> intro z <;>
      (have h0 : (z 0).val < _ := (z 0).isLt; have h1 : (z 1).val < _ := (z 1).isLt
       have h2 : (z 2).val < _ := (z 2).isLt
       pointwise [ev1, od1, ev32, od32]
       simp only [ValueKit.rect_emb_unit_val, ht, hb, hm, xo]
       simp at h0 h1 h2
       simp
       try (split_ifs <;> first | rfl | omega | (congr 1 <;> omega))
       try (first | omega | (congr 1 <;> omega)))
  · have h0 : (y 0).val < 34 := (y 0).isLt
    have h1 : (y 1).val < 128 := (y 1).isLt
    have h2 : (y 2).val < 192 := (y 2).isLt
    simp only [oddPieces, List.exists_mem_cons_iff, List.not_mem_nil, false_and, exists_false, or_false,
      Rect.mem_set_unit, Fin.forall_fin_succ, IsEmpty.forall_iff, and_true]
    simp
    omega

/-! ## The products -/

/-- Seven rows of products, at an index. -/
theorem mm7_apply (x : Vec Ideal S7x128x192 .f32) (w : Vec Ideal S192x256 .f32) (z : S7x128x256.Idx) :
    mm7 x w z = ∑ k : Fin 192, (x (ix3 (z 0) (z 1) k) : EReal) * w (ix2 k (z 2)) := by
  have h0 : (z 0).val < 7 := (z 0).isLt
  have h1 : (z 1).val < 128 := (z 1).isLt
  have h2 : (z 2).val < 256 := (z 2).isLt
  pointwise [mm7]

/-- Six rows of products, at an index. -/
theorem mm6_apply (x : Vec Ideal S6x128x192 .f32) (w : Vec Ideal S192x256 .f32) (z : S6x128x256.Idx) :
    mm6 x w z = ∑ k : Fin 192, (x (ix3 (z 0) (z 1) k) : EReal) * w (ix2 k (z 2)) := by
  have h0 : (z 0).val < 6 := (z 0).isLt
  have h1 : (z 1).val < 128 := (z 1).isLt
  have h2 : (z 2).val < 256 := (z 2).isLt
  pointwise [mm6]

/-- Seven rows read back from a buffer that holds `X`. -/
theorem take7_apply (m : Memref sig .tc .vmem S34x128x192 .f32) (L : List (View.Piece (Elt Ideal) S34x128x192 .f32))
    (X : ℕ → ℕ → ℕ → EReal) (hL : ∀ y, View.canon L y = X (y 0).val (y 1).val (y 2).val)
    (o : Fin 3 → ℕ) (h : ∀ a, o a + S7x128x192.size a ≤ S34x128x192.size a) (z : S7x128x192.Idx) :
    take7 m L o h z = X (o 0 + (z 0).val) (o 1 + (z 1).val) (o 2 + (z 2).val) := by
  have e := congrFun (View.readCov_eq_canon' m.view L (Rect.unit (s := S34x128x192) o S7x128x192.size h).toLoadRect) z
  exact e.trans ((hL _).trans (by simp only [Rect.idx_unit_val]))

/-- Six rows read back from a buffer that holds `X`. -/
theorem take6_apply (m : Memref sig .tc .vmem S34x128x192 .f32) (L : List (View.Piece (Elt Ideal) S34x128x192 .f32))
    (X : ℕ → ℕ → ℕ → EReal) (hL : ∀ y, View.canon L y = X (y 0).val (y 1).val (y 2).val)
    (o : Fin 3 → ℕ) (h : ∀ a, o a + S6x128x192.size a ≤ S34x128x192.size a) (z : S6x128x192.Idx) :
    take6 m L o h z = X (o 0 + (z 0).val) (o 1 + (z 1).val) (o 2 + (z 2).val) := by
  have e := congrFun (View.readCov_eq_canon' m.view L (Rect.unit (s := S34x128x192) o S6x128x192.size h).toLoadRect) z
  exact e.trans ((hL _).trans (by simp only [Rect.idx_unit_val]))

/-- Eight rows read back from a buffer of products that holds `Z`. -/
theorem take64_apply (m : Memref sig .tc .vmem S34x128x256 .f32) (L : List (View.Piece (Elt Ideal) S34x128x256 .f32))
    (Z : ℕ → ℕ → ℕ → EReal) (hL : ∀ y, View.canon L y = Z (y 0).val (y 1).val (y 2).val)
    (o : Fin 3 → ℕ) (h : ∀ a, o a + S8x128x64.size a ≤ S34x128x256.size a) (z : S8x128x64.Idx) :
    take64 m L o h z = Z (o 0 + (z 0).val) (o 1 + (z 1).val) (o 2 + (z 2).val) := by
  have e := congrFun (View.readCov_eq_canon' m.view L (Rect.unit (s := S34x128x256) o S8x128x64.size h).toLoadRect) z
  exact e.trans ((hL _).trans (by simp only [Rect.idx_unit_val]))

/-- A buffer of products holds the products of the widened rows with the packed filter. -/
theorem z_apply (m : Memref sig .tc .vmem S34x128x192 .f32) (L : List (View.Piece (Elt Ideal) S34x128x192 .f32))
    (w : Vec Ideal S192x256 .f32) (X : ℕ → ℕ → ℕ → EReal) (W : ℕ → ℕ → EReal)
    (hL : ∀ y, View.canon L y = X (y 0).val (y 1).val (y 2).val) (hw : ∀ y, w y = W (y 0).val (y 1).val)
    (y : S34x128x256.Idx) : View.canon (zPieces m L w) y = zz X W (y 0).val (y 1).val (y 2).val := by
  refine View.canon_apply_of_pieces (Val := Elt Ideal) (e := .f32)
    (fun y => zz X W (y 0).val (y 1).val (y 2).val) _ ?_ y ?_
  · simp only [zPieces, List.forall_mem_cons, List.not_mem_nil, false_imp_iff, implies_true, and_true]
    refine ⟨?_, ?_, ?_, ?_, ?_⟩ <;> intro z <;>
      (first | rw [mm7_apply] | rw [mm6_apply]
       simp only [ValueKit.rect_emb_unit_val, take7_apply m L X hL, take6_apply m L X hL, hw, zz]
       simp)
  · have h0 : (y 0).val < 34 := (y 0).isLt
    have h1 : (y 1).val < 128 := (y 1).isLt
    have h2 : (y 2).val < 256 := (y 2).isLt
    simp only [zPieces, List.exists_mem_cons_iff, List.not_mem_nil, false_and, exists_false, or_false,
      Rect.mem_set_unit, Fin.forall_fin_succ, IsEmpty.forall_iff, and_true]
    simp
    omega

/-! ## The results -/

/-- Eight rows of the result, at an index. -/
theorem join8_apply (a b c a' b' c' : Vec Ideal S8x128x64 .f32) (Z Z' : ℕ → ℕ → ℕ → EReal) (t : ℕ)
    (ha : ∀ z, a z = Z (t + (z 0).val) (z 1).val (z 2).val)
    (hb : ∀ z, b z = Z (t + (z 0).val + 1) (z 1).val (64 + (z 2).val))
    (hc : ∀ z, c z = Z (t + (z 0).val + 2) (z 1).val (128 + (z 2).val))
    (ha' : ∀ z, a' z = Z' (t + (z 0).val) (z 1).val (z 2).val)
    (hb' : ∀ z, b' z = Z' (t + (z 0).val + 1) (z 1).val (64 + (z 2).val))
    (hc' : ∀ z, c' z = Z' (t + (z 0).val + 2) (z 1).val (128 + (z 2).val)) (z : S8x128x128.Idx) :
    join8 a b c a' b' c' z
      = if (z 2).val < 64 then tap Z (t + (z 0).val) (z 1).val (z 2).val
        else tap Z' (t + (z 0).val) (z 1).val ((z 2).val - 64) := by
  have h0 : (z 0).val < 8 := (z 0).isLt
  have h1 : (z 1).val < 128 := (z 1).isLt
  have h2 : (z 2).val < 128 := (z 2).isLt
  pointwise [join8]
  by_cases h : (z 2).val < 64
  · rw [dif_pos h, if_pos h, ha, hb, hc]
    rfl
  · rw [dif_neg h, if_neg h, ha', hb', hc']
    rfl

section Rows

variable (m m' : Memref sig .tc .vmem S34x128x256 .f32) (L L' : List (View.Piece (Elt Ideal) S34x128x256 .f32))
  (A : ℕ → ℕ → ℕ → EReal) (W : ℕ → ℕ → EReal)
  (hL : ∀ y, View.canon L y = zz (xe A) W (y 0).val (y 1).val (y 2).val)
  (hL' : ∀ y, View.canon L' y = zz (xo A) W (y 0).val (y 1).val (y 2).val)

include hL hL'

/-- Rows 0 to 7 of the result, at an index. -/
theorem rows0_apply (z : S8x128x128.Idx) :
    rows0 m m' L L' z = conv A W (z 0).val (z 1).val (z 2).val := by
  unfold rows0 conv
  refine (join8_apply _ _ _ _ _ _ (zz (xe A) W) (zz (xo A) W) 0 ?_ ?_ ?_ ?_ ?_ ?_ z).trans (by simp only [Nat.zero_add]) <;> intro y <;>
    first
    | (rw [take64_apply m L _ hL]; simp; try (congr 1; omega))
    | (rw [take64_apply m' L' _ hL']; simp; try (congr 1; omega))

/-- Rows 8 to 15 of the result, at an index. -/
theorem rows8_apply (z : S8x128x128.Idx) :
    rows8 m m' L L' z = conv A W (8 + (z 0).val) (z 1).val (z 2).val := by
  unfold rows8 conv
  refine join8_apply _ _ _ _ _ _ (zz (xe A) W) (zz (xo A) W) 8 ?_ ?_ ?_ ?_ ?_ ?_ z <;> intro y <;>
    first
    | (rw [take64_apply m L _ hL]; simp; try (congr 1; omega))
    | (rw [take64_apply m' L' _ hL']; simp; try (congr 1; omega))

/-- Rows 16 to 23 of the result, at an index. -/
theorem rows16_apply (z : S8x128x128.Idx) :
    rows16 m m' L L' z = conv A W (16 + (z 0).val) (z 1).val (z 2).val := by
  unfold rows16 conv
  refine join8_apply _ _ _ _ _ _ (zz (xe A) W) (zz (xo A) W) 16 ?_ ?_ ?_ ?_ ?_ ?_ z <;> intro y <;>
    first
    | (rw [take64_apply m L _ hL]; simp; try (congr 1; omega))
    | (rw [take64_apply m' L' _ hL']; simp; try (congr 1; omega))

/-- Rows 24 to 31 of the result, at an index. -/
theorem rows24_apply (z : S8x128x128.Idx) :
    rows24 m m' L L' z = conv A W (24 + (z 0).val) (z 1).val (z 2).val := by
  unfold rows24 conv
  refine join8_apply _ _ _ _ _ _ (zz (xe A) W) (zz (xo A) W) 24 ?_ ?_ ?_ ?_ ?_ ?_ z <;> intro y <;>
    first
    | (rw [take64_apply m L _ hL]; simp; try (congr 1; omega))
    | (rw [take64_apply m' L' _ hL']; simp; try (congr 1; omega))

/-- The result block holds the convolution. -/
theorem out_apply (y : S32x128x128.Idx) :
    View.canon (outPieces m m' L L') y = conv A W (y 0).val (y 1).val (y 2).val := by
  refine View.canon_apply_of_pieces (Val := Elt Ideal) (e := .f32)
    (fun y => conv A W (y 0).val (y 1).val (y 2).val) _ ?_ y ?_
  · simp only [outPieces, List.forall_mem_cons, List.not_mem_nil, false_imp_iff, implies_true, and_true]
    refine ⟨fun z => ?_, fun z => ?_, fun z => ?_, fun z => ?_⟩
    · rw [rows24_apply m m' L L' A W hL hL']
      simp [ValueKit.rect_emb_unit_val]
    · rw [rows16_apply m m' L L' A W hL hL']
      simp [ValueKit.rect_emb_unit_val]
    · rw [rows8_apply m m' L L' A W hL hL']
      simp [ValueKit.rect_emb_unit_val]
    · rw [rows0_apply m m' L L' A W hL hL']
      simp [ValueKit.rect_emb_unit_val]
  · have h0 : (y 0).val < 32 := (y 0).isLt
    have h1 : (y 1).val < 128 := (y 1).isLt
    have h2 : (y 2).val < 128 := (y 2).isLt
    simp only [outPieces, List.exists_mem_cons_iff, List.not_mem_nil, false_and, exists_false, or_false,
      Rect.mem_set_unit, Fin.forall_fin_succ, IsEmpty.forall_iff, and_true]
    simp
    omega

end Rows

/-- The channel sum of eight rows. -/
theorem sum8_apply (v : FVec Ideal S8x128x128 .f32) (V : ℕ → ℕ → ℕ → EReal)
    (hv : ∀ z, v z = V (z 0).val (z 1).val (z 2).val) (l : Fin 128) :
    Ideal.reduceAdd reduces_S8x128x128_S128 v (ix1 l) = ∑ t : Fin 8, ∑ p : Fin 128, V t p l := by
  rw [reduceAdd_lead]
  simp only [hv]
  rfl

/-- The block of channel sums: row 0 the sums over the block's pixels, row 1 the sums of squares, zeros below. -/
theorem statBlock_apply (a b c d : FVec Ideal S8x128x128 .f32) (V : ℕ → ℕ → ℕ → EReal)
    (ha : ∀ z, a z = V (z 0).val (z 1).val (z 2).val) (hb : ∀ z, b z = V (8 + (z 0).val) (z 1).val (z 2).val)
    (hc : ∀ z, c z = V (16 + (z 0).val) (z 1).val (z 2).val) (hd : ∀ z, d z = V (24 + (z 0).val) (z 1).val (z 2).val)
    (y : S1x8x128.Idx) :
    statBlock a b c d y = if (y 1).val = 0 then ∑ t : Fin 32, ∑ p : Fin 128, V t p (y 2).val
      else if (y 1).val = 1 then ∑ t : Fin 32, ∑ p : Fin 128, V t p (y 2).val * V t p (y 2).val else 0 := by
  have h1 : (y 1).val < 8 := (y 1).isLt
  have h2 : (y 2).val < 128 := (y 2).isLt
  pointwise [statBlock, sum8]
  have e := fun (v : FVec Ideal S8x128x128 .f32) (V : ℕ → ℕ → ℕ → EReal)
    (hv : ∀ z, v z = V (z 0).val (z 1).val (z 2).val) => sum8_apply v V hv (y 2)
  have e' := fun (v : FVec Ideal S8x128x128 .f32) (V : ℕ → ℕ → ℕ → EReal)
    (hv : ∀ z, v z = V (z 0).val (z 1).val (z 2).val) => sum8_apply (mulf v v) (fun t p l => V t p l * V t p l)
      (fun z => (congrArg₂ (· * ·) (hv z) (hv z))) (y 2)
  rw [e a V ha, e b (fun t => V (8 + t)) hb, e c (fun t => V (16 + t)) hc, e d (fun t => V (24 + t)) hd,
    e' a V ha, e' b (fun t => V (8 + t)) hb, e' c (fun t => V (16 + t)) hc, e' d (fun t => V (24 + t)) hd]
  rw [sum_quarters fun t => ∑ p : Fin 128, V t p (y 2).val,
    sum_quarters fun t => ∑ p : Fin 128, V t p (y 2).val * V t p (y 2).val]
  by_cases h : (y 1).val = 0
  · rw [dif_pos (by omega), if_pos h]
  · rw [dif_neg (by omega), if_neg h]
    by_cases h' : (y 1).val = 1
    · rw [dif_pos (by omega), if_pos h']
    · rw [dif_neg (by omega), if_neg h']

end Cert.KernelIdeal.Val

end
-- ==== Proof.Stage.lean ====
/- One grid step of a 64-channel stage, whole: the result block is the convolution of the activated
   rows, the statistics block its channel sums. And the rows of a block with their neighbours above
   and below, which are zero beyond the image. -/
module

public import proofs.«01_k».proof.Proof.StageVal

@[expose] public section

set_option maxRecDepth 16384

noncomputable section

namespace Cert.KernelIdeal.Val

open Idealize.ShloMosaic Idealize.ShloMosaic.TcCoe Cert.KernelIdeal.Gen Cert.KernelIdeal

/-- Block `b` of an array of rows with one row above and one below, zero beyond the image. -/
def halo (X : ℕ → ℕ → ℕ → EReal) (b r p l : ℕ) : EReal :=
  if (r = 0 ∧ b % 8 = 0) ∨ (r = 33 ∧ b % 8 = 7) then 0 else X (32 * b + r - 1) p l

/-- The convolution of an array of rows, block by block. -/
def convAll (X : ℕ → ℕ → ℕ → EReal) (w : ℕ → ℕ → EReal) (g p l : ℕ) : EReal :=
  conv (halo X (g / 32)) w (g % 32) p l

/-- The channel sums of block `b` of `Y` (row 0) and of its square (row 1). -/
def statAll (Y : ℕ → ℕ → ℕ → EReal) (b i l : ℕ) : EReal :=
  if i = 0 then ∑ t : Fin 32, ∑ p : Fin 128, Y (32 * b + t) p l
  else if i = 1 then ∑ t : Fin 32, ∑ p : Fin 128, Y (32 * b + t) p l * Y (32 * b + t) p l else 0

/-- Scale, shift and celu. -/
def actv (C : ℕ → ℕ → ℕ → EReal) (sc sh : ℕ → EReal) (g p l : ℕ) : EReal := celu (C g p l * sc l + sh l)

section

variable (m9 m10 : Memref sig .tc .vmem S34x128x192 .f32) (m11 m12 : Memref sig .tc .vmem S34x128x256 .f32)
  (top bot : FVec Ideal S1x128x128 .f32) (main : FVec Ideal S32x128x128 .f32) (w : Vec Ideal S192x256 .f32)

/-- The stores into the result block of one grid step. -/
def stepOut : List (View.Piece (Elt Ideal) S32x128x128 .f32) :=
  outPieces m11 m12 (zPieces m9 (evenPieces top bot main) w) (zPieces m10 (oddPieces top bot main) w)

/-- The store into the statistics block of one grid step. -/
def stepStat : List (View.Piece (Elt Ideal) S1x8x128 .f32) :=
  statPieces m11 m12 (zPieces m9 (evenPieces top bot main) w) (zPieces m10 (oddPieces top bot main) w)

variable (X : ℕ → ℕ → ℕ → EReal) (W : ℕ → ℕ → EReal) (b : ℕ)
  (ht : ∀ y, top y = halo X b 0 (y 1).val (y 2).val) (hb : ∀ y, bot y = halo X b 33 (y 1).val (y 2).val)
  (hm : ∀ y, main y = X (32 * b + (y 0).val) (y 1).val (y 2).val) (hw : ∀ y, w y = W (y 0).val (y 1).val)

include ht hb hm hw

/-- The result block of one grid step is the convolution. -/
theorem stepOut_apply (y : S32x128x128.Idx) :
    View.canon (stepOut m9 m10 m11 m12 top bot main w) y = convAll X W (32 * b + (y 0).val) (y 1).val (y 2).val := by
  have h0 : (y 0).val < 32 := (y 0).isLt
  have hm' : ∀ y, main y = halo X b ((y 0).val + 1) (y 1).val (y 2).val := by
    intro y
    have h0 : (y 0).val < 32 := (y 0).isLt
    rw [hm, halo, if_neg (by omega)]
    rfl
  unfold stepOut convAll
  rw [show (32 * b + (y 0).val) / 32 = b by omega, show (32 * b + (y 0).val) % 32 = (y 0).val by omega]
  exact out_apply _ _ _ _ _ _ (z_apply _ _ _ _ _ (even_apply _ _ _ _ ht hb hm') hw)
    (z_apply _ _ _ _ _ (odd_apply _ _ _ _ ht hb hm') hw) y

/-- The statistics block of one grid step holds the channel sums. -/
theorem stepStat_apply (y : S1x8x128.Idx) :
    View.canon (stepStat m9 m10 m11 m12 top bot main w) y = statAll (convAll X W) b (y 1).val (y 2).val := by
  have hm' : ∀ y, main y = halo X b ((y 0).val + 1) (y 1).val (y 2).val := by
    intro y
    have h0 : (y 0).val < 32 := (y 0).isLt
    rw [hm, halo, if_neg (by omega)]
    rfl
  have hL := z_apply m9 _ _ _ _ (even_apply _ _ _ _ ht hb hm') hw
  have hL' := z_apply m10 _ _ _ _ (odd_apply _ _ _ _ ht hb hm') hw
  have hy := View.canon_apply_of_pieces (Val := Elt Ideal) (e := .f32)
    (fun y => statAll (convAll X W) b (y 1).val (y 2).val) (stepStat m9 m10 m11 m12 top bot main w) ?_ y ?_
  · exact hy
  · simp only [stepStat, statPieces, List.forall_mem_cons, List.not_mem_nil, false_imp_iff, implies_true, and_true]
    intro z
    refine (statBlock_apply _ _ _ _ _ (rows0_apply m11 m12 _ _ _ _ hL hL') (rows8_apply m11 m12 _ _ _ _ hL hL')
      (rows16_apply m11 m12 _ _ _ _ hL hL') (rows24_apply m11 m12 _ _ _ _ hL hL') z).trans ?_
    have e : ∀ t : Fin 32, ∀ p l, conv (halo X b) W t p l = convAll X W (32 * b + t) p l := by
      intro t p l
      unfold convAll
      rw [show (32 * b + t.val) / 32 = b by omega, show (32 * b + t.val) % 32 = t.val by omega]
    simp only [e, ValueKit.rect_emb_unit_val, statAll]
    simp
  · have h0 : (y 0).val < 1 := (y 0).isLt
    have h1 : (y 1).val < 8 := (y 1).isLt
    have h2 : (y 2).val < 128 := (y 2).isLt
    simp only [stepStat, statPieces, List.exists_mem_cons_iff, List.not_mem_nil, false_and, exists_false, or_false,
      Rect.mem_set_unit, Fin.forall_fin_succ, IsEmpty.forall_iff, and_true]
    simp
    omega

end

end Cert.KernelIdeal.Val

end
-- ==== Proof.StageStep.lean ====
/- One grid step of a 64-channel stage from the blocks that it loads: the activated rows, with and
   without the skip connection. -/
module

public import proofs.«01_k».proof.Proof.Stage

@[expose] public section

set_option maxRecDepth 16384

noncomputable section

namespace Cert.KernelIdeal.Val

open Idealize.ShloMosaic Idealize.ShloMosaic.TcCoe Cert.KernelIdeal.Gen Cert.KernelIdeal

/-- A block stored whole. -/
def wholePieces (v : FVec Ideal S32x128x128 .f32) : List (View.Piece (Elt Ideal) S32x128x128 .f32) :=
  [⟨Rect.unit ![0, 0, 0] S32x128x128.size inb_S32x128x128_S32x128x128_0_0_0, v⟩]

/-- A block stored whole is what the buffer then holds. -/
theorem wholePieces_apply (v : FVec Ideal S32x128x128 .f32) (X : ℕ → ℕ → ℕ → EReal)
    (hv : ∀ y, v y = X (y 0).val (y 1).val (y 2).val) (y : S32x128x128.Idx) :
    View.canon (wholePieces v) y = X (y 0).val (y 1).val (y 2).val := by
  refine View.canon_apply_of_pieces (Val := Elt Ideal) (e := .f32)
    (fun y => X (y 0).val (y 1).val (y 2).val) _ ?_ y ?_
  · simp only [wholePieces, List.forall_mem_cons, List.not_mem_nil, false_imp_iff, implies_true, and_true]
    intro z
    rw [hv]
    simp [ValueKit.rect_emb_unit_val]
  · have h0 : (y 0).val < 32 := (y 0).isLt
    have h1 : (y 1).val < 128 := (y 1).isLt
    have h2 : (y 2).val < 128 := (y 2).isLt
    simp only [wholePieces, List.exists_mem_cons_iff, List.not_mem_nil, false_and, exists_false, or_false,
      Rect.mem_set_unit, Fin.forall_fin_succ, IsEmpty.forall_iff, and_true]
    simp
    omega

variable (mS : Memref sig .tc .vmem S8x128 .f32) (hS : mS.IsWhole) (xS : Vec Ideal S8x128 .f32)
  (m m' : Memref sig .tc .vmem S32x128x128 .f32) (h : m.IsWhole) (h' : m'.IsWhole) (x x' : Vec Ideal S32x128x128 .f32)
  (n n' : Memref sig .tc .vmem S1x128x128 .f32) (k : n.IsWhole) (k' : n'.IsWhole) (u u' : Vec Ideal S1x128x128 .f32)
  (f : BitVec 1)

/-- The activated rows of a block. -/
def mainP : FVec Ideal S32x128x128 .f32 := act32 (loadSc mS hS xS) (loadSh mS hS xS) (load32 m h x)

/-- The activated row beyond a block. -/
def sideP : FVec Ideal S1x128x128 .f32 := edge f (act1 (loadSc mS hS xS) (loadSh mS hS xS) (load1 n k u))

/-- The activated rows of a block, with the skip connection. -/
def mainS : FVec Ideal S32x128x128 .f32 :=
  addf (mainP mS hS xS m h x) (shapeCast S32x128x128 (load32 m' h' x') shapeCasts_S32x128x128_S32x128x128)

/-- The activated row beyond a block, with the skip connection. -/
def sideS : FVec Ideal S1x128x128 .f32 :=
  edge f (addf (act1 (loadSc mS hS xS) (loadSh mS hS xS) (load1 n k u))
    (shapeCast S1x128x128 (load1 n' k' u') shapeCasts_S1x128x128_S1x128x128))

/-- Scale, shift, celu and the skip connection. -/
def actvS (C D : ℕ → ℕ → ℕ → EReal) (sc sh : ℕ → EReal) (g p l : ℕ) : EReal := actv C sc sh g p l + D g p l

/-- The row above a block, out of the activated rows. -/
theorem halo_top (X : ℕ → ℕ → ℕ → EReal) (b p l : ℕ) (v : EReal) (hf : f = 1#1 ↔ b % 8 = 0) (hv : v = X (32 * b - 1) p l) :
    (if f = 1#1 then 0 else v) = halo X b 0 p l := by
  unfold halo
  by_cases h0 : b % 8 = 0
  · rw [if_pos (hf.2 h0), if_pos (Or.inl ⟨rfl, h0⟩)]
  · rw [if_neg (fun e => h0 (hf.1 e)), if_neg (by omega), hv]
    rfl

/-- The row below a block, out of the activated rows. -/
theorem halo_bot (X : ℕ → ℕ → ℕ → EReal) (b p l : ℕ) (v : EReal) (hb : b < 64) (hf : f = 1#1 ↔ b % 8 = 7)
    (hv : v = X (min (32 * b + 32) 2047) p l) :
    (if f = 1#1 then 0 else v) = halo X b 33 p l := by
  unfold halo
  by_cases h0 : b % 8 = 7
  · rw [if_pos (hf.2 h0), if_pos (Or.inr ⟨rfl, h0⟩)]
  · rw [if_neg (fun e => h0 (hf.1 e)), if_neg (by omega), hv, show min (32 * b + 32) 2047 = 32 * b + 33 - 1 by omega]

variable (S : ℕ → ℕ → EReal) (hxS : ∀ y, xS y = S (y 0).val (y 1).val) (C D : ℕ → ℕ → ℕ → EReal)

include hxS

/-- The activated rows of a block, at an element. -/
theorem mainP_apply (o : ℕ) (hx : ∀ y, x y = C (o + (y 0).val) (y 1).val (y 2).val) (y : S32x128x128.Idx) :
    mainP mS hS xS m h x y = actv C (S 0) (S 1) (o + (y 0).val) (y 1).val (y 2).val := by
  unfold mainP
  rw [act32_apply, loadSc_apply, loadSh_apply, load32_eq, hx, hxS, hxS]
  rfl

/-- The activated rows of a block with the skip connection, at an element. -/
theorem mainS_apply (o : ℕ) (hx : ∀ y, x y = C (o + (y 0).val) (y 1).val (y 2).val)
    (hx' : ∀ y, x' y = D (o + (y 0).val) (y 1).val (y 2).val) (y : S32x128x128.Idx) :
    mainS mS hS xS m m' h h' x x' y = actvS C D (S 0) (S 1) (o + (y 0).val) (y 1).val (y 2).val := by
  unfold mainS actvS
  rw [← mainP_apply mS hS xS m h x S hxS C o hx, ← hx', load32_eq]
  pointwise

/-- The activated row beyond a block, at an element. -/
theorem sideP_apply (g : ℕ) (hu : ∀ y, u y = C g (y 1).val (y 2).val) (y : S1x128x128.Idx) :
    sideP mS hS xS n k u f y = if f = 1#1 then 0 else actv C (S 0) (S 1) g (y 1).val (y 2).val := by
  unfold sideP
  rw [edge_apply, act1_apply, loadSc_apply, loadSh_apply, load1_eq, hu, hxS, hxS]
  rfl

/-- The activated row beyond a block with the skip connection, at an element. -/
theorem sideS_apply (g : ℕ) (hu : ∀ y, u y = C g (y 1).val (y 2).val) (hu' : ∀ y, u' y = D g (y 1).val (y 2).val)
    (y : S1x128x128.Idx) :
    sideS mS hS xS n n' k k' u u' f y = if f = 1#1 then 0 else actvS C D (S 0) (S 1) g (y 1).val (y 2).val := by
  unfold sideS actvS
  rw [edge_apply]
  congr 1
  have e : act1 (loadSc mS hS xS) (loadSh mS hS xS) (load1 n k u) y = actv C (S 0) (S 1) g (y 1).val (y 2).val := by
    rw [act1_apply, loadSc_apply, loadSh_apply, load1_eq, hu, hxS, hxS]
    rfl
  rw [← e, ← hu', load1_eq n']
  pointwise

section

variable (m9 m10 : Memref sig .tc .vmem S34x128x192 .f32) (m11 m12 : Memref sig .tc .vmem S34x128x256 .f32)
  (q q' : Memref sig .tc .vmem S1x128x128 .f32) (hq : q.IsWhole) (hq' : q'.IsWhole) (r r' : Vec Ideal S1x128x128 .f32)
  (f' : BitVec 1) (mW : Memref sig .tc .vmem S192x256 .f32) (hW : mW.IsWhole) (xW : Vec Ideal S192x256 .f32)
  (W : ℕ → ℕ → EReal) (b : ℕ) (hxW : ∀ y, xW y = W (y 0).val (y 1).val)
  (hf : b < 64 ∧ (f = 1#1 ↔ b % 8 = 0) ∧ (f' = 1#1 ↔ b % 8 = 7))
  (hx : ∀ y, x y = C (32 * b + (y 0).val) (y 1).val (y 2).val)
  (hu : ∀ y, u y = C (32 * b - 1) (y 1).val (y 2).val)
  (hr : ∀ y, r y = C (min (32 * b + 32) 2047) (y 1).val (y 2).val)
  (hx' : ∀ y, x' y = D (32 * b + (y 0).val) (y 1).val (y 2).val)
  (hu' : ∀ y, u' y = D (32 * b - 1) (y 1).val (y 2).val)
  (hr' : ∀ y, r' y = D (min (32 * b + 32) 2047) (y 1).val (y 2).val)

include hxW hf hx hu hr

/-- A step without the skip connection: the result block is the convolution of the activated rows, the
    statistics block its channel sums. -/
theorem plain_step :
    (∀ y, View.canon (stepOut m9 m10 m11 m12 (sideP mS hS xS n k u f) (sideP mS hS xS q hq r f')
      (mainP mS hS xS m h x) (loadW mW hW xW)) y
        = convAll (actv C (S 0) (S 1)) W (32 * b + (y 0).val) (y 1).val (y 2).val)
    ∧ ∀ y, View.canon (stepStat m9 m10 m11 m12 (sideP mS hS xS n k u f) (sideP mS hS xS q hq r f')
      (mainP mS hS xS m h x) (loadW mW hW xW)) y
        = statAll (convAll (actv C (S 0) (S 1)) W) b (y 1).val (y 2).val := by
  have ht := fun y => (sideP_apply mS hS xS n k u f S hxS C _ hu y).trans (halo_top _ _ b _ _ _ hf.2.1 rfl)
  have hb := fun y => (sideP_apply mS hS xS q hq r f' S hxS C _ hr y).trans (halo_bot _ _ b _ _ _ hf.1 hf.2.2 rfl)
  have hm := mainP_apply mS hS xS m h x S hxS C _ hx
  have hw := fun y => (congrFun (loadW_eq mW hW xW) y).trans (hxW y)
  exact ⟨stepOut_apply _ _ _ _ _ _ _ _ _ W b ht hb hm hw, stepStat_apply _ _ _ _ _ _ _ _ _ W b ht hb hm hw⟩

include hx' hu' hr'

/-- The same with the skip connection. -/
theorem skip_step :
    (∀ y, View.canon (stepOut m9 m10 m11 m12 (sideS mS hS xS n n' k k' u u' f) (sideS mS hS xS q q' hq hq' r r' f')
      (mainS mS hS xS m m' h h' x x') (loadW mW hW xW)) y
        = convAll (actvS C D (S 0) (S 1)) W (32 * b + (y 0).val) (y 1).val (y 2).val)
    ∧ ∀ y, View.canon (stepStat m9 m10 m11 m12 (sideS mS hS xS n n' k k' u u' f) (sideS mS hS xS q q' hq hq' r r' f')
      (mainS mS hS xS m m' h h' x x') (loadW mW hW xW)) y
        = statAll (convAll (actvS C D (S 0) (S 1)) W) b (y 1).val (y 2).val := by
  have ht := fun y => (sideS_apply mS hS xS n n' k k' u u' f S hxS C D _ hu hu' y).trans
    (halo_top _ _ b _ _ _ hf.2.1 rfl)
  have hb := fun y => (sideS_apply mS hS xS q q' hq hq' r r' f' S hxS C D _ hr hr' y).trans
    (halo_bot _ _ b _ _ _ hf.1 hf.2.2 rfl)
  have hm := mainS_apply mS hS xS m m' h h' x x' S hxS C D _ hx hx'
  have hw := fun y => (congrFun (loadW_eq mW hW xW) y).trans (hxW y)
  exact ⟨stepOut_apply _ _ _ _ _ _ _ _ _ W b ht hb hm hw, stepStat_apply _ _ _ _ _ _ _ _ _ W b ht hb hm hw⟩

end

end Cert.KernelIdeal.Val

end
-- ==== Proof.FinalStep.lean ====
/- One grid step of the last stage: the convolution to three channels, bias, celu and the addition of the
   image, from the same buffers of products as the 64-channel stages. -/
module

public import proofs.«01_k».proof.Proof.StageStep

@[expose] public section

set_option maxRecDepth 16384

noncomputable section

namespace Cert.KernelIdeal.Val

open Idealize.ShloMosaic Idealize.ShloMosaic.TcCoe Cert.KernelIdeal.Gen Cert.KernelIdeal

/-- Three rows of eight fit in the buffer of products. -/
theorem fits3 (t k : ℕ) (ht : t ≤ 26) (hk : k ≤ 128) :
    ∀ a, (![t, 0, k] : Fin 3 → ℕ) a + S8x128x3.size a ≤ S34x128x256.size a := by
  intro a
  fin_cases a <;> simp <;> omega

/-- Eight rows fit in a block. -/
theorem fits6 (t : ℕ) (ht : t ≤ 24) : ∀ a, (![t, 0, 0] : Fin 3 → ℕ) a + S8x128x6.size a ≤ S32x128x6.size a := by
  intro a
  fin_cases a <;> simp
  omega

/-- Eight rows of three channels read from a buffer of products with the stores `L`. -/
def take3 (m : Memref sig .tc .vmem S34x128x256 .f32) (L : List (View.Piece (Elt Ideal) S34x128x256 .f32))
    (t k : ℕ) (ht : t ≤ 26) (hk : k ≤ 128) : Vec Ideal S8x128x3 .f32 :=
  m.view.readCov L (Rect.unit (s := S34x128x256) ![t, 0, k] S8x128x3.size (fits3 t k ht hk)).toLoadRect

/-- Row 2 of the scales and shifts: the bias. -/
def loadB (m : Memref sig .tc .vmem S8x128 .f32) (hm : m.IsWhole) (x : Vec Ideal S8x128 .f32) :
    Vec Ideal S1x128 .f32 :=
  View.readAt (Elt Ideal) m.view (Rect.unit (s := S8x128) ![2, 0] S1x128.size
    inb_S8x128_S1x128_2_0).toLoadRect (hm.unread x)

/-- Eight rows of the image. -/
def loadX (m : Memref sig .tc .vmem S32x128x6 .f32) (hm : m.IsWhole) (x : Vec Ideal S32x128x6 .f32) (t : ℕ)
    (ht : t ≤ 24) : Vec Ideal S8x128x6 .f32 :=
  View.readAt (Elt Ideal) m.view (Rect.unit (s := S32x128x6) ![t, 0, 0] S8x128x6.size
    (fits6 t ht)).toLoadRect (hm.unread x)

/-- The six channels before the activation. -/
def pre8 (a b c a' b' c' : Vec Ideal S8x128x3 .f32) (v : FVec Ideal S1x128 .f32) : FVec Ideal S8x128x6 .f32 :=
  addf (concatenate S8x128x6 2
      [⟨S8x128x3, addf (addf (a : FVec Ideal S8x128x3 .f32) b) c⟩,
        ⟨S8x128x3, addf (addf (a' : FVec Ideal S8x128x3 .f32) b') c'⟩]
      concatenates_S8x128x3_S8x128x3_S8x128x6_d2)
    (broadcastTo S8x128x6 (shapeCast S1x1x6 (extractStridedSlice S6 ![0] (shapeCast S128 v shapeCasts_S1x128_S128)
      slices_S128_o0_S6) shapeCasts_S6_S1x1x6) broadcasts_S1x1x6_S8x128x6)

/-- Celu, and the image. -/
def post8 (v x : FVec Ideal S8x128x6 .f32) : FVec Ideal S8x128x6 .f32 :=
  addf (maximumf v (subf (exp (minimumf v (broadcast S8x128x6 (Scalar.ofBits (F := Ideal) .f32 0x00000000#32))))
    (broadcast S8x128x6 (Scalar.ofBits (F := Ideal) .f32 0x3F800000#32))))
    (shapeCast S8x128x6 x shapeCasts_S8x128x6_S8x128x6)

section

variable (m m' : Memref sig .tc .vmem S34x128x256 .f32) (L L' : List (View.Piece (Elt Ideal) S34x128x256 .f32))
  (mS : Memref sig .tc .vmem S8x128 .f32) (hS : mS.IsWhole) (xS : Vec Ideal S8x128 .f32)
  (mX : Memref sig .tc .vmem S32x128x6 .f32) (hX : mX.IsWhole) (x : Vec Ideal S32x128x6 .f32)

/-- Eight rows of the result. -/
def fin8 (t : ℕ) (ht : t ≤ 24) : FVec Ideal S8x128x6 .f32 :=
  post8 (pre8 (take3 m L t 0 (by omega) (by omega)) (take3 m L (t + 1) 64 (by omega) (by omega))
    (take3 m L (t + 2) 128 (by omega) (by omega)) (take3 m' L' t 0 (by omega) (by omega))
    (take3 m' L' (t + 1) 64 (by omega) (by omega)) (take3 m' L' (t + 2) 128 (by omega) (by omega)) (loadB mS hS xS))
    (loadX mX hX x t ht)

/-- The stores into the result block, last store first. -/
def finPieces : List (View.Piece (Elt Ideal) S32x128x6 .f32) :=
  [⟨Rect.unit ![24, 0, 0] S8x128x6.size inb_S32x128x6_S8x128x6_24_0_0, fin8 m m' L L' mS hS xS mX hX x 24 (by omega)⟩,
    ⟨Rect.unit ![16, 0, 0] S8x128x6.size inb_S32x128x6_S8x128x6_16_0_0, fin8 m m' L L' mS hS xS mX hX x 16 (by omega)⟩,
    ⟨Rect.unit ![8, 0, 0] S8x128x6.size inb_S32x128x6_S8x128x6_8_0_0, fin8 m m' L L' mS hS xS mX hX x 8 (by omega)⟩,
    ⟨Rect.unit ![0, 0, 0] S8x128x6.size inb_S32x128x6_S8x128x6_0_0_0, fin8 m m' L L' mS hS xS mX hX x 0 (by omega)⟩]

/-- The convolution to three channels: even columns in the first three lanes, odd columns in the last. -/
def conv3 (A : ℕ → ℕ → ℕ → EReal) (w : ℕ → ℕ → EReal) (t p l : ℕ) : EReal :=
  if l < 3 then tap (zz (xe A) w) t p l else tap (zz (xo A) w) t p (l - 3)

/-- The convolution to three channels of an array of rows, block by block. -/
def convAll3 (X : ℕ → ℕ → ℕ → EReal) (w : ℕ → ℕ → EReal) (g p l : ℕ) : EReal :=
  conv3 (halo X (g / 32)) w (g % 32) p l

/-- The result of the last stage. -/
def finAll (X : ℕ → ℕ → ℕ → EReal) (w : ℕ → ℕ → EReal) (B : ℕ → EReal) (I : ℕ → ℕ → ℕ → EReal) (g p l : ℕ) : EReal :=
  celu (convAll3 X w g p l + B l) + I g p l

variable (Z Z' : ℕ → ℕ → ℕ → EReal)
  (hL : ∀ y, View.canon L y = Z (y 0).val (y 1).val (y 2).val)
  (hL' : ∀ y, View.canon L' y = Z' (y 0).val (y 1).val (y 2).val)
  (S : ℕ → ℕ → EReal) (hxS : ∀ y, xS y = S (y 0).val (y 1).val)
  (I : ℕ → ℕ → ℕ → EReal) (hx : ∀ y, x y = I (y 0).val (y 1).val (y 2).val)

omit hL hL' hxS hx in
/-- Eight result rows at an index: celu, then the image added. -/
theorem post8_apply (v x : FVec Ideal S8x128x6 .f32) (z : S8x128x6.Idx) : post8 v x z = celu (v z) + x z := by
  pointwise [post8, celu]

omit hL' hxS hx in
include hL in
/-- Eight rows of a three-channel part of the products, at an index. -/
theorem take3_apply (t k : ℕ) (ht : t ≤ 26) (hk : k ≤ 128) (z : S8x128x3.Idx) :
    take3 m L t k ht hk z = Z (t + (z 0).val) (z 1).val (k + (z 2).val) := by
  have e := congrFun (View.readCov_eq_canon' m.view L
    (Rect.unit (s := S34x128x256) ![t, 0, k] S8x128x3.size (fits3 t k ht hk)).toLoadRect) z
  exact e.trans ((hL _).trans (by simp [Rect.idx_unit_val]))

omit hL hL' hx in
include hxS in
/-- The loaded bias at an index. -/
theorem loadB_apply (y : S1x128.Idx) : loadB mS hS xS y = S 2 (y 1).val := by
  unfold loadB
  rw [View.readAt_eq_ld, hS.read_unread]
  refine (hxS _).trans ?_
  have h0 : (y 0).val < 1 := (y 0).isLt
  simp [Rect.toLoadRect, LoadRect.idx, Rect.emb]

omit hL hL' hxS in
include hx in
/-- Eight loaded image rows at an index. -/
theorem loadX_apply (t : ℕ) (ht : t ≤ 24) (y : S8x128x6.Idx) :
    loadX mX hX x t ht y = I (t + (y 0).val) (y 1).val (y 2).val := by
  unfold loadX
  rw [View.readAt_eq_ld, hX.read_unread]
  refine (hx _).trans ?_
  simp [Rect.toLoadRect, LoadRect.idx, Rect.emb]

omit hL hL' hxS hx in
/-- Eight rows before celu at an index: the three row taps, even or odd column, and the bias. -/
theorem pre8_apply (a b c a' b' c' : Vec Ideal S8x128x3 .f32) (v : FVec Ideal S1x128 .f32) (t : ℕ) (B : ℕ → EReal)
    (ha : ∀ z, a z = Z (t + (z 0).val) (z 1).val (z 2).val)
    (hb : ∀ z, b z = Z (t + (z 0).val + 1) (z 1).val (64 + (z 2).val))
    (hc : ∀ z, c z = Z (t + (z 0).val + 2) (z 1).val (128 + (z 2).val))
    (ha' : ∀ z, a' z = Z' (t + (z 0).val) (z 1).val (z 2).val)
    (hb' : ∀ z, b' z = Z' (t + (z 0).val + 1) (z 1).val (64 + (z 2).val))
    (hc' : ∀ z, c' z = Z' (t + (z 0).val + 2) (z 1).val (128 + (z 2).val))
    (hv : ∀ y, v y = B (y 1).val) (z : S8x128x6.Idx) :
    pre8 a b c a' b' c' v z = (if (z 2).val < 3 then tap Z (t + (z 0).val) (z 1).val (z 2).val
        else tap Z' (t + (z 0).val) (z 1).val ((z 2).val - 3)) + B (z 2).val := by
  have h0 : (z 0).val < 8 := (z 0).isLt
  have h1 : (z 1).val < 128 := (z 1).isLt
  have h2 : (z 2).val < 6 := (z 2).isLt
  pointwise [pre8]
  rw [hv]
  by_cases h : (z 2).val < 3
  · rw [dif_pos h, if_pos h, ha, hb, hc]
    rfl
  · rw [dif_neg h, if_neg h, ha', hb', hc']
    rfl

include hL hL' hxS hx

/-- Eight result rows of the last stage at an index. -/
theorem fin8_apply (t : ℕ) (ht : t ≤ 24) (z : S8x128x6.Idx) : fin8 m m' L L' mS hS xS mX hX x t ht z
    = celu ((if (z 2).val < 3 then tap Z (t + (z 0).val) (z 1).val (z 2).val
        else tap Z' (t + (z 0).val) (z 1).val ((z 2).val - 3)) + S 2 (z 2).val) + I (t + (z 0).val) (z 1).val (z 2).val := by
  unfold fin8
  have e := fun (m : Memref sig .tc .vmem S34x128x256 .f32) L Z hL i k ht hk (z : S8x128x3.Idx) =>
    (take3_apply m L Z hL (t + i) k ht hk z).trans
      (by rw [Nat.add_right_comm] : _ = Z (t + (z 0).val + i) (z 1).val (k + (z 2).val))
  have e0 := fun (m : Memref sig .tc .vmem S34x128x256 .f32) L Z hL ht hk (z : S8x128x3.Idx) =>
    (take3_apply m L Z hL t 0 ht hk z).trans
      (by rw [Nat.zero_add] : _ = Z (t + (z 0).val) (z 1).val (z 2).val)
  rw [post8_apply, loadX_apply mX hX x I hx,
    pre8_apply Z Z' _ _ _ _ _ _ _ t (S 2) (e0 m L Z hL _ _) (e m L Z hL 1 64 _ _)
      (e m L Z hL 2 128 _ _) (e0 m' L' Z' hL' _ _) (e m' L' Z' hL' 1 64 _ _)
      (e m' L' Z' hL' 2 128 _ _) (loadB_apply mS hS xS S hxS)]

/-- The result block of the last stage at an index. -/
theorem fin_apply (y : S32x128x6.Idx) : View.canon (finPieces m m' L L' mS hS xS mX hX x) y
    = celu ((if (y 2).val < 3 then tap Z (y 0).val (y 1).val (y 2).val
        else tap Z' (y 0).val (y 1).val ((y 2).val - 3)) + S 2 (y 2).val) + I (y 0).val (y 1).val (y 2).val := by
  refine View.canon_apply_of_pieces (Val := Elt Ideal) (e := .f32)
    (fun y => celu ((if (y 2).val < 3 then tap Z (y 0).val (y 1).val (y 2).val
        else tap Z' (y 0).val (y 1).val ((y 2).val - 3)) + S 2 (y 2).val) + I (y 0).val (y 1).val (y 2).val) _ ?_ y ?_
  · simp only [finPieces, List.forall_mem_cons, List.not_mem_nil, false_imp_iff, implies_true, and_true]
    refine ⟨fun z => ?_, fun z => ?_, fun z => ?_, fun z => ?_⟩ <;>
      (rw [fin8_apply m m' L L' mS hS xS mX hX x Z Z' hL hL' S hxS I hx]; simp [ValueKit.rect_emb_unit_val])
  · have h0 : (y 0).val < 32 := (y 0).isLt
    have h1 : (y 1).val < 128 := (y 1).isLt
    have h2 : (y 2).val < 6 := (y 2).isLt
    simp only [finPieces, List.exists_mem_cons_iff, List.not_mem_nil, false_and, exists_false, or_false,
      Rect.mem_set_unit, Fin.forall_fin_succ, IsEmpty.forall_iff, and_true]
    simp
    omega

end

section

variable (m9 m10 : Memref sig .tc .vmem S34x128x192 .f32) (m11 m12 : Memref sig .tc .vmem S34x128x256 .f32)
  (top bot : FVec Ideal S1x128x128 .f32) (main : FVec Ideal S32x128x128 .f32) (w : Vec Ideal S192x256 .f32)
  (mS : Memref sig .tc .vmem S8x128 .f32) (hS : mS.IsWhole) (xS : Vec Ideal S8x128 .f32)
  (mX : Memref sig .tc .vmem S32x128x6 .f32) (hX : mX.IsWhole) (x : Vec Ideal S32x128x6 .f32)

/-- The stores into the result block of one grid step. -/
def stepFin : List (View.Piece (Elt Ideal) S32x128x6 .f32) :=
  finPieces m11 m12 (zPieces m9 (evenPieces top bot main) w) (zPieces m10 (oddPieces top bot main) w) mS hS xS mX hX x

variable (X : ℕ → ℕ → ℕ → EReal) (W : ℕ → ℕ → EReal) (b : ℕ)
  (ht : ∀ y, top y = halo X b 0 (y 1).val (y 2).val) (hb : ∀ y, bot y = halo X b 33 (y 1).val (y 2).val)
  (hm : ∀ y, main y = X (32 * b + (y 0).val) (y 1).val (y 2).val) (hw : ∀ y, w y = W (y 0).val (y 1).val)
  (S : ℕ → ℕ → EReal) (hxS : ∀ y, xS y = S (y 0).val (y 1).val)
  (I : ℕ → ℕ → ℕ → EReal) (hx : ∀ y, x y = I (32 * b + (y 0).val) (y 1).val (y 2).val)

include ht hb hm hw hxS hx

/-- The result block of one grid step of the last stage. -/
theorem stepFin_apply (y : S32x128x6.Idx) :
    View.canon (stepFin m9 m10 m11 m12 top bot main w mS hS xS mX hX x) y
      = finAll X W (S 2) I (32 * b + (y 0).val) (y 1).val (y 2).val := by
  have h0 : (y 0).val < 32 := (y 0).isLt
  have hm' : ∀ y, main y = halo X b ((y 0).val + 1) (y 1).val (y 2).val := by
    intro y
    have h0 : (y 0).val < 32 := (y 0).isLt
    rw [hm, halo, if_neg (by omega)]
    rfl
  unfold stepFin finAll convAll3 conv3
  rw [show (32 * b + (y 0).val) / 32 = b by omega, show (32 * b + (y 0).val) % 32 = (y 0).val by omega]
  exact fin_apply _ _ _ _ _ _ _ _ _ _ _ _ (z_apply _ _ _ _ _ (even_apply _ _ _ _ ht hb hm') hw)
    (z_apply _ _ _ _ _ (odd_apply _ _ _ _ ht hb hm') hw) S hxS (fun r => I (32 * b + r)) hx y

end

end Cert.KernelIdeal.Val

end
-- ==== Proof.FirstStep.lean ====
/- One grid step of the first stage: the image rows and their instance-normalised copy, the widened rows
   of the three filter rows, the products, the result block and the channel sums. -/
module

public import proofs.«01_k».proof.Proof.StageStep

@[expose] public section

set_option maxRecDepth 16384

noncomputable section

namespace Cert.KernelIdeal.Val

open Idealize.ShloMosaic Idealize.ShloMosaic.TcCoe Cert.KernelIdeal.Gen Cert.KernelIdeal

/-! ## The stores and loads -/

/-- Image rows loaded whole, 32 of them. -/
def img32 (m : Memref sig .tc .vmem S32x128x6 .f32) (hm : m.IsWhole) (x : Vec Ideal S32x128x6 .f32) :
    Vec Ideal S32x128x6 .f32 :=
  View.readAt (Elt Ideal) m.view (Rect.unit (s := S32x128x6) ![0, 0, 0] S32x128x6.size
    inb_S32x128x6_S32x128x6_0_0_0).toLoadRect (hm.unread x)

/-- One image row loaded whole. -/
def img1 (m : Memref sig .tc .vmem S1x128x6 .f32) (hm : m.IsWhole) (x : Vec Ideal S1x128x6 .f32) :
    Vec Ideal S1x128x6 .f32 :=
  View.readAt (Elt Ideal) m.view (Rect.unit (s := S1x128x6) ![0, 0, 0] S1x128x6.size
    inb_S1x128x6_S1x128x6_0_0_0).toLoadRect (hm.unread x)

/-- The first filter loaded whole. -/
def loadW1 (m : Memref sig .tc .vmem S54x64 .f32) (hm : m.IsWhole) (x : Vec Ideal S54x64 .f32) :
    Vec Ideal S54x64 .f32 :=
  View.readAt (Elt Ideal) m.view (Rect.unit (s := S54x64) ![0, 0] S54x64.size
    inb_S54x64_S54x64_0_0).toLoadRect (hm.unread x)

/-- The means and inverse deviations of one image. -/
def loadT (m : Memref sig .tc .vmem S8x8x8 .f32) (hm : m.IsWhole) (x : Vec Ideal S8x8x8 .f32) (o : Fin 3 → ℕ)
    (h : ∀ a, o a + S1x8x8.size a ≤ S8x8x8.size a) : Vec Ideal S1x8x8 .f32 :=
  View.readAt (Elt Ideal) m.view (Rect.unit (s := S8x8x8) o S1x8x8.size h).toLoadRect (hm.unread x)

/-- The means, twice. -/
def mean6 (T : FVec Ideal S1x8x8 .f32) : FVec Ideal S6 .f32 :=
  concatenate S6 0 [⟨S3, shapeCast S3 (extractStridedSlice S1x3 ![0, 0] (shapeCast S8x8 T shapeCasts_S1x8x8_S8x8)
      slices_S8x8_o0_0_S1x3) shapeCasts_S1x3_S3⟩,
    ⟨S3, shapeCast S3 (extractStridedSlice S1x3 ![0, 0] (shapeCast S8x8 T shapeCasts_S1x8x8_S8x8)
      slices_S8x8_o0_0_S1x3) shapeCasts_S1x3_S3⟩] concatenates_S3_S3_S6_d0

/-- The inverse deviations, twice. -/
def inv6 (T : FVec Ideal S1x8x8 .f32) : FVec Ideal S6 .f32 :=
  concatenate S6 0 [⟨S3, shapeCast S3 (extractStridedSlice S1x3 ![1, 0] (shapeCast S8x8 T shapeCasts_S1x8x8_S8x8)
      slices_S8x8_o1_0_S1x3) shapeCasts_S1x3_S3⟩,
    ⟨S3, shapeCast S3 (extractStridedSlice S1x3 ![1, 0] (shapeCast S8x8 T shapeCasts_S1x8x8_S8x8)
      slices_S8x8_o1_0_S1x3) shapeCasts_S1x3_S3⟩] concatenates_S3_S3_S6_d0

/-- The normalised copy of 32 image rows. -/
def norm32 (T : FVec Ideal S1x8x8 .f32) (v : FVec Ideal S32x128x6 .f32) : FVec Ideal S32x128x6 .f32 :=
  mulf (subf v (broadcastTo S32x128x6 (shapeCast S1x1x6 (mean6 T) shapeCasts_S6_S1x1x6) broadcasts_S1x1x6_S32x128x6))
    (broadcastTo S32x128x6 (shapeCast S1x1x6 (inv6 T) shapeCasts_S6_S1x1x6) broadcasts_S1x1x6_S32x128x6)

/-- The normalised copy of one image row. -/
def norm1 (T : FVec Ideal S1x8x8 .f32) (v : FVec Ideal S1x128x6 .f32) : FVec Ideal S1x128x6 .f32 :=
  mulf (subf v (broadcastTo S1x128x6 (shapeCast S1x1x6 (mean6 T) shapeCasts_S6_S1x1x6) broadcasts_S1x1x6_S1x128x6))
    (broadcastTo S1x128x6 (shapeCast S1x1x6 (inv6 T) shapeCasts_S6_S1x1x6) broadcasts_S1x1x6_S1x128x6)

/-- Two arrays of 32 rows, the even and the odd columns of both side by side. -/
def weave32 (v n : FVec Ideal S32x128x6 .f32) : FVec Ideal S32x128x12 .f32 :=
  concatenate S32x128x12 2
    [⟨S32x128x3, extractStridedSlice S32x128x3 ![0, 0, 0] v slices_S32x128x6_o0_0_0_S32x128x3⟩,
      ⟨S32x128x3, extractStridedSlice S32x128x3 ![0, 0, 0] n slices_S32x128x6_o0_0_0_S32x128x3⟩,
      ⟨S32x128x3, extractStridedSlice S32x128x3 ![0, 0, 3] v slices_S32x128x6_o0_0_3_S32x128x3⟩,
      ⟨S32x128x3, extractStridedSlice S32x128x3 ![0, 0, 3] n slices_S32x128x6_o0_0_3_S32x128x3⟩]
    concatenates_S32x128x3_S32x128x3_S32x128x3_S32x128x3_S32x128x12_d2

/-- The same of one row. -/
def weave1 (v n : FVec Ideal S1x128x6 .f32) : FVec Ideal S1x128x12 .f32 :=
  concatenate S1x128x12 2
    [⟨S1x128x3, extractStridedSlice S1x128x3 ![0, 0, 0] v slices_S1x128x6_o0_0_0_S1x128x3⟩,
      ⟨S1x128x3, extractStridedSlice S1x128x3 ![0, 0, 0] n slices_S1x128x6_o0_0_0_S1x128x3⟩,
      ⟨S1x128x3, extractStridedSlice S1x128x3 ![0, 0, 3] v slices_S1x128x6_o0_0_3_S1x128x3⟩,
      ⟨S1x128x3, extractStridedSlice S1x128x3 ![0, 0, 3] n slices_S1x128x6_o0_0_3_S1x128x3⟩]
    concatenates_S1x128x3_S1x128x3_S1x128x3_S1x128x3_S1x128x12_d2

/-- The rows of a block, ready for the first convolution. -/
def first32 (T : FVec Ideal S1x8x8 .f32) (v : FVec Ideal S32x128x6 .f32) : FVec Ideal S32x128x12 .f32 :=
  weave32 (shapeCast S32x128x6 v shapeCasts_S32x128x6_S32x128x6)
    (norm32 T (shapeCast S32x128x6 v shapeCasts_S32x128x6_S32x128x6))

/-- A row beyond a block, ready for the first convolution. -/
def first1 (f : BitVec 1) (T : FVec Ideal S1x8x8 .f32) (v : FVec Ideal S1x128x6 .f32) : FVec Ideal S1x128x12 .f32 :=
  Scalar.select f (broadcast S1x128x12 (Scalar.ofBits (F := Ideal) .f32 0x00000000#32))
    (weave1 (shapeCast S1x128x6 v shapeCasts_S1x128x6_S1x128x6)
      (norm1 T (shapeCast S1x128x6 v shapeCasts_S1x128x6_S1x128x6)))

/-- What is stored into the buffer of rows, last store first. -/
def rowPieces (top bot : FVec Ideal S1x128x12 .f32) (main : FVec Ideal S32x128x12 .f32) :
    List (View.Piece (Elt Ideal) S34x128x12 .f32) :=
  [⟨Rect.unit ![33, 0, 0] S1x128x12.size inb_S34x128x12_S1x128x12_33_0_0,
      shapeCast S1x128x12 bot shapeCasts_S1x128x12_S1x128x12⟩,
    ⟨Rect.unit ![1, 0, 0] S32x128x12.size inb_S34x128x12_S32x128x12_1_0_0,
      shapeCast S32x128x12 main shapeCasts_S32x128x12_S32x128x12⟩,
    ⟨Rect.unit ![0, 0, 0] S1x128x12.size inb_S34x128x12_S1x128x12_0_0_0,
      shapeCast S1x128x12 top shapeCasts_S1x128x12_S1x128x12⟩]

/-- 32 rows fit, from the first, second or third on. -/
theorem fits12 (r : ℕ) (hr : r ≤ 2) : ∀ a, (![r, 0, 0] : Fin 3 → ℕ) a + S32x128x12.size a ≤ S34x128x12.size a := by
  intro a
  fin_cases a <;> simp
  omega

/-- A band of six lanes fits. -/
theorem fitsA (k : ℕ) (hk : k ≤ 48) : ∀ a, (![0, 0, k] : Fin 3 → ℕ) a + S32x128x6.size a ≤ S32x128x54.size a := by
  intro a
  fin_cases a <;> simp
  omega

/-- A band of six lanes and 127 columns fits. -/
theorem fitsB (p k : ℕ) (hp : p ≤ 1) (hk : k ≤ 48) :
    ∀ a, (![0, p, k] : Fin 3 → ℕ) a + S32x127x6.size a ≤ S32x128x54.size a := by
  intro a
  fin_cases a <;> simp <;> omega

/-- A band of six lanes and one column fits. -/
theorem fitsC (p k : ℕ) (hp : p ≤ 127) (hk : k ≤ 48) :
    ∀ a, (![0, p, k] : Fin 3 → ℕ) a + S32x1x6.size a ≤ S32x128x54.size a := by
  intro a
  fin_cases a <;> simp <;> omega

/-- Eight rows fit. -/
theorem fitsD (t : ℕ) (ht : t ≤ 24) : ∀ a, (![t, 0, 0] : Fin 3 → ℕ) a + S8x128x54.size a ≤ S32x128x54.size a := by
  intro a
  fin_cases a <;> simp
  omega

/-- 32 rows read back from the buffer of rows. -/
def take12 (m : Memref sig .tc .vmem S34x128x12 .f32) (L : List (View.Piece (Elt Ideal) S34x128x12 .f32))
    (r : ℕ) (hr : r ≤ 2) : Vec Ideal S32x128x12 .f32 :=
  m.view.readCov L (Rect.unit (s := S34x128x12) ![r, 0, 0] S32x128x12.size (fits12 r hr)).toLoadRect

/-- The even columns of 32 rows. -/
def e6 (v : FVec Ideal S32x128x12 .f32) : FVec Ideal S32x128x6 .f32 :=
  extractStridedSlice S32x128x6 ![0, 0, 0] v slices_S32x128x12_o0_0_0_S32x128x6
/-- The odd columns of 32 rows. -/
def o6 (v : FVec Ideal S32x128x12 .f32) : FVec Ideal S32x128x6 .f32 :=
  extractStridedSlice S32x128x6 ![0, 0, 6] v slices_S32x128x12_o0_0_6_S32x128x6

/-- The column of zeros beside the image. -/
def zero6 : FVec Ideal S32x1x6 .f32 :=
  shapeCast S32x1x6 (broadcast S32x1x6 (Scalar.ofBits (F := Ideal) .f32 0x00000000#32)) shapeCasts_S32x1x6_S32x1x6

/-- The stores of one filter row into the widened rows for the even columns. -/
def bandE (v : FVec Ideal S32x128x12 .f32) (k : ℕ) (hk : k ≤ 36) : List (View.Piece (Elt Ideal) S32x128x54 .f32) :=
  [⟨Rect.unit ![0, 0, k + 12] S32x128x6.size (fitsA (k + 12) (by omega)),
      shapeCast S32x128x6 (o6 v) shapeCasts_S32x128x6_S32x128x6⟩,
    ⟨Rect.unit ![0, 0, k + 6] S32x128x6.size (fitsA (k + 6) (by omega)),
      shapeCast S32x128x6 (e6 v) shapeCasts_S32x128x6_S32x128x6⟩,
    ⟨Rect.unit ![0, 0, k] S32x1x6.size (fitsC 0 k (by omega) (by omega)), zero6⟩,
    ⟨Rect.unit ![0, 1, k] S32x127x6.size (fitsB 1 k (by omega) (by omega)),
      shapeCast S32x127x6 (extractStridedSlice S32x127x6 ![0, 0, 0] (o6 v) slices_S32x128x6_o0_0_0_S32x127x6)
        shapeCasts_S32x127x6_S32x127x6⟩]

/-- The stores of one filter row into the widened rows for the odd columns. -/
def bandO (v : FVec Ideal S32x128x12 .f32) (k : ℕ) (hk : k ≤ 36) : List (View.Piece (Elt Ideal) S32x128x54 .f32) :=
  [⟨Rect.unit ![0, 127, k + 12] S32x1x6.size (fitsC 127 (k + 12) (by omega) (by omega)), zero6⟩,
    ⟨Rect.unit ![0, 0, k + 12] S32x127x6.size (fitsB 0 (k + 12) (by omega) (by omega)),
      shapeCast S32x127x6 (extractStridedSlice S32x127x6 ![0, 1, 0] (e6 v) slices_S32x128x6_o0_1_0_S32x127x6)
        shapeCasts_S32x127x6_S32x127x6⟩,
    ⟨Rect.unit ![0, 0, k + 6] S32x128x6.size (fitsA (k + 6) (by omega)),
      shapeCast S32x128x6 (o6 v) shapeCasts_S32x128x6_S32x128x6⟩,
    ⟨Rect.unit ![0, 0, k] S32x128x6.size (fitsA k (by omega)),
      shapeCast S32x128x6 (e6 v) shapeCasts_S32x128x6_S32x128x6⟩]

/-- All stores into the widened rows for the even columns, last store first. -/
def wideE (m : Memref sig .tc .vmem S34x128x12 .f32) (L : List (View.Piece (Elt Ideal) S34x128x12 .f32)) :
    List (View.Piece (Elt Ideal) S32x128x54 .f32) :=
  bandE (take12 m L 2 (by omega)) 36 (by omega) ++ (bandE (take12 m L 1 (by omega)) 18 (by omega)
    ++ bandE (take12 m L 0 (by omega)) 0 (by omega))

/-- All stores into the widened rows for the odd columns, last store first. -/
def wideO (m : Memref sig .tc .vmem S34x128x12 .f32) (L : List (View.Piece (Elt Ideal) S34x128x12 .f32)) :
    List (View.Piece (Elt Ideal) S32x128x54 .f32) :=
  bandO (take12 m L 2 (by omega)) 36 (by omega) ++ (bandO (take12 m L 1 (by omega)) 18 (by omega)
    ++ bandO (take12 m L 0 (by omega)) 0 (by omega))

/-- Eight widened rows read back. -/
def take54 (m : Memref sig .tc .vmem S32x128x54 .f32) (L : List (View.Piece (Elt Ideal) S32x128x54 .f32))
    (t : ℕ) (ht : t ≤ 24) : Vec Ideal S8x128x54 .f32 :=
  m.view.readCov L (Rect.unit (s := S32x128x54) ![t, 0, 0] S8x128x54.size (fitsD t ht)).toLoadRect

/-- Eight widened rows times the first filter. -/
def mm54 (x : Vec Ideal S8x128x54 .f32) (w : Vec Ideal S54x64 .f32) : FVec Ideal S8x128x64 .f32 :=
  shapeCast S8x128x64 (matmul dot_S1024x54_S54x64_S1024x64_1_0_0_1_n_n none
    (shapeCast S1024x54 (x : FVec Ideal S8x128x54 .f32) shapeCasts_S8x128x54_S1024x54 : FVec Ideal S1024x54 .f32)
    (shapeCast S54x64 (w : FVec Ideal S54x64 .f32) shapeCasts_S54x64_S54x64 : FVec Ideal S54x64 .f32)
    (constant S1024x64 .f32 0x00000000#32)) shapeCasts_S1024x64_S8x128x64

/-- Eight rows of the result. -/
def first8 (m m' : Memref sig .tc .vmem S32x128x54 .f32) (L L' : List (View.Piece (Elt Ideal) S32x128x54 .f32))
    (w : Vec Ideal S54x64 .f32) (t : ℕ) (ht : t ≤ 24) : FVec Ideal S8x128x128 .f32 :=
  concatenate S8x128x128 2 [⟨S8x128x64, mm54 (take54 m L t ht) w⟩, ⟨S8x128x64, mm54 (take54 m' L' t ht) w⟩]
    concatenates_S8x128x64_S8x128x64_S8x128x128_d2

/-- The result block's stores, last store first. -/
def firstPieces (m m' : Memref sig .tc .vmem S32x128x54 .f32) (L L' : List (View.Piece (Elt Ideal) S32x128x54 .f32))
    (w : Vec Ideal S54x64 .f32) : List (View.Piece (Elt Ideal) S32x128x128 .f32) :=
  [⟨Rect.unit ![24, 0, 0] S8x128x128.size inb_S32x128x128_S8x128x128_24_0_0, first8 m m' L L' w 24 (by omega)⟩,
    ⟨Rect.unit ![16, 0, 0] S8x128x128.size inb_S32x128x128_S8x128x128_16_0_0, first8 m m' L L' w 16 (by omega)⟩,
    ⟨Rect.unit ![8, 0, 0] S8x128x128.size inb_S32x128x128_S8x128x128_8_0_0, first8 m m' L L' w 8 (by omega)⟩,
    ⟨Rect.unit ![0, 0, 0] S8x128x128.size inb_S32x128x128_S8x128x128_0_0_0, first8 m m' L L' w 0 (by omega)⟩]

/-- The channel sums' one store. -/
def firstStat (m m' : Memref sig .tc .vmem S32x128x54 .f32) (L L' : List (View.Piece (Elt Ideal) S32x128x54 .f32))
    (w : Vec Ideal S54x64 .f32) : List (View.Piece (Elt Ideal) S1x8x128 .f32) :=
  [⟨Rect.unit ![0, 0, 0] S1x8x128.size inb_S1x8x128_S1x8x128_0_0_0,
      statBlock (first8 m m' L L' w 0 (by omega)) (first8 m m' L L' w 8 (by omega))
        (first8 m m' L L' w 16 (by omega)) (first8 m m' L L' w 24 (by omega))⟩]

end Cert.KernelIdeal.Val

end
-- ==== Proof.FirstVal.lean ====
/- What one grid step of the first stage computes, entry by entry. -/
module

public import proofs.«01_k».proof.Proof.FirstStep

@[expose] public section

set_option maxRecDepth 16384

noncomputable section

namespace Cert.KernelIdeal.Val

open Idealize.ShloMosaic Idealize.ShloMosaic.TcCoe Cert.KernelIdeal.Gen Cert.KernelIdeal

/-- Image rows and their normalised copy: lanes 0 to 2 the even columns, 3 to 5 normalised, then the odd columns. -/
def mix (C : ℕ → ℕ → ℕ → EReal) (M : ℕ → ℕ → EReal) (r p l : ℕ) : EReal :=
  if l % 6 < 3 then C r p (l / 6 * 3 + l % 6)
  else (C r p (l / 6 * 3 + (l % 6 - 3)) - M 0 (l % 6 - 3)) * M 1 (l % 6 - 3)

/-- The rows that the first convolution reads, each normalised by its own image's mean and deviation. -/
def fstAll (C T : ℕ → ℕ → ℕ → EReal) (g p l : ℕ) : EReal := mix C (T (g / 256)) g p l

/-- The widened row for the even columns: three filter rows of three taps. -/
def xe9 (A : ℕ → ℕ → ℕ → EReal) (t p k : ℕ) : EReal :=
  if k % 18 < 6 then (if p = 0 then 0 else A (t + k / 18) (p - 1) (k % 18 + 6)) else A (t + k / 18) p (k % 18 - 6)

/-- The widened row for the odd columns. -/
def xo9 (A : ℕ → ℕ → ℕ → EReal) (t p k : ℕ) : EReal :=
  if k % 18 < 12 then A (t + k / 18) p (k % 18) else (if p = 127 then 0 else A (t + k / 18) (p + 1) (k % 18 - 12))

/-- The product of a widened row with the first filter. -/
def zz9 (X : ℕ → ℕ → ℕ → EReal) (w : ℕ → ℕ → EReal) (t p j : ℕ) : EReal := ∑ k : Fin 54, X t p k * w k j

/-- Row `t` of the first convolution. -/
def conv9 (A : ℕ → ℕ → ℕ → EReal) (w : ℕ → ℕ → EReal) (t p l : ℕ) : EReal :=
  if l < 64 then zz9 (xe9 A) w t p l else zz9 (xo9 A) w t p (l - 64)

/-- The first convolution, block by block. -/
def convAll9 (X : ℕ → ℕ → ℕ → EReal) (w : ℕ → ℕ → EReal) (g p l : ℕ) : EReal :=
  conv9 (halo X (g / 32)) w (g % 32) p l

/-! ## The rows -/

section

variable (T : FVec Ideal S1x8x8 .f32) (M : ℕ → ℕ → EReal) (hT : ∀ y, T y = M (y 1).val (y 2).val)

include hT

/-- The six means of a pixel pair: the three channels, twice. -/
theorem mean6_apply (y : S6.Idx) : mean6 T y = M 0 ((y 0).val % 3) := by
  have h : (y 0).val < 6 := (y 0).isLt
  pointwise [mean6]
  by_cases h3 : (y 0).val < 3
  · rw [dif_pos h3]
    exact (hT _).trans (congrArg (M 0) (show (y 0).val = (y 0).val % 3 by omega))
  · rw [dif_neg h3]
    exact (hT _).trans (congrArg (M 0) (show (y 0).val - 3 = (y 0).val % 3 by omega))

/-- The six inverse deviations of a pixel pair: the three channels, twice. -/
theorem inv6_apply (y : S6.Idx) : inv6 T y = M 1 ((y 0).val % 3) := by
  have h : (y 0).val < 6 := (y 0).isLt
  pointwise [inv6]
  by_cases h3 : (y 0).val < 3
  · rw [dif_pos h3]
    exact (hT _).trans (congrArg (M 1) (show (y 0).val = (y 0).val % 3 by omega))
  · rw [dif_neg h3]
    exact (hT _).trans (congrArg (M 1) (show (y 0).val - 3 = (y 0).val % 3 by omega))

/-- The instance-normalised block at an index. -/
theorem norm32_apply (v : FVec Ideal S32x128x6 .f32) (y : S32x128x6.Idx) :
    norm32 T v y = (v y - M 0 ((y 2).val % 3)) * M 1 ((y 2).val % 3) := by
  have h := mean6_apply T M hT (ix1 (y 2))
  have h' := inv6_apply T M hT (ix1 (y 2))
  have h2 : (y 2).val < 6 := (y 2).isLt
  pointwise [norm32]
  exact congrArg₂ (· * ·) (congrArg (v y - ·) h) h'

/-- The instance-normalised row above or below at an index. -/
theorem norm1_apply (v : FVec Ideal S1x128x6 .f32) (y : S1x128x6.Idx) :
    norm1 T v y = (v y - M 0 ((y 2).val % 3)) * M 1 ((y 2).val % 3) := by
  have h := mean6_apply T M hT (ix1 (y 2))
  have h' := inv6_apply T M hT (ix1 (y 2))
  have h2 : (y 2).val < 6 := (y 2).isLt
  pointwise [norm1]
  exact congrArg₂ (· * ·) (congrArg (v y - ·) h) h'

variable (C : ℕ → ℕ → ℕ → EReal)

omit hT in
/-- Four lots of three lanes, by which lot a lane is in. -/
theorem mix_cases (r p l : ℕ) (hl : l < 12) (a b c d : EReal) (ha : l < 3 → a = C r p l)
    (hb : ¬ l < 3 → l - 3 < 3 → b = (C r p (l - 3) - M 0 ((l - 3) % 3)) * M 1 ((l - 3) % 3))
    (hc : ¬ l - 3 < 3 → l - 3 - 3 < 3 → c = C r p (3 + (l - 3 - 3)))
    (hd : ¬ l - 3 - 3 < 3 → d = (C r p (3 + (l - 3 - 3 - 3)) - M 0 ((3 + (l - 3 - 3 - 3)) % 3)) * M 1 ((3 + (l - 3 - 3 - 3)) % 3)) :
    (if l < 3 then a else if l - 3 < 3 then b else if l - 3 - 3 < 3 then c else d) = mix C M r p l := by
  unfold mix
  split_ifs with h1 h2 h3 h4 h5 h6 h7
  all_goals first
    | omega
    | (rw [ha (by omega)]; congr 1; omega)
    | (rw [hb (by omega) (by omega), show (l - 3) % 3 = l % 6 - 3 by omega,
        show l / 6 * 3 + (l % 6 - 3) = l - 3 by omega])
    | (rw [hc (by omega) (by omega)]; congr 1; omega)
    | (rw [hd (by omega), show (3 + (l - 3 - 3 - 3)) % 3 = l % 6 - 3 by omega,
        show l / 6 * 3 + (l % 6 - 3) = 3 + (l - 3 - 3 - 3) by omega])

/-- The block with its normalised copy beside it, at an index. -/
theorem first32_apply (v : FVec Ideal S32x128x6 .f32) (hv : ∀ y, v y = C (y 0).val (y 1).val (y 2).val)
    (y : S32x128x12.Idx) : first32 T v y = mix C M (y 0).val (y 1).val (y 2).val := by
  have h2 : (y 2).val < 12 := (y 2).isLt
  have e := norm32_apply T M hT v
  unfold first32
  rw [show shapeCast S32x128x6 v shapeCasts_S32x128x6_S32x128x6 = v from by funext y; pointwise]
  refine Eq.trans ?_ (mix_cases M C (y 0).val (y 1).val (y 2).val h2 _ _ _ _ (fun _ => rfl) (fun _ _ => rfl)
    (fun _ _ => rfl) (fun _ => rfl))
  pointwise [weave32]
  simp only [e, hv]
  split_ifs <;> rfl

/-- The row above or below with its normalised copy, zero at the border of an image. -/
theorem first1_apply (f : BitVec 1) (v : FVec Ideal S1x128x6 .f32) (g : ℕ)
    (hv : ∀ y, v y = C g (y 1).val (y 2).val)
    (y : S1x128x12.Idx) : first1 f T v y = if f = 1#1 then 0 else mix C M g (y 1).val (y 2).val := by
  have h2 : (y 2).val < 12 := (y 2).isLt
  have e := norm1_apply T M hT v
  unfold first1
  rw [show shapeCast S1x128x6 v shapeCasts_S1x128x6_S1x128x6 = v from by funext y; pointwise]
  have h : weave1 v (norm1 T v) y = mix C M g (y 1).val (y 2).val := by
    refine Eq.trans ?_ (mix_cases M C g (y 1).val (y 2).val h2 _ _ _ _ (fun _ => rfl) (fun _ _ => rfl)
      (fun _ _ => rfl) (fun _ => rfl))
    pointwise [weave1]
    simp only [e, hv]
    split_ifs <;> rfl
  rw [← h]
  generalize weave1 v (norm1 T v) = q
  pointwise
  rfl

end

/-- The buffer of rows. -/
theorem rowPieces_apply (A : ℕ → ℕ → ℕ → EReal) (top bot : FVec Ideal S1x128x12 .f32)
    (main : FVec Ideal S32x128x12 .f32)
    (ht : ∀ y, top y = A 0 (y 1).val (y 2).val) (hb : ∀ y, bot y = A 33 (y 1).val (y 2).val)
    (hm : ∀ y, main y = A ((y 0).val + 1) (y 1).val (y 2).val) (y : S34x128x12.Idx) :
    View.canon (rowPieces top bot main) y = A (y 0).val (y 1).val (y 2).val := by
  refine View.canon_apply_of_pieces (Val := Elt Ideal) (e := .f32)
    (fun y => A (y 0).val (y 1).val (y 2).val) _ ?_ y ?_
  · simp only [rowPieces, List.forall_mem_cons, List.not_mem_nil, false_imp_iff, implies_true, and_true]
    refine ⟨?_, ?_, ?_⟩ <;> intro z <;>
      (have h0 : (z 0).val < _ := (z 0).isLt
       pointwise
       simp only [ValueKit.rect_emb_unit_val, ht, hb, hm]
       simp at h0
       simp
       try (first | omega | (congr 1 <;> omega)))
  · have h0 : (y 0).val < 34 := (y 0).isLt
    have h1 : (y 1).val < 128 := (y 1).isLt
    have h2 : (y 2).val < 12 := (y 2).isLt
    simp only [rowPieces, List.exists_mem_cons_iff, List.not_mem_nil, false_and, exists_false, or_false,
      Rect.mem_set_unit, Fin.forall_fin_succ, IsEmpty.forall_iff, and_true]
    simp
    omega

/-! ## The widened rows -/

section

variable (m : Memref sig .tc .vmem S34x128x12 .f32) (L : List (View.Piece (Elt Ideal) S34x128x12 .f32))
  (A : ℕ → ℕ → ℕ → EReal) (hL : ∀ y, View.canon L y = A (y 0).val (y 1).val (y 2).val)

include hL

/-- The rows shifted by a row tap, at an index. -/
theorem take12_apply (r : ℕ) (hr : r ≤ 2) (z : S32x128x12.Idx) :
    take12 m L r hr z = A ((z 0).val + r) (z 1).val (z 2).val := by
  have e := congrFun (View.readCov_eq_canon' m.view L
    (Rect.unit (s := S34x128x12) ![r, 0, 0] S32x128x12.size (fits12 r hr)).toLoadRect) z
  exact e.trans ((hL _).trans (by simp [Rect.idx_unit_val, Nat.add_comm]))

omit hL in
/-- The even columns of the shifted rows. -/
theorem e6_apply (v : FVec Ideal S32x128x12 .f32) (r : ℕ) (hv : ∀ y, v y = A ((y 0).val + r) (y 1).val (y 2).val)
    (y : S32x128x6.Idx) : e6 v y = A ((y 0).val + r) (y 1).val (y 2).val := by
  pointwise [e6]
  rw [hv]
  rfl

omit hL in
/-- The odd columns of the shifted rows. -/
theorem o6_apply (v : FVec Ideal S32x128x12 .f32) (r : ℕ) (hv : ∀ y, v y = A ((y 0).val + r) (y 1).val (y 2).val)
    (y : S32x128x6.Idx) : o6 v y = A ((y 0).val + r) (y 1).val ((y 2).val + 6) := by
  have h2 : (y 2).val < 6 := (y 2).isLt
  pointwise [o6]
  rw [hv]
  simp
  try (congr 1; omega)

omit hL in
/-- Every store of one filter row holds its part of the widened rows for the even columns. -/
theorem bandE_apply (v : FVec Ideal S32x128x12 .f32) (r k : ℕ) (hk : k ≤ 36) (hkr : k = 18 * r)
    (hv : ∀ y, v y = A ((y 0).val + r) (y 1).val (y 2).val) :
    ∀ P ∈ bandE v k hk, ∀ z, P.2 z = (fun y : S32x128x54.Idx => xe9 A (y 0).val (y 1).val (y 2).val) (P.1.emb z) := by
  have he := e6_apply A v r hv
  have ho := o6_apply A v r hv
  simp only [bandE, List.forall_mem_cons, List.not_mem_nil, false_imp_iff, implies_true, and_true]
  refine ⟨?_, ?_, ?_, ?_⟩ <;> intro z <;>
    (have h0 : (z 0).val < _ := (z 0).isLt; have h1 : (z 1).val < _ := (z 1).isLt
     have h2 : (z 2).val < _ := (z 2).isLt
     pointwise [zero6]
     simp only [ValueKit.rect_emb_unit_val, he, ho, xe9]
     simp at h0 h1 h2
     simp
     try (split_ifs <;> first | rfl | omega | (congr 1 <;> omega))
     try (first | omega | (congr 1 <;> omega)))

omit hL in
/-- The same for the odd columns. -/
theorem bandO_apply (v : FVec Ideal S32x128x12 .f32) (r k : ℕ) (hk : k ≤ 36) (hkr : k = 18 * r)
    (hv : ∀ y, v y = A ((y 0).val + r) (y 1).val (y 2).val) :
    ∀ P ∈ bandO v k hk, ∀ z, P.2 z = (fun y : S32x128x54.Idx => xo9 A (y 0).val (y 1).val (y 2).val) (P.1.emb z) := by
  have he := e6_apply A v r hv
  have ho := o6_apply A v r hv
  simp only [bandO, List.forall_mem_cons, List.not_mem_nil, false_imp_iff, implies_true, and_true]
  refine ⟨?_, ?_, ?_, ?_⟩ <;> intro z <;>
    (have h0 : (z 0).val < _ := (z 0).isLt; have h1 : (z 1).val < _ := (z 1).isLt
     have h2 : (z 2).val < _ := (z 2).isLt
     pointwise [zero6]
     simp only [ValueKit.rect_emb_unit_val, he, ho, xo9]
     simp at h0 h1 h2
     simp
     try (split_ifs <;> first | rfl | omega | (congr 1 <;> omega))
     try (first | omega | (congr 1 <;> omega)))

/-- The widened rows for the even result columns, at an index. -/
theorem wideE_apply (y : S32x128x54.Idx) : View.canon (wideE m L) y = xe9 A (y 0).val (y 1).val (y 2).val := by
  refine View.canon_apply_of_pieces (Val := Elt Ideal) (e := .f32)
    (fun y => xe9 A (y 0).val (y 1).val (y 2).val) _ ?_ y ?_
  · intro P hP
    simp only [wideE, List.mem_append] at hP
    obtain h | h | h := hP
    · exact bandE_apply A _ 2 36 _ rfl (take12_apply m L A hL 2 _) P h
    · exact bandE_apply A _ 1 18 _ rfl (take12_apply m L A hL 1 _) P h
    · exact bandE_apply A _ 0 0 _ rfl (take12_apply m L A hL 0 _) P h
  · have h0 : (y 0).val < 32 := (y 0).isLt
    have h1 : (y 1).val < 128 := (y 1).isLt
    have h2 : (y 2).val < 54 := (y 2).isLt
    simp only [wideE, bandE, List.cons_append, List.nil_append, List.exists_mem_cons_iff, List.not_mem_nil, false_and, exists_false, or_false,
      Rect.mem_set_unit, Fin.forall_fin_succ, IsEmpty.forall_iff, and_true]
    simp
    omega

/-- The widened rows for the odd result columns, at an index. -/
theorem wideO_apply (y : S32x128x54.Idx) : View.canon (wideO m L) y = xo9 A (y 0).val (y 1).val (y 2).val := by
  refine View.canon_apply_of_pieces (Val := Elt Ideal) (e := .f32)
    (fun y => xo9 A (y 0).val (y 1).val (y 2).val) _ ?_ y ?_
  · intro P hP
    simp only [wideO, List.mem_append] at hP
    obtain h | h | h := hP
    · exact bandO_apply A _ 2 36 _ rfl (take12_apply m L A hL 2 _) P h
    · exact bandO_apply A _ 1 18 _ rfl (take12_apply m L A hL 1 _) P h
    · exact bandO_apply A _ 0 0 _ rfl (take12_apply m L A hL 0 _) P h
  · have h0 : (y 0).val < 32 := (y 0).isLt
    have h1 : (y 1).val < 128 := (y 1).isLt
    have h2 : (y 2).val < 54 := (y 2).isLt
    simp only [wideO, bandO, List.cons_append, List.nil_append, List.exists_mem_cons_iff, List.not_mem_nil, false_and, exists_false, or_false,
      Rect.mem_set_unit, Fin.forall_fin_succ, IsEmpty.forall_iff, and_true]
    simp
    omega

end

/-! ## The products and the result -/

/-- The product of eight widened rows with the filter is a sum of 54 products. -/
theorem mm54_apply (x : Vec Ideal S8x128x54 .f32) (w : Vec Ideal S54x64 .f32) (z : S8x128x64.Idx) :
    mm54 x w z = ∑ k : Fin 54, (x (ix3 (z 0) (z 1) k) : EReal) * w (ix2 k (z 2)) := by
  have h0 : (z 0).val < 8 := (z 0).isLt
  have h1 : (z 1).val < 128 := (z 1).isLt
  have h2 : (z 2).val < 64 := (z 2).isLt
  pointwise [mm54]

/-- Eight of the widened rows, at an index. -/
theorem take54_apply (m : Memref sig .tc .vmem S32x128x54 .f32) (L : List (View.Piece (Elt Ideal) S32x128x54 .f32))
    (X : ℕ → ℕ → ℕ → EReal) (hL : ∀ y, View.canon L y = X (y 0).val (y 1).val (y 2).val) (t : ℕ) (ht : t ≤ 24)
    (z : S8x128x54.Idx) : take54 m L t ht z = X (t + (z 0).val) (z 1).val (z 2).val := by
  have e := congrFun (View.readCov_eq_canon' m.view L
    (Rect.unit (s := S32x128x54) ![t, 0, 0] S8x128x54.size (fitsD t ht)).toLoadRect) z
  exact e.trans ((hL _).trans (by simp [Rect.idx_unit_val]))

section

variable (m m' : Memref sig .tc .vmem S32x128x54 .f32) (L L' : List (View.Piece (Elt Ideal) S32x128x54 .f32))
  (w : Vec Ideal S54x64 .f32) (A : ℕ → ℕ → ℕ → EReal) (W : ℕ → ℕ → EReal)
  (hL : ∀ y, View.canon L y = xe9 A (y 0).val (y 1).val (y 2).val)
  (hL' : ∀ y, View.canon L' y = xo9 A (y 0).val (y 1).val (y 2).val)
  (hw : ∀ y, w y = W (y 0).val (y 1).val)

include hL hL' hw

/-- Eight result rows of the first stage at an index: the convolution. -/
theorem first8_apply (t : ℕ) (ht : t ≤ 24) (z : S8x128x128.Idx) :
    first8 m m' L L' w t ht z = conv9 A W (t + (z 0).val) (z 1).val (z 2).val := by
  have h2 : (z 2).val < 128 := (z 2).isLt
  have e := fun (m : Memref sig .tc .vmem S32x128x54 .f32) L X hL (y : S8x128x64.Idx) =>
    (mm54_apply (take54 m L t ht) w y).trans (Finset.sum_congr rfl fun k _ =>
      congrArg₂ (· * ·) (take54_apply m L X hL t ht (ix3 (y 0) (y 1) k)) (hw (ix2 k (y 2))))
  unfold conv9
  pointwise [first8]
  by_cases h : (z 2).val < 64
  · rw [dif_pos h, if_pos h]
    exact e m L _ hL (ix3 (z 0) (z 1) ⟨(z 2).val, h⟩)
  · rw [dif_neg h, if_neg h]
    exact e m' L' _ hL' (ix3 (z 0) (z 1) ⟨(z 2).val - 64, by omega⟩)

/-- The result block of the first stage at an index: the convolution. -/
theorem first_apply (y : S32x128x128.Idx) :
    View.canon (firstPieces m m' L L' w) y = conv9 A W (y 0).val (y 1).val (y 2).val := by
  refine View.canon_apply_of_pieces (Val := Elt Ideal) (e := .f32)
    (fun y => conv9 A W (y 0).val (y 1).val (y 2).val) _ ?_ y ?_
  · simp only [firstPieces, List.forall_mem_cons, List.not_mem_nil, false_imp_iff, implies_true, and_true]
    refine ⟨fun z => ?_, fun z => ?_, fun z => ?_, fun z => ?_⟩ <;>
      (rw [first8_apply m m' L L' w A W hL hL' hw]; simp [ValueKit.rect_emb_unit_val])
  · have h0 : (y 0).val < 32 := (y 0).isLt
    have h1 : (y 1).val < 128 := (y 1).isLt
    have h2 : (y 2).val < 128 := (y 2).isLt
    simp only [firstPieces, List.exists_mem_cons_iff, List.not_mem_nil, false_and, exists_false, or_false,
      Rect.mem_set_unit, Fin.forall_fin_succ, IsEmpty.forall_iff, and_true]
    simp
    omega

/-- The statistics of the first stage: the sums of the block, of its squares, and zero. -/
theorem firstStat_apply (y : S1x8x128.Idx) : View.canon (firstStat m m' L L' w) y
    = if (y 1).val = 0 then ∑ t : Fin 32, ∑ p : Fin 128, conv9 A W t p (y 2).val
      else if (y 1).val = 1 then ∑ t : Fin 32, ∑ p : Fin 128, conv9 A W t p (y 2).val * conv9 A W t p (y 2).val else 0 := by
  refine View.canon_apply_of_pieces (Val := Elt Ideal) (e := .f32)
    (fun y => if (y 1).val = 0 then ∑ t : Fin 32, ∑ p : Fin 128, conv9 A W t p (y 2).val
      else if (y 1).val = 1 then ∑ t : Fin 32, ∑ p : Fin 128, conv9 A W t p (y 2).val * conv9 A W t p (y 2).val else 0)
    _ ?_ y ?_
  · simp only [firstStat, List.forall_mem_cons, List.not_mem_nil, false_imp_iff, implies_true, and_true]
    intro z
    have e := first8_apply m m' L L' w A W hL hL' hw
    refine (statBlock_apply _ _ _ _ (conv9 A W) (fun z => (e 0 (by omega) z).trans (by simp only [Nat.zero_add]))
      (e 8 (by omega)) (e 16 (by omega)) (e 24 (by omega)) z).trans ?_
    simp [ValueKit.rect_emb_unit_val]
  · have h0 : (y 0).val < 1 := (y 0).isLt
    have h1 : (y 1).val < 8 := (y 1).isLt
    have h2 : (y 2).val < 128 := (y 2).isLt
    simp only [firstStat, List.exists_mem_cons_iff, List.not_mem_nil, false_and, exists_false, or_false,
      Rect.mem_set_unit, Fin.forall_fin_succ, IsEmpty.forall_iff, and_true]
    simp
    omega

end

/-! ## One grid step -/

section

variable (mT : Memref sig .tc .vmem S8x8x8 .f32) (hmT : mT.IsWhole) (xT : Vec Ideal S8x8x8 .f32) (o : Fin 3 → ℕ)
  (ho : ∀ a, o a + S1x8x8.size a ≤ S8x8x8.size a) (T : ℕ → ℕ → ℕ → EReal)
  (hxT : ∀ y, xT y = T (y 0).val (y 1).val (y 2).val)
  (mx : Memref sig .tc .vmem S32x128x6 .f32) (hmx : mx.IsWhole) (x : Vec Ideal S32x128x6 .f32)
  (mu mr : Memref sig .tc .vmem S1x128x6 .f32) (hmu : mu.IsWhole) (hmr : mr.IsWhole) (u r : Vec Ideal S1x128x6 .f32)
  (mW : Memref sig .tc .vmem S54x64 .f32) (hmW : mW.IsWhole) (xW : Vec Ideal S54x64 .f32) (W : ℕ → ℕ → EReal)
  (hxW : ∀ y, xW y = W (y 0).val (y 1).val)
  (f f' : BitVec 1) (b : ℕ) (C : ℕ → ℕ → ℕ → EReal)
  (hf : b < 64 ∧ (f = 1#1 ↔ b % 8 = 0) ∧ (f' = 1#1 ↔ b % 8 = 7) ∧ o = ![b / 8, 0, 0])
  (hx : ∀ y, x y = C (32 * b + (y 0).val) (y 1).val (y 2).val)
  (hu : ∀ y, u y = C (32 * b - 1) (y 1).val (y 2).val)
  (hr : ∀ y, r y = C (min (32 * b + 32) 2047) (y 1).val (y 2).val)

include hxT hf in
/-- The loaded statistics are those of the block's image. -/
theorem loadT_apply (y : S1x8x8.Idx) : loadT mT hmT xT o ho y = T (b / 8) (y 1).val (y 2).val := by
  obtain ⟨-, -, -, rfl⟩ := hf
  unfold loadT
  rw [View.readAt_eq_ld, hmT.read_unread]
  refine (hxT _).trans ?_
  have h0 : (y 0).val < 1 := (y 0).isLt
  simp [Rect.toLoadRect, LoadRect.idx, Rect.emb]

/-- The loaded block is the block. -/
theorem img32_eq : img32 mx hmx x = x := by
  unfold img32
  rw [View.readAt_eq_ld, hmx.read_unread, View.ld_unit_lit' (h := by decide)]

/-- The loaded row above or below is that row. -/
theorem img1_eq : img1 mu hmu u = u := by
  unfold img1
  rw [View.readAt_eq_ld, hmu.read_unread, View.ld_unit_lit' (h := by decide)]

/-- The loaded filter is the filter. -/
theorem loadW1_eq : loadW1 mW hmW xW = xW := by
  unfold loadW1
  rw [View.readAt_eq_ld, hmW.read_unread, View.ld_unit_lit' (h := by decide)]

include hxT hxW hf hx hu hr

/-- The result and statistics blocks of one grid step of the first stage. -/
theorem first_step (m0 : Memref sig .tc .vmem S34x128x12 .f32) (m1 m2 : Memref sig .tc .vmem S32x128x54 .f32)
    (L : List (View.Piece (Elt Ideal) S34x128x12 .f32))
    (hL : L = rowPieces (first1 f (loadT mT hmT xT o ho) (img1 mu hmu u)) (first1 f' (loadT mT hmT xT o ho) (img1 mr hmr r))
      (first32 (loadT mT hmT xT o ho) (img32 mx hmx x))) :
    (∀ y, View.canon (firstPieces m1 m2 (wideE m0 L) (wideO m0 L) (loadW1 mW hmW xW)) y
      = convAll9 (fstAll C T) W (32 * b + (y 0).val) (y 1).val (y 2).val)
    ∧ ∀ y, View.canon (firstStat m1 m2 (wideE m0 L) (wideO m0 L) (loadW1 mW hmW xW)) y
      = statAll (convAll9 (fstAll C T) W) b (y 1).val (y 2).val := by
  have hT := loadT_apply mT hmT xT o ho T hxT f f' b hf
  obtain ⟨hb, h1, h2, -⟩ := hf
  have hrows : ∀ y, View.canon L y = halo (fstAll C T) b (y 0).val (y 1).val (y 2).val := by
    subst hL
    refine rowPieces_apply (halo (fstAll C T) b) _ _ _ (fun y => ?_) (fun y => ?_) (fun y => ?_)
    · rw [img1_eq, first1_apply _ (T (b / 8)) hT C f u _ hu]
      unfold halo fstAll
      by_cases h0 : b % 8 = 0
      · rw [if_pos (h1.2 h0), if_pos (Or.inl ⟨rfl, h0⟩)]
      · rw [if_neg (fun e => h0 (h1.1 e)), if_neg (by omega), show (32 * b + 0 - 1) / 256 = b / 8 by omega]
        rfl
    · rw [img1_eq, first1_apply _ (T (b / 8)) hT C f' r _ hr]
      unfold halo fstAll
      by_cases h0 : b % 8 = 7
      · rw [if_pos (h2.2 h0), if_pos (Or.inr ⟨rfl, h0⟩)]
      · rw [if_neg (fun e => h0 (h2.1 e)), if_neg (by omega), show (32 * b + 33 - 1) / 256 = b / 8 by omega,
          show min (32 * b + 32) 2047 = 32 * b + 33 - 1 by omega]
    · have h0 : (y 0).val < 32 := (y 0).isLt
      rw [img32_eq, first32_apply _ (T (b / 8)) hT (fun r => C (32 * b + r)) x hx]
      unfold halo fstAll
      rw [if_neg (by omega), show 32 * b + ((y 0).val + 1) - 1 = 32 * b + (y 0).val by omega,
        show (32 * b + (y 0).val) / 256 = b / 8 by omega]
      rfl
  have hE := wideE_apply m0 L _ hrows
  have hO := wideO_apply m0 L _ hrows
  have hw := fun y => (congrFun (loadW1_eq mW hmW xW) y).trans (hxW y)
  constructor
  · intro y
    have h0 : (y 0).val < 32 := (y 0).isLt
    rw [first_apply m1 m2 _ _ _ _ W hE hO hw, convAll9, show (32 * b + (y 0).val) / 32 = b by omega,
      show (32 * b + (y 0).val) % 32 = (y 0).val by omega]
  · intro y
    have e : ∀ t : Fin 32, ∀ p l, conv9 (halo (fstAll C T) b) W t p l = convAll9 (fstAll C T) W (32 * b + t) p l := by
      intro t p l
      unfold convAll9
      rw [show (32 * b + t.val) / 32 = b by omega, show (32 * b + t.val) % 32 = t.val by omega]
    rw [firstStat_apply m1 m2 _ _ _ _ W hE hO hw]
    simp only [e]
    rfl

end

end Cert.KernelIdeal.Val

end
-- ==== Proof.Lay.lean ====
/- The kernel's arrays of rows hold two image columns in the lanes: read back as images, its packed convolutions are the
   nine-tap convolutions and its block statistics the sums over all images. -/
module

public import proofs.«01_k».proof.Proof.Net
public import proofs.«01_k».proof.Proof.FinalStep
public import proofs.«01_k».proof.Proof.FirstVal

@[expose] public section

noncomputable section

namespace Cert.Net

open Idealize.ShloMosaic Cert.KernelIdeal.Val

/-- Images of 64 channels as rows: image and row together, then half the column, then parity of the column and channel. -/
def lay (A : ℕ → ℕ → ℕ → ℕ → EReal) (g p l : ℕ) : EReal := A (g / 256) (l % 64) (g % 256) (2 * p + l / 64)

/-- Images of 3 channels as rows. -/
def lay3 (A : ℕ → ℕ → ℕ → ℕ → EReal) (g p l : ℕ) : EReal := A (g / 256) (l % 3) (g % 256) (2 * p + l / 3)

/-- Images of 6 channels as rows. -/
def lay6 (A : ℕ → ℕ → ℕ → ℕ → EReal) (g p l : ℕ) : EReal := A (g / 256) (l % 6) (g % 256) (2 * p + l / 6)

/-! ## Sums cut into parts -/

/-- A sum over `m * n` numbers, block after block. -/
theorem sum_blocks (m n : ℕ) (f : ℕ → EReal) :
    ∑ i ∈ Finset.range (m * n), f i = ∑ a ∈ Finset.range m, ∑ b ∈ Finset.range n, f (n * a + b) := by
  induction m with
  | zero => simp
  | succ m ih => rw [Nat.succ_mul, Finset.sum_range_add, ih, Finset.sum_range_succ, Nat.mul_comm m n]

/-- A sum over 192 lanes is three sums over 64 channels. -/
theorem sum_192 (f : ℕ → EReal) : ∑ k : Fin 192, f k
    = ∑ i : Fin 64, f i + ∑ i : Fin 64, f (64 + i) + ∑ i : Fin 64, f (128 + i) := by
  simp only [Fin.sum_univ_eq_sum_range (fun t => f t), Fin.sum_univ_eq_sum_range (fun t => f (64 + t)),
    Fin.sum_univ_eq_sum_range (fun t => f (128 + t))]
  rw [show (192 : ℕ) = 3 * 64 from rfl, sum_blocks]
  simp [Finset.sum_range_succ]

/-- A sum over 54 lanes is nine sums over 6 channels. -/
theorem sum_54 (f : ℕ → EReal) (G : ℕ → EReal) (hf : ∀ k, k < 9 → ∑ i ∈ Finset.range 6, f (6 * k + i) = G k) :
    ∑ k : Fin 54, f k = G 0 + G 1 + G 2 + G 3 + G 4 + G 5 + G 6 + G 7 + G 8 := by
  rw [Fin.sum_univ_eq_sum_range (fun t => f t) 54, show Finset.range 54 = Finset.range (9 * 6) from rfl, sum_blocks,
    Finset.sum_congr rfl fun k hk => hf k (Finset.mem_range.mp hk)]
  simp [Finset.sum_range_succ]

/-! ## The rows with their neighbours -/

section

variable (X : ℕ → ℕ → ℕ → EReal) (A : ℕ → ℕ → ℕ → ℕ → EReal)
  (hX : ∀ g p l, g < 2048 → p < 128 → l < 128 → X g p l = lay A g p l)

include hX

/-- The rows of a step with the row above and below are the bordered image. -/
theorem halo_pd (b r p l : ℕ) (hb : b < 64) (hr : r ≤ 33) (hp : p < 128) (hl : l < 128) :
    halo X b r p l = pd A (b / 8) (l % 64) (32 * (b % 8) + r) (2 * p + l / 64 + 1) := by
  unfold halo pd
  by_cases c : (r = 0 ∧ b % 8 = 0) ∨ (r = 33 ∧ b % 8 = 7)
  · rw [if_pos c, if_neg (by omega)]
  · rw [if_neg c, if_pos (by omega), hX _ _ _ (by omega) hp hl, lay]
    congr 1 <;> omega

/-- The widened rows for the even columns are the bordered image at the three column taps. -/
theorem xe_pd (b r p k : ℕ) (hb : b < 64) (hr : r ≤ 33) (hp : p < 128) (hk : k < 192) :
    xe (halo X b) r p k = pd A (b / 8) (k % 64) (32 * (b % 8) + r) (k / 64 + 2 * p) := by
  unfold xe
  by_cases c : k < 64
  · rw [if_pos c]
    by_cases c0 : p = 0
    · rw [if_pos c0, pd, if_neg (by omega)]
    · rw [if_neg c0, halo_pd X A hX b r _ _ hb hr (by omega) (by omega)]
      congr 1 <;> omega
  · rw [if_neg c, halo_pd X A hX b r _ _ hb hr (by omega) (by omega)]
    congr 1 <;> omega

/-- The widened rows for the odd columns are the bordered image at the three column taps. -/
theorem xo_pd (b r p k : ℕ) (hb : b < 64) (hr : r ≤ 33) (hp : p < 128) (hk : k < 192) :
    xo (halo X b) r p k = pd A (b / 8) (k % 64) (32 * (b % 8) + r) (k / 64 + (2 * p + 1)) := by
  unfold xo
  by_cases c : k < 128
  · rw [if_pos c, halo_pd X A hX b r _ _ hb hr (by omega) (by omega)]
    congr 1 <;> omega
  · rw [if_neg c]
    by_cases c0 : p = 127
    · rw [if_pos c0, pd, if_neg (by omega)]
    · rw [if_neg c0, halo_pd X A hX b r _ _ hb hr (by omega) (by omega)]
      congr 1 <;> omega

end

/-- A product with the packed filter is three taps. -/
theorem zz_taps (Y : ℕ → ℕ → ℕ → EReal) (A F : ℕ → ℕ → ℕ → ℕ → EReal) (W : ℕ → ℕ → EReal) (n o kh h w r p j : ℕ)
    (hY : ∀ k, k < 192 → Y r p k = pd A n (k % 64) (kh + h) (k / 64 + w))
    (hW : ∀ k, k < 192 → W k j = F o (k % 64) kh (k / 64)) :
    zz Y W r p j = tapR 64 A F kh 0 n o h w + tapR 64 A F kh 1 n o h w + tapR 64 A F kh 2 n o h w := by
  unfold zz tapR
  rw [sum_192 (fun k => Y r p k * W k j)]
  refine congrArg₂ (· + ·) (congrArg₂ (· + ·) ?_ ?_) ?_
  · refine Finset.sum_congr rfl fun i _ => ?_
    have hi := i.isLt
    rw [hY _ (by omega), hW _ (by omega), show i.val % 64 = i by omega, show i.val / 64 = 0 by omega]
  · refine Finset.sum_congr rfl fun i _ => ?_
    have hi := i.isLt
    rw [hY _ (by omega), hW _ (by omega), show (64 + i.val) % 64 = i by omega, show (64 + i.val) / 64 = 1 by omega]
  · refine Finset.sum_congr rfl fun i _ => ?_
    have hi := i.isLt
    rw [hY _ (by omega), hW _ (by omega), show (128 + i.val) % 64 = i by omega, show (128 + i.val) / 64 = 2 by omega]

/-- The three shifted parts add up to the nine taps. -/
theorem tap_taps (Y : ℕ → ℕ → ℕ → EReal) (A F : ℕ → ℕ → ℕ → ℕ → EReal) (W : ℕ → ℕ → EReal) (n o h w t p : ℕ)
    (hY : ∀ r k, r ≤ 2 → k < 192 → Y (t + r) p k = pd A n (k % 64) (r + h) (k / 64 + w))
    (hW : ∀ k r, k < 192 → r ≤ 2 → W k (64 * r + o) = F o (k % 64) r (k / 64)) :
    tap (zz Y W) t p o = cvR 64 A F n o h w := by
  unfold tap cvR
  have h0 := zz_taps Y A F W n o 0 h w t p o (fun k hk => hY 0 k (by omega) hk)
    (fun k hk => by simpa using hW k 0 hk (by omega))
  have h1 := zz_taps Y A F W n o 1 h w (t + 1) p (64 + o) (fun k hk => hY 1 k (by omega) hk)
    (fun k hk => hW k 1 hk (by omega))
  have h2 := zz_taps Y A F W n o 2 h w (t + 2) p (128 + o) (fun k hk => hY 2 k (by omega) hk)
    (fun k hk => hW k 2 hk (by omega))
  rw [h0, h1, h2]
  simp only [add_assoc]

section

variable (X : ℕ → ℕ → ℕ → EReal) (A : ℕ → ℕ → ℕ → ℕ → EReal)
  (hX : ∀ g p l, g < 2048 → p < 128 → l < 128 → X g p l = lay A g p l)
  (F : ℕ → ℕ → ℕ → ℕ → EReal)

include hX

/-- The convolution to 64 channels. -/
theorem convAll_lay (W : ℕ → ℕ → EReal)
    (hW : ∀ i j, W i j = if j < 192 then F (j % 64) (i % 64) (j / 64) (i / 64) else 0)
    (g p l : ℕ) (hg : g < 2048) (hp : p < 128) (hl : l < 128) :
    convAll X W g p l = lay (cvR 64 A F) g p l := by
  have hW' : ∀ o, o < 64 → ∀ k r, k < 192 → r ≤ 2 → W k (64 * r + o) = F o (k % 64) r (k / 64) := by
    intro o ho k r _ hr
    rw [hW, if_pos (by omega)]
    congr 1 <;> omega
  unfold convAll conv lay
  by_cases c : l < 64
  · rw [if_pos c, show l % 64 = l by omega, show l / 64 = 0 by omega]
    refine tap_taps _ A F W _ _ _ _ _ _ (fun r k hr hk => ?_) (hW' l c)
    rw [xe_pd X A hX _ _ _ _ (by omega) (by omega) hp hk]
    congr 1 <;> omega
  · rw [if_neg c, show l % 64 = l - 64 by omega, show l / 64 = 1 by omega]
    refine tap_taps _ A F W _ _ _ _ _ _ (fun r k hr hk => ?_) (hW' (l - 64) (by omega))
    rw [xo_pd X A hX _ _ _ _ (by omega) (by omega) hp hk]
    congr 1 <;> omega

/-- The convolution to 3 channels. -/
theorem convAll3_lay (W : ℕ → ℕ → EReal)
    (hW : ∀ i j, W i j = if j < 192 then (if j % 64 < 3 then F (j % 64) (i % 64) (j / 64) (i / 64) else 0) else 0)
    (g p l : ℕ) (hg : g < 2048) (hp : p < 128) (hl : l < 6) :
    convAll3 X W g p l = lay3 (cvR 64 A F) g p l := by
  have hW' : ∀ o, o < 3 → ∀ k r, k < 192 → r ≤ 2 → W k (64 * r + o) = F o (k % 64) r (k / 64) := by
    intro o ho k r _ hr
    rw [hW, if_pos (by omega), if_pos (by omega)]
    congr 1 <;> omega
  unfold convAll3 conv3 lay3
  by_cases c : l < 3
  · rw [if_pos c, show l % 3 = l by omega, show l / 3 = 0 by omega]
    refine tap_taps _ A F W _ _ _ _ _ _ (fun r k hr hk => ?_) (hW' l c)
    rw [xe_pd X A hX _ _ _ _ (by omega) (by omega) hp hk]
    congr 1 <;> omega
  · rw [if_neg c, show l % 3 = l - 3 by omega, show l / 3 = 1 by omega]
    refine tap_taps _ A F W _ _ _ _ _ _ (fun r k hr hk => ?_) (hW' (l - 3) (by omega))
    rw [xo_pd X A hX _ _ _ _ (by omega) (by omega) hp hk]
    congr 1 <;> omega

end

/-! ## The first convolution -/

section

variable (X : ℕ → ℕ → ℕ → EReal) (A : ℕ → ℕ → ℕ → ℕ → EReal)
  (hX : ∀ g p l, g < 2048 → p < 128 → l < 12 → X g p l = lay6 A g p l)

include hX

/-- The six-channel rows of a step with the row above and below are the bordered image. -/
theorem halo6_pd (b r p l : ℕ) (hb : b < 64) (hr : r ≤ 33) (hp : p < 128) (hl : l < 12) :
    halo X b r p l = pd A (b / 8) (l % 6) (32 * (b % 8) + r) (2 * p + l / 6 + 1) := by
  unfold halo pd
  by_cases c : (r = 0 ∧ b % 8 = 0) ∨ (r = 33 ∧ b % 8 = 7)
  · rw [if_pos c, if_neg (by omega)]
  · rw [if_neg c, if_pos (by omega), hX _ _ _ (by omega) hp hl, lay6]
    congr 1 <;> omega

/-- The first stage's widened rows for the even columns are the bordered image at the nine taps. -/
theorem xe9_pd (b t p k : ℕ) (hb : b < 64) (ht : t < 32) (hp : p < 128) (hk : k < 54) :
    xe9 (halo X b) t p k = pd A (b / 8) (k % 6) (32 * (b % 8) + (t + k / 18)) (k / 6 % 3 + 2 * p) := by
  unfold xe9
  by_cases c : k % 18 < 6
  · rw [if_pos c]
    by_cases c0 : p = 0
    · rw [if_pos c0, pd, if_neg (by omega)]
    · rw [if_neg c0, halo6_pd X A hX b _ _ _ hb (by omega) (by omega) (by omega)]
      congr 1 <;> omega
  · rw [if_neg c, halo6_pd X A hX b _ _ _ hb (by omega) (by omega) (by omega)]
    congr 1 <;> omega

/-- The first stage's widened rows for the odd columns are the bordered image at the nine taps. -/
theorem xo9_pd (b t p k : ℕ) (hb : b < 64) (ht : t < 32) (hp : p < 128) (hk : k < 54) :
    xo9 (halo X b) t p k = pd A (b / 8) (k % 6) (32 * (b % 8) + (t + k / 18)) (k / 6 % 3 + (2 * p + 1)) := by
  unfold xo9
  by_cases c : k % 18 < 12
  · rw [if_pos c, halo6_pd X A hX b _ _ _ hb (by omega) (by omega) (by omega)]
    congr 1 <;> omega
  · rw [if_neg c]
    by_cases c0 : p = 127
    · rw [if_pos c0, pd, if_neg (by omega)]
    · rw [if_neg c0, halo6_pd X A hX b _ _ _ hb (by omega) (by omega) (by omega)]
      congr 1 <;> omega

end

/-- The product with the first filter is nine taps. -/
theorem zz9_taps (Y : ℕ → ℕ → ℕ → EReal) (A F : ℕ → ℕ → ℕ → ℕ → EReal) (W : ℕ → ℕ → EReal) (n o h w t p : ℕ)
    (hY : ∀ k, k < 54 → Y t p k = pd A n (k % 6) (k / 18 + h) (k / 6 % 3 + w))
    (hW : ∀ k, k < 54 → W k o = F o (k % 6) (k / 18) (k / 6 % 3)) :
    zz9 Y W t p o = cvR 6 A F n o h w := by
  unfold zz9
  exact sum_54 (fun k => Y t p k * W k o) (fun k => tapR 6 A F (k / 3) (k % 3) n o h w) fun k hk => by
    unfold tapR
    rw [Fin.sum_univ_eq_sum_range (fun i => pd A n i (k / 3 + h) (k % 3 + w) * F o i (k / 3) (k % 3))]
    refine Finset.sum_congr rfl fun i hi => ?_
    have hi := Finset.mem_range.mp hi
    rw [hY _ (by omega), hW _ (by omega), show (6 * k + i) % 6 = i by omega, show (6 * k + i) / 18 = k / 3 by omega,
      show (6 * k + i) / 6 % 3 = k % 3 by omega]

/-- The first convolution. -/
theorem convAll9_lay (X : ℕ → ℕ → ℕ → EReal) (A : ℕ → ℕ → ℕ → ℕ → EReal)
    (hX : ∀ g p l, g < 2048 → p < 128 → l < 12 → X g p l = lay6 A g p l) (F : ℕ → ℕ → ℕ → ℕ → EReal) (W : ℕ → ℕ → EReal)
    (hW : ∀ k o, W k o = F o (k % 6) (k / 18) (k / 6 % 3)) (g p l : ℕ) (hg : g < 2048) (hp : p < 128) (hl : l < 128) :
    convAll9 X W g p l = lay (cvR 6 A F) g p l := by
  unfold convAll9 conv9 lay
  by_cases c : l < 64
  · rw [if_pos c, show l % 64 = l by omega, show l / 64 = 0 by omega]
    refine zz9_taps _ A F W _ _ _ _ _ _ (fun k hk => ?_) (fun k _ => hW k _)
    rw [xe9_pd X A hX _ _ _ _ (by omega) (by omega) hp hk]
    congr 1 <;> omega
  · rw [if_neg c, show l % 64 = l - 64 by omega, show l / 64 = 1 by omega]
    refine zz9_taps _ A F W _ _ _ _ _ _ (fun k hk => ?_) (fun k _ => hW k _)
    rw [xo9_pd X A hX _ _ _ _ (by omega) (by omega) hp hk]
    congr 1 <;> omega

/-- The first convolution's rows: the image and the image normalised. -/
theorem fstAll_lay (I : ℕ → ℕ → ℕ → ℕ → EReal) (T C : ℕ → ℕ → ℕ → EReal)
    (hC : ∀ g p l, g < 2048 → p < 128 → l < 6 → C g p l = lay3 I g p l) (g p l : ℕ) (hg : g < 2048) (hp : p < 128)
    (hl : l < 12) : fstAll C T g p l = lay6 (fun n c h w => if c < 3 then I n c h w
      else (I n (c - 3) h w - T n 0 (c - 3)) * T n 1 (c - 3)) g p l := by
  unfold fstAll mix lay6
  by_cases c : l % 6 < 3
  · simp only [c, if_true]
    rw [hC _ _ _ hg hp (by omega), lay3]
    congr 1 <;> omega
  · simp only [c, if_false]
    rw [hC _ _ _ hg hp (by omega), lay3]
    refine congrArg (fun z => (z - T (g / 256) 0 (l % 6 - 3)) * T (g / 256) 1 (l % 6 - 3)) ?_
    congr 1 <;> omega

/-! ## The statistics -/

/-- The statistics are those of the images. -/
theorem statAll_lay (Y : ℕ → ℕ → ℕ → EReal) (A : ℕ → ℕ → ℕ → ℕ → EReal)
    (hY : ∀ g p l, g < 2048 → p < 128 → l < 128 → Y g p l = lay A g p l) (b i l : ℕ) (hb : b < 64) (hl : l < 128) :
    statAll Y b i l = statAll (lay A) b i l := by
  have e : ∀ (t : Fin 32) (p : Fin 128), Y (32 * b + t) p l = lay A (32 * b + t) p l := fun t p =>
    hY _ _ _ (by have := t.isLt; omega) p.isLt hl
  simp only [statAll, e]

/-- Summing blocks, rows and pixel pairs, even columns and odd ones, is summing images, rows and columns. -/
theorem sum_images (f : ℕ → ℕ → ℕ → EReal) :
    ∑ b : Fin 64, ∑ t : Fin 32, ∑ p : Fin 128, f ((32 * b.val + t.val) / 256) ((32 * b.val + t.val) % 256) (2 * p.val)
      + ∑ b : Fin 64, ∑ t : Fin 32, ∑ p : Fin 128, f ((32 * b.val + t.val) / 256) ((32 * b.val + t.val) % 256) (2 * p.val + 1)
    = ∑ n : Fin 8, ∑ h : Fin 256, ∑ w : Fin 256, f n h w := by
  have e : ∀ g : ℕ → EReal, ∑ b : Fin 64, ∑ t : Fin 32, g (32 * b.val + t.val)
      = ∑ n : Fin 8, ∑ h : Fin 256, g (256 * n.val + h.val) := by
    intro g
    simp only [fun b : ℕ => Fin.sum_univ_eq_sum_range (fun t => g (32 * b + t)) 32,
      fun b : ℕ => Fin.sum_univ_eq_sum_range (fun t => g (256 * b + t)) 256,
      Fin.sum_univ_eq_sum_range (fun b => ∑ t ∈ Finset.range 32, g (32 * b + t)) 64,
      Fin.sum_univ_eq_sum_range (fun b => ∑ t ∈ Finset.range 256, g (256 * b + t)) 8]
    rw [← sum_blocks, ← sum_blocks]
  rw [e (fun x => ∑ p : Fin 128, f (x / 256) (x % 256) (2 * p.val)),
    e (fun x => ∑ p : Fin 128, f (x / 256) (x % 256) (2 * p.val + 1)), ← Finset.sum_add_distrib]
  refine Finset.sum_congr rfl fun n _ => ?_
  rw [← Finset.sum_add_distrib]
  refine Finset.sum_congr rfl fun h _ => ?_
  have hh := h.isLt
  rw [show (256 * n.val + h.val) / 256 = n by omega, show (256 * n.val + h.val) % 256 = h by omega,
    Fin.sum_univ_eq_sum_range (fun w => f n h w) 256, show Finset.range 256 = Finset.range (128 * 2) from rfl,
    sum_blocks,
    Fin.sum_univ_eq_sum_range (fun p => f n h (2 * p)) 128, Fin.sum_univ_eq_sum_range (fun p => f n h (2 * p + 1)) 128,
    ← Finset.sum_add_distrib]
  exact Finset.sum_congr rfl fun p _ => by simp [Finset.sum_range_succ]

/-- The sums over the blocks are the sums over all images. -/
theorem sumV_lay (A : ℕ → ℕ → ℕ → ℕ → EReal) (c : ℕ) (hc : c < 64) : sumV (statAll (lay A)) 0 c = total A c := by
  have h1 : c % 64 = c := by omega
  have h2 : c / 64 = 0 := by omega
  have h3 : (64 + c) % 64 = c := by omega
  have h4 : (64 + c) / 64 = 1 := by omega
  simp only [sumV, statAll, lay, if_true, h1, h2, h3, h4, Nat.add_zero]
  exact sum_images (fun n h w => A n c h w)

/-- The sum of squares from the stages' statistics is the channel's over all images. -/
theorem sumV_lay_sq (A : ℕ → ℕ → ℕ → ℕ → EReal) (c : ℕ) (hc : c < 64) :
    sumV (statAll (lay A)) 1 c = total (fun n c h w => A n c h w * A n c h w) c := by
  have h1 : c % 64 = c := by omega
  have h2 : c / 64 = 0 := by omega
  have h3 : (64 + c) % 64 = c := by omega
  have h4 : (64 + c) / 64 = 1 := by omega
  simp only [sumV, statAll, lay, if_true, h1, h2, h3, h4, Nat.add_zero, one_ne_zero, if_false]
  exact sum_images (fun n h w => A n c h w * A n c h w)

end Cert.Net

end
-- ==== Proof.NetK.lean ====
/- The kernel's network over images: each stage convolves, and normalises what it finds by a scale and a shift. -/
module

public import proofs.«01_k».proof.Proof.Lay

@[expose] public section

noncomputable section

namespace Cert.Net

open Idealize.ShloMosaic Cert.KernelIdeal.Val

/-- The arguments: images, filters, biases, scales and shifts of the normalisations. -/
structure Par where
  x : ℕ → ℕ → ℕ → ℕ → EReal
  w1 : ℕ → ℕ → ℕ → ℕ → EReal
  b1 : ℕ → EReal
  g1 : ℕ → EReal
  e1 : ℕ → EReal
  bw : ℕ → ℕ → ℕ → ℕ → ℕ → ℕ → EReal
  bb : ℕ → ℕ → ℕ → EReal
  bg : ℕ → ℕ → ℕ → EReal
  be : ℕ → ℕ → ℕ → EReal
  w2 : ℕ → ℕ → ℕ → ℕ → EReal
  b2 : ℕ → EReal

/-- The scale of the normalisation of a stage's convolution. -/
def scK (A : ℕ → ℕ → ℕ → ℕ → EReal) (g : ℕ → EReal) (c : ℕ) : EReal :=
  g c * Ideal.rsqrt (Ideal.div (total (fun n c h w => A n c h w * A n c h w) c) npix - meanR A c * meanR A c + eps)

/-- The shift of the normalisation of a stage's convolution. -/
def shK (A : ℕ → ℕ → ℕ → ℕ → EReal) (g be : ℕ → EReal) (c : ℕ) : EReal := be c - meanR A c * scK A g c

/-- The activation of a stage's convolution. -/
def actK (A : ℕ → ℕ → ℕ → ℕ → EReal) (g be : ℕ → EReal) (n c h w : ℕ) : EReal :=
  celu (A n c h w * scK A g c + shK A g be c)

/-- The sum of two stages. -/
def addN (A B : ℕ → ℕ → ℕ → ℕ → EReal) (n c h w : ℕ) : EReal := A n c h w + B n c h w

/-- The images, and the images normalised. -/
def inputK (X : ℕ → ℕ → ℕ → ℕ → EReal) (n c h w : ℕ) : EReal :=
  if c < 3 then X n c h w else (X n (c - 3) h w - chMean (X n (c - 3))) * Ideal.rsqrt (chVar (X n (c - 3)))

namespace Par

variable (P : Par)

def f1 : ℕ → ℕ → ℕ → ℕ → EReal := cvR 6 (inputK P.x) P.w1
def a0 : ℕ → ℕ → ℕ → ℕ → EReal := actK P.f1 P.g1 P.e1
def f2 : ℕ → ℕ → ℕ → ℕ → EReal := cvR 64 P.a0 (P.bw 0 0)
def f3 : ℕ → ℕ → ℕ → ℕ → EReal := cvR 64 (actK P.f2 (P.bg 0 0) (P.be 0 0)) (P.bw 0 1)
def a1 : ℕ → ℕ → ℕ → ℕ → EReal := addN (actK P.f3 (P.bg 0 1) (P.be 0 1)) P.a0
def f4 : ℕ → ℕ → ℕ → ℕ → EReal := cvR 64 P.a1 (P.bw 1 0)
def f5 : ℕ → ℕ → ℕ → ℕ → EReal := cvR 64 (actK P.f4 (P.bg 1 0) (P.be 1 0)) (P.bw 1 1)
def a2 : ℕ → ℕ → ℕ → ℕ → EReal := addN (actK P.f5 (P.bg 1 1) (P.be 1 1)) P.a1
def f6 : ℕ → ℕ → ℕ → ℕ → EReal := cvR 64 P.a2 (P.bw 2 0)
def f7 : ℕ → ℕ → ℕ → ℕ → EReal := cvR 64 (actK P.f6 (P.bg 2 0) (P.be 2 0)) (P.bw 2 1)
def a3 : ℕ → ℕ → ℕ → ℕ → EReal := addN (actK P.f7 (P.bg 2 1) (P.be 2 1)) P.a2
/-- The kernel's result. -/
def outK (n c h w : ℕ) : EReal := celu (cvR 64 P.a3 P.w2 n c h w + P.b2 c) + P.x n c h w

end Par

/-! ## The stages on rows -/

section

variable (A : ℕ → ℕ → ℕ → ℕ → EReal) (g be : ℕ → EReal)

/-- The scales and shifts of a stage, as its table holds them. -/
def tab : ℕ → ℕ → EReal := packV (scaleV (statAll (lay A)) g) (shiftV (statAll (lay A)) g be)

/-- The mean from the statistics is the channel's mean. -/
theorem meanV_lay (c : ℕ) (hc : c < 64) : meanV (statAll (lay A)) c = meanR A c := by
  rw [meanV, sumV_lay A c hc, meanR]

/-- The scale from the statistics is the channel's. -/
theorem scaleV_lay (c : ℕ) (hc : c < 64) : scaleV (statAll (lay A)) g c = scK A g c := by
  rw [scaleV, sumV_lay_sq A c hc, meanV_lay A c hc, scK]

/-- The shift from the statistics is the channel's. -/
theorem shiftV_lay (c : ℕ) (hc : c < 64) : shiftV (statAll (lay A)) g be c = shK A g be c := by
  rw [shiftV, meanV_lay A c hc, scaleV_lay A g c hc, shK]

/-- Scale, shift and celu on rows are scale, shift and celu on images. -/
theorem actv_lay (r p l : ℕ) (s : ℕ → ℕ → EReal) (h0 : s 0 l = scaleV (statAll (lay A)) g (l % 64))
    (h1 : s 1 l = shiftV (statAll (lay A)) g be (l % 64)) :
    actv (lay A) (s 0) (s 1) r p l = lay (actK A g be) r p l := by
  rw [actv, h0, h1, scaleV_lay A g _ (Nat.mod_lt _ (by omega)), shiftV_lay A g be _ (Nat.mod_lt _ (by omega))]
  rfl

variable (D F : ℕ → ℕ → ℕ → ℕ → EReal)

/-- The packed filter. -/
def wid (i j : ℕ) : EReal := if j < 192 then F (j % 64) (i % 64) (j / 64) (i / 64) else 0

/-- The packed filter of the last stage. -/
def wid3 (i j : ℕ) : EReal := if j < 192 then (if j % 64 < 3 then F (j % 64) (i % 64) (j / 64) (i / 64) else 0) else 0

/-- The activated rows, read back as images. -/
theorem act_rows (r p l : ℕ) : actv (lay A) (tab A g be 0) (tab A g be 1) r p l = lay (actK A g be) r p l :=
  actv_lay A g be r p l (tab A g be) rfl rfl

/-- The activated rows with the skip connection, read back as images. -/
theorem actS_rows (r p l : ℕ) :
    actvS (lay A) (lay D) (tab A g be 0) (tab A g be 1) r p l = lay (addN (actK A g be) D) r p l := by
  rw [actvS, act_rows]
  rfl

/-- A stage's products on rows are the convolution on images. -/
theorem conv_rows (r p l : ℕ) (hr : r < 2048) (hp : p < 128) (hl : l < 128) :
    convAll (actv (lay A) (tab A g be 0) (tab A g be 1)) (wid F) r p l = lay (cvR 64 (actK A g be) F) r p l :=
  convAll_lay _ _ (fun r p l _ _ _ => act_rows A g be r p l) F _ (fun _ _ => rfl) r p l hr hp hl

/-- A stage's statistics are those of the convolution. -/
theorem stat_rows (b i l : ℕ) (hb : b < 64) (hl : l < 128) :
    statAll (convAll (actv (lay A) (tab A g be 0) (tab A g be 1)) (wid F)) b i l
      = statAll (lay (cvR 64 (actK A g be) F)) b i l :=
  statAll_lay _ _ (conv_rows A g be F) b i l hb hl

/-- The products of a stage with the skip connection are the convolution on images. -/
theorem convS_rows (r p l : ℕ) (hr : r < 2048) (hp : p < 128) (hl : l < 128) :
    convAll (actvS (lay A) (lay D) (tab A g be 0) (tab A g be 1)) (wid F) r p l
      = lay (cvR 64 (addN (actK A g be) D) F) r p l :=
  convAll_lay _ _ (fun r p l _ _ _ => actS_rows A g be D r p l) F _ (fun _ _ => rfl) r p l hr hp hl

/-- The statistics of a stage with the skip connection are those of the convolution. -/
theorem statS_rows (b i l : ℕ) (hb : b < 64) (hl : l < 128) :
    statAll (convAll (actvS (lay A) (lay D) (tab A g be 0) (tab A g be 1)) (wid F)) b i l
      = statAll (lay (cvR 64 (addN (actK A g be) D) F)) b i l :=
  statAll_lay _ _ (convS_rows A g be D F) b i l hb hl

/-- The table of the last stage. -/
def tabF (b : ℕ → EReal) : ℕ → ℕ → EReal :=
  packVF (scaleV (statAll (lay A)) g) (shiftV (statAll (lay A)) g be) b

/-- The last stage on rows is convolution, bias, celu and the addition of the image. -/
theorem fin_rows (b : ℕ → EReal) (X : ℕ → ℕ → ℕ → ℕ → EReal) (r p l : ℕ) (hr : r < 2048) (hp : p < 128) (hl : l < 6) :
    finAll (actvS (lay A) (lay D) (tabF A g be b 0) (tabF A g be b 1)) (wid3 F) (tabF A g be b 2) (lay3 X) r p l
      = lay3 (fun n c h w => celu (cvR 64 (addN (actK A g be) D) F n c h w + b c) + X n c h w) r p l := by
  rw [finAll, convAll3_lay _ (addN (actK A g be) D) (fun r p l _ _ hl => ?_) F (wid3 F) (fun _ _ => rfl) r p l hr hp hl]
  · have e : tabF A g be b 2 l = b (l % 3) := by simp [tabF, packVF, hl]
    rw [e]
    rfl
  · rw [actvS, actv_lay A g be r p l (tabF A g be b) rfl rfl]
    rfl

end

/-! ## The first stage -/

/-- The first stage's products on rows are the convolution on images. -/
theorem first_rows (X F : ℕ → ℕ → ℕ → ℕ → EReal) (r p l : ℕ) (hr : r < 2048) (hp : p < 128) (hl : l < 128) :
    convAll9 (fstAll (lay3 X) (instVal X)) (fun k o => F o (k % 6) (k / 18) (k / 6 % 3)) r p l
      = lay (cvR 6 (inputK X) F) r p l := by
  refine convAll9_lay _ _ (fun g p l hg hp hl => ?_) F _ (fun _ _ => rfl) r p l hr hp hl
  rw [fstAll_lay X (instVal X) (lay3 X) (fun _ _ _ _ _ _ => rfl) g p l hg hp hl]
  have h6 : l % 6 < 6 := Nat.mod_lt _ (by omega)
  unfold lay6 inputK
  by_cases c : l % 6 < 3
  · simp only [c, if_true]
  · have h3 : l % 6 - 3 < 3 := by omega
    simp only [c, if_false, instVal, h3, if_true, one_ne_zero]

/-- The first stage's statistics are those of the convolution. -/
theorem firstStat_rows (X F : ℕ → ℕ → ℕ → ℕ → EReal) (b i l : ℕ) (hb : b < 64) (hl : l < 128) :
    statAll (convAll9 (fstAll (lay3 X) (instVal X)) (fun k o => F o (k % 6) (k / 18) (k / 6 % 3))) b i l
      = statAll (lay (cvR 6 (inputK X) F)) b i l :=
  statAll_lay _ _ (first_rows X F) b i l hb hl

end Cert.Net

end
-- ==== Proof.WeightVal.lean ====
/- The filters as the kernels read them: the host operations before the first kernel. -/
module

public import proofs.«01_k».proof.Proof.HostVal
public import proofs.«01_k».proof.Proof.Gen.KernelIdeal.Frame.Fold0

@[expose] public section

set_option maxRecDepth 16384

noncomputable section

namespace Cert.KernelIdeal.Val

open Idealize.ShloMosaic Idealize.ShloMosaic.TcCoe Cert.KernelIdeal.Gen Cert.KernelIdeal

/-- Four arrays side by side. -/
def cat4 (a b c d : FVec Ideal S192x64 .f32) : FVec Ideal S192x256 .f32 :=
  concatenate S192x256 1 [⟨S192x64, a⟩, ⟨S192x64, b⟩, ⟨S192x64, c⟩, ⟨S192x64, d⟩]
    concatenates_S192x64_S192x64_S192x64_S192x64_S192x256_d1

/-- The array of zeros beside a filter. -/
def zeroA : FVec Ideal S192x64 .f32 := broadcastInDim S192x64 ![] bcast_S_S192x64 (constant S_ .f32 0x00000000#32)

/-- The zero that pads. -/
def zeroP : FVec Ideal S_ .f32 := sitofp .f32 (constantI S_ 32 0#32)

/-- One filter with rows in front: the filter row, then column and input channel, then output channel. -/
def rowsA (v : FVec Ideal S3x2x64x64x3x3 .f32) (o : Fin 6 → ℕ) (h : S3x2x64x64x3x3.Slices o S1x1x64x64x3x3) :
    FVec Ideal S3x192x64 .f32 :=
  shapeCast S3x192x64 (transpose S3x3x64x64 [2, 3, 1, 0] (shapeCast S64x64x3x3 (extractStridedSlice S1x1x64x64x3x3 o v h)
    shapeCasts_S1x1x64x64x3x3_S64x64x3x3) transposes_S64x64x3x3_S3x3x64x64_2_3_1_0) shapeCasts_S3x3x64x64_S3x192x64

/-- One row of the filter, padded by nothing. -/
def partA (t : FVec Ideal S3x192x64 .f32) (o : Fin 3 → ℕ) (h : S3x192x64.Slices o S1x192x64) : FVec Ideal S192x64 .f32 :=
  pad S192x64 ![0, 0] ![0, 0] ![0, 0] (shapeCast S192x64 (extractStridedSlice S1x192x64 o t h) shapeCasts_S1x192x64_S192x64)
    zeroP pads_S192x64_S192x64_000_000 h_S_

/-- A packed filter. -/
def wideA (v : FVec Ideal S3x2x64x64x3x3 .f32) (o : Fin 6 → ℕ) (h : S3x2x64x64x3x3.Slices o S1x1x64x64x3x3) :
    FVec Ideal S192x256 .f32 :=
  cat4 (partA (rowsA v o h) ![0, 0, 0] slices_S3x192x64_S1x192x64_0_0_0)
    (partA (rowsA v o h) ![1, 0, 0] slices_S3x192x64_S1x192x64_1_0_0)
    (partA (rowsA v o h) ![2, 0, 0] slices_S3x192x64_S1x192x64_2_0_0) zeroA

/-- One row of the last filter, padded to 64 output channels. -/
def partF (v : FVec Ideal S3x64x3x3 .f32) (o : Fin 3 → ℕ) (h : S3x192x3.Slices o S1x192x3) : FVec Ideal S192x64 .f32 :=
  pad S192x64 ![0, 0] ![0, 61] ![0, 0] (shapeCast S192x3 (extractStridedSlice S1x192x3 o (shapeCast S3x192x3
    (transpose S3x3x64x3 [2, 3, 1, 0] v transposes_S3x64x3x3_S3x3x64x3_2_3_1_0) shapeCasts_S3x3x64x3_S3x192x3) h)
    shapeCasts_S1x192x3_S192x3) zeroP pads_S192x3_S192x64_000_0610 h_S_

/-- The last filter, packed. -/
def wideF (v : FVec Ideal S3x64x3x3 .f32) : FVec Ideal S192x256 .f32 :=
  cat4 (partF v ![0, 0, 0] slices_S3x192x3_S1x192x3_0_0_0) (partF v ![1, 0, 0] slices_S3x192x3_S1x192x3_1_0_0)
    (partF v ![2, 0, 0] slices_S3x192x3_S1x192x3_2_0_0) zeroA

/-- The first filter, as a matrix. -/
def firstA (v : FVec Ideal S64x6x3x3 .f32) : FVec Ideal S54x64 .f32 :=
  shapeCast S54x64 (transpose S3x3x6x64 [2, 3, 1, 0] v transposes_S64x6x3x3_S3x3x6x64_2_3_1_0) shapeCasts_S3x3x6x64_S54x64

/-! ## The buffers before the first kernel -/

section

variable (m : (ℓ : Loc nD τ sig) → Buf (Elt Ideal) ℓ) (ρ : Dev nD → PrngReg) (c : Dev nD)

/-- The first stage's filter as laid out. -/
theorem filter1_val : W43 m ρ c (Proc.devRef .tc main_v1) = firstA (W0 m ρ c (Proc.devRef .tc main_arg1)) := by
  after_reads_simp
  rfl

/-- Filter (0, 0) of the stages inside as laid out. -/
theorem filter00_val : W43 m ρ c (Proc.devRef .tc main_v16)
    = wideA (W0 m ρ c (Proc.devRef .tc main_arg5)) ![0, 0, 0, 0, 0, 0]
      slices_S3x2x64x64x3x3_S1x1x64x64x3x3_0_0_0_0_0_0 := by
  have h : W43 m ρ c (Proc.devRef .tc main_v16) = cat4
      (StableHlo.upto hostOps0_6 (W6 m ρ c) 2 (Proc.devRef .tc main_v8))
      (StableHlo.upto hostOps0_6 (W6 m ρ c) 2 (Proc.devRef .tc main_v11))
      (StableHlo.upto hostOps0_6 (W6 m ρ c) 2 (Proc.devRef .tc main_v14))
      (StableHlo.upto hostOps0_6 (W6 m ρ c) 2 (Proc.devRef .tc main_v15)) := by
    after_reads_simp
    rfl
  rw [h]
  after_reads_simp
  rfl

/-- Filter (0, 1) of the stages inside as laid out. -/
theorem filter01_val : W43 m ρ c (Proc.devRef .tc main_v31)
    = wideA (W0 m ρ c (Proc.devRef .tc main_arg5)) ![0, 1, 0, 0, 0, 0]
      slices_S3x2x64x64x3x3_S1x1x64x64x3x3_0_1_0_0_0_0 := by
  have h : W43 m ρ c (Proc.devRef .tc main_v31) = cat4
      (StableHlo.upto hostOps0_12 (W12 m ρ c) 2 (Proc.devRef .tc main_v23))
      (StableHlo.upto hostOps0_12 (W12 m ρ c) 2 (Proc.devRef .tc main_v26))
      (StableHlo.upto hostOps0_12 (W12 m ρ c) 2 (Proc.devRef .tc main_v29))
      (StableHlo.upto hostOps0_12 (W12 m ρ c) 2 (Proc.devRef .tc main_v30)) := by
    after_reads_simp
    rfl
  rw [h]
  after_reads_simp
  rfl

/-- Filter (1, 0) of the stages inside as laid out. -/
theorem filter10_val : W43 m ρ c (Proc.devRef .tc main_v46)
    = wideA (W0 m ρ c (Proc.devRef .tc main_arg5)) ![1, 0, 0, 0, 0, 0]
      slices_S3x2x64x64x3x3_S1x1x64x64x3x3_1_0_0_0_0_0 := by
  have h : W43 m ρ c (Proc.devRef .tc main_v46) = cat4
      (StableHlo.upto hostOps0_18 (W18 m ρ c) 2 (Proc.devRef .tc main_v38))
      (StableHlo.upto hostOps0_18 (W18 m ρ c) 2 (Proc.devRef .tc main_v41))
      (StableHlo.upto hostOps0_18 (W18 m ρ c) 2 (Proc.devRef .tc main_v44))
      (StableHlo.upto hostOps0_18 (W18 m ρ c) 2 (Proc.devRef .tc main_v45)) := by
    after_reads_simp
    rfl
  rw [h]
  after_reads_simp
  rfl

/-- Filter (1, 1) of the stages inside as laid out. -/
theorem filter11_val : W43 m ρ c (Proc.devRef .tc main_v61)
    = wideA (W0 m ρ c (Proc.devRef .tc main_arg5)) ![1, 1, 0, 0, 0, 0]
      slices_S3x2x64x64x3x3_S1x1x64x64x3x3_1_1_0_0_0_0 := by
  have h : W43 m ρ c (Proc.devRef .tc main_v61) = cat4
      (StableHlo.upto hostOps0_24 (W24 m ρ c) 2 (Proc.devRef .tc main_v53))
      (StableHlo.upto hostOps0_24 (W24 m ρ c) 2 (Proc.devRef .tc main_v56))
      (StableHlo.upto hostOps0_24 (W24 m ρ c) 2 (Proc.devRef .tc main_v59))
      (StableHlo.upto hostOps0_24 (W24 m ρ c) 2 (Proc.devRef .tc main_v60)) := by
    after_reads_simp
    rfl
  rw [h]
  after_reads_simp
  rfl

/-- Filter (2, 0) of the stages inside as laid out. -/
theorem filter20_val : W43 m ρ c (Proc.devRef .tc main_v76)
    = wideA (W0 m ρ c (Proc.devRef .tc main_arg5)) ![2, 0, 0, 0, 0, 0]
      slices_S3x2x64x64x3x3_S1x1x64x64x3x3_2_0_0_0_0_0 := by
  have h : W43 m ρ c (Proc.devRef .tc main_v76) = cat4
      (StableHlo.upto hostOps0_30 (W30 m ρ c) 2 (Proc.devRef .tc main_v68))
      (StableHlo.upto hostOps0_30 (W30 m ρ c) 2 (Proc.devRef .tc main_v71))
      (StableHlo.upto hostOps0_30 (W30 m ρ c) 2 (Proc.devRef .tc main_v74))
      (StableHlo.upto hostOps0_30 (W30 m ρ c) 2 (Proc.devRef .tc main_v75)) := by
    after_reads_simp
    rfl
  rw [h]
  after_reads_simp
  rfl

/-- Filter (2, 1) of the stages inside as laid out. -/
theorem filter21_val : W43 m ρ c (Proc.devRef .tc main_v91)
    = wideA (W0 m ρ c (Proc.devRef .tc main_arg5)) ![2, 1, 0, 0, 0, 0]
      slices_S3x2x64x64x3x3_S1x1x64x64x3x3_2_1_0_0_0_0 := by
  have h : W43 m ρ c (Proc.devRef .tc main_v91) = cat4
      (StableHlo.upto hostOps0_36 (W36 m ρ c) 2 (Proc.devRef .tc main_v83))
      (StableHlo.upto hostOps0_36 (W36 m ρ c) 2 (Proc.devRef .tc main_v86))
      (StableHlo.upto hostOps0_36 (W36 m ρ c) 2 (Proc.devRef .tc main_v89))
      (StableHlo.upto hostOps0_36 (W36 m ρ c) 2 (Proc.devRef .tc main_v90)) := by
    after_reads_simp
    rfl
  rw [h]
  after_reads_simp
  rfl

/-- The last stage's filter as laid out. -/
theorem filterF_val : W43 m ρ c (Proc.devRef .tc main_v104)
    = wideF (W0 m ρ c (Proc.devRef .tc main_arg9)) := by
  have h : W43 m ρ c (Proc.devRef .tc main_v104) = cat4
      (StableHlo.upto hostOps0_42 (W42 m ρ c) 2 (Proc.devRef .tc main_v96))
      (StableHlo.upto hostOps0_42 (W42 m ρ c) 2 (Proc.devRef .tc main_v99))
      (StableHlo.upto hostOps0_42 (W42 m ρ c) 2 (Proc.devRef .tc main_v102))
      (StableHlo.upto hostOps0_42 (W42 m ρ c) 2 (Proc.devRef .tc main_v103)) := by
    after_reads_simp
    rfl
  rw [h]
  after_reads_simp
  rfl

end

/-! ## The values -/

/-- The padding value is zero. -/
theorem zeroP_eq (i : S_.Idx) : zeroP i = 0 := by
  show ((((0#32 : BitVec 32).toInt : ℝ)) : EReal) = 0
  norm_num

/-- The block of zeros at an index. -/
theorem zeroA_apply (y : S192x64.Idx) : zeroA y = 0 := by
  pointwise [zeroA]

/-- Four blocks side by side at an index. -/
theorem cat4_apply (a b c d : FVec Ideal S192x64 .f32) (A : ℕ → ℕ → ℕ → EReal) (ha : ∀ y, a y = A 0 (y 0).val (y 1).val)
    (hb : ∀ y, b y = A 1 (y 0).val (y 1).val) (hc : ∀ y, c y = A 2 (y 0).val (y 1).val)
    (hd : ∀ y, d y = A 3 (y 0).val (y 1).val) (y : S192x256.Idx) :
    cat4 a b c d y = A ((y 1).val / 64) (y 0).val ((y 1).val % 64) := by
  have h1 : (y 1).val < 256 := (y 1).isLt
  pointwise [cat4]
  by_cases c0 : (y 1).val < 64
  · rw [dif_pos c0]
    exact (ha _).trans (show A 0 (y 0).val (y 1).val = _ by
      rw [Nat.div_eq_of_lt c0, Nat.mod_eq_of_lt c0])
  rw [dif_neg c0]
  by_cases c1 : (y 1).val - 64 < 64
  · rw [dif_pos c1]
    exact (hb _).trans (show A 1 (y 0).val ((y 1).val - 64) = _ by
      rw [show (y 1).val / 64 = 1 by omega, show (y 1).val % 64 = (y 1).val - 64 by omega])
  rw [dif_neg c1]
  by_cases c2 : (y 1).val - 64 - 64 < 64
  · rw [dif_pos c2]
    exact (hc _).trans (show A 2 (y 0).val ((y 1).val - 64 - 64) = _ by
      rw [show (y 1).val / 64 = 2 by omega, show (y 1).val % 64 = (y 1).val - 64 - 64 by omega])
  rw [dif_neg c2]
  exact (hd _).trans (show A 3 (y 0).val ((y 1).val - 64 - 64 - 64) = _ by
    rw [show (y 1).val / 64 = 3 by omega, show (y 1).val % 64 = (y 1).val - 64 - 64 - 64 by omega])

/-- A filter of the stages inside as rows of (column tap, input channel), at an index. -/
theorem rowsA_apply (v : FVec Ideal S3x2x64x64x3x3 .f32) (i j : ℕ)
    (h : S3x2x64x64x3x3.Slices ![i, j, 0, 0, 0, 0] S1x1x64x64x3x3) (A : ℕ → ℕ → ℕ → ℕ → ℕ → ℕ → EReal)
    (hv : ∀ y, v y = A (y 0).val (y 1).val (y 2).val (y 3).val (y 4).val (y 5).val) (y : S3x192x64.Idx) :
    rowsA v ![i, j, 0, 0, 0, 0] h y = A i j (y 2).val ((y 1).val % 64) (y 0).val ((y 1).val / 64) := by
  have h1 : (y 1).val < 192 := (y 1).isLt
  pointwise [rowsA]
  exact hv _

/-- The part of one row tap at an index. -/
theorem partA_apply (t : FVec Ideal S3x192x64 .f32) (k : ℕ) (h : S3x192x64.Slices ![k, 0, 0] S1x192x64)
    (A : ℕ → ℕ → ℕ → EReal) (ht : ∀ y, t y = A (y 0).val (y 1).val (y 2).val) (y : S192x64.Idx) :
    partA t ![k, 0, 0] h y = A k (y 0).val (y 1).val := by
  pointwise [partA]
  exact ht _

/-- The part of one row tap of the last filter at an index, zero past the third channel. -/
theorem partF_apply (v : FVec Ideal S3x64x3x3 .f32) (k : ℕ) (h : S3x192x3.Slices ![k, 0, 0] S1x192x3)
    (A : ℕ → ℕ → ℕ → ℕ → EReal) (hv : ∀ y, v y = A (y 0).val (y 1).val (y 2).val (y 3).val) (y : S192x64.Idx) :
    partF v ![k, 0, 0] h y = if (y 1).val < 3 then A (y 1).val ((y 0).val % 64) k ((y 0).val / 64) else 0 := by
  have h0 : (y 0).val < 192 := (y 0).isLt
  pointwise [partF]
  by_cases c0 : (y 1).val < 3
  · rw [dif_pos c0]
    exact (hv _).trans (if_pos c0).symm
  · rw [dif_neg c0]
    exact (zeroP_eq _).trans (if_neg c0).symm

/-- The packed filter's entries: the last 64 columns are zero. -/
theorem wideA_apply (v : FVec Ideal S3x2x64x64x3x3 .f32) (i j : ℕ)
    (h : S3x2x64x64x3x3.Slices ![i, j, 0, 0, 0, 0] S1x1x64x64x3x3) (A : ℕ → ℕ → ℕ → ℕ → ℕ → ℕ → EReal)
    (hv : ∀ y, v y = A (y 0).val (y 1).val (y 2).val (y 3).val (y 4).val (y 5).val) (y : S192x256.Idx) :
    wideA v ![i, j, 0, 0, 0, 0] h y
      = if (y 1).val < 192 then A i j ((y 1).val % 64) ((y 0).val % 64) ((y 1).val / 64) ((y 0).val / 64) else 0 := by
  have hr := rowsA_apply v i j h A hv
  refine (cat4_apply _ _ _ _ (fun k r l => if k < 3 then A i j l (r % 64) k (r / 64) else 0) ?_ ?_ ?_ ?_ y).trans ?_
  · intro z
    exact partA_apply _ 0 _ (fun k r l => A i j l (r % 64) k (r / 64)) hr z
  · intro z
    exact partA_apply _ 1 _ (fun k r l => A i j l (r % 64) k (r / 64)) hr z
  · intro z
    exact partA_apply _ 2 _ (fun k r l => A i j l (r % 64) k (r / 64)) hr z
  · exact fun z => zeroA_apply z
  · have e : (y 1).val / 64 < 3 ↔ (y 1).val < 192 := by omega
    simp only [e]

/-- The last packed filter's entries: of each 64 columns three are filled. -/
theorem wideF_apply (v : FVec Ideal S3x64x3x3 .f32) (A : ℕ → ℕ → ℕ → ℕ → EReal)
    (hv : ∀ y, v y = A (y 0).val (y 1).val (y 2).val (y 3).val) (y : S192x256.Idx) :
    wideF v y = if (y 1).val < 192 then
      (if (y 1).val % 64 < 3 then A ((y 1).val % 64) ((y 0).val % 64) ((y 1).val / 64) ((y 0).val / 64) else 0) else 0 := by
  refine (cat4_apply _ _ _ _
    (fun k r l => if k < 3 then (if l < 3 then A l (r % 64) k (r / 64) else 0) else 0) ?_ ?_ ?_ ?_ y).trans ?_
  · exact fun z => partF_apply v 0 _ A hv z
  · exact fun z => partF_apply v 1 _ A hv z
  · exact fun z => partF_apply v 2 _ A hv z
  · exact fun z => zeroA_apply z
  · have e : (y 1).val / 64 < 3 ↔ (y 1).val < 192 := by omega
    simp only [e]

/-- The first stage's filter as laid out, at an index. -/
theorem firstA_apply (v : FVec Ideal S64x6x3x3 .f32)
    (A : ℕ → ℕ → ℕ → ℕ → EReal) (hv : ∀ y, v y = A (y 0).val (y 1).val (y 2).val (y 3).val) (y : S54x64.Idx) :
    firstA v y = A (y 1).val ((y 0).val % 6) ((y 0).val / 18) ((y 0).val / 6 % 3) := by
  have h0 : (y 0).val < 54 := (y 0).isLt
  pointwise [firstA]
  exact hv _

end Cert.KernelIdeal.Val

end
-- ==== Proof.RunVal.lean ====
/- The kernel's run: every buffer of the TensorCore ends at the last contents of the fold, the counters at zero. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic Cert.KernelIdeal.Gen Cert.KernelIdeal
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every execution ends, with the result array at the last contents of the fold and the arguments unchanged. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = W63 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj))
              : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => (BI.emp : sProp (MT nD τ sig Unit (Elt F) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W63 m ρ c b)
    (hfin := fun c s' => by
      iintro ⟨⟨Hh, -⟩, HSI⟩
      unfold StableHlo.held
      imodintro
      iapply (pointsTo_read_all (Pipeline.ucRefs τ sig) (fun b => (((c : Thread nD τ)).1, b)) (W63 m ρ c) s')
      isplitl [Hh] <;> iassumption)
    (hQ := fun s h hz => ⟨h, funext fun g => hz g (.inr (no_unscoped g.2))⟩)

end Cert.KernelIdeal.Val

end
-- ==== Proof.Region2Val.lean ====
/- The arrays that the first stage leaves. -/
module

public import proofs.«01_k».proof.Proof.FirstVal
public import proofs.«01_k».proof.Proof.Gen.KernelIdeal.Frame.Region2

@[expose] public section

set_option maxRecDepth 16384

noncomputable section

namespace Cert.KernelIdeal.Val

open Idealize.ShloMosaic Idealize.ShloMosaic.TcCoe Cert.KernelIdeal.Gen Cert.KernelIdeal

/-- Every window's block at a grid step. -/
theorem index2 : ∀ t : Fin cfg2.grid.N, win2_0.index t = ![t.val, 0, 0] ∧ win2_1.index t = ![32 * t.val - 1, 0, 0]
    ∧ win2_2.index t = ![min (32 * t.val + 32) 2047, 0, 0] ∧ win2_3.index t = ![0, 0, 0] ∧ win2_4.index t = ![0, 0]
    ∧ win2_5.index t = ![t.val, 0, 0] ∧ win2_6.index t = ![t.val, 0, 0] :=
  (by decide +kernel : ∀ t : Fin grid2.N, _)

/-- The grid steps whose block begins or ends an image, and the image of a step. -/
theorem edge2 : ∀ t : Fin cfg2.grid.N, t.val < 64 ∧ (kernelRun2_A.sl.v29 (grid2.coords t) = 1#1 ↔ t.val % 8 = 0)
    ∧ (kernelRun2_A.sl.v40 (grid2.coords t) = 1#1 ↔ t.val % 8 = 7) ∧ k2_off1 (grid2.coords t) = ![t.val / 8, 0, 0] :=
  (by decide +kernel : ∀ t : Fin grid2.N, _)

variable (V : (c : Dev nD) → (b : Ref sig .tc) → Buf (Elt Ideal) ((c.tc : Thread nD τ).loc b)) (c : Dev nD)
  (t : Fin cfg2.grid.N)

/-- The means and inverse deviations of the image of a step. -/
def inst2 : Vec Ideal S1x8x8 .f32 :=
  loadT (ms2_3 t) (hs2_3 t) (iblk2 V c 3 t) (k2_off1 (grid2.coords t)) (k2_off1_inb (grid2.coords t))
/-- The stores into the buffer of rows. -/
def rows2 : List (View.Piece (Elt Ideal) S34x128x12 .f32) :=
  rowPieces (first1 (kernelRun2_A.sl.v29 (grid2.coords t)) (inst2 V c t) (img1 (ms2_1 t) (hs2_1 t) (iblk2 V c 1 t)))
    (first1 (kernelRun2_A.sl.v40 (grid2.coords t)) (inst2 V c t) (img1 (ms2_2 t) (hs2_2 t) (iblk2 V c 2 t)))
    (first32 (inst2 V c t) (img32 (ms2_0 t) (hs2_0 t) (iblk2 V c 0 t)))

/-- What a step leaves in the result block. -/
theorem left2_0 (y : S32x128x128.Idx) : (outsAt2 V c t).1 y = View.canon (firstPieces scM2_1 scM2_2
    (wideE scM2_0 (rows2 V c t)) (wideO scM2_0 (rows2 V c t)) (loadW1 (ms2_4 t) (hs2_4 t) (iblk2 V c 4 t))) y := by
  unfold outsAt2 out2_A_5
  rw [View.read_writes_junk_eq_canon]
  rfl

/-- What a step leaves in the statistics block. -/
theorem left2_1 (y : S1x8x128.Idx) : (outsAt2 V c t).2 y = View.canon (firstStat scM2_1 scM2_2
    (wideE scM2_0 (rows2 V c t)) (wideO scM2_0 (rows2 V c t)) (loadW1 (ms2_4 t) (hs2_4 t) (iblk2 V c 4 t))) y := by
  unfold outsAt2 out2_A_6
  rw [View.read_writes_junk_eq_canon]
  rfl

variable (C T : ℕ → ℕ → ℕ → EReal) (W : ℕ → ℕ → EReal)
  (hC : ∀ y : S2048x128x6.Idx, V c (Pipeline.arrRef spec2 0) y = C (y 0).val (y 1).val (y 2).val)
  (hT : ∀ y : S8x8x8.Idx, V c (Pipeline.arrRef spec2 3) y = T (y 0).val (y 1).val (y 2).val)
  (hW : ∀ y : S54x64.Idx, V c (Pipeline.arrRef spec2 4) y = W (y 0).val (y 1).val)

include hC hT hW

/-- What a step leaves, by the arrays that the stage finds. -/
theorem step2 : (∀ y : S32x128x128.Idx, (outsAt2 V c t).1 y
      = convAll9 (fstAll C T) W (32 * t.val + (y 0).val) (y 1).val (y 2).val)
    ∧ ∀ y : S1x8x128.Idx, (outsAt2 V c t).2 y = statAll (convAll9 (fstAll C T) W) t.val (y 1).val (y 2).val := by
  obtain ⟨e0, e1, e2, e3, e4, -⟩ := index2 t
  have hp := first_step (ms2_3 t) (hs2_3 t) (iblk2 V c 3 t) (k2_off1 (grid2.coords t)) (k2_off1_inb (grid2.coords t))
    T (fun y => (hT _).trans ?_) (ms2_0 t) (hs2_0 t) (iblk2 V c 0 t) (ms2_1 t) (ms2_2 t) (hs2_1 t) (hs2_2 t)
    (iblk2 V c 1 t) (iblk2 V c 2 t) (ms2_4 t) (hs2_4 t) (iblk2 V c 4 t) W (fun y => (hW _).trans ?_)
    (kernelRun2_A.sl.v29 (grid2.coords t)) (kernelRun2_A.sl.v40 (grid2.coords t)) t.val C (edge2 t)
    (fun y => (hC _).trans ?_) (fun y => (hC _).trans ?_) (fun y => (hC _).trans ?_) scM2_0 scM2_1 scM2_2
    (rows2 V c t) rfl
  · exact ⟨fun y => (left2_0 V c t y).trans (hp.1 y), fun y => (left2_1 V c t y).trans (hp.2 y)⟩
  · blk_simp [e3]
  · blk_simp [e4]
  · blk_simp [e0]; simp [Nat.mul_comm]
  · blk_simp [e1]
  · blk_simp [e2]

/-- The result array is the convolution. -/
theorem arr2_5 : (dat2 V c).arrAt 5 cfg2.N
    = fun i => convAll9 (fstAll C T) W (i 0).val (i 1).val (i 2).val := by
  refine (dat2 V c).arrAt_eq_of_covers 5 _ (by decide +kernel) fun t hf y => ?_
  obtain ⟨-, -, -, -, -, e5, -⟩ := index2 t
  blk_simp
  rw [after2_5]
  refine ((step2 V c t C T W hC hT hW).1 y).trans ?_
  simp [e5, Nat.mul_comm]

/-- The statistics array holds the channel sums of each block. -/
theorem arr2_6 : (dat2 V c).arrAt 6 cfg2.N
    = fun i => statAll (convAll9 (fstAll C T) W) (i 0).val (i 1).val (i 2).val := by
  refine (dat2 V c).arrAt_eq_of_covers 6 _ (by decide +kernel) fun t hf y => ?_
  obtain ⟨-, -, -, -, -, -, e6⟩ := index2 t
  blk_simp
  rw [after2_6]
  refine ((step2 V c t C T W hC hT hW).2 y).trans ?_
  simp [e6]

end Cert.KernelIdeal.Val

end
-- ==== Proof.Region3Val.lean ====
/- The arrays that the first 64-channel stage leaves (no skip connection, the activated rows kept). -/
module

public import proofs.«01_k».proof.Proof.StageStep
public import proofs.«01_k».proof.Proof.Gen.KernelIdeal.Frame.Region3

@[expose] public section

set_option maxRecDepth 16384

noncomputable section

namespace Cert.KernelIdeal.Val

open Idealize.ShloMosaic Idealize.ShloMosaic.TcCoe Cert.KernelIdeal.Gen Cert.KernelIdeal

/-- Every window's block at a grid step. -/
theorem index3 : ∀ t : Fin cfg3.grid.N, win3_0.index t = ![t.val, 0, 0] ∧ win3_1.index t = ![32 * t.val - 1, 0, 0]
    ∧ win3_2.index t = ![min (32 * t.val + 32) 2047, 0, 0] ∧ win3_3.index t = ![0, 0] ∧ win3_4.index t = ![0, 0]
    ∧ win3_5.index t = ![t.val, 0, 0] ∧ win3_6.index t = ![t.val, 0, 0] ∧ win3_7.index t = ![t.val, 0, 0] :=
  (by decide +kernel : ∀ t : Fin grid3.N, _)

/-- The grid steps whose block begins or ends an image. -/
theorem edge3 : ∀ t : Fin cfg3.grid.N, t.val < 64 ∧ (kernelRun3_A.sl.v12 (grid3.coords t) = 1#1 ↔ t.val % 8 = 0)
    ∧ (kernelRun3_A.sl.v23 (grid3.coords t) = 1#1 ↔ t.val % 8 = 7) :=
  (by decide +kernel : ∀ t : Fin grid3.N, _)

variable (V : (c : Dev nD) → (b : Ref sig .tc) → Buf (Elt Ideal) ((c.tc : Thread nD τ).loc b)) (c : Dev nD)
  (t : Fin cfg3.grid.N)

/-- The rows of a step, and the rows above and below. -/
def main3 : FVec Ideal S32x128x128 .f32 :=
  mainP (ms3_3 t) (hs3_3 t) (iblk3 V c 3 t) (ms3_0 t) (hs3_0 t) (iblk3 V c 0 t)
@[inherit_doc main3] def top3 : FVec Ideal S1x128x128 .f32 :=
  sideP (ms3_3 t) (hs3_3 t) (iblk3 V c 3 t) (ms3_1 t) (hs3_1 t) (iblk3 V c 1 t) (kernelRun3_A.sl.v12 (grid3.coords t))
@[inherit_doc main3] def bot3 : FVec Ideal S1x128x128 .f32 :=
  sideP (ms3_3 t) (hs3_3 t) (iblk3 V c 3 t) (ms3_2 t) (hs3_2 t) (iblk3 V c 2 t) (kernelRun3_A.sl.v23 (grid3.coords t))

/-- What a step leaves in the result block. -/
theorem left3_0 (y : S32x128x128.Idx) : (outsAt3 V c t).1 y = View.canon (stepOut scM3_0 scM3_1 scM3_2 scM3_3
    (top3 V c t) (bot3 V c t) (main3 V c t) (loadW (ms3_4 t) (hs3_4 t) (iblk3 V c 4 t))) y := by
  unfold outsAt3 out3_A_5
  rw [View.read_writes_junk_eq_canon]
  rfl

/-- What a step leaves in the statistics block. -/
theorem left3_1 (y : S1x8x128.Idx) : (outsAt3 V c t).2.1 y = View.canon (stepStat scM3_0 scM3_1 scM3_2 scM3_3
    (top3 V c t) (bot3 V c t) (main3 V c t) (loadW (ms3_4 t) (hs3_4 t) (iblk3 V c 4 t))) y := by
  unfold outsAt3 out3_A_6
  rw [View.read_writes_junk_eq_canon]
  rfl

/-- What a step leaves in the block of activated rows. -/
theorem left3_2 (y : S32x128x128.Idx) : (outsAt3 V c t).2.2 y = View.canon (wholePieces (main3 V c t)) y := by
  unfold outsAt3 out3_A_7
  rw [View.read_writes_junk_eq_canon]
  rfl

variable (C : ℕ → ℕ → ℕ → EReal) (S : ℕ → ℕ → EReal) (W : ℕ → ℕ → EReal)
  (hC : ∀ y : S2048x128x128.Idx, V c (Pipeline.arrRef spec3 0) y = C (y 0).val (y 1).val (y 2).val)
  (hS : ∀ y : S8x128.Idx, V c (Pipeline.arrRef spec3 3) y = S (y 0).val (y 1).val)
  (hW : ∀ y : S192x256.Idx, V c (Pipeline.arrRef spec3 4) y = W (y 0).val (y 1).val)

include hC hS hW

/-- What a step leaves, by the arrays that the stage finds. -/
theorem step3 : (∀ y : S32x128x128.Idx, (outsAt3 V c t).1 y
      = convAll (actv C (S 0) (S 1)) W (32 * t.val + (y 0).val) (y 1).val (y 2).val)
    ∧ (∀ y : S1x8x128.Idx, (outsAt3 V c t).2.1 y
      = statAll (convAll (actv C (S 0) (S 1)) W) t.val (y 1).val (y 2).val)
    ∧ ∀ y : S32x128x128.Idx, (outsAt3 V c t).2.2 y
      = actv C (S 0) (S 1) (32 * t.val + (y 0).val) (y 1).val (y 2).val := by
  obtain ⟨e0, e1, e2, e3, e4, -⟩ := index3 t
  have hm := fun y => (left3_2 V c t y).trans (wholePieces_apply _ (fun r => actv C (S 0) (S 1) (32 * t.val + r))
    (mainP_apply (ms3_3 t) (hs3_3 t) (iblk3 V c 3 t) (ms3_0 t) (hs3_0 t) (iblk3 V c 0 t) S (fun y => (hS _).trans ?_) C _
      (fun y => (hC _).trans ?_)) y)
  have hp := plain_step (ms3_3 t) (hs3_3 t) (iblk3 V c 3 t) (ms3_0 t) (hs3_0 t) (iblk3 V c 0 t) (ms3_1 t) (hs3_1 t)
    (iblk3 V c 1 t) _ S (fun y => (hS _).trans ?_) C scM3_0 scM3_1 scM3_2 scM3_3 (ms3_2 t) (hs3_2 t)
    (iblk3 V c 2 t) _ (ms3_4 t) (hs3_4 t) (iblk3 V c 4 t) W t.val (fun y => (hW _).trans ?_) (edge3 t)
    (fun y => (hC _).trans ?_) (fun y => (hC _).trans ?_) (fun y => (hC _).trans ?_)
  · exact ⟨fun y => (left3_0 V c t y).trans (hp.1 y), fun y => (left3_1 V c t y).trans (hp.2 y), hm⟩
  · blk_simp [e3]
  · blk_simp [e4]
  · blk_simp [e0]; simp [Nat.mul_comm]
  · blk_simp [e1]
  · blk_simp [e2]
  · blk_simp [e3]
  · blk_simp [e0]; simp [Nat.mul_comm]

/-- The result array is the convolution of the activated rows. -/
theorem arr3_5 : (dat3 V c).arrAt 5 cfg3.N
    = fun i => convAll (actv C (S 0) (S 1)) W (i 0).val (i 1).val (i 2).val := by
  refine (dat3 V c).arrAt_eq_of_covers 5 _ (by decide +kernel) fun t hf y => ?_
  obtain ⟨-, -, -, -, -, e5, -⟩ := index3 t
  blk_simp
  rw [after3_5]
  refine ((step3 V c t C S W hC hS hW).1 y).trans ?_
  simp [e5, Nat.mul_comm]

/-- The statistics array holds the channel sums of each block. -/
theorem arr3_6 : (dat3 V c).arrAt 6 cfg3.N
    = fun i => statAll (convAll (actv C (S 0) (S 1)) W) (i 0).val (i 1).val (i 2).val := by
  refine (dat3 V c).arrAt_eq_of_covers 6 _ (by decide +kernel) fun t hf y => ?_
  obtain ⟨-, -, -, -, -, -, e6, -⟩ := index3 t
  blk_simp
  rw [after3_6]
  refine ((step3 V c t C S W hC hS hW).2.1 y).trans ?_
  simp [e6]

/-- The array of activated rows. -/
theorem arr3_7 : (dat3 V c).arrAt 7 cfg3.N = fun i => actv C (S 0) (S 1) (i 0).val (i 1).val (i 2).val := by
  refine (dat3 V c).arrAt_eq_of_covers 7 _ (by decide +kernel) fun t hf y => ?_
  obtain ⟨-, -, -, -, -, -, -, e7⟩ := index3 t
  blk_simp
  rw [after3_7]
  refine ((step3 V c t C S W hC hS hW).2.2 y).trans ?_
  simp [e7, Nat.mul_comm]

end Cert.KernelIdeal.Val

end
-- ==== Proof.Region4Val.lean ====
/- The arrays that the second 64-channel stage leaves (no skip connection). -/
module

public import proofs.«01_k».proof.Proof.StageStep
public import proofs.«01_k».proof.Proof.Gen.KernelIdeal.Frame.Region4

@[expose] public section

set_option maxRecDepth 16384

noncomputable section

namespace Cert.KernelIdeal.Val

open Idealize.ShloMosaic Idealize.ShloMosaic.TcCoe Cert.KernelIdeal.Gen Cert.KernelIdeal

/-- Every window's block at a grid step. -/
theorem index4 : ∀ t : Fin cfg4.grid.N, win4_0.index t = ![t.val, 0, 0] ∧ win4_1.index t = ![32 * t.val - 1, 0, 0]
    ∧ win4_2.index t = ![min (32 * t.val + 32) 2047, 0, 0] ∧ win4_3.index t = ![0, 0] ∧ win4_4.index t = ![0, 0]
    ∧ win4_5.index t = ![t.val, 0, 0] ∧ win4_6.index t = ![t.val, 0, 0] :=
  (by decide +kernel : ∀ t : Fin grid4.N, _)

/-- The grid steps whose block begins or ends an image. -/
theorem edge4 : ∀ t : Fin cfg4.grid.N, t.val < 64 ∧ (kernelRun4_A.sl.v12 (grid4.coords t) = 1#1 ↔ t.val % 8 = 0)
    ∧ (kernelRun4_A.sl.v23 (grid4.coords t) = 1#1 ↔ t.val % 8 = 7) :=
  (by decide +kernel : ∀ t : Fin grid4.N, _)

variable (V : (c : Dev nD) → (b : Ref sig .tc) → Buf (Elt Ideal) ((c.tc : Thread nD τ).loc b)) (c : Dev nD)
  (t : Fin cfg4.grid.N)

/-- The rows of a step, and the rows above and below. -/
def main4 : FVec Ideal S32x128x128 .f32 :=
  mainP (ms4_3 t) (hs4_3 t) (iblk4 V c 3 t) (ms4_0 t) (hs4_0 t) (iblk4 V c 0 t)
@[inherit_doc main4] def top4 : FVec Ideal S1x128x128 .f32 :=
  sideP (ms4_3 t) (hs4_3 t) (iblk4 V c 3 t) (ms4_1 t) (hs4_1 t) (iblk4 V c 1 t) (kernelRun4_A.sl.v12 (grid4.coords t))
@[inherit_doc main4] def bot4 : FVec Ideal S1x128x128 .f32 :=
  sideP (ms4_3 t) (hs4_3 t) (iblk4 V c 3 t) (ms4_2 t) (hs4_2 t) (iblk4 V c 2 t) (kernelRun4_A.sl.v23 (grid4.coords t))

/-- What a step leaves in the result block. -/
theorem left4_0 (y : S32x128x128.Idx) : (outsAt4 V c t).1 y = View.canon (stepOut scM4_0 scM4_1 scM4_2 scM4_3
    (top4 V c t) (bot4 V c t) (main4 V c t) (loadW (ms4_4 t) (hs4_4 t) (iblk4 V c 4 t))) y := by
  unfold outsAt4 out4_A_5
  rw [View.read_writes_junk_eq_canon]
  rfl

/-- What a step leaves in the statistics block. -/
theorem left4_1 (y : S1x8x128.Idx) : (outsAt4 V c t).2 y = View.canon (stepStat scM4_0 scM4_1 scM4_2 scM4_3
    (top4 V c t) (bot4 V c t) (main4 V c t) (loadW (ms4_4 t) (hs4_4 t) (iblk4 V c 4 t))) y := by
  unfold outsAt4 out4_A_6
  rw [View.read_writes_junk_eq_canon]
  rfl

variable (C : ℕ → ℕ → ℕ → EReal) (S : ℕ → ℕ → EReal) (W : ℕ → ℕ → EReal)
  (hC : ∀ y : S2048x128x128.Idx, V c (Pipeline.arrRef spec4 0) y = C (y 0).val (y 1).val (y 2).val)
  (hS : ∀ y : S8x128.Idx, V c (Pipeline.arrRef spec4 3) y = S (y 0).val (y 1).val)
  (hW : ∀ y : S192x256.Idx, V c (Pipeline.arrRef spec4 4) y = W (y 0).val (y 1).val)

include hC hS hW

/-- What a step leaves, by the arrays that the stage finds. -/
theorem step4 : (∀ y : S32x128x128.Idx, (outsAt4 V c t).1 y
      = convAll (actv C (S 0) (S 1)) W (32 * t.val + (y 0).val) (y 1).val (y 2).val)
    ∧ ∀ y : S1x8x128.Idx, (outsAt4 V c t).2 y = statAll (convAll (actv C (S 0) (S 1)) W) t.val (y 1).val (y 2).val := by
  obtain ⟨e0, e1, e2, e3, e4, -⟩ := index4 t
  have hp := plain_step (ms4_3 t) (hs4_3 t) (iblk4 V c 3 t) (ms4_0 t) (hs4_0 t) (iblk4 V c 0 t) (ms4_1 t) (hs4_1 t)
    (iblk4 V c 1 t) _ S (fun y => (hS _).trans ?_) C scM4_0 scM4_1 scM4_2 scM4_3 (ms4_2 t) (hs4_2 t)
    (iblk4 V c 2 t) _ (ms4_4 t) (hs4_4 t) (iblk4 V c 4 t) W t.val (fun y => (hW _).trans ?_) (edge4 t)
    (fun y => (hC _).trans ?_) (fun y => (hC _).trans ?_) (fun y => (hC _).trans ?_)
  · exact ⟨fun y => (left4_0 V c t y).trans (hp.1 y), fun y => (left4_1 V c t y).trans (hp.2 y)⟩
  · blk_simp [e3]
  · blk_simp [e4]
  · blk_simp [e0]; simp [Nat.mul_comm]
  · blk_simp [e1]
  · blk_simp [e2]

/-- The result array is the convolution of the activated rows. -/
theorem arr4_5 : (dat4 V c).arrAt 5 cfg4.N
    = fun i => convAll (actv C (S 0) (S 1)) W (i 0).val (i 1).val (i 2).val := by
  refine (dat4 V c).arrAt_eq_of_covers 5 _ (by decide +kernel) fun t hf y => ?_
  obtain ⟨-, -, -, -, -, e5, -⟩ := index4 t
  blk_simp
  rw [after4_5]
  refine ((step4 V c t C S W hC hS hW).1 y).trans ?_
  simp [e5, Nat.mul_comm]

/-- The statistics array holds the channel sums of each block. -/
theorem arr4_6 : (dat4 V c).arrAt 6 cfg4.N
    = fun i => statAll (convAll (actv C (S 0) (S 1)) W) (i 0).val (i 1).val (i 2).val := by
  refine (dat4 V c).arrAt_eq_of_covers 6 _ (by decide +kernel) fun t hf y => ?_
  obtain ⟨-, -, -, -, -, -, e6⟩ := index4 t
  blk_simp
  rw [after4_6]
  refine ((step4 V c t C S W hC hS hW).2 y).trans ?_
  simp [e6]

end Cert.KernelIdeal.Val

end
-- ==== Proof.Region5Val.lean ====
/- The arrays that the third 64-channel stage leaves (with the skip connection, the activated rows kept). -/
module

public import proofs.«01_k».proof.Proof.StageStep
public import proofs.«01_k».proof.Proof.Gen.KernelIdeal.Frame.Region5

@[expose] public section

set_option maxRecDepth 16384

noncomputable section

namespace Cert.KernelIdeal.Val

open Idealize.ShloMosaic Idealize.ShloMosaic.TcCoe Cert.KernelIdeal.Gen Cert.KernelIdeal

/-- Every window's block at a grid step. -/
theorem index5 : ∀ t : Fin cfg5.grid.N, win5_0.index t = ![t.val, 0, 0] ∧ win5_1.index t = ![32 * t.val - 1, 0, 0]
    ∧ win5_2.index t = ![min (32 * t.val + 32) 2047, 0, 0] ∧ win5_3.index t = ![t.val, 0, 0]
    ∧ win5_4.index t = ![32 * t.val - 1, 0, 0] ∧ win5_5.index t = ![min (32 * t.val + 32) 2047, 0, 0]
    ∧ win5_6.index t = ![0, 0] ∧ win5_7.index t = ![0, 0]
    ∧ win5_8.index t = ![t.val, 0, 0] ∧ win5_9.index t = ![t.val, 0, 0] ∧ win5_10.index t = ![t.val, 0, 0] :=
  (by decide +kernel : ∀ t : Fin grid5.N, _)

/-- The grid steps whose block begins or ends an image. -/
theorem edge5 : ∀ t : Fin cfg5.grid.N, t.val < 64 ∧ (kernelRun5_A.sl.v12 (grid5.coords t) = 1#1 ↔ t.val % 8 = 0)
    ∧ (kernelRun5_A.sl.v23 (grid5.coords t) = 1#1 ↔ t.val % 8 = 7) :=
  (by decide +kernel : ∀ t : Fin grid5.N, _)

variable (V : (c : Dev nD) → (b : Ref sig .tc) → Buf (Elt Ideal) ((c.tc : Thread nD τ).loc b)) (c : Dev nD)
  (t : Fin cfg5.grid.N)

/-- The rows of a step, and the rows above and below. -/
def main5 : FVec Ideal S32x128x128 .f32 :=
  mainS (ms5_6 t) (hs5_6 t) (iblk5 V c 6 t) (ms5_0 t) (ms5_3 t) (hs5_0 t) (hs5_3 t) (iblk5 V c 0 t) (iblk5 V c 3 t)
@[inherit_doc main5] def top5 : FVec Ideal S1x128x128 .f32 :=
  sideS (ms5_6 t) (hs5_6 t) (iblk5 V c 6 t) (ms5_1 t) (ms5_4 t) (hs5_1 t) (hs5_4 t) (iblk5 V c 1 t) (iblk5 V c 4 t)
    (kernelRun5_A.sl.v12 (grid5.coords t))
@[inherit_doc main5] def bot5 : FVec Ideal S1x128x128 .f32 :=
  sideS (ms5_6 t) (hs5_6 t) (iblk5 V c 6 t) (ms5_2 t) (ms5_5 t) (hs5_2 t) (hs5_5 t) (iblk5 V c 2 t) (iblk5 V c 5 t)
    (kernelRun5_A.sl.v23 (grid5.coords t))

/-- What a step leaves in the result block. -/
theorem left5_0 (y : S32x128x128.Idx) : (outsAt5 V c t).1 y = View.canon (stepOut scM5_0 scM5_1 scM5_2 scM5_3
    (top5 V c t) (bot5 V c t) (main5 V c t) (loadW (ms5_7 t) (hs5_7 t) (iblk5 V c 7 t))) y := by
  unfold outsAt5 out5_A_8
  rw [View.read_writes_junk_eq_canon]
  rfl

/-- What a step leaves in the statistics block. -/
theorem left5_1 (y : S1x8x128.Idx) : (outsAt5 V c t).2.1 y = View.canon (stepStat scM5_0 scM5_1 scM5_2 scM5_3
    (top5 V c t) (bot5 V c t) (main5 V c t) (loadW (ms5_7 t) (hs5_7 t) (iblk5 V c 7 t))) y := by
  unfold outsAt5 out5_A_9
  rw [View.read_writes_junk_eq_canon]
  rfl

/-- What a step leaves in the block of activated rows. -/
theorem left5_2 (y : S32x128x128.Idx) : (outsAt5 V c t).2.2 y = View.canon (wholePieces (main5 V c t)) y := by
  unfold outsAt5 out5_A_10
  rw [View.read_writes_junk_eq_canon]
  rfl

variable (C D : ℕ → ℕ → ℕ → EReal) (S : ℕ → ℕ → EReal) (W : ℕ → ℕ → EReal)
  (hC : ∀ y : S2048x128x128.Idx, V c (Pipeline.arrRef spec5 0) y = C (y 0).val (y 1).val (y 2).val)
  (hD : ∀ y : S2048x128x128.Idx, V c (Pipeline.arrRef spec5 3) y = D (y 0).val (y 1).val (y 2).val)
  (hS : ∀ y : S8x128.Idx, V c (Pipeline.arrRef spec5 6) y = S (y 0).val (y 1).val)
  (hW : ∀ y : S192x256.Idx, V c (Pipeline.arrRef spec5 7) y = W (y 0).val (y 1).val)

include hC hD hS hW

/-- What a step leaves, by the arrays that the stage finds. -/
theorem step5 : (∀ y : S32x128x128.Idx, (outsAt5 V c t).1 y
      = convAll (actvS C D (S 0) (S 1)) W (32 * t.val + (y 0).val) (y 1).val (y 2).val)
    ∧ (∀ y : S1x8x128.Idx, (outsAt5 V c t).2.1 y
      = statAll (convAll (actvS C D (S 0) (S 1)) W) t.val (y 1).val (y 2).val)
    ∧ ∀ y : S32x128x128.Idx, (outsAt5 V c t).2.2 y
      = actvS C D (S 0) (S 1) (32 * t.val + (y 0).val) (y 1).val (y 2).val := by
  obtain ⟨e0, e1, e2, e3, e4, e5, e6, e7, -⟩ := index5 t
  have q6 : ∀ y, iblk5 V c 6 t y = S (y 0).val (y 1).val := fun y => (hS _).trans (by blk_simp [e6])
  have q0 : ∀ y, iblk5 V c 0 t y = C (32 * t.val + (y 0).val) (y 1).val (y 2).val :=
    fun y => (hC _).trans (by blk_simp [e0]; simp [Nat.mul_comm])
  have q3 : ∀ y, iblk5 V c 3 t y = D (32 * t.val + (y 0).val) (y 1).val (y 2).val :=
    fun y => (hD _).trans (by blk_simp [e3]; simp [Nat.mul_comm])
  have hm := fun y => (left5_2 V c t y).trans (wholePieces_apply _ (fun r => actvS C D (S 0) (S 1) (32 * t.val + r))
    (mainS_apply (ms5_6 t) (hs5_6 t) (iblk5 V c 6 t) (ms5_0 t) (ms5_3 t) (hs5_0 t) (hs5_3 t) (iblk5 V c 0 t)
      (iblk5 V c 3 t) S q6 C D _ q0 q3) y)
  have hp := skip_step (ms5_6 t) (hs5_6 t) (iblk5 V c 6 t) (ms5_0 t) (ms5_3 t) (hs5_0 t) (hs5_3 t) (iblk5 V c 0 t)
    (iblk5 V c 3 t) (ms5_1 t) (ms5_4 t) (hs5_1 t) (hs5_4 t) (iblk5 V c 1 t) (iblk5 V c 4 t) _ S q6 C D
    scM5_0 scM5_1 scM5_2 scM5_3 (ms5_2 t) (ms5_5 t) (hs5_2 t) (hs5_5 t) (iblk5 V c 2 t) (iblk5 V c 5 t) _
    (ms5_7 t) (hs5_7 t) (iblk5 V c 7 t) W t.val (fun y => (hW _).trans ?_) (edge5 t)
    q0 (fun y => (hC _).trans ?_) (fun y => (hC _).trans ?_) q3 (fun y => (hD _).trans ?_) (fun y => (hD _).trans ?_)
  · exact ⟨fun y => (left5_0 V c t y).trans (hp.1 y), fun y => (left5_1 V c t y).trans (hp.2 y), hm⟩
  · blk_simp [e7]
  · blk_simp [e1]
  · blk_simp [e2]
  · blk_simp [e4]
  · blk_simp [e5]

/-- The result array is the convolution of the activated rows. -/
theorem arr5_8 : (dat5 V c).arrAt 8 cfg5.N
    = fun i => convAll (actvS C D (S 0) (S 1)) W (i 0).val (i 1).val (i 2).val := by
  refine (dat5 V c).arrAt_eq_of_covers 8 _ (by decide +kernel) fun t hf y => ?_
  obtain ⟨-, -, -, -, -, -, -, -, e8, -⟩ := index5 t
  blk_simp
  rw [after5_8]
  refine ((step5 V c t C D S W hC hD hS hW).1 y).trans ?_
  simp [e8, Nat.mul_comm]

/-- The statistics array holds the channel sums of each block. -/
theorem arr5_9 : (dat5 V c).arrAt 9 cfg5.N
    = fun i => statAll (convAll (actvS C D (S 0) (S 1)) W) (i 0).val (i 1).val (i 2).val := by
  refine (dat5 V c).arrAt_eq_of_covers 9 _ (by decide +kernel) fun t hf y => ?_
  obtain ⟨-, -, -, -, -, -, -, -, -, e9, -⟩ := index5 t
  blk_simp
  rw [after5_9]
  refine ((step5 V c t C D S W hC hD hS hW).2.1 y).trans ?_
  simp [e9]

/-- The array of activated rows. -/
theorem arr5_10 : (dat5 V c).arrAt 10 cfg5.N
    = fun i => actvS C D (S 0) (S 1) (i 0).val (i 1).val (i 2).val := by
  refine (dat5 V c).arrAt_eq_of_covers 10 _ (by decide +kernel) fun t hf y => ?_
  obtain ⟨-, -, -, -, -, -, -, -, -, -, e10⟩ := index5 t
  blk_simp
  rw [after5_10]
  refine ((step5 V c t C D S W hC hD hS hW).2.2 y).trans ?_
  simp [e10, Nat.mul_comm]

end Cert.KernelIdeal.Val

end
-- ==== Proof.Region6Val.lean ====
/- The arrays that the fourth 64-channel stage leaves (no skip connection). -/
module

public import proofs.«01_k».proof.Proof.StageStep
public import proofs.«01_k».proof.Proof.Gen.KernelIdeal.Frame.Region6

@[expose] public section

set_option maxRecDepth 16384

noncomputable section

namespace Cert.KernelIdeal.Val

open Idealize.ShloMosaic Idealize.ShloMosaic.TcCoe Cert.KernelIdeal.Gen Cert.KernelIdeal

/-- Every window's block at a grid step. -/
theorem index6 : ∀ t : Fin cfg6.grid.N, win6_0.index t = ![t.val, 0, 0] ∧ win6_1.index t = ![32 * t.val - 1, 0, 0]
    ∧ win6_2.index t = ![min (32 * t.val + 32) 2047, 0, 0] ∧ win6_3.index t = ![0, 0] ∧ win6_4.index t = ![0, 0]
    ∧ win6_5.index t = ![t.val, 0, 0] ∧ win6_6.index t = ![t.val, 0, 0] :=
  (by decide +kernel : ∀ t : Fin grid6.N, _)

/-- The grid steps whose block begins or ends an image. -/
theorem edge6 : ∀ t : Fin cfg6.grid.N, t.val < 64 ∧ (kernelRun6_A.sl.v12 (grid6.coords t) = 1#1 ↔ t.val % 8 = 0)
    ∧ (kernelRun6_A.sl.v23 (grid6.coords t) = 1#1 ↔ t.val % 8 = 7) :=
  (by decide +kernel : ∀ t : Fin grid6.N, _)

variable (V : (c : Dev nD) → (b : Ref sig .tc) → Buf (Elt Ideal) ((c.tc : Thread nD τ).loc b)) (c : Dev nD)
  (t : Fin cfg6.grid.N)

/-- The rows of a step, and the rows above and below. -/
def main6 : FVec Ideal S32x128x128 .f32 :=
  mainP (ms6_3 t) (hs6_3 t) (iblk6 V c 3 t) (ms6_0 t) (hs6_0 t) (iblk6 V c 0 t)
@[inherit_doc main6] def top6 : FVec Ideal S1x128x128 .f32 :=
  sideP (ms6_3 t) (hs6_3 t) (iblk6 V c 3 t) (ms6_1 t) (hs6_1 t) (iblk6 V c 1 t) (kernelRun6_A.sl.v12 (grid6.coords t))
@[inherit_doc main6] def bot6 : FVec Ideal S1x128x128 .f32 :=
  sideP (ms6_3 t) (hs6_3 t) (iblk6 V c 3 t) (ms6_2 t) (hs6_2 t) (iblk6 V c 2 t) (kernelRun6_A.sl.v23 (grid6.coords t))

/-- What a step leaves in the result block. -/
theorem left6_0 (y : S32x128x128.Idx) : (outsAt6 V c t).1 y = View.canon (stepOut scM6_0 scM6_1 scM6_2 scM6_3
    (top6 V c t) (bot6 V c t) (main6 V c t) (loadW (ms6_4 t) (hs6_4 t) (iblk6 V c 4 t))) y := by
  unfold outsAt6 out6_A_5
  rw [View.read_writes_junk_eq_canon]
  rfl

/-- What a step leaves in the statistics block. -/
theorem left6_1 (y : S1x8x128.Idx) : (outsAt6 V c t).2 y = View.canon (stepStat scM6_0 scM6_1 scM6_2 scM6_3
    (top6 V c t) (bot6 V c t) (main6 V c t) (loadW (ms6_4 t) (hs6_4 t) (iblk6 V c 4 t))) y := by
  unfold outsAt6 out6_A_6
  rw [View.read_writes_junk_eq_canon]
  rfl

variable (C : ℕ → ℕ → ℕ → EReal) (S : ℕ → ℕ → EReal) (W : ℕ → ℕ → EReal)
  (hC : ∀ y : S2048x128x128.Idx, V c (Pipeline.arrRef spec6 0) y = C (y 0).val (y 1).val (y 2).val)
  (hS : ∀ y : S8x128.Idx, V c (Pipeline.arrRef spec6 3) y = S (y 0).val (y 1).val)
  (hW : ∀ y : S192x256.Idx, V c (Pipeline.arrRef spec6 4) y = W (y 0).val (y 1).val)

include hC hS hW

/-- What a step leaves, by the arrays that the stage finds. -/
theorem step6 : (∀ y : S32x128x128.Idx, (outsAt6 V c t).1 y
      = convAll (actv C (S 0) (S 1)) W (32 * t.val + (y 0).val) (y 1).val (y 2).val)
    ∧ ∀ y : S1x8x128.Idx, (outsAt6 V c t).2 y = statAll (convAll (actv C (S 0) (S 1)) W) t.val (y 1).val (y 2).val := by
  obtain ⟨e0, e1, e2, e3, e4, -⟩ := index6 t
  have hp := plain_step (ms6_3 t) (hs6_3 t) (iblk6 V c 3 t) (ms6_0 t) (hs6_0 t) (iblk6 V c 0 t) (ms6_1 t) (hs6_1 t)
    (iblk6 V c 1 t) _ S (fun y => (hS _).trans ?_) C scM6_0 scM6_1 scM6_2 scM6_3 (ms6_2 t) (hs6_2 t)
    (iblk6 V c 2 t) _ (ms6_4 t) (hs6_4 t) (iblk6 V c 4 t) W t.val (fun y => (hW _).trans ?_) (edge6 t)
    (fun y => (hC _).trans ?_) (fun y => (hC _).trans ?_) (fun y => (hC _).trans ?_)
  · exact ⟨fun y => (left6_0 V c t y).trans (hp.1 y), fun y => (left6_1 V c t y).trans (hp.2 y)⟩
  · blk_simp [e3]
  · blk_simp [e4]
  · blk_simp [e0]; simp [Nat.mul_comm]
  · blk_simp [e1]
  · blk_simp [e2]

/-- The result array is the convolution of the activated rows. -/
theorem arr6_5 : (dat6 V c).arrAt 5 cfg6.N
    = fun i => convAll (actv C (S 0) (S 1)) W (i 0).val (i 1).val (i 2).val := by
  refine (dat6 V c).arrAt_eq_of_covers 5 _ (by decide +kernel) fun t hf y => ?_
  obtain ⟨-, -, -, -, -, e5, -⟩ := index6 t
  blk_simp
  rw [after6_5]
  refine ((step6 V c t C S W hC hS hW).1 y).trans ?_
  simp [e5, Nat.mul_comm]

/-- The statistics array holds the channel sums of each block. -/
theorem arr6_6 : (dat6 V c).arrAt 6 cfg6.N
    = fun i => statAll (convAll (actv C (S 0) (S 1)) W) (i 0).val (i 1).val (i 2).val := by
  refine (dat6 V c).arrAt_eq_of_covers 6 _ (by decide +kernel) fun t hf y => ?_
  obtain ⟨-, -, -, -, -, -, e6⟩ := index6 t
  blk_simp
  rw [after6_6]
  refine ((step6 V c t C S W hC hS hW).2 y).trans ?_
  simp [e6]

end Cert.KernelIdeal.Val

end
-- ==== Proof.Region7Val.lean ====
/- The arrays that the fifth 64-channel stage leaves (with the skip connection, the activated rows kept). -/
module

public import proofs.«01_k».proof.Proof.StageStep
public import proofs.«01_k».proof.Proof.Gen.KernelIdeal.Frame.Region7

@[expose] public section

set_option maxRecDepth 16384

noncomputable section

namespace Cert.KernelIdeal.Val

open Idealize.ShloMosaic Idealize.ShloMosaic.TcCoe Cert.KernelIdeal.Gen Cert.KernelIdeal

/-- Every window's block at a grid step. -/
theorem index7 : ∀ t : Fin cfg7.grid.N, win7_0.index t = ![t.val, 0, 0] ∧ win7_1.index t = ![32 * t.val - 1, 0, 0]
    ∧ win7_2.index t = ![min (32 * t.val + 32) 2047, 0, 0] ∧ win7_3.index t = ![t.val, 0, 0]
    ∧ win7_4.index t = ![32 * t.val - 1, 0, 0] ∧ win7_5.index t = ![min (32 * t.val + 32) 2047, 0, 0]
    ∧ win7_6.index t = ![0, 0] ∧ win7_7.index t = ![0, 0]
    ∧ win7_8.index t = ![t.val, 0, 0] ∧ win7_9.index t = ![t.val, 0, 0] ∧ win7_10.index t = ![t.val, 0, 0] :=
  (by decide +kernel : ∀ t : Fin grid7.N, _)

/-- The grid steps whose block begins or ends an image. -/
theorem edge7 : ∀ t : Fin cfg7.grid.N, t.val < 64 ∧ (kernelRun7_A.sl.v12 (grid7.coords t) = 1#1 ↔ t.val % 8 = 0)
    ∧ (kernelRun7_A.sl.v23 (grid7.coords t) = 1#1 ↔ t.val % 8 = 7) :=
  (by decide +kernel : ∀ t : Fin grid7.N, _)

variable (V : (c : Dev nD) → (b : Ref sig .tc) → Buf (Elt Ideal) ((c.tc : Thread nD τ).loc b)) (c : Dev nD)
  (t : Fin cfg7.grid.N)

/-- The rows of a step, and the rows above and below. -/
def main7 : FVec Ideal S32x128x128 .f32 :=
  mainS (ms7_6 t) (hs7_6 t) (iblk7 V c 6 t) (ms7_0 t) (ms7_3 t) (hs7_0 t) (hs7_3 t) (iblk7 V c 0 t) (iblk7 V c 3 t)
@[inherit_doc main7] def top7 : FVec Ideal S1x128x128 .f32 :=
  sideS (ms7_6 t) (hs7_6 t) (iblk7 V c 6 t) (ms7_1 t) (ms7_4 t) (hs7_1 t) (hs7_4 t) (iblk7 V c 1 t) (iblk7 V c 4 t)
    (kernelRun7_A.sl.v12 (grid7.coords t))
@[inherit_doc main7] def bot7 : FVec Ideal S1x128x128 .f32 :=
  sideS (ms7_6 t) (hs7_6 t) (iblk7 V c 6 t) (ms7_2 t) (ms7_5 t) (hs7_2 t) (hs7_5 t) (iblk7 V c 2 t) (iblk7 V c 5 t)
    (kernelRun7_A.sl.v23 (grid7.coords t))

/-- What a step leaves in the result block. -/
theorem left7_0 (y : S32x128x128.Idx) : (outsAt7 V c t).1 y = View.canon (stepOut scM7_0 scM7_1 scM7_2 scM7_3
    (top7 V c t) (bot7 V c t) (main7 V c t) (loadW (ms7_7 t) (hs7_7 t) (iblk7 V c 7 t))) y := by
  unfold outsAt7 out7_A_8
  rw [View.read_writes_junk_eq_canon]
  rfl

/-- What a step leaves in the statistics block. -/
theorem left7_1 (y : S1x8x128.Idx) : (outsAt7 V c t).2.1 y = View.canon (stepStat scM7_0 scM7_1 scM7_2 scM7_3
    (top7 V c t) (bot7 V c t) (main7 V c t) (loadW (ms7_7 t) (hs7_7 t) (iblk7 V c 7 t))) y := by
  unfold outsAt7 out7_A_9
  rw [View.read_writes_junk_eq_canon]
  rfl

/-- What a step leaves in the block of activated rows. -/
theorem left7_2 (y : S32x128x128.Idx) : (outsAt7 V c t).2.2 y = View.canon (wholePieces (main7 V c t)) y := by
  unfold outsAt7 out7_A_10
  rw [View.read_writes_junk_eq_canon]
  rfl

variable (C D : ℕ → ℕ → ℕ → EReal) (S : ℕ → ℕ → EReal) (W : ℕ → ℕ → EReal)
  (hC : ∀ y : S2048x128x128.Idx, V c (Pipeline.arrRef spec7 0) y = C (y 0).val (y 1).val (y 2).val)
  (hD : ∀ y : S2048x128x128.Idx, V c (Pipeline.arrRef spec7 3) y = D (y 0).val (y 1).val (y 2).val)
  (hS : ∀ y : S8x128.Idx, V c (Pipeline.arrRef spec7 6) y = S (y 0).val (y 1).val)
  (hW : ∀ y : S192x256.Idx, V c (Pipeline.arrRef spec7 7) y = W (y 0).val (y 1).val)

include hC hD hS hW

/-- What a step leaves, by the arrays that the stage finds. -/
theorem step7 : (∀ y : S32x128x128.Idx, (outsAt7 V c t).1 y
      = convAll (actvS C D (S 0) (S 1)) W (32 * t.val + (y 0).val) (y 1).val (y 2).val)
    ∧ (∀ y : S1x8x128.Idx, (outsAt7 V c t).2.1 y
      = statAll (convAll (actvS C D (S 0) (S 1)) W) t.val (y 1).val (y 2).val)
    ∧ ∀ y : S32x128x128.Idx, (outsAt7 V c t).2.2 y
      = actvS C D (S 0) (S 1) (32 * t.val + (y 0).val) (y 1).val (y 2).val := by
  obtain ⟨e0, e1, e2, e3, e4, e5, e6, e7, -⟩ := index7 t
  have q6 : ∀ y, iblk7 V c 6 t y = S (y 0).val (y 1).val := fun y => (hS _).trans (by blk_simp [e6])
  have q0 : ∀ y, iblk7 V c 0 t y = C (32 * t.val + (y 0).val) (y 1).val (y 2).val :=
    fun y => (hC _).trans (by blk_simp [e0]; simp [Nat.mul_comm])
  have q3 : ∀ y, iblk7 V c 3 t y = D (32 * t.val + (y 0).val) (y 1).val (y 2).val :=
    fun y => (hD _).trans (by blk_simp [e3]; simp [Nat.mul_comm])
  have hm := fun y => (left7_2 V c t y).trans (wholePieces_apply _ (fun r => actvS C D (S 0) (S 1) (32 * t.val + r))
    (mainS_apply (ms7_6 t) (hs7_6 t) (iblk7 V c 6 t) (ms7_0 t) (ms7_3 t) (hs7_0 t) (hs7_3 t) (iblk7 V c 0 t)
      (iblk7 V c 3 t) S q6 C D _ q0 q3) y)
  have hp := skip_step (ms7_6 t) (hs7_6 t) (iblk7 V c 6 t) (ms7_0 t) (ms7_3 t) (hs7_0 t) (hs7_3 t) (iblk7 V c 0 t)
    (iblk7 V c 3 t) (ms7_1 t) (ms7_4 t) (hs7_1 t) (hs7_4 t) (iblk7 V c 1 t) (iblk7 V c 4 t) _ S q6 C D
    scM7_0 scM7_1 scM7_2 scM7_3 (ms7_2 t) (ms7_5 t) (hs7_2 t) (hs7_5 t) (iblk7 V c 2 t) (iblk7 V c 5 t) _
    (ms7_7 t) (hs7_7 t) (iblk7 V c 7 t) W t.val (fun y => (hW _).trans ?_) (edge7 t)
    q0 (fun y => (hC _).trans ?_) (fun y => (hC _).trans ?_) q3 (fun y => (hD _).trans ?_) (fun y => (hD _).trans ?_)
  · exact ⟨fun y => (left7_0 V c t y).trans (hp.1 y), fun y => (left7_1 V c t y).trans (hp.2 y), hm⟩
  · blk_simp [e7]
  · blk_simp [e1]
  · blk_simp [e2]
  · blk_simp [e4]
  · blk_simp [e5]

/-- The result array is the convolution of the activated rows. -/
theorem arr7_8 : (dat7 V c).arrAt 8 cfg7.N
    = fun i => convAll (actvS C D (S 0) (S 1)) W (i 0).val (i 1).val (i 2).val := by
  refine (dat7 V c).arrAt_eq_of_covers 8 _ (by decide +kernel) fun t hf y => ?_
  obtain ⟨-, -, -, -, -, -, -, -, e8, -⟩ := index7 t
  blk_simp
  rw [after7_8]
  refine ((step7 V c t C D S W hC hD hS hW).1 y).trans ?_
  simp [e8, Nat.mul_comm]

/-- The statistics array holds the channel sums of each block. -/
theorem arr7_9 : (dat7 V c).arrAt 9 cfg7.N
    = fun i => statAll (convAll (actvS C D (S 0) (S 1)) W) (i 0).val (i 1).val (i 2).val := by
  refine (dat7 V c).arrAt_eq_of_covers 9 _ (by decide +kernel) fun t hf y => ?_
  obtain ⟨-, -, -, -, -, -, -, -, -, e9, -⟩ := index7 t
  blk_simp
  rw [after7_9]
  refine ((step7 V c t C D S W hC hD hS hW).2.1 y).trans ?_
  simp [e9]

/-- The array of activated rows. -/
theorem arr7_10 : (dat7 V c).arrAt 10 cfg7.N
    = fun i => actvS C D (S 0) (S 1) (i 0).val (i 1).val (i 2).val := by
  refine (dat7 V c).arrAt_eq_of_covers 10 _ (by decide +kernel) fun t hf y => ?_
  obtain ⟨-, -, -, -, -, -, -, -, -, -, e10⟩ := index7 t
  blk_simp
  rw [after7_10]
  refine ((step7 V c t C D S W hC hD hS hW).2.2 y).trans ?_
  simp [e10, Nat.mul_comm]

end Cert.KernelIdeal.Val

end
-- ==== Proof.Region8Val.lean ====
/- The arrays that the sixth 64-channel stage leaves (no skip connection). -/
module

public import proofs.«01_k».proof.Proof.StageStep
public import proofs.«01_k».proof.Proof.Gen.KernelIdeal.Frame.Region8

@[expose] public section

set_option maxRecDepth 16384

noncomputable section

namespace Cert.KernelIdeal.Val

open Idealize.ShloMosaic Idealize.ShloMosaic.TcCoe Cert.KernelIdeal.Gen Cert.KernelIdeal

/-- Every window's block at a grid step. -/
theorem index8 : ∀ t : Fin cfg8.grid.N, win8_0.index t = ![t.val, 0, 0] ∧ win8_1.index t = ![32 * t.val - 1, 0, 0]
    ∧ win8_2.index t = ![min (32 * t.val + 32) 2047, 0, 0] ∧ win8_3.index t = ![0, 0] ∧ win8_4.index t = ![0, 0]
    ∧ win8_5.index t = ![t.val, 0, 0] ∧ win8_6.index t = ![t.val, 0, 0] :=
  (by decide +kernel : ∀ t : Fin grid8.N, _)

/-- The grid steps whose block begins or ends an image. -/
theorem edge8 : ∀ t : Fin cfg8.grid.N, t.val < 64 ∧ (kernelRun8_A.sl.v12 (grid8.coords t) = 1#1 ↔ t.val % 8 = 0)
    ∧ (kernelRun8_A.sl.v23 (grid8.coords t) = 1#1 ↔ t.val % 8 = 7) :=
  (by decide +kernel : ∀ t : Fin grid8.N, _)

variable (V : (c : Dev nD) → (b : Ref sig .tc) → Buf (Elt Ideal) ((c.tc : Thread nD τ).loc b)) (c : Dev nD)
  (t : Fin cfg8.grid.N)

/-- The rows of a step, and the rows above and below. -/
def main8 : FVec Ideal S32x128x128 .f32 :=
  mainP (ms8_3 t) (hs8_3 t) (iblk8 V c 3 t) (ms8_0 t) (hs8_0 t) (iblk8 V c 0 t)
@[inherit_doc main8] def top8 : FVec Ideal S1x128x128 .f32 :=
  sideP (ms8_3 t) (hs8_3 t) (iblk8 V c 3 t) (ms8_1 t) (hs8_1 t) (iblk8 V c 1 t) (kernelRun8_A.sl.v12 (grid8.coords t))
@[inherit_doc main8] def bot8 : FVec Ideal S1x128x128 .f32 :=
  sideP (ms8_3 t) (hs8_3 t) (iblk8 V c 3 t) (ms8_2 t) (hs8_2 t) (iblk8 V c 2 t) (kernelRun8_A.sl.v23 (grid8.coords t))

/-- What a step leaves in the result block. -/
theorem left8_0 (y : S32x128x128.Idx) : (outsAt8 V c t).1 y = View.canon (stepOut scM8_0 scM8_1 scM8_2 scM8_3
    (top8 V c t) (bot8 V c t) (main8 V c t) (loadW (ms8_4 t) (hs8_4 t) (iblk8 V c 4 t))) y := by
  unfold outsAt8 out8_A_5
  rw [View.read_writes_junk_eq_canon]
  rfl

/-- What a step leaves in the statistics block. -/
theorem left8_1 (y : S1x8x128.Idx) : (outsAt8 V c t).2 y = View.canon (stepStat scM8_0 scM8_1 scM8_2 scM8_3
    (top8 V c t) (bot8 V c t) (main8 V c t) (loadW (ms8_4 t) (hs8_4 t) (iblk8 V c 4 t))) y := by
  unfold outsAt8 out8_A_6
  rw [View.read_writes_junk_eq_canon]
  rfl

variable (C : ℕ → ℕ → ℕ → EReal) (S : ℕ → ℕ → EReal) (W : ℕ → ℕ → EReal)
  (hC : ∀ y : S2048x128x128.Idx, V c (Pipeline.arrRef spec8 0) y = C (y 0).val (y 1).val (y 2).val)
  (hS : ∀ y : S8x128.Idx, V c (Pipeline.arrRef spec8 3) y = S (y 0).val (y 1).val)
  (hW : ∀ y : S192x256.Idx, V c (Pipeline.arrRef spec8 4) y = W (y 0).val (y 1).val)

include hC hS hW

/-- What a step leaves, by the arrays that the stage finds. -/
theorem step8 : (∀ y : S32x128x128.Idx, (outsAt8 V c t).1 y
      = convAll (actv C (S 0) (S 1)) W (32 * t.val + (y 0).val) (y 1).val (y 2).val)
    ∧ ∀ y : S1x8x128.Idx, (outsAt8 V c t).2 y = statAll (convAll (actv C (S 0) (S 1)) W) t.val (y 1).val (y 2).val := by
  obtain ⟨e0, e1, e2, e3, e4, -⟩ := index8 t
  have hp := plain_step (ms8_3 t) (hs8_3 t) (iblk8 V c 3 t) (ms8_0 t) (hs8_0 t) (iblk8 V c 0 t) (ms8_1 t) (hs8_1 t)
    (iblk8 V c 1 t) _ S (fun y => (hS _).trans ?_) C scM8_0 scM8_1 scM8_2 scM8_3 (ms8_2 t) (hs8_2 t)
    (iblk8 V c 2 t) _ (ms8_4 t) (hs8_4 t) (iblk8 V c 4 t) W t.val (fun y => (hW _).trans ?_) (edge8 t)
    (fun y => (hC _).trans ?_) (fun y => (hC _).trans ?_) (fun y => (hC _).trans ?_)
  · exact ⟨fun y => (left8_0 V c t y).trans (hp.1 y), fun y => (left8_1 V c t y).trans (hp.2 y)⟩
  · blk_simp [e3]
  · blk_simp [e4]
  · blk_simp [e0]; simp [Nat.mul_comm]
  · blk_simp [e1]
  · blk_simp [e2]

/-- The result array is the convolution of the activated rows. -/
theorem arr8_5 : (dat8 V c).arrAt 5 cfg8.N
    = fun i => convAll (actv C (S 0) (S 1)) W (i 0).val (i 1).val (i 2).val := by
  refine (dat8 V c).arrAt_eq_of_covers 5 _ (by decide +kernel) fun t hf y => ?_
  obtain ⟨-, -, -, -, -, e5, -⟩ := index8 t
  blk_simp
  rw [after8_5]
  refine ((step8 V c t C S W hC hS hW).1 y).trans ?_
  simp [e5, Nat.mul_comm]

/-- The statistics array holds the channel sums of each block. -/
theorem arr8_6 : (dat8 V c).arrAt 6 cfg8.N
    = fun i => statAll (convAll (actv C (S 0) (S 1)) W) (i 0).val (i 1).val (i 2).val := by
  refine (dat8 V c).arrAt_eq_of_covers 6 _ (by decide +kernel) fun t hf y => ?_
  obtain ⟨-, -, -, -, -, -, e6⟩ := index8 t
  blk_simp
  rw [after8_6]
  refine ((step8 V c t C S W hC hS hW).2 y).trans ?_
  simp [e6]

end Cert.KernelIdeal.Val

end
-- ==== Proof.Region9Val.lean ====
/- The array that the last stage leaves (with the skip connection; three channels). -/
module

public import proofs.«01_k».proof.Proof.FinalStep
public import proofs.«01_k».proof.Proof.Gen.KernelIdeal.Frame.Region9

@[expose] public section

set_option maxRecDepth 16384

noncomputable section

namespace Cert.KernelIdeal.Val

open Idealize.ShloMosaic Idealize.ShloMosaic.TcCoe Cert.KernelIdeal.Gen Cert.KernelIdeal

/-- Every window's block at a grid step. -/
theorem index9 : ∀ t : Fin cfg9.grid.N, win9_0.index t = ![t.val, 0, 0] ∧ win9_1.index t = ![32 * t.val - 1, 0, 0]
    ∧ win9_2.index t = ![min (32 * t.val + 32) 2047, 0, 0] ∧ win9_3.index t = ![t.val, 0, 0]
    ∧ win9_4.index t = ![32 * t.val - 1, 0, 0] ∧ win9_5.index t = ![min (32 * t.val + 32) 2047, 0, 0]
    ∧ win9_6.index t = ![0, 0] ∧ win9_7.index t = ![0, 0]
    ∧ win9_8.index t = ![t.val, 0, 0] ∧ win9_9.index t = ![t.val, 0, 0] :=
  (by decide +kernel : ∀ t : Fin grid9.N, _)

/-- The grid steps whose block begins or ends an image. -/
theorem edge9 : ∀ t : Fin cfg9.grid.N, t.val < 64 ∧ (kernelRun9_A.sl.v12 (grid9.coords t) = 1#1 ↔ t.val % 8 = 0)
    ∧ (kernelRun9_A.sl.v23 (grid9.coords t) = 1#1 ↔ t.val % 8 = 7) :=
  (by decide +kernel : ∀ t : Fin grid9.N, _)

variable (V : (c : Dev nD) → (b : Ref sig .tc) → Buf (Elt Ideal) ((c.tc : Thread nD τ).loc b)) (c : Dev nD)
  (t : Fin cfg9.grid.N)

/-- The rows of a step, and the rows above and below. -/
def main9 : FVec Ideal S32x128x128 .f32 :=
  mainS (ms9_6 t) (hs9_6 t) (iblk9 V c 6 t) (ms9_0 t) (ms9_3 t) (hs9_0 t) (hs9_3 t) (iblk9 V c 0 t) (iblk9 V c 3 t)
@[inherit_doc main9] def top9 : FVec Ideal S1x128x128 .f32 :=
  sideS (ms9_6 t) (hs9_6 t) (iblk9 V c 6 t) (ms9_1 t) (ms9_4 t) (hs9_1 t) (hs9_4 t) (iblk9 V c 1 t) (iblk9 V c 4 t)
    (kernelRun9_A.sl.v12 (grid9.coords t))
@[inherit_doc main9] def bot9 : FVec Ideal S1x128x128 .f32 :=
  sideS (ms9_6 t) (hs9_6 t) (iblk9 V c 6 t) (ms9_2 t) (ms9_5 t) (hs9_2 t) (hs9_5 t) (iblk9 V c 2 t) (iblk9 V c 5 t)
    (kernelRun9_A.sl.v23 (grid9.coords t))

/-- What a step leaves in the result block. -/
theorem left9 (y : S32x128x6.Idx) : outsAt9 V c t y = View.canon (stepFin scM9_0 scM9_1 scM9_2 scM9_3
    (top9 V c t) (bot9 V c t) (main9 V c t) (loadW (ms9_7 t) (hs9_7 t) (iblk9 V c 7 t))
    (ms9_6 t) (hs9_6 t) (iblk9 V c 6 t) (ms9_8 t) (hs9_8 t) (iblk9 V c 8 t)) y := by
  unfold outsAt9 out9_A_9
  rw [View.read_writes_junk_eq_canon]
  rfl

variable (C D : ℕ → ℕ → ℕ → EReal) (S : ℕ → ℕ → EReal) (W : ℕ → ℕ → EReal) (I : ℕ → ℕ → ℕ → EReal)
  (hC : ∀ y : S2048x128x128.Idx, V c (Pipeline.arrRef spec9 0) y = C (y 0).val (y 1).val (y 2).val)
  (hD : ∀ y : S2048x128x128.Idx, V c (Pipeline.arrRef spec9 3) y = D (y 0).val (y 1).val (y 2).val)
  (hS : ∀ y : S8x128.Idx, V c (Pipeline.arrRef spec9 6) y = S (y 0).val (y 1).val)
  (hW : ∀ y : S192x256.Idx, V c (Pipeline.arrRef spec9 7) y = W (y 0).val (y 1).val)
  (hI : ∀ y : S2048x128x6.Idx, V c (Pipeline.arrRef spec9 8) y = I (y 0).val (y 1).val (y 2).val)

include hC hD hS hW hI

/-- What a step leaves, by the arrays that the stage finds. -/
theorem step9 (y : S32x128x6.Idx) : outsAt9 V c t y
      = finAll (actvS C D (S 0) (S 1)) W (S 2) I (32 * t.val + (y 0).val) (y 1).val (y 2).val := by
  obtain ⟨e0, e1, e2, e3, e4, e5, e6, e7, e8, -⟩ := index9 t
  have q6 : ∀ y, iblk9 V c 6 t y = S (y 0).val (y 1).val := fun y => (hS _).trans (by blk_simp [e6])
  have q7 : ∀ y, iblk9 V c 7 t y = W (y 0).val (y 1).val := fun y => (hW _).trans (by blk_simp [e7])
  have q0 : ∀ y, iblk9 V c 0 t y = C (32 * t.val + (y 0).val) (y 1).val (y 2).val :=
    fun y => (hC _).trans (by blk_simp [e0]; simp [Nat.mul_comm])
  have q3 : ∀ y, iblk9 V c 3 t y = D (32 * t.val + (y 0).val) (y 1).val (y 2).val :=
    fun y => (hD _).trans (by blk_simp [e3]; simp [Nat.mul_comm])
  have q8 : ∀ y, iblk9 V c 8 t y = I (32 * t.val + (y 0).val) (y 1).val (y 2).val :=
    fun y => (hI _).trans (by blk_simp [e8]; simp [Nat.mul_comm])
  have q1 : ∀ y, iblk9 V c 1 t y = C (32 * t.val - 1) (y 1).val (y 2).val := fun y => (hC _).trans (by blk_simp [e1])
  have q4 : ∀ y, iblk9 V c 4 t y = D (32 * t.val - 1) (y 1).val (y 2).val := fun y => (hD _).trans (by blk_simp [e4])
  have q2 : ∀ y, iblk9 V c 2 t y = C (min (32 * t.val + 32) 2047) (y 1).val (y 2).val :=
    fun y => (hC _).trans (by blk_simp [e2])
  have q5 : ∀ y, iblk9 V c 5 t y = D (min (32 * t.val + 32) 2047) (y 1).val (y 2).val :=
    fun y => (hD _).trans (by blk_simp [e5])
  refine (left9 V c t y).trans (stepFin_apply _ _ _ _ _ _ _ _ _ _ _ _ _ _ (actvS C D (S 0) (S 1)) W t.val
    (fun y => (sideS_apply _ _ _ _ _ _ _ _ _ _ S q6 C D _ q1 q4 y).trans (halo_top _ _ t.val _ _ _ (edge9 t).2.1 rfl))
    (fun y => (sideS_apply _ _ _ _ _ _ _ _ _ _ S q6 C D _ q2 q5 y).trans
      (halo_bot _ _ t.val _ _ _ (edge9 t).1 (edge9 t).2.2 rfl))
    (mainS_apply _ _ _ _ _ _ _ _ _ S q6 C D _ q0 q3)
    (fun y => (congrFun (loadW_eq _ _ _) y).trans (q7 y)) S q6 I q8 y)

/-- The result array. -/
theorem arr9_9 : (dat9 V c).arrAt 9 cfg9.N
    = fun i => finAll (actvS C D (S 0) (S 1)) W (S 2) I (i 0).val (i 1).val (i 2).val := by
  refine (dat9 V c).arrAt_eq_of_covers 9 _ (by decide +kernel) fun t hf y => ?_
  obtain ⟨-, -, -, -, -, -, -, -, -, e9⟩ := index9 t
  blk_simp
  rw [after9_9]
  refine (step9 V c t C D S W I hC hD hS hW hI y).trans ?_
  simp [e9, Nat.mul_comm]

end Cert.KernelIdeal.Val

end
-- ==== Proof.Chain.lean ====
/- The contents along the kernel's run, stage after stage, by the arguments. -/
module

public import proofs.«01_k».proof.Proof.NetK
public import proofs.«01_k».proof.Proof.WeightVal
public import proofs.«01_k».proof.Proof.RunVal
public import proofs.«01_k».proof.Proof.Region2Val
public import proofs.«01_k».proof.Proof.Region3Val
public import proofs.«01_k».proof.Proof.Region4Val
public import proofs.«01_k».proof.Proof.Region5Val
public import proofs.«01_k».proof.Proof.Region6Val
public import proofs.«01_k».proof.Proof.Region7Val
public import proofs.«01_k».proof.Proof.Region8Val
public import proofs.«01_k».proof.Proof.Region9Val
public import proofs.«01_k».proof.Proof.ImageVal

@[expose] public section

set_option maxRecDepth 16384

noncomputable section

namespace Cert.KernelIdeal.Val

open Idealize.ShloMosaic Idealize.ShloMosaic.TcCoe Cert.KernelIdeal.Gen Cert.KernelIdeal Cert.Net

/-- Images as the row array that the first stage reads. -/
theorem rows_apply (v : FVec Ideal S2048x256x3 .f32) (X : ℕ → ℕ → ℕ → ℕ → EReal)
    (hv : ∀ y, v y = X ((y 0).val / 256) (y 2).val ((y 0).val % 256) (y 1).val) (y : S2048x128x6.Idx) :
    shapeCast S2048x128x6 v shapeCasts_S2048x256x3_S2048x128x6 y = lay3 X (y 0).val (y 1).val (y 2).val := by
  have h1 : (y 1).val < 128 := (y 1).isLt
  have h2 : (y 2).val < 6 := (y 2).isLt
  unfold lay3
  pointwise
  refine (hv _).trans ?_
  congr 1
  show (y 1).val * 2 + (y 2).val / 3 = _
  omega

/-- The last stage's rows as images. -/
theorem images_apply (v : FVec Ideal S2048x128x6 .f32) (X : ℕ → ℕ → ℕ → ℕ → EReal)
    (hv : ∀ y, v y = lay3 X (y 0).val (y 1).val (y 2).val) (y : S2048x256x3.Idx) :
    shapeCast S2048x256x3 v shapeCasts_S2048x128x6_S2048x256x3 y
      = X ((y 0).val / 256) (y 2).val ((y 0).val % 256) (y 1).val := by
  have h1 : (y 1).val < 256 := (y 1).isLt
  have h2 : (y 2).val < 3 := (y 2).isLt
  pointwise
  refine (hv _).trans ?_
  show X ((y 0).val / 256) (((y 1).val % 2 * 3 + (y 2).val) % 3) ((y 0).val % 256)
    (2 * ((y 1).val / 2) + ((y 1).val % 2 * 3 + (y 2).val) / 3) = _
  congr 1 <;> omega

/-! ## What the stages keep -/

variable (m : (ℓ : Loc nD τ sig) → Buf (Elt Ideal) ℓ) (ρ : Dev nD → PrngReg) (c : Dev nD)

/-- The filters. -/
abbrev filters : List (Ref sig .tc) :=
  [main_v1, main_v16, main_v31, main_v46, main_v61, main_v76, main_v91, main_v104]

/-- The filters are unchanged by this step. -/
theorem keep44 : ∀ a ∈ filters, W44 m ρ c (Proc.devRef .tc a) = W43 m ρ c (Proc.devRef .tc a) := fun a ha =>
  W44_of m ρ c a ((ListAll.forall_mem_of_all_decide (by decide +kernel) : ∀ a ∈ filters, ∀ w : Fin cfg0.W,
    Pipeline.arrRef spec0 w = a → (cfg0.win w).isOut = false) a ha)

/-- The filters are unchanged by this step. -/
theorem keep45 : ∀ a ∈ filters, W45 m ρ c (Proc.devRef .tc a) = W43 m ρ c (Proc.devRef .tc a) := fun a ha =>
  (W45_of m ρ c a ((ListAll.forall_mem_of_all_decide (by decide +kernel) : ∀ a ∈ filters, ∀ w : Fin cfg1.W,
    Pipeline.arrRef spec1 w = a → (cfg1.win w).isOut = false) a ha)).trans (keep44 m ρ c a ha)

/-- The filters are unchanged by this step. -/
theorem keep46 : ∀ a ∈ filters, W46 m ρ c (Proc.devRef .tc a) = W43 m ρ c (Proc.devRef .tc a) := fun a ha =>
  (W46_of m ρ c a ((ListAll.forall_mem_of_all_decide (by decide +kernel) : ∀ a ∈ filters, a ∉ hostOps2_W) a ha)).trans
    (keep45 m ρ c a ha)

/-- The filters, and the images' rows. -/
abbrev kept : List (Ref sig .tc) :=
  [main_v1, main_v16, main_v31, main_v46, main_v61, main_v76, main_v91, main_v104, main_v107]

/-- What the later stages read of before the first stage is unchanged up to this step. -/
theorem kept47 : ∀ a ∈ kept, W47 m ρ c (Proc.devRef .tc a) = W46 m ρ c (Proc.devRef .tc a) := fun a ha =>
  (W47_of m ρ c a ((ListAll.forall_mem_of_all_decide (by decide +kernel) : ∀ a ∈ kept, ∀ w : Fin cfg2.W,
    Pipeline.arrRef spec2 w = a → (cfg2.win w).isOut = false) a ha))

/-- What the later stages read of before the first stage is unchanged up to this step. -/
theorem kept48 : ∀ a ∈ kept, W48 m ρ c (Proc.devRef .tc a) = W46 m ρ c (Proc.devRef .tc a) := fun a ha =>
  (W48_of m ρ c a ((ListAll.forall_mem_of_all_decide (by decide +kernel) : ∀ a ∈ kept, a ∉ hostOps3_W) a ha)).trans
    (kept47 m ρ c a ha)

/-- What the later stages read of before the first stage is unchanged up to this step. -/
theorem kept49 : ∀ a ∈ kept, W49 m ρ c (Proc.devRef .tc a) = W46 m ρ c (Proc.devRef .tc a) := fun a ha =>
  (W49_of m ρ c a ((ListAll.forall_mem_of_all_decide (by decide +kernel) : ∀ a ∈ kept, ∀ w : Fin cfg3.W,
    Pipeline.arrRef spec3 w = a → (cfg3.win w).isOut = false) a ha)).trans
    (kept48 m ρ c a ha)

/-- What the later stages read of before the first stage is unchanged up to this step. -/
theorem kept50 : ∀ a ∈ kept, W50 m ρ c (Proc.devRef .tc a) = W46 m ρ c (Proc.devRef .tc a) := fun a ha =>
  (W50_of m ρ c a ((ListAll.forall_mem_of_all_decide (by decide +kernel) : ∀ a ∈ kept, a ∉ hostOps4_W) a ha)).trans
    (kept49 m ρ c a ha)

/-- What the later stages read of before the first stage is unchanged up to this step. -/
theorem kept51 : ∀ a ∈ kept, W51 m ρ c (Proc.devRef .tc a) = W46 m ρ c (Proc.devRef .tc a) := fun a ha =>
  (W51_of m ρ c a ((ListAll.forall_mem_of_all_decide (by decide +kernel) : ∀ a ∈ kept, ∀ w : Fin cfg4.W,
    Pipeline.arrRef spec4 w = a → (cfg4.win w).isOut = false) a ha)).trans
    (kept50 m ρ c a ha)

/-- What the later stages read of before the first stage is unchanged up to this step. -/
theorem kept52 : ∀ a ∈ kept, W52 m ρ c (Proc.devRef .tc a) = W46 m ρ c (Proc.devRef .tc a) := fun a ha =>
  (W52_of m ρ c a ((ListAll.forall_mem_of_all_decide (by decide +kernel) : ∀ a ∈ kept, a ∉ hostOps5_W) a ha)).trans
    (kept51 m ρ c a ha)

/-- What the later stages read of before the first stage is unchanged up to this step. -/
theorem kept53 : ∀ a ∈ kept, W53 m ρ c (Proc.devRef .tc a) = W46 m ρ c (Proc.devRef .tc a) := fun a ha =>
  (W53_of m ρ c a ((ListAll.forall_mem_of_all_decide (by decide +kernel) : ∀ a ∈ kept, ∀ w : Fin cfg5.W,
    Pipeline.arrRef spec5 w = a → (cfg5.win w).isOut = false) a ha)).trans
    (kept52 m ρ c a ha)

/-- What the later stages read of before the first stage is unchanged up to this step. -/
theorem kept54 : ∀ a ∈ kept, W54 m ρ c (Proc.devRef .tc a) = W46 m ρ c (Proc.devRef .tc a) := fun a ha =>
  (W54_of m ρ c a ((ListAll.forall_mem_of_all_decide (by decide +kernel) : ∀ a ∈ kept, a ∉ hostOps6_W) a ha)).trans
    (kept53 m ρ c a ha)

/-- What the later stages read of before the first stage is unchanged up to this step. -/
theorem kept55 : ∀ a ∈ kept, W55 m ρ c (Proc.devRef .tc a) = W46 m ρ c (Proc.devRef .tc a) := fun a ha =>
  (W55_of m ρ c a ((ListAll.forall_mem_of_all_decide (by decide +kernel) : ∀ a ∈ kept, ∀ w : Fin cfg6.W,
    Pipeline.arrRef spec6 w = a → (cfg6.win w).isOut = false) a ha)).trans
    (kept54 m ρ c a ha)

/-- What the later stages read of before the first stage is unchanged up to this step. -/
theorem kept56 : ∀ a ∈ kept, W56 m ρ c (Proc.devRef .tc a) = W46 m ρ c (Proc.devRef .tc a) := fun a ha =>
  (W56_of m ρ c a ((ListAll.forall_mem_of_all_decide (by decide +kernel) : ∀ a ∈ kept, a ∉ hostOps7_W) a ha)).trans
    (kept55 m ρ c a ha)

/-- What the later stages read of before the first stage is unchanged up to this step. -/
theorem kept57 : ∀ a ∈ kept, W57 m ρ c (Proc.devRef .tc a) = W46 m ρ c (Proc.devRef .tc a) := fun a ha =>
  (W57_of m ρ c a ((ListAll.forall_mem_of_all_decide (by decide +kernel) : ∀ a ∈ kept, ∀ w : Fin cfg7.W,
    Pipeline.arrRef spec7 w = a → (cfg7.win w).isOut = false) a ha)).trans
    (kept56 m ρ c a ha)

/-- What the later stages read of before the first stage is unchanged up to this step. -/
theorem kept58 : ∀ a ∈ kept, W58 m ρ c (Proc.devRef .tc a) = W46 m ρ c (Proc.devRef .tc a) := fun a ha =>
  (W58_of m ρ c a ((ListAll.forall_mem_of_all_decide (by decide +kernel) : ∀ a ∈ kept, a ∉ hostOps8_W) a ha)).trans
    (kept57 m ρ c a ha)

/-- What the later stages read of before the first stage is unchanged up to this step. -/
theorem kept59 : ∀ a ∈ kept, W59 m ρ c (Proc.devRef .tc a) = W46 m ρ c (Proc.devRef .tc a) := fun a ha =>
  (W59_of m ρ c a ((ListAll.forall_mem_of_all_decide (by decide +kernel) : ∀ a ∈ kept, ∀ w : Fin cfg8.W,
    Pipeline.arrRef spec8 w = a → (cfg8.win w).isOut = false) a ha)).trans
    (kept58 m ρ c a ha)

/-- What the later stages read of before the first stage is unchanged up to this step. -/
theorem kept60 : ∀ a ∈ kept, W60 m ρ c (Proc.devRef .tc a) = W46 m ρ c (Proc.devRef .tc a) := fun a ha =>
  (W60_of m ρ c a ((ListAll.forall_mem_of_all_decide (by decide +kernel) : ∀ a ∈ kept, a ∉ hostOps9_W) a ha)).trans
    (kept59 m ρ c a ha)

/-! ## The tables -/

section

variable (st : FVec Ideal S64x8x128 .f32) (A : ℕ → ℕ → ℕ → ℕ → EReal)
  (hst : ∀ y, st y = statAll (lay A) (y 0).val (y 1).val (y 2).val)

include hst

/-- The table of a stage, by the images whose statistics it is made of. -/
theorem table_apply (g be : FVec Ideal S64 .f32) (G E : ℕ → EReal) (hg : ∀ y, g y = G (y 0).val)
    (he : ∀ y, be y = E (y 0).val) (y : S8x128.Idx) :
    packA (scaleA st g) (shiftA st g be) y = tab A G E (y 0).val (y 1).val :=
  packA_apply _ _ _ _ (scaleA_apply st _ hst g G hg) (shiftA_apply st _ hst g be G E hg he) y

/-- The table of the last stage. -/
theorem tableF_apply (g be : FVec Ideal S64 .f32) (G E : ℕ → EReal) (hg : ∀ y, g y = G (y 0).val)
    (he : ∀ y, be y = E (y 0).val) (b : FVec Ideal S3 .f32) (B : ℕ → EReal) (hb : ∀ y, b y = B (y 0).val)
    (y : S8x128.Idx) : packF (scaleA st g) (shiftA st g be) b y = tabF A G E B (y 0).val (y 1).val :=
  packF_apply _ _ _ _ _ _ (scaleA_apply st _ hst g G hg) (shiftA_apply st _ hst g be G E hg he) hb y

end

/-! ## The stages -/

/-- The arguments' contents at the start. -/
structure Reads (P : Par) : Prop where
  x : ∀ y : S8x3x256x256.Idx, m ((c : Thread nD τ).loc main_arg0) y = P.x (y 0).val (y 1).val (y 2).val (y 3).val
  w1 : ∀ y : S64x6x3x3.Idx, m ((c : Thread nD τ).loc main_arg1) y = P.w1 (y 0).val (y 1).val (y 2).val (y 3).val
  g1 : ∀ y : S64.Idx, m ((c : Thread nD τ).loc main_arg3) y = P.g1 (y 0).val
  e1 : ∀ y : S64.Idx, m ((c : Thread nD τ).loc main_arg4) y = P.e1 (y 0).val
  bw : ∀ y : S3x2x64x64x3x3.Idx, m ((c : Thread nD τ).loc main_arg5) y
    = P.bw (y 0).val (y 1).val (y 2).val (y 3).val (y 4).val (y 5).val
  bg : ∀ y : S3x2x64.Idx, m ((c : Thread nD τ).loc main_arg7) y = P.bg (y 0).val (y 1).val (y 2).val
  be : ∀ y : S3x2x64.Idx, m ((c : Thread nD τ).loc main_arg8) y = P.be (y 0).val (y 1).val (y 2).val
  w2 : ∀ y : S3x64x3x3.Idx, m ((c : Thread nD τ).loc main_arg9) y = P.w2 (y 0).val (y 1).val (y 2).val (y 3).val
  b2 : ∀ y : S3.Idx, m ((c : Thread nD τ).loc main_arg10) y = P.b2 (y 0).val

variable (P : Par) (h : Reads m c P)

include h

/-- Before the first stage: the means and inverse deviations of the image channels. -/
theorem norms_at : ∀ y : S8x8x8.Idx, W46 m ρ c (Proc.devRef .tc main_v105) y
    = instVal P.x (y 0).val (y 1).val (y 2).val := fun y =>
  (congrFun ((W46_of m ρ c main_v105 (by decide)).trans ((W45_of m ρ c main_v105 (by decide)).trans
    ((W44_arr m ρ c 1).trans (arr0_1 (V43 m ρ) c P.x fun y =>
      (congrFun (W43_args m ρ c main_arg0 (by decide)) y).trans (h.x y))))) y)

/-- Before the first stage: the image as rows of pixel pairs. -/
theorem rows_at : ∀ y : S2048x128x6.Idx, W46 m ρ c (Proc.devRef .tc main_v107) y
    = lay3 P.x (y 0).val (y 1).val (y 2).val := fun y =>
  (congrFun (host2_val (W45 m ρ c)) y).trans (rows_apply _ P.x (fun y =>
    congrFun ((W45_arr m ρ c 1).trans (arr1_1 (V44 m ρ) c P.x fun y =>
      (congrFun (W44_args m ρ c main_arg0 (by decide)) y).trans (h.x y))) y) y)

/-- After the first stage: its convolution and the statistics. -/
theorem stage2 : (∀ y : S2048x128x128.Idx, W47 m ρ c (Proc.devRef .tc main_v108_0) y
      = lay P.f1 (y 0).val (y 1).val (y 2).val)
    ∧ ∀ y : S64x8x128.Idx, W47 m ρ c (Proc.devRef .tc main_v108_1) y = statAll (lay P.f1) (y 0).val (y 1).val (y 2).val := by
  have hW : ∀ y : S54x64.Idx, V46 m ρ c (Pipeline.arrRef spec2 4) y
      = (fun k o => P.w1 o (k % 6) (k / 18) (k / 6 % 3)) (y 0).val (y 1).val := fun y =>
    (congrFun ((keep46 m ρ c main_v1 (by decide)).trans (filter1_val m ρ c)) y).trans (firstA_apply _ P.w1 h.w1 y)
  exact ⟨fun y => (congrFun ((W47_arr m ρ c 5).trans
      (arr2_5 (V46 m ρ) c _ _ _ (rows_at m ρ c P h) (norms_at m ρ c P h) hW)) y).trans
      (first_rows _ _ _ _ _ (y 0).isLt (y 1).isLt (y 2).isLt),
    fun y => (congrFun ((W47_arr m ρ c 6).trans
      (arr2_6 (V46 m ρ) c _ _ _ (rows_at m ρ c P h) (norms_at m ρ c P h) hW)) y).trans
      (firstStat_rows _ _ _ _ _ (y 0).isLt (y 2).isLt)⟩

/-- After the second stage: also the first activation. -/
theorem stage3 : (∀ y : S2048x128x128.Idx, W49 m ρ c (Proc.devRef .tc main_v139_0) y
      = lay P.f2 (y 0).val (y 1).val (y 2).val)
    ∧ (∀ y : S64x8x128.Idx, W49 m ρ c (Proc.devRef .tc main_v139_1) y = statAll (lay P.f2) (y 0).val (y 1).val (y 2).val)
    ∧ ∀ y : S2048x128x128.Idx, W49 m ρ c (Proc.devRef .tc main_v139_2) y = lay P.a0 (y 0).val (y 1).val (y 2).val := by
  obtain ⟨hc, hs⟩ := stage2 m ρ c P h
  have hC : ∀ y : S2048x128x128.Idx, V48 m ρ c (Pipeline.arrRef spec3 0) y = lay P.f1 (y 0).val (y 1).val (y 2).val :=
    fun y => (congrFun (W48_of m ρ c main_v108_0 (by decide)) y).trans (hc y)
  have hS : ∀ y : S8x128.Idx, V48 m ρ c (Pipeline.arrRef spec3 3) y = tab P.f1 P.g1 P.e1 (y 0).val (y 1).val :=
    fun y => (congrFun (host3_val (W47 m ρ c)) y).trans (table_apply _ _ hs _ _ _ _
      (fun y => (congrFun (W47_args m ρ c main_arg3 (by decide)) y).trans (h.g1 y))
      (fun y => (congrFun (W47_args m ρ c main_arg4 (by decide)) y).trans (h.e1 y)) y)
  have hW : ∀ y : S192x256.Idx, V48 m ρ c (Pipeline.arrRef spec3 4) y = wid (P.bw 0 0) (y 0).val (y 1).val := fun y =>
    (congrFun ((kept48 m ρ c main_v16 (by decide)).trans ((keep46 m ρ c main_v16 (by decide)).trans
      (filter00_val m ρ c))) y).trans (wideA_apply _ 0 0 _ P.bw h.bw y)
  exact ⟨fun y => (congrFun ((W49_arr m ρ c 5).trans (arr3_5 (V48 m ρ) c _ _ _ hC hS hW)) y).trans
      (conv_rows _ _ _ _ _ _ _ (y 0).isLt (y 1).isLt (y 2).isLt),
    fun y => (congrFun ((W49_arr m ρ c 6).trans (arr3_6 (V48 m ρ) c _ _ _ hC hS hW)) y).trans
      (stat_rows _ _ _ _ _ _ _ (y 0).isLt (y 2).isLt),
    fun y => (congrFun ((W49_arr m ρ c 7).trans (arr3_7 (V48 m ρ) c _ _ _ hC hS hW)) y).trans
      (act_rows _ _ _ _ _ _)⟩

/-- After the third stage of 64 channels. -/
theorem stage4 : (∀ y : S2048x128x128.Idx, W51 m ρ c (Proc.devRef .tc main_v174_0) y
      = lay P.f3 (y 0).val (y 1).val (y 2).val)
    ∧ ∀ y : S64x8x128.Idx, W51 m ρ c (Proc.devRef .tc main_v174_1) y = statAll (lay P.f3) (y 0).val (y 1).val (y 2).val := by
  obtain ⟨hc, hs, -⟩ := stage3 m ρ c P h
  have hC : ∀ y : S2048x128x128.Idx, V50 m ρ c (Pipeline.arrRef spec4 0) y = lay P.f2 (y 0).val (y 1).val (y 2).val :=
    fun y => (congrFun (W50_of m ρ c main_v139_0 (by decide)) y).trans (hc y)
  have hS : ∀ y : S8x128.Idx, V50 m ρ c (Pipeline.arrRef spec4 3) y
      = tab P.f2 (P.bg 0 0) (P.be 0 0) (y 0).val (y 1).val := fun y =>
    (congrFun (host4_val (W49 m ρ c)) y).trans (table_apply _ _ hs _ _ _ _
      (rowA_apply _ P.bg (fun y => (congrFun (W49_args m ρ c main_arg7 (by decide)) y).trans (h.bg y)) 0 0 _)
      (rowA_apply _ P.be (fun y => (congrFun (W49_args m ρ c main_arg8 (by decide)) y).trans (h.be y)) 0 0 _) y)
  have hW : ∀ y : S192x256.Idx, V50 m ρ c (Pipeline.arrRef spec4 4) y = wid (P.bw 0 1) (y 0).val (y 1).val := fun y =>
    (congrFun ((kept50 m ρ c main_v31 (by decide)).trans ((keep46 m ρ c main_v31 (by decide)).trans
      (filter01_val m ρ c))) y).trans (wideA_apply _ 0 1 _ P.bw h.bw y)
  exact ⟨fun y => (congrFun ((W51_arr m ρ c 5).trans (arr4_5 (V50 m ρ) c _ _ _ hC hS hW)) y).trans
      (conv_rows _ _ _ _ _ _ _ (y 0).isLt (y 1).isLt (y 2).isLt),
    fun y => (congrFun ((W51_arr m ρ c 6).trans (arr4_6 (V50 m ρ) c _ _ _ hC hS hW)) y).trans
      (stat_rows _ _ _ _ _ _ _ (y 0).isLt (y 2).isLt)⟩

/-- After the fourth stage of 64 channels. -/
theorem stage5 : (∀ y : S2048x128x128.Idx, W53 m ρ c (Proc.devRef .tc main_v209_0) y
      = lay P.f4 (y 0).val (y 1).val (y 2).val)
    ∧ (∀ y : S64x8x128.Idx, W53 m ρ c (Proc.devRef .tc main_v209_1) y = statAll (lay P.f4) (y 0).val (y 1).val (y 2).val)
    ∧ ∀ y : S2048x128x128.Idx, W53 m ρ c (Proc.devRef .tc main_v209_2) y = lay P.a1 (y 0).val (y 1).val (y 2).val := by
  obtain ⟨hc, hs⟩ := stage4 m ρ c P h
  have hC : ∀ y : S2048x128x128.Idx, V52 m ρ c (Pipeline.arrRef spec5 0) y = lay P.f3 (y 0).val (y 1).val (y 2).val :=
    fun y => (congrFun (W52_of m ρ c main_v174_0 (by decide)) y).trans (hc y)
  have hS : ∀ y : S8x128.Idx, V52 m ρ c (Pipeline.arrRef spec5 6) y
      = tab P.f3 (P.bg 0 1) (P.be 0 1) (y 0).val (y 1).val := fun y =>
    (congrFun (host5_val (W51 m ρ c)) y).trans (table_apply _ _ hs _ _ _ _
      (rowA_apply _ P.bg (fun y => (congrFun (W51_args m ρ c main_arg7 (by decide)) y).trans (h.bg y)) 0 1 _)
      (rowA_apply _ P.be (fun y => (congrFun (W51_args m ρ c main_arg8 (by decide)) y).trans (h.be y)) 0 1 _) y)
  have hW : ∀ y : S192x256.Idx, V52 m ρ c (Pipeline.arrRef spec5 7) y = wid (P.bw 1 0) (y 0).val (y 1).val := fun y =>
    (congrFun ((kept52 m ρ c main_v46 (by decide)).trans ((keep46 m ρ c main_v46 (by decide)).trans
      (filter10_val m ρ c))) y).trans (wideA_apply _ 1 0 _ P.bw h.bw y)
  have hD : ∀ y : S2048x128x128.Idx, V52 m ρ c (Pipeline.arrRef spec5 3) y = lay P.a0 (y 0).val (y 1).val (y 2).val :=
    fun y => (congrFun ((W52_of m ρ c main_v139_2 (by decide)).trans ((W51_of m ρ c main_v139_2 (by decide)).trans
      (W50_of m ρ c main_v139_2 (by decide)))) y).trans ((stage3 m ρ c P h).2.2 y)
  exact ⟨fun y => (congrFun ((W53_arr m ρ c 8).trans (arr5_8 (V52 m ρ) c _ _ _ _ hC hD hS hW)) y).trans
      (convS_rows _ _ _ _ _ _ _ _ (y 0).isLt (y 1).isLt (y 2).isLt),
    fun y => (congrFun ((W53_arr m ρ c 9).trans (arr5_9 (V52 m ρ) c _ _ _ _ hC hD hS hW)) y).trans
      (statS_rows _ _ _ _ _ _ _ _ (y 0).isLt (y 2).isLt),
    fun y => (congrFun ((W53_arr m ρ c 10).trans (arr5_10 (V52 m ρ) c _ _ _ _ hC hD hS hW)) y).trans
      (actS_rows _ _ _ _ _ _ _)⟩

/-- After the fifth stage of 64 channels. -/
theorem stage6 : (∀ y : S2048x128x128.Idx, W55 m ρ c (Proc.devRef .tc main_v244_0) y
      = lay P.f5 (y 0).val (y 1).val (y 2).val)
    ∧ ∀ y : S64x8x128.Idx, W55 m ρ c (Proc.devRef .tc main_v244_1) y = statAll (lay P.f5) (y 0).val (y 1).val (y 2).val := by
  obtain ⟨hc, hs, -⟩ := stage5 m ρ c P h
  have hC : ∀ y : S2048x128x128.Idx, V54 m ρ c (Pipeline.arrRef spec6 0) y = lay P.f4 (y 0).val (y 1).val (y 2).val :=
    fun y => (congrFun (W54_of m ρ c main_v209_0 (by decide)) y).trans (hc y)
  have hS : ∀ y : S8x128.Idx, V54 m ρ c (Pipeline.arrRef spec6 3) y
      = tab P.f4 (P.bg 1 0) (P.be 1 0) (y 0).val (y 1).val := fun y =>
    (congrFun (host6_val (W53 m ρ c)) y).trans (table_apply _ _ hs _ _ _ _
      (rowA_apply _ P.bg (fun y => (congrFun (W53_args m ρ c main_arg7 (by decide)) y).trans (h.bg y)) 1 0 _)
      (rowA_apply _ P.be (fun y => (congrFun (W53_args m ρ c main_arg8 (by decide)) y).trans (h.be y)) 1 0 _) y)
  have hW : ∀ y : S192x256.Idx, V54 m ρ c (Pipeline.arrRef spec6 4) y = wid (P.bw 1 1) (y 0).val (y 1).val := fun y =>
    (congrFun ((kept54 m ρ c main_v61 (by decide)).trans ((keep46 m ρ c main_v61 (by decide)).trans
      (filter11_val m ρ c))) y).trans (wideA_apply _ 1 1 _ P.bw h.bw y)
  exact ⟨fun y => (congrFun ((W55_arr m ρ c 5).trans (arr6_5 (V54 m ρ) c _ _ _ hC hS hW)) y).trans
      (conv_rows _ _ _ _ _ _ _ (y 0).isLt (y 1).isLt (y 2).isLt),
    fun y => (congrFun ((W55_arr m ρ c 6).trans (arr6_6 (V54 m ρ) c _ _ _ hC hS hW)) y).trans
      (stat_rows _ _ _ _ _ _ _ (y 0).isLt (y 2).isLt)⟩

/-- After the sixth stage of 64 channels. -/
theorem stage7 : (∀ y : S2048x128x128.Idx, W57 m ρ c (Proc.devRef .tc main_v279_0) y
      = lay P.f6 (y 0).val (y 1).val (y 2).val)
    ∧ (∀ y : S64x8x128.Idx, W57 m ρ c (Proc.devRef .tc main_v279_1) y = statAll (lay P.f6) (y 0).val (y 1).val (y 2).val)
    ∧ ∀ y : S2048x128x128.Idx, W57 m ρ c (Proc.devRef .tc main_v279_2) y = lay P.a2 (y 0).val (y 1).val (y 2).val := by
  obtain ⟨hc, hs⟩ := stage6 m ρ c P h
  have hC : ∀ y : S2048x128x128.Idx, V56 m ρ c (Pipeline.arrRef spec7 0) y = lay P.f5 (y 0).val (y 1).val (y 2).val :=
    fun y => (congrFun (W56_of m ρ c main_v244_0 (by decide)) y).trans (hc y)
  have hS : ∀ y : S8x128.Idx, V56 m ρ c (Pipeline.arrRef spec7 6) y
      = tab P.f5 (P.bg 1 1) (P.be 1 1) (y 0).val (y 1).val := fun y =>
    (congrFun (host7_val (W55 m ρ c)) y).trans (table_apply _ _ hs _ _ _ _
      (rowA_apply _ P.bg (fun y => (congrFun (W55_args m ρ c main_arg7 (by decide)) y).trans (h.bg y)) 1 1 _)
      (rowA_apply _ P.be (fun y => (congrFun (W55_args m ρ c main_arg8 (by decide)) y).trans (h.be y)) 1 1 _) y)
  have hW : ∀ y : S192x256.Idx, V56 m ρ c (Pipeline.arrRef spec7 7) y = wid (P.bw 2 0) (y 0).val (y 1).val := fun y =>
    (congrFun ((kept56 m ρ c main_v76 (by decide)).trans ((keep46 m ρ c main_v76 (by decide)).trans
      (filter20_val m ρ c))) y).trans (wideA_apply _ 2 0 _ P.bw h.bw y)
  have hD : ∀ y : S2048x128x128.Idx, V56 m ρ c (Pipeline.arrRef spec7 3) y = lay P.a1 (y 0).val (y 1).val (y 2).val :=
    fun y => (congrFun ((W56_of m ρ c main_v209_2 (by decide)).trans ((W55_of m ρ c main_v209_2 (by decide)).trans
      (W54_of m ρ c main_v209_2 (by decide)))) y).trans ((stage5 m ρ c P h).2.2 y)
  exact ⟨fun y => (congrFun ((W57_arr m ρ c 8).trans (arr7_8 (V56 m ρ) c _ _ _ _ hC hD hS hW)) y).trans
      (convS_rows _ _ _ _ _ _ _ _ (y 0).isLt (y 1).isLt (y 2).isLt),
    fun y => (congrFun ((W57_arr m ρ c 9).trans (arr7_9 (V56 m ρ) c _ _ _ _ hC hD hS hW)) y).trans
      (statS_rows _ _ _ _ _ _ _ _ (y 0).isLt (y 2).isLt),
    fun y => (congrFun ((W57_arr m ρ c 10).trans (arr7_10 (V56 m ρ) c _ _ _ _ hC hD hS hW)) y).trans
      (actS_rows _ _ _ _ _ _ _)⟩

/-- After the seventh stage of 64 channels. -/
theorem stage8 : (∀ y : S2048x128x128.Idx, W59 m ρ c (Proc.devRef .tc main_v314_0) y
      = lay P.f7 (y 0).val (y 1).val (y 2).val)
    ∧ ∀ y : S64x8x128.Idx, W59 m ρ c (Proc.devRef .tc main_v314_1) y = statAll (lay P.f7) (y 0).val (y 1).val (y 2).val := by
  obtain ⟨hc, hs, -⟩ := stage7 m ρ c P h
  have hC : ∀ y : S2048x128x128.Idx, V58 m ρ c (Pipeline.arrRef spec8 0) y = lay P.f6 (y 0).val (y 1).val (y 2).val :=
    fun y => (congrFun (W58_of m ρ c main_v279_0 (by decide)) y).trans (hc y)
  have hS : ∀ y : S8x128.Idx, V58 m ρ c (Pipeline.arrRef spec8 3) y
      = tab P.f6 (P.bg 2 0) (P.be 2 0) (y 0).val (y 1).val := fun y =>
    (congrFun (host8_val (W57 m ρ c)) y).trans (table_apply _ _ hs _ _ _ _
      (rowA_apply _ P.bg (fun y => (congrFun (W57_args m ρ c main_arg7 (by decide)) y).trans (h.bg y)) 2 0 _)
      (rowA_apply _ P.be (fun y => (congrFun (W57_args m ρ c main_arg8 (by decide)) y).trans (h.be y)) 2 0 _) y)
  have hW : ∀ y : S192x256.Idx, V58 m ρ c (Pipeline.arrRef spec8 4) y = wid (P.bw 2 1) (y 0).val (y 1).val := fun y =>
    (congrFun ((kept58 m ρ c main_v91 (by decide)).trans ((keep46 m ρ c main_v91 (by decide)).trans
      (filter21_val m ρ c))) y).trans (wideA_apply _ 2 1 _ P.bw h.bw y)
  exact ⟨fun y => (congrFun ((W59_arr m ρ c 5).trans (arr8_5 (V58 m ρ) c _ _ _ hC hS hW)) y).trans
      (conv_rows _ _ _ _ _ _ _ (y 0).isLt (y 1).isLt (y 2).isLt),
    fun y => (congrFun ((W59_arr m ρ c 6).trans (arr8_6 (V58 m ρ) c _ _ _ hC hS hW)) y).trans
      (stat_rows _ _ _ _ _ _ _ (y 0).isLt (y 2).isLt)⟩

/-- After the last stage: the result's rows. -/
theorem stage9 : ∀ y : S2048x128x6.Idx, W61 m ρ c (Proc.devRef .tc main_v353) y
    = lay3 P.outK (y 0).val (y 1).val (y 2).val := by
  obtain ⟨hc, hs⟩ := stage8 m ρ c P h
  have hC : ∀ y : S2048x128x128.Idx, V60 m ρ c (Pipeline.arrRef spec9 0) y = lay P.f7 (y 0).val (y 1).val (y 2).val :=
    fun y => (congrFun (W60_of m ρ c main_v314_0 (by decide)) y).trans (hc y)
  have hD : ∀ y : S2048x128x128.Idx, V60 m ρ c (Pipeline.arrRef spec9 3) y = lay P.a2 (y 0).val (y 1).val (y 2).val :=
    fun y => (congrFun ((W60_of m ρ c main_v279_2 (by decide)).trans ((W59_of m ρ c main_v279_2 (by decide)).trans
      (W58_of m ρ c main_v279_2 (by decide)))) y).trans ((stage7 m ρ c P h).2.2 y)
  have hS : ∀ y : S8x128.Idx, V60 m ρ c (Pipeline.arrRef spec9 6) y
      = tabF P.f7 (P.bg 2 1) (P.be 2 1) P.b2 (y 0).val (y 1).val := fun y =>
    (congrFun (host9_val (W59 m ρ c)) y).trans (tableF_apply _ _ hs _ _ _ _
      (rowA_apply _ P.bg (fun y => (congrFun (W59_args m ρ c main_arg7 (by decide)) y).trans (h.bg y)) 2 1 _)
      (rowA_apply _ P.be (fun y => (congrFun (W59_args m ρ c main_arg8 (by decide)) y).trans (h.be y)) 2 1 _) _ P.b2
      (fun y => (congrFun (W59_args m ρ c main_arg10 (by decide)) y).trans (h.b2 y)) y)
  have hW : ∀ y : S192x256.Idx, V60 m ρ c (Pipeline.arrRef spec9 7) y = wid3 P.w2 (y 0).val (y 1).val := fun y =>
    (congrFun ((kept60 m ρ c main_v104 (by decide)).trans ((keep46 m ρ c main_v104 (by decide)).trans
      (filterF_val m ρ c))) y).trans (wideF_apply _ P.w2 h.w2 y)
  have hI : ∀ y : S2048x128x6.Idx, V60 m ρ c (Pipeline.arrRef spec9 8) y = lay3 P.x (y 0).val (y 1).val (y 2).val :=
    fun y => (congrFun (kept60 m ρ c main_v107 (by decide)) y).trans (rows_at m ρ c P h y)
  exact fun y => (congrFun ((W61_arr m ρ c 9).trans (arr9_9 (V60 m ρ) c _ _ _ _ _ hC hD hS hW hI)) y).trans
      (fin_rows _ _ _ _ _ _ _ _ _ _ (y 0).isLt (y 1).isLt (y 2).isLt)

/-- The kernel's result, by the arguments. -/
theorem result_at : ∀ y : S8x3x256x256.Idx, W63 m ρ c (Proc.devRef .tc main_v355) y
    = P.outK (y 0).val (y 1).val (y 2).val (y 3).val := fun y => by
  have hY : ∀ y : S2048x256x3.Idx, V62 m ρ c (Pipeline.arrRef spec10 0) y
      = (fun g w k => P.outK (g / 256) k (g % 256) w) (y 0).val (y 1).val (y 2).val := fun y =>
    (congrFun (host10_val (W61 m ρ c)) y).trans (images_apply _ P.outK (stage9 m ρ c P h) y)
  refine (congrFun ((W63_arr m ρ c 1).trans (arr10_1 (V62 m ρ) c (fun g w k => P.outK (g / 256) k (g % 256) w) hY)) y).trans ?_
  have h2 : (y 2).val < 256 := (y 2).isLt
  show P.outK ((256 * (y 0).val + (y 2).val) / 256) (y 1).val ((256 * (y 0).val + (y 2).val) % 256) (y 3).val = _
  congr 1 <;> omega

end Cert.KernelIdeal.Val

end
-- ==== Proof.RefVal.lean ====
/- The reference's building blocks read at an index. -/
module

public import proofs.«01_k».proof.Proof.Net
public import proofs.«01_k».proof.Proof.Gen.ReferenceIdeal.Read
public import Idealize.ShloMosaic.Lib.Pipeline.ValueKit

@[expose] public section

set_option maxRecDepth 16384

noncomputable section

namespace Cert.ReferenceIdeal.Val

open Idealize.ShloMosaic Idealize.ShloMosaic.TcCoe Cert.ReferenceIdeal.Gen Cert.ReferenceIdeal Cert.Net
open Cert.KernelIdeal.Val (chMean chVar pix pix1 npix eps hostReduceAdd_but1)

/-- A constant over an array of images. -/
def zeroP : FVec Ideal S_ .f32 := sitofp .f32 (constantI S_ 32 0#32)

/-- The padding value is zero. -/
theorem zeroP_eq (i : S_.Idx) : zeroP i = 0 := by
  show ((((0#32 : BitVec 32).toInt : ℝ)) : EReal) = 0
  norm_num

/-- Images of 64 channels with their border. -/
def padded (x : FVec Ideal S8x64x256x256 .f32) : FVec Ideal S8x64x258x258 .f32 :=
  pad S8x64x258x258 ![0, 0, 1, 1] ![0, 0, 1, 1] ![0, 0, 0, 0] x zeroP pads_S8x64x256x256_S8x64x258x258_000_000_110_110 h_S_

/-- Images of 6 channels with their border. -/
def padded6 (x : FVec Ideal S8x6x256x256 .f32) : FVec Ideal S8x6x258x258 .f32 :=
  pad S8x6x258x258 ![0, 0, 1, 1] ![0, 0, 1, 1] ![0, 0, 0, 0] x zeroP pads_S8x6x256x256_S8x6x258x258_000_000_110_110 h_S_

/-- One tap, 64 channels to 64. -/
def rTap (kh kw : ℕ) (hx : S8x64x258x258.Slices ![0, 0, kh, kw] S8x64x256x256)
    (hw : S64x64x3x3.Slices ![0, 0, kh, kw] S64x64x1x1) (x : FVec Ideal S8x64x258x258 .f32)
    (w : FVec Ideal S64x64x3x3 .f32) : FVec Ideal S8x64x256x256 .f32 :=
  transpose S8x64x256x256 [0, 3, 1, 2] (Host.dotGeneral dot_S8x64x256x256_S64x64_S8x256x256x64_1_1_023_0_n_n none
    (extractStridedSlice S8x64x256x256 ![0, 0, kh, kw] x hx)
    (shapeCast _ (extractStridedSlice S64x64x1x1 ![0, 0, kh, kw] w hw) shapeCasts_S64x64x1x1_S64x64))
    transposes_S8x256x256x64_S8x64x256x256_0_3_1_2

/-- One tap, 6 channels to 64. -/
def rTap6 (kh kw : ℕ) (hx : S8x6x258x258.Slices ![0, 0, kh, kw] S8x6x256x256)
    (hw : S64x6x3x3.Slices ![0, 0, kh, kw] S64x6x1x1) (x : FVec Ideal S8x6x258x258 .f32)
    (w : FVec Ideal S64x6x3x3 .f32) : FVec Ideal S8x64x256x256 .f32 :=
  transpose S8x64x256x256 [0, 3, 1, 2] (Host.dotGeneral dot_S8x6x256x256_S64x6_S8x256x256x64_1_1_023_0_n_n none
    (extractStridedSlice S8x6x256x256 ![0, 0, kh, kw] x hx)
    (shapeCast _ (extractStridedSlice S64x6x1x1 ![0, 0, kh, kw] w hw) shapeCasts_S64x6x1x1_S64x6))
    transposes_S8x256x256x64_S8x64x256x256_0_3_1_2

/-- One tap, 64 channels to 3. -/
def rTap3 (kh kw : ℕ) (hx : S8x64x258x258.Slices ![0, 0, kh, kw] S8x64x256x256)
    (hw : S3x64x3x3.Slices ![0, 0, kh, kw] S3x64x1x1) (x : FVec Ideal S8x64x258x258 .f32)
    (w : FVec Ideal S3x64x3x3 .f32) : FVec Ideal S8x3x256x256 .f32 :=
  transpose S8x3x256x256 [0, 3, 1, 2] (Host.dotGeneral dot_S8x64x256x256_S3x64_S8x256x256x3_1_1_023_0_n_n none
    (extractStridedSlice S8x64x256x256 ![0, 0, kh, kw] x hx)
    (shapeCast _ (extractStridedSlice S3x64x1x1 ![0, 0, kh, kw] w hw) shapeCasts_S3x64x1x1_S3x64))
    transposes_S8x256x256x3_S8x3x256x256_0_3_1_2

/-- The convolution of 64 channels to 64 with its bias. -/
def rConv (x : FVec Ideal S8x64x256x256 .f32) (w : FVec Ideal S64x64x3x3 .f32) (b : FVec Ideal S64 .f32) :
    FVec Ideal S8x64x256x256 .f32 :=
  addf (addf (addf (addf (addf (addf (addf (addf (addf
    (rTap 0 0 slices_S8x64x258x258_S8x64x256x256_0_0_0_0 slices_S64x64x3x3_S64x64x1x1_0_0_0_0 (padded x) w)
    (rTap 0 1 slices_S8x64x258x258_S8x64x256x256_0_0_0_1 slices_S64x64x3x3_S64x64x1x1_0_0_0_1 (padded x) w))
    (rTap 0 2 slices_S8x64x258x258_S8x64x256x256_0_0_0_2 slices_S64x64x3x3_S64x64x1x1_0_0_0_2 (padded x) w))
    (rTap 1 0 slices_S8x64x258x258_S8x64x256x256_0_0_1_0 slices_S64x64x3x3_S64x64x1x1_0_0_1_0 (padded x) w))
    (rTap 1 1 slices_S8x64x258x258_S8x64x256x256_0_0_1_1 slices_S64x64x3x3_S64x64x1x1_0_0_1_1 (padded x) w))
    (rTap 1 2 slices_S8x64x258x258_S8x64x256x256_0_0_1_2 slices_S64x64x3x3_S64x64x1x1_0_0_1_2 (padded x) w))
    (rTap 2 0 slices_S8x64x258x258_S8x64x256x256_0_0_2_0 slices_S64x64x3x3_S64x64x1x1_0_0_2_0 (padded x) w))
    (rTap 2 1 slices_S8x64x258x258_S8x64x256x256_0_0_2_1 slices_S64x64x3x3_S64x64x1x1_0_0_2_1 (padded x) w))
    (rTap 2 2 slices_S8x64x258x258_S8x64x256x256_0_0_2_2 slices_S64x64x3x3_S64x64x1x1_0_0_2_2 (padded x) w))
    (broadcastInDim S8x64x256x256 ![0, 1, 2, 3] bcast_S1x64x1x1_S8x64x256x256_0_1_2_3
      (broadcastInDim S1x64x1x1 ![1] bcast_S64_S1x64x1x1_1 b))

/-- The convolution of 6 channels to 64 with its bias. -/
def rConv6 (x : FVec Ideal S8x6x256x256 .f32) (w : FVec Ideal S64x6x3x3 .f32) (b : FVec Ideal S64 .f32) :
    FVec Ideal S8x64x256x256 .f32 :=
  addf (addf (addf (addf (addf (addf (addf (addf (addf
    (rTap6 0 0 slices_S8x6x258x258_S8x6x256x256_0_0_0_0 slices_S64x6x3x3_S64x6x1x1_0_0_0_0 (padded6 x) w)
    (rTap6 0 1 slices_S8x6x258x258_S8x6x256x256_0_0_0_1 slices_S64x6x3x3_S64x6x1x1_0_0_0_1 (padded6 x) w))
    (rTap6 0 2 slices_S8x6x258x258_S8x6x256x256_0_0_0_2 slices_S64x6x3x3_S64x6x1x1_0_0_0_2 (padded6 x) w))
    (rTap6 1 0 slices_S8x6x258x258_S8x6x256x256_0_0_1_0 slices_S64x6x3x3_S64x6x1x1_0_0_1_0 (padded6 x) w))
    (rTap6 1 1 slices_S8x6x258x258_S8x6x256x256_0_0_1_1 slices_S64x6x3x3_S64x6x1x1_0_0_1_1 (padded6 x) w))
    (rTap6 1 2 slices_S8x6x258x258_S8x6x256x256_0_0_1_2 slices_S64x6x3x3_S64x6x1x1_0_0_1_2 (padded6 x) w))
    (rTap6 2 0 slices_S8x6x258x258_S8x6x256x256_0_0_2_0 slices_S64x6x3x3_S64x6x1x1_0_0_2_0 (padded6 x) w))
    (rTap6 2 1 slices_S8x6x258x258_S8x6x256x256_0_0_2_1 slices_S64x6x3x3_S64x6x1x1_0_0_2_1 (padded6 x) w))
    (rTap6 2 2 slices_S8x6x258x258_S8x6x256x256_0_0_2_2 slices_S64x6x3x3_S64x6x1x1_0_0_2_2 (padded6 x) w))
    (broadcastInDim S8x64x256x256 ![0, 1, 2, 3] bcast_S1x64x1x1_S8x64x256x256_0_1_2_3
      (broadcastInDim S1x64x1x1 ![1] bcast_S64_S1x64x1x1_1 b))

/-- The convolution of 64 channels to 3 with its bias. -/
def rConv3 (x : FVec Ideal S8x64x256x256 .f32) (w : FVec Ideal S3x64x3x3 .f32) (b : FVec Ideal S3 .f32) :
    FVec Ideal S8x3x256x256 .f32 :=
  addf (addf (addf (addf (addf (addf (addf (addf (addf
    (rTap3 0 0 slices_S8x64x258x258_S8x64x256x256_0_0_0_0 slices_S3x64x3x3_S3x64x1x1_0_0_0_0 (padded x) w)
    (rTap3 0 1 slices_S8x64x258x258_S8x64x256x256_0_0_0_1 slices_S3x64x3x3_S3x64x1x1_0_0_0_1 (padded x) w))
    (rTap3 0 2 slices_S8x64x258x258_S8x64x256x256_0_0_0_2 slices_S3x64x3x3_S3x64x1x1_0_0_0_2 (padded x) w))
    (rTap3 1 0 slices_S8x64x258x258_S8x64x256x256_0_0_1_0 slices_S3x64x3x3_S3x64x1x1_0_0_1_0 (padded x) w))
    (rTap3 1 1 slices_S8x64x258x258_S8x64x256x256_0_0_1_1 slices_S3x64x3x3_S3x64x1x1_0_0_1_1 (padded x) w))
    (rTap3 1 2 slices_S8x64x258x258_S8x64x256x256_0_0_1_2 slices_S3x64x3x3_S3x64x1x1_0_0_1_2 (padded x) w))
    (rTap3 2 0 slices_S8x64x258x258_S8x64x256x256_0_0_2_0 slices_S3x64x3x3_S3x64x1x1_0_0_2_0 (padded x) w))
    (rTap3 2 1 slices_S8x64x258x258_S8x64x256x256_0_0_2_1 slices_S3x64x3x3_S3x64x1x1_0_0_2_1 (padded x) w))
    (rTap3 2 2 slices_S8x64x258x258_S8x64x256x256_0_0_2_2 slices_S3x64x3x3_S3x64x1x1_0_0_2_2 (padded x) w))
    (broadcastInDim S8x3x256x256 ![0, 1, 2, 3] bcast_S1x3x1x1_S8x3x256x256_0_1_2_3
      (broadcastInDim S1x3x1x1 ![1] bcast_S3_S1x3x1x1_1 b))

/-- One number per channel, over the images. -/
def spread (v : FVec Ideal S1x64x1x1 .f32) : FVec Ideal S8x64x256x256 .f32 :=
  broadcastInDim S8x64x256x256 ![0, 1, 2, 3] bcast_S1x64x1x1_S8x64x256x256_0_1_2_3 v

/-- A channel's mean over images, rows and columns. -/
def rMean (x : FVec Ideal S8x64x256x256 .f32) : FVec Ideal S1x64x1x1 .f32 :=
  Host.divf (broadcastInDim S1x64x1x1 ![1] bcast_S64_S1x64x1x1_1
    (Host.reduceAdd x (constant S_ .f32 0x00000000#32) reducesTo_S8x64x256x256_S64_d0_2_3 h_S_))
    (broadcastInDim S1x64x1x1 ![] bcast_S_S1x64x1x1 (constant S_ .f32 0x49000000#32))

/-- Batch normalisation. -/
def rNorm (x : FVec Ideal S8x64x256x256 .f32) (g be : FVec Ideal S64 .f32) : FVec Ideal S8x64x256x256 .f32 :=
  addf (mulf (mulf (subf x (spread (rMean x))) (spread (Host.rsqrt (addf
    (rMean (mulf (subf x (spread (rMean x))) (subf x (spread (rMean x)))))
    (broadcastInDim S1x64x1x1 ![] bcast_S_S1x64x1x1 (constant S_ .f32 0x3727C5AC#32))))))
    (spread (broadcastInDim S1x64x1x1 ![1] bcast_S64_S1x64x1x1_1 g)))
    (spread (broadcastInDim S1x64x1x1 ![1] bcast_S64_S1x64x1x1_1 be))

/-- celu of 64 channels. -/
def rCelu (x : FVec Ideal S8x64x256x256 .f32) : FVec Ideal S8x64x256x256 .f32 :=
  addf (maximumf x (broadcastInDim S8x64x256x256 ![] bcast_S_S8x64x256x256 (constant S_ .f32 0x00000000#32)))
    (mulf (broadcastInDim S8x64x256x256 ![] bcast_S_S8x64x256x256 (constant S_ .f32 0x3F800000#32))
      (Host.expm1 (Host.divf
        (minimumf x (broadcastInDim S8x64x256x256 ![] bcast_S_S8x64x256x256 (constant S_ .f32 0x00000000#32)))
        (broadcastInDim S8x64x256x256 ![] bcast_S_S8x64x256x256 (constant S_ .f32 0x3F800000#32)))))

/-- celu of 3 channels. -/
def rCelu3 (x : FVec Ideal S8x3x256x256 .f32) : FVec Ideal S8x3x256x256 .f32 :=
  addf (maximumf x (broadcastInDim S8x3x256x256 ![] bcast_S_S8x3x256x256 (constant S_ .f32 0x00000000#32)))
    (mulf (broadcastInDim S8x3x256x256 ![] bcast_S_S8x3x256x256 (constant S_ .f32 0x3F800000#32))
      (Host.expm1 (Host.divf
        (minimumf x (broadcastInDim S8x3x256x256 ![] bcast_S_S8x3x256x256 (constant S_ .f32 0x00000000#32)))
        (broadcastInDim S8x3x256x256 ![] bcast_S_S8x3x256x256 (constant S_ .f32 0x3F800000#32)))))

/-- The `(i, j)` row of a table of channels. -/
def rRow (v : FVec Ideal S3x2x64 .f32) (i j : ℕ) (hi : S3x2x64.Slices ![i, 0, 0] S1x2x64) (hj : S2x64.Slices ![j, 0] S1x64) :
    FVec Ideal S64 .f32 :=
  shapeCast _ (extractStridedSlice S1x64 ![j, 0] (shapeCast S2x64 (extractStridedSlice S1x2x64 ![i, 0, 0] v hi)
    shapeCasts_S1x2x64_S2x64) hj) shapeCasts_S1x64_S64

/-- The `(i, j)` filter. -/
def rFilter (v : FVec Ideal S3x2x64x64x3x3 .f32) (i j : ℕ)
    (hi : S3x2x64x64x3x3.Slices ![i, 0, 0, 0, 0, 0] S1x2x64x64x3x3)
    (hj : S2x64x64x3x3.Slices ![j, 0, 0, 0, 0] S1x64x64x3x3) : FVec Ideal S64x64x3x3 .f32 :=
  shapeCast _ (extractStridedSlice S1x64x64x3x3 ![j, 0, 0, 0, 0] (shapeCast S2x64x64x3x3
    (extractStridedSlice S1x2x64x64x3x3 ![i, 0, 0, 0, 0, 0] v hi)
    shapeCasts_S1x2x64x64x3x3_S2x64x64x3x3) hj) shapeCasts_S1x64x64x3x3_S64x64x3x3

/-- The image channels' mean. -/
def rImean (x : FVec Ideal S8x3x256x256 .f32) : FVec Ideal S8x3x1x1 .f32 :=
  Host.divf (broadcastInDim S8x3x1x1 ![0, 1] bcast_S8x3_S8x3x1x1_0_1
    (Host.reduceAdd x (constant S_ .f32 0x00000000#32) reducesTo_S8x3x256x256_S8x3_d2_3 h_S_))
    (broadcastInDim S8x3x1x1 ![] bcast_S_S8x3x1x1 (constant S_ .f32 0x47800000#32))

/-- The image less its channels' mean. -/
def rDev (x : FVec Ideal S8x3x256x256 .f32) : FVec Ideal S8x3x256x256 .f32 :=
  subf x (broadcastInDim S8x3x256x256 ![0, 1, 2, 3] bcast_S8x3x1x1_S8x3x256x256_0_1_2_3 (rImean x))

/-- The image and its instance normalisation. -/
def rInput (x : FVec Ideal S8x3x256x256 .f32) : FVec Ideal S8x6x256x256 .f32 :=
  concatenate S8x6x256x256 1 [⟨S8x3x256x256, x⟩, ⟨S8x3x256x256, Host.divf (rDev x)
    (broadcastInDim S8x3x256x256 ![0, 1, 2, 3] bcast_S8x3x1x1_S8x3x256x256_0_1_2_3 (Host.sqrt
      (Host.divf (broadcastInDim S8x3x1x1 ![0, 1] bcast_S8x3_S8x3x1x1_0_1
        (Host.reduceAdd (mulf (rDev x) (rDev x)) (constant S_ .f32 0x00000000#32) reducesTo_S8x3x256x256_S8x3_d2_3 h_S_))
        (broadcastInDim S8x3x1x1 ![] bcast_S_S8x3x1x1 (constant S_ .f32 0x477FFF00#32)))))⟩]
    concatenates_S8x3x256x256_S8x3x256x256_S8x6x256x256_d1

section

variable (x : FVec Ideal S8x64x256x256 .f32) (X : ℕ → ℕ → ℕ → ℕ → EReal)
  (hx : ∀ y, x y = X (y 0).val (y 1).val (y 2).val (y 3).val)

include hx

/-- The padded array is the bordered images. -/
theorem padded_apply (y : S8x64x258x258.Idx) : padded x y = pd X (y 0).val (y 1).val (y 2).val (y 3).val := by
  pointwise [padded]
  by_cases c : (1 ≤ (y 2).val ∧ (y 2).val - 1 < 256) ∧ 1 ≤ (y 3).val ∧ (y 3).val - 1 < 256
  · rw [dif_pos c]
    exact (hx _).trans (if_pos (by omega)).symm
  · rw [dif_neg c]
    exact (zeroP_eq _).trans (if_neg (by omega)).symm

/-- One tap. -/
theorem rTap_apply (W : ℕ → ℕ → ℕ → ℕ → EReal) (w : FVec Ideal S64x64x3x3 .f32)
    (hw : ∀ y, w y = W (y 0).val (y 1).val (y 2).val (y 3).val) (kh kw : ℕ) (h1 h2) (y : S8x64x256x256.Idx) :
    rTap kh kw h1 h2 (padded x) w y = tapR 64 X W kh kw (y 0).val (y 1).val (y 2).val (y 3).val := by
  have hp := padded_apply x X hx
  revert hp
  generalize padded x = xp
  intro hp
  pointwise [rTap]
  exact Finset.sum_congr rfl fun k _ => congrArg₂ (· * ·) (hp _) (hw _)

/-- A tap of the last convolution. -/
theorem rTap3_apply (W : ℕ → ℕ → ℕ → ℕ → EReal) (w : FVec Ideal S3x64x3x3 .f32)
    (hw : ∀ y, w y = W (y 0).val (y 1).val (y 2).val (y 3).val) (kh kw : ℕ) (h1 h2) (y : S8x3x256x256.Idx) :
    rTap3 kh kw h1 h2 (padded x) w y = tapR 64 X W kh kw (y 0).val (y 1).val (y 2).val (y 3).val := by
  have hp := padded_apply x X hx
  revert hp
  generalize padded x = xp
  intro hp
  pointwise [rTap3]
  exact Finset.sum_congr rfl fun k _ => congrArg₂ (· * ·) (hp _) (hw _)

/-- The convolution of 64 channels to 64. -/
theorem rConv_apply (W : ℕ → ℕ → ℕ → ℕ → EReal) (w : FVec Ideal S64x64x3x3 .f32)
    (hw : ∀ y, w y = W (y 0).val (y 1).val (y 2).val (y 3).val) (B : ℕ → EReal) (b : FVec Ideal S64 .f32)
    (hb : ∀ y, b y = B (y 0).val) (y : S8x64x256x256.Idx) :
    rConv x w b y = cvb 64 X W B (y 0).val (y 1).val (y 2).val (y 3).val := by
  pointwise [rConv]
  simp only [rTap_apply x X hx W w hw]
  exact congrArg (cvR 64 X W (y 0).val (y 1).val (y 2).val (y 3).val + ·) (hb _)

/-- The convolution of 64 channels to 3. -/
theorem rConv3_apply (W : ℕ → ℕ → ℕ → ℕ → EReal) (w : FVec Ideal S3x64x3x3 .f32)
    (hw : ∀ y, w y = W (y 0).val (y 1).val (y 2).val (y 3).val) (B : ℕ → EReal) (b : FVec Ideal S3 .f32)
    (hb : ∀ y, b y = B (y 0).val) (y : S8x3x256x256.Idx) :
    rConv3 x w b y = cvb 64 X W B (y 0).val (y 1).val (y 2).val (y 3).val := by
  pointwise [rConv3]
  simp only [rTap3_apply x X hx W w hw]
  exact congrArg (cvR 64 X W (y 0).val (y 1).val (y 2).val (y 3).val + ·) (hb _)

/-- A channel's mean. -/
theorem rMean_apply (y : S1x64x1x1.Idx) : rMean x y = meanR X (y 1).val := by
  pointwise [rMean]
  refine congrArg (Ideal.div · npix) ((hostReduceAdd_but1 _ x 0 (y 1)).trans ?_)
  rw [zero_add]
  exact Finset.sum_congr rfl fun _ _ => Finset.sum_congr rfl fun _ _ => Finset.sum_congr rfl fun _ _ => hx _

/-- celu of 64 channels. -/
theorem rCelu_apply (y : S8x64x256x256.Idx) :
    rCelu x y = celuR (X (y 0).val (y 1).val (y 2).val (y 3).val) := by
  pointwise [rCelu]
  rw [hx]
  rfl

end

/-- celu of 3 channels. -/
theorem rCelu3_apply (x : FVec Ideal S8x3x256x256 .f32) (y : S8x3x256x256.Idx) : rCelu3 x y = celuR (x y) := by
  pointwise [rCelu3]
  rfl

section

variable (x : FVec Ideal S8x64x256x256 .f32) (X : ℕ → ℕ → ℕ → ℕ → EReal)
  (hx : ∀ y, x y = X (y 0).val (y 1).val (y 2).val (y 3).val)

include hx

/-- The deviation from the channel's mean. -/
theorem rSub_apply (y : S8x64x256x256.Idx) : subf x (spread (rMean x)) y
    = X (y 0).val (y 1).val (y 2).val (y 3).val - meanR X (y 1).val := by
  have hm := rMean_apply x X hx
  revert hm
  generalize rMean x = v
  intro hm
  pointwise [spread]
  exact congrArg₂ (· - ·) (hx _) (hm _)

/-- A channel's variance. -/
theorem rVar_apply (y : S1x64x1x1.Idx) :
    rMean (mulf (subf x (spread (rMean x))) (subf x (spread (rMean x)))) y = varR X (y 1).val := by
  refine (rMean_apply _ (fun n c h w => (X n c h w - meanR X c) * (X n c h w - meanR X c)) (fun z => ?_) y).trans rfl
  exact congrArg₂ (· * ·) (rSub_apply x X hx z) (rSub_apply x X hx z)

/-- Batch normalisation. -/
theorem rNorm_apply (G E : ℕ → EReal) (g be : FVec Ideal S64 .f32) (hg : ∀ y, g y = G (y 0).val)
    (hbe : ∀ y, be y = E (y 0).val) (y : S8x64x256x256.Idx) :
    rNorm x g be y = bnR X G E (y 0).val (y 1).val (y 2).val (y 3).val := by
  have hs := rSub_apply x X hx
  have hv := rVar_apply x X hx
  unfold rNorm
  revert hs hv
  generalize rMean (mulf (subf x (spread (rMean x))) (subf x (spread (rMean x)))) = v
  generalize subf x (spread (rMean x)) = d
  intro hs hv
  pointwise [spread]
  exact congrArg₂ (· + ·) (congrArg₂ (· * ·) (congrArg₂ (· * ·) (hs _)
    (congrArg (fun z => Ideal.rsqrt (z + eps)) (hv _))) (hg _)) (hbe _)

end

/-- The padded input is the bordered images. -/
theorem padded6_apply (x : FVec Ideal S8x6x256x256 .f32) (X : ℕ → ℕ → ℕ → ℕ → EReal)
    (hx : ∀ y, x y = X (y 0).val (y 1).val (y 2).val (y 3).val) (y : S8x6x258x258.Idx) :
    padded6 x y = pd X (y 0).val (y 1).val (y 2).val (y 3).val := by
  pointwise [padded6]
  by_cases c : (1 ≤ (y 2).val ∧ (y 2).val - 1 < 256) ∧ 1 ≤ (y 3).val ∧ (y 3).val - 1 < 256
  · rw [dif_pos c]
    exact (hx _).trans (if_pos (by omega)).symm
  · rw [dif_neg c]
    exact (zeroP_eq _).trans (if_neg (by omega)).symm

/-- A tap of the first convolution. -/
theorem rTap6_apply (x : FVec Ideal S8x6x256x256 .f32) (X : ℕ → ℕ → ℕ → ℕ → EReal)
    (hx : ∀ y, x y = X (y 0).val (y 1).val (y 2).val (y 3).val) (W : ℕ → ℕ → ℕ → ℕ → EReal) (w : FVec Ideal S64x6x3x3 .f32)
    (hw : ∀ y, w y = W (y 0).val (y 1).val (y 2).val (y 3).val) (kh kw : ℕ) (h1 h2) (y : S8x64x256x256.Idx) :
    rTap6 kh kw h1 h2 (padded6 x) w y = tapR 6 X W kh kw (y 0).val (y 1).val (y 2).val (y 3).val := by
  have hp := padded6_apply x X hx
  revert hp
  generalize padded6 x = xp
  intro hp
  pointwise [rTap6]
  exact Finset.sum_congr rfl fun k _ => congrArg₂ (· * ·) (hp _) (hw _)

/-- The convolution of 6 channels to 64. -/
theorem rConv6_apply (x : FVec Ideal S8x6x256x256 .f32) (X : ℕ → ℕ → ℕ → ℕ → EReal)
    (hx : ∀ y, x y = X (y 0).val (y 1).val (y 2).val (y 3).val) (W : ℕ → ℕ → ℕ → ℕ → EReal) (w : FVec Ideal S64x6x3x3 .f32)
    (hw : ∀ y, w y = W (y 0).val (y 1).val (y 2).val (y 3).val) (B : ℕ → EReal) (b : FVec Ideal S64 .f32)
    (hb : ∀ y, b y = B (y 0).val) (y : S8x64x256x256.Idx) :
    rConv6 x w b y = cvb 6 X W B (y 0).val (y 1).val (y 2).val (y 3).val := by
  pointwise [rConv6]
  simp only [rTap6_apply x X hx W w hw]
  exact congrArg (cvR 6 X W (y 0).val (y 1).val (y 2).val (y 3).val + ·) (hb _)

/-- One row of the parameters of the stages inside. -/
theorem rRow_apply (v : FVec Ideal S3x2x64 .f32) (A : ℕ → ℕ → ℕ → EReal) (hv : ∀ y, v y = A (y 0).val (y 1).val (y 2).val)
    (i j : ℕ) (h1 h2) (y : S64.Idx) : rRow v i j h1 h2 y = A i j (y 0).val := by
  pointwise [rRow]
  exact hv _

/-- One filter of the stages inside. -/
theorem rFilter_apply (v : FVec Ideal S3x2x64x64x3x3 .f32) (A : ℕ → ℕ → ℕ → ℕ → ℕ → ℕ → EReal)
    (hv : ∀ y, v y = A (y 0).val (y 1).val (y 2).val (y 3).val (y 4).val (y 5).val)
    (i j : ℕ) (h1 h2) (y : S64x64x3x3.Idx) : rFilter v i j h1 h2 y = A i j (y 0).val (y 1).val (y 2).val (y 3).val := by
  pointwise [rFilter]
  exact hv _

/-- The deviation from the mean of an image's channel. -/
theorem rDev_apply (x : FVec Ideal S8x3x256x256 .f32) (X : ℕ → ℕ → ℕ → ℕ → EReal)
    (hx : ∀ y, x y = X (y 0).val (y 1).val (y 2).val (y 3).val) (y : S8x3x256x256.Idx) :
    rDev x y = X (y 0).val (y 1).val (y 2).val (y 3).val - chMean (X (y 0).val (y 1).val) := by
  pointwise [rDev, rImean]
  refine congrArg₂ (· - ·) (hx _) (congrArg (Ideal.div · pix) ?_)
  exact Finset.sum_congr rfl fun _ _ => Finset.sum_congr rfl fun _ _ => hx _

/-- The image and its instance normalisation. -/
theorem rInput_apply (x : FVec Ideal S8x3x256x256 .f32) (X : ℕ → ℕ → ℕ → ℕ → EReal)
    (hx : ∀ y, x y = X (y 0).val (y 1).val (y 2).val (y 3).val) (y : S8x6x256x256.Idx) :
    rInput x y = inputR X (y 0).val (y 1).val (y 2).val (y 3).val := by
  have hd := rDev_apply x X hx
  pointwise [rInput]
  by_cases c : (y 1).val < 3
  · rw [dif_pos c]
    exact (hx _).trans (if_pos c).symm
  · rw [dif_neg c]
    refine Eq.trans ?_ (if_neg c).symm
    refine congrArg₂ Ideal.div (hd _) (congrArg Ideal.sqrt (congrArg (Ideal.div · pix1) ?_))
    exact Finset.sum_congr rfl fun _ _ => Finset.sum_congr rfl fun _ _ => congrArg₂ (· * ·) (hd _) (hd _)

end Cert.ReferenceIdeal.Val

end
-- ==== Proof.RefStages.lean ====
/- The reference's program, stage after stage, in its building blocks. -/
module

public import proofs.«01_k».proof.Proof.RefVal

@[expose] public section

set_option maxRecDepth 16384

noncomputable section

namespace Cert.ReferenceIdeal.Val

open Idealize.ShloMosaic Idealize.ShloMosaic.TcCoe Cert.ReferenceIdeal.Gen Cert.ReferenceIdeal Cert.ReferenceIdeal.Read

/-- The sum of two arrays of 64 channels. -/
def rAdd (x y : FVec Ideal S8x64x256x256 .f32) : FVec Ideal S8x64x256x256 .f32 := addf x y
/-- The sum of two arrays of 3 channels. -/
def rAdd3 (x y : FVec Ideal S8x3x256x256 .f32) : FVec Ideal S8x3x256x256 .f32 := addf x y

variable (x0 : FVec Ideal S8x3x256x256 .f32) (x1 : FVec Ideal S64x6x3x3 .f32) (x2 x3 x4 : FVec Ideal S64 .f32)
  (x5 : FVec Ideal S3x2x64x64x3x3 .f32) (x6 x7 x8 : FVec Ideal S3x2x64 .f32) (x9 : FVec Ideal S3x64x3x3 .f32)
  (x10 : FVec Ideal S3 .f32)

/-- The six input channels. -/
theorem input_eq : val_main_v16 (F := Ideal) x0 = rInput x0 := rfl

/-- The first convolution. -/
theorem conv0_eq : val_main_v73 (F := Ideal) x0 x1 x2 = rConv6 (val_main_v16 (F := Ideal) x0) x1 x2 := rfl

/-- The first stage. -/
theorem stage0_eq : val_main_v98 (F := Ideal) x0 x1 x2 x3 x4
    = rCelu (rNorm (val_main_v73 (F := Ideal) x0 x1 x2) x3 x4) := rfl

/-- Stage 1 of the six inside the residual blocks. -/
theorem stage1_eq : val_main_v196 (F := Ideal) x0 x1 x2 x3 x4 x5 x6 x7 x8 = rCelu (rNorm
    (rConv (val_main_v98 (F := Ideal) x0 x1 x2 x3 x4)
      (rFilter x5 0 0 slices_S3x2x64x64x3x3_S1x2x64x64x3x3_0_0_0_0_0_0 slices_S2x64x64x3x3_S1x64x64x3x3_0_0_0_0_0)
      (rRow x6 0 0 slices_S3x2x64_S1x2x64_0_0_0 slices_S2x64_S1x64_0_0))
    (rRow x7 0 0 slices_S3x2x64_S1x2x64_0_0_0 slices_S2x64_S1x64_0_0)
    (rRow x8 0 0 slices_S3x2x64_S1x2x64_0_0_0 slices_S2x64_S1x64_0_0)) := rfl

/-- Stage 2 of the six inside the residual blocks. -/
theorem stage2_eq : val_main_v286 (F := Ideal) x0 x1 x2 x3 x4 x5 x6 x7 x8 = rCelu (rNorm
    (rConv (val_main_v196 (F := Ideal) x0 x1 x2 x3 x4 x5 x6 x7 x8)
      (rFilter x5 0 1 slices_S3x2x64x64x3x3_S1x2x64x64x3x3_0_0_0_0_0_0 slices_S2x64x64x3x3_S1x64x64x3x3_1_0_0_0_0)
      (rRow x6 0 1 slices_S3x2x64_S1x2x64_0_0_0 slices_S2x64_S1x64_1_0))
    (rRow x7 0 1 slices_S3x2x64_S1x2x64_0_0_0 slices_S2x64_S1x64_1_0)
    (rRow x8 0 1 slices_S3x2x64_S1x2x64_0_0_0 slices_S2x64_S1x64_1_0)) := rfl

/-- The addition at the end of residual block 1. -/
theorem skip0_eq : val_main_v287 (F := Ideal) x0 x1 x2 x3 x4 x5 x6 x7 x8
    = rAdd (val_main_v286 (F := Ideal) x0 x1 x2 x3 x4 x5 x6 x7 x8) (val_main_v98 (F := Ideal) x0 x1 x2 x3 x4) := rfl

/-- Stage 3 of the six inside the residual blocks. -/
theorem stage3_eq : val_main_v385 (F := Ideal) x0 x1 x2 x3 x4 x5 x6 x7 x8 = rCelu (rNorm
    (rConv (val_main_v287 (F := Ideal) x0 x1 x2 x3 x4 x5 x6 x7 x8)
      (rFilter x5 1 0 slices_S3x2x64x64x3x3_S1x2x64x64x3x3_1_0_0_0_0_0 slices_S2x64x64x3x3_S1x64x64x3x3_0_0_0_0_0)
      (rRow x6 1 0 slices_S3x2x64_S1x2x64_1_0_0 slices_S2x64_S1x64_0_0))
    (rRow x7 1 0 slices_S3x2x64_S1x2x64_1_0_0 slices_S2x64_S1x64_0_0)
    (rRow x8 1 0 slices_S3x2x64_S1x2x64_1_0_0 slices_S2x64_S1x64_0_0)) := rfl

/-- Stage 4 of the six inside the residual blocks. -/
theorem stage4_eq : val_main_v475 (F := Ideal) x0 x1 x2 x3 x4 x5 x6 x7 x8 = rCelu (rNorm
    (rConv (val_main_v385 (F := Ideal) x0 x1 x2 x3 x4 x5 x6 x7 x8)
      (rFilter x5 1 1 slices_S3x2x64x64x3x3_S1x2x64x64x3x3_1_0_0_0_0_0 slices_S2x64x64x3x3_S1x64x64x3x3_1_0_0_0_0)
      (rRow x6 1 1 slices_S3x2x64_S1x2x64_1_0_0 slices_S2x64_S1x64_1_0))
    (rRow x7 1 1 slices_S3x2x64_S1x2x64_1_0_0 slices_S2x64_S1x64_1_0)
    (rRow x8 1 1 slices_S3x2x64_S1x2x64_1_0_0 slices_S2x64_S1x64_1_0)) := rfl

/-- The addition at the end of residual block 2. -/
theorem skip1_eq : val_main_v476 (F := Ideal) x0 x1 x2 x3 x4 x5 x6 x7 x8
    = rAdd (val_main_v475 (F := Ideal) x0 x1 x2 x3 x4 x5 x6 x7 x8) (val_main_v287 (F := Ideal) x0 x1 x2 x3 x4 x5 x6 x7 x8) := rfl

/-- Stage 5 of the six inside the residual blocks. -/
theorem stage5_eq : val_main_v574 (F := Ideal) x0 x1 x2 x3 x4 x5 x6 x7 x8 = rCelu (rNorm
    (rConv (val_main_v476 (F := Ideal) x0 x1 x2 x3 x4 x5 x6 x7 x8)
      (rFilter x5 2 0 slices_S3x2x64x64x3x3_S1x2x64x64x3x3_2_0_0_0_0_0 slices_S2x64x64x3x3_S1x64x64x3x3_0_0_0_0_0)
      (rRow x6 2 0 slices_S3x2x64_S1x2x64_2_0_0 slices_S2x64_S1x64_0_0))
    (rRow x7 2 0 slices_S3x2x64_S1x2x64_2_0_0 slices_S2x64_S1x64_0_0)
    (rRow x8 2 0 slices_S3x2x64_S1x2x64_2_0_0 slices_S2x64_S1x64_0_0)) := rfl

/-- Stage 6 of the six inside the residual blocks. -/
theorem stage6_eq : val_main_v664 (F := Ideal) x0 x1 x2 x3 x4 x5 x6 x7 x8 = rCelu (rNorm
    (rConv (val_main_v574 (F := Ideal) x0 x1 x2 x3 x4 x5 x6 x7 x8)
      (rFilter x5 2 1 slices_S3x2x64x64x3x3_S1x2x64x64x3x3_2_0_0_0_0_0 slices_S2x64x64x3x3_S1x64x64x3x3_1_0_0_0_0)
      (rRow x6 2 1 slices_S3x2x64_S1x2x64_2_0_0 slices_S2x64_S1x64_1_0))
    (rRow x7 2 1 slices_S3x2x64_S1x2x64_2_0_0 slices_S2x64_S1x64_1_0)
    (rRow x8 2 1 slices_S3x2x64_S1x2x64_2_0_0 slices_S2x64_S1x64_1_0)) := rfl

/-- The addition at the end of residual block 3. -/
theorem skip2_eq : val_main_v665 (F := Ideal) x0 x1 x2 x3 x4 x5 x6 x7 x8
    = rAdd (val_main_v664 (F := Ideal) x0 x1 x2 x3 x4 x5 x6 x7 x8) (val_main_v476 (F := Ideal) x0 x1 x2 x3 x4 x5 x6 x7 x8) := rfl

/-- The last convolution, celu, and the addition of the image. -/
theorem final_eq : val_main_v724 (F := Ideal) x0 x1 x2 x3 x4 x5 x6 x7 x8 x9 x10
    = rAdd3 (rCelu3 (rConv3 (val_main_v665 (F := Ideal) x0 x1 x2 x3 x4 x5 x6 x7 x8) x9 x10)) x0 := rfl

end Cert.ReferenceIdeal.Val

end
-- ==== Proof.NetEq.lean ====
/- On finite arguments, with no image channel constant, the kernel's network is the reference's. -/
module

public import proofs.«01_k».proof.Proof.NetK

@[expose] public section

noncomputable section

namespace Cert.Net

open Idealize.ShloMosaic Cert.KernelIdeal.Val

/-! ## Finite values -/

/-- A finite value. -/
def IsR (x : EReal) : Prop := ∃ r : ℝ, x = r

/-- A real is finite. -/
theorem IsR.coe (r : ℝ) : IsR (r : EReal) := ⟨r, rfl⟩
/-- Zero is finite. -/
theorem IsR.zero : IsR 0 := ⟨0, rfl⟩
/-- A sum of finite values is finite. -/
theorem IsR.add {x y : EReal} (hx : IsR x) (hy : IsR y) : IsR (x + y) := by
  obtain ⟨a, rfl⟩ := hx; obtain ⟨b, rfl⟩ := hy; exact ⟨a + b, (EReal.coe_add a b).symm⟩
/-- A product of finite values is finite. -/
theorem IsR.mul {x y : EReal} (hx : IsR x) (hy : IsR y) : IsR (x * y) := by
  obtain ⟨a, rfl⟩ := hx; obtain ⟨b, rfl⟩ := hy; exact ⟨a * b, (EReal.coe_mul a b).symm⟩
/-- A sum of finitely many finite values is finite. -/
theorem IsR.sum {n : ℕ} {f : Fin n → EReal} (h : ∀ i, IsR (f i)) : IsR (∑ i, f i) := by
  classical
  induction (Finset.univ : Finset (Fin n)) using Finset.induction_on with
  | empty => simpa using IsR.zero
  | insert a s ha ih => rw [Finset.sum_insert ha]; exact (h a).add ih
/-- A finite value is its real. -/
theorem IsR.toReal {x : EReal} (h : IsR x) : x = (x.toReal : EReal) := by
  obtain ⟨a, rfl⟩ := h; rw [EReal.toReal_coe]

/-- A sum of reals, read as extended reals. -/
theorem coe_sum {n : ℕ} (f : Fin n → ℝ) : ((∑ i, f i : ℝ) : EReal) = ∑ i, (f i : EReal) := by
  classical
  induction (Finset.univ : Finset (Fin n)) using Finset.induction_on with
  | empty => simp
  | insert a s ha ih => rw [Finset.sum_insert ha, Finset.sum_insert ha, EReal.coe_add, ih]

/-- The quotient of reals by a real other than zero. -/
theorem div_real (a b : ℝ) (hb : b ≠ 0) : Ideal.div (a : EReal) (b : EReal) = ((a / b : ℝ) : EReal) := by
  rw [Ideal.div_coe hb, ← EReal.coe_mul]
  congr 1
  field_simp

/-- The inverse square root of a positive real. -/
theorem rsqrt_real (a : ℝ) (ha : 0 < a) : Ideal.rsqrt (a : EReal) = (((Real.sqrt a)⁻¹ : ℝ) : EReal) := by
  rw [Ideal.rsqrt_coe, if_neg (not_lt.mpr ha.le), if_neg ha.ne']

/-- The number of pixels of all images. -/
theorem npix_eq : npix = ((524288 : ℝ) : EReal) := by
  simp [npix, Ideal.ofBits, Ideal.ieee]
  rw [← EReal.coe_mul]
  norm_num

/-- The number of pixels of an image. -/
theorem pix_eq : pix = ((65536 : ℝ) : EReal) := by
  simp [pix, Ideal.ofBits, Ideal.ieee]
  rw [← EReal.coe_mul]
  norm_num

/-- The number of pixels of an image less one. -/
theorem pix1_eq : pix1 = ((65535 : ℝ) : EReal) := by
  simp [pix1, Ideal.ofBits, Ideal.ieee]
  rw [← EReal.coe_mul]
  norm_num

/-- The stabiliser is a positive real. -/
theorem eps_eq : ∃ e : ℝ, 0 < e ∧ eps = (e : EReal) := by
  refine ⟨10995116 * (2 : ℝ) ^ (-40 : ℤ), by positivity, ?_⟩
  simp [eps, Ideal.ofBits, Ideal.ieee]

/-! ## celu -/

/-- The kernel's celu is the reference's. -/
theorem celu_eq (x : EReal) : celu x = celuR x := by
  have e1 : ∀ y : EReal, Ideal.div y 1 = y := fun y => by
    have := Ideal.div_coe (one_ne_zero (α := ℝ)) y
    simpa using this
  unfold celu celuR
  rw [e1]
  induction x using EReal.rec with
  | bot => simp
  | top =>
    have h2 : Ideal.exp 0 - 1 = 0 := by
      show ((Real.exp 0 : ℝ) : EReal) - 1 = 0
      rw [Real.exp_zero]
      exact_mod_cast sub_self (1 : ℝ)
    simp [h2]
  | coe r =>
    rcases le_total r 0 with hr | hr
    · have h0 : min (r : EReal) 0 = r := min_eq_left (by exact_mod_cast hr)
      have h1 : max (r : EReal) 0 = 0 := max_eq_right (by exact_mod_cast hr)
      rw [h0, h1, zero_add, Ideal.exp_coe]
      refine max_eq_right ?_
      have := Real.add_one_le_exp r
      have h2 : r ≤ Real.exp r - 1 := by linarith
      exact_mod_cast h2
    · have h0 : min (r : EReal) 0 = ((0 : ℝ) : EReal) := min_eq_right (by exact_mod_cast hr)
      have h1 : max (r : EReal) 0 = r := max_eq_left (by exact_mod_cast hr)
      have h2 : ((Real.exp 0 : ℝ) : EReal) - 1 = ((0 : ℝ) : EReal) := by
        rw [Real.exp_zero]
        exact_mod_cast sub_self (1 : ℝ)
      rw [h0, h1, Ideal.exp_coe, h2, max_eq_left (by exact_mod_cast hr)]
      simp

/-- celu of a finite value is finite. -/
theorem IsR.celu {x : EReal} (h : IsR x) : IsR (Cert.KernelIdeal.Val.celu x) := by
  obtain ⟨r, rfl⟩ := h
  unfold Cert.KernelIdeal.Val.celu
  have e : min (r : EReal) 0 = ((min r 0 : ℝ) : EReal) := by
    rcases le_total r 0 with hr | hr
    · rw [min_eq_left hr, min_eq_left (by exact_mod_cast hr)]
    · rw [min_eq_right hr, min_eq_right (by exact_mod_cast hr)]; rfl
  rw [e, Ideal.exp_coe]
  refine ⟨max r (Real.exp (min r 0) - 1), ?_⟩
  push_cast
  rfl

/-! ## Batch normalisation -/

/-- A sum over images, rows and columns. -/
def tot (f : ℕ → ℕ → ℕ → ℝ) : ℝ := ∑ n : Fin 8, ∑ h : Fin 256, ∑ w : Fin 256, f n h w

/-- The total of a sum. -/
theorem tot_add (f g : ℕ → ℕ → ℕ → ℝ) : tot (fun n h w => f n h w + g n h w) = tot f + tot g := by
  simp only [tot, Finset.sum_add_distrib]

/-- The total of a multiple. -/
theorem tot_mul (k : ℝ) (f : ℕ → ℕ → ℕ → ℝ) : tot (fun n h w => k * f n h w) = k * tot f := by
  simp only [tot, Finset.mul_sum]

/-- The total of a constant. -/
theorem tot_const (k : ℝ) : tot (fun _ _ _ => k) = 524288 * k := by
  simp only [tot, Finset.sum_const, Finset.card_univ, Fintype.card_fin, nsmul_eq_mul]
  push_cast
  ring

/-- The total of values not negative is not negative. -/
theorem tot_nonneg (f : ℕ → ℕ → ℕ → ℝ) (h : ∀ n r w, 0 ≤ f n r w) : 0 ≤ tot f :=
  Finset.sum_nonneg fun n _ => Finset.sum_nonneg fun r _ => Finset.sum_nonneg fun w _ => h n r w

/-- The total of real entries is their real total. -/
theorem total_real (X : ℕ → ℕ → ℕ → ℕ → EReal) (c : ℕ) (f : ℕ → ℕ → ℕ → ℝ)
    (h : ∀ n r w, n < 8 → X n c r w = (f n r w : EReal)) : total X c = (tot f : EReal) := by
  unfold total tot
  rw [coe_sum]
  refine Finset.sum_congr rfl fun n _ => ?_
  rw [coe_sum]
  refine Finset.sum_congr rfl fun r _ => ?_
  rw [coe_sum]
  exact Finset.sum_congr rfl fun w _ => h n r w n.isLt

/-- A channel's total depends on the entries of the eight images alone. -/
theorem total_congr (X Y : ℕ → ℕ → ℕ → ℕ → EReal) (c : ℕ) (h : ∀ n r w, n < 8 → X n c r w = Y n c r w) :
    total X c = total Y c :=
  Finset.sum_congr rfl fun n _ => Finset.sum_congr rfl fun r _ => Finset.sum_congr rfl fun w _ => h n r w n.isLt

/-- Batch normalisation depends on the entries of the eight images alone. -/
theorem bnR_congr (X Y : ℕ → ℕ → ℕ → ℕ → EReal) (g be : ℕ → EReal) (c : ℕ)
    (h : ∀ n r w, n < 8 → X n c r w = Y n c r w) (n r w : ℕ) (hn : n < 8) : bnR X g be n c r w = bnR Y g be n c r w := by
  have hm : meanR X c = meanR Y c := by rw [meanR, meanR, total_congr X Y c h]
  have hv : varR X c = varR Y c := by
    rw [varR, varR, total_congr _ (fun n c h w => (Y n c h w - meanR Y c) * (Y n c h w - meanR Y c)) c
      (fun n r w hn => by simp only [h n r w hn, hm])]
  rw [bnR, bnR, hm, hv, h n r w hn]

/-- The scale and shift of a convolution are the normalisation of the convolution with a bias. -/
theorem bn_eq (A : ℕ → ℕ → ℕ → ℕ → EReal) (g be b : ℕ → EReal) (c : ℕ) (hA : ∀ n r w, n < 8 → IsR (A n c r w))
    (hg : IsR (g c)) (he : IsR (be c)) (hb : IsR (b c)) (n r w : ℕ) (hn : n < 8) :
    A n c r w * scK A g c + shK A g be c = bnR (fun n c r w => A n c r w + b c) g be n c r w
      ∧ IsR (A n c r w * scK A g c + shK A g be c) := by
  have ha : ∀ n r w, n < 8 → A n c r w = ((A n c r w).toReal : EReal) := fun n r w hn => (hA n r w hn).toReal
  generalize hf : (fun n r w => (A n c r w).toReal) = a at ha
  replace ha : ∀ n r w, n < 8 → A n c r w = (a n r w : EReal) := fun n r w hn => by rw [← hf]; exact ha n r w hn
  obtain ⟨γ, hγ⟩ := hg
  obtain ⟨δ, hδ⟩ := he
  obtain ⟨β, hβ⟩ := hb
  obtain ⟨e, he0, hee⟩ := eps_eq
  have N0 : (524288 : ℝ) ≠ 0 := by norm_num
  generalize hM : tot a / 524288 = M
  have hS : tot a = 524288 * M := by rw [← hM]; field_simp
  have m1 : meanR A c = (M : EReal) := by rw [meanR, total_real A c a ha, npix_eq, div_real _ _ N0, hM]
  have q1 : total (fun n c h w => A n c h w * A n c h w) c = (tot (fun n h w => a n h w * a n h w) : EReal) :=
    total_real _ c _ fun n r w hn => by simp only [ha n r w hn, EReal.coe_mul]
  generalize hQ : tot (fun n h w => a n h w * a n h w) = Q at q1
  have m2 : meanR (fun n c r w => A n c r w + b c) c = ((M + β : ℝ) : EReal) := by
    rw [meanR, total_real _ c (fun n r w => a n r w + β) (fun n r w hn => by simp only [ha n r w hn, hβ, EReal.coe_add]),
      npix_eq, div_real _ _ N0, tot_add, tot_const, hS]
    congr 1
    field_simp
  have hv : tot (fun n r w => (a n r w - M) * (a n r w - M)) = Q - 524288 * (M * M) := by
    have e1 : (fun n r w => (a n r w - M) * (a n r w - M))
        = fun n r w => (a n r w * a n r w + (-2 * M) * a n r w) + M * M := by
      funext n r w; ring
    rw [e1, tot_add (fun n r w => a n r w * a n r w + (-2 * M) * a n r w), tot_add (fun n r w => a n r w * a n r w),
      tot_mul, tot_const, hQ, hS]
    ring
  have v2 : varR (fun n c r w => A n c r w + b c) c = ((Q / 524288 - M * M : ℝ) : EReal) := by
    rw [varR, total_real _ c (fun n r w => (a n r w - M) * (a n r w - M)) (fun n r w hn => ?_), hv, npix_eq,
      div_real _ _ N0]
    · congr 1
      field_simp
    · simp only [m2, ha n r w hn, hβ]
      rw [← EReal.coe_add, ← EReal.coe_sub, ← EReal.coe_mul]
      congr 1
      ring
  have v0 : 0 ≤ Q / 524288 - M * M := by
    have h := tot_nonneg (fun n r w => (a n r w - M) * (a n r w - M)) fun n r w => mul_self_nonneg _
    rw [hv] at h
    have : Q / 524288 - M * M = (Q - 524288 * (M * M)) / 524288 := by field_simp
    rw [this]
    positivity
  have sc : scK A g c = ((γ * (Real.sqrt (Q / 524288 - M * M + e))⁻¹ : ℝ) : EReal) := by
    rw [scK, q1, m1, npix_eq, div_real _ _ N0, hee, hγ, ← EReal.coe_mul, ← EReal.coe_sub, ← EReal.coe_add,
      rsqrt_real _ (by linarith), ← EReal.coe_mul]
  have lhs : A n c r w * scK A g c + shK A g be c
      = ((a n r w * (γ * (Real.sqrt (Q / 524288 - M * M + e))⁻¹)
        + (δ - M * (γ * (Real.sqrt (Q / 524288 - M * M + e))⁻¹)) : ℝ) : EReal) := by
    rw [shK, sc, m1, hδ, ha n r w hn]
    simp only [EReal.coe_add, EReal.coe_mul, EReal.coe_sub]
  refine ⟨?_, lhs ▸ IsR.coe _⟩
  rw [lhs, bnR, m2, v2, hee, ← EReal.coe_add, rsqrt_real _ (by linarith), hγ, hδ]
  simp only [ha n r w hn, hβ]
  rw [← EReal.coe_add, ← EReal.coe_sub, ← EReal.coe_mul, ← EReal.coe_mul, ← EReal.coe_add]
  congr 1
  ring

/-! ## Stages -/

/-- Images equal and finite, for eight images of `K` channels. -/
def Same (K : ℕ) (A B : ℕ → ℕ → ℕ → ℕ → EReal) : Prop :=
  ∀ n c h w, n < 8 → c < K → A n c h w = B n c h w ∧ IsR (A n c h w)

/-- A tap depends on its input channels alone. -/
theorem tapR_congr (K : ℕ) (A B W : ℕ → ℕ → ℕ → ℕ → EReal) (kh kw n o h w : ℕ)
    (hAB : ∀ c h w, c < K → A n c h w = B n c h w) : tapR K A W kh kw n o h w = tapR K B W kh kw n o h w :=
  Finset.sum_congr rfl fun i _ => by simp only [pd, hAB i _ _ i.isLt]

/-- A convolution depends on its input channels alone. -/
theorem cvR_congr (K : ℕ) (A B W : ℕ → ℕ → ℕ → ℕ → EReal) (n o h w : ℕ)
    (hAB : ∀ c h w, c < K → A n c h w = B n c h w) : cvR K A W n o h w = cvR K B W n o h w := by
  simp only [cvR, fun kh kw => tapR_congr K A B W kh kw n o h w hAB]

/-- A tap of finite entries is finite. -/
theorem tapR_isR (K : ℕ) (A W : ℕ → ℕ → ℕ → ℕ → EReal) (kh kw n o h w : ℕ) (hA : ∀ c h w, c < K → IsR (A n c h w))
    (hW : ∀ o i kh kw, IsR (W o i kh kw)) : IsR (tapR K A W kh kw n o h w) :=
  IsR.sum fun i => IsR.mul (by unfold pd; split; exacts [hA _ _ _ i.isLt, IsR.zero]) (hW _ _ _ _)

/-- A convolution of finite entries is finite. -/
theorem cvR_isR (K : ℕ) (A W : ℕ → ℕ → ℕ → ℕ → EReal) (n o h w : ℕ) (hA : ∀ c h w, c < K → IsR (A n c h w))
    (hW : ∀ o i kh kw, IsR (W o i kh kw)) : IsR (cvR K A W n o h w) := by
  have t := fun kh kw => tapR_isR K A W kh kw n o h w hA hW
  exact ((((((((t 0 0).add (t 0 1)).add (t 0 2)).add (t 1 0)).add (t 1 1)).add (t 1 2)).add (t 2 0)).add (t 2 1)).add (t 2 2)

/-- One stage. -/
theorem Same.stage {K : ℕ} {A B : ℕ → ℕ → ℕ → ℕ → EReal} (hAB : Same K A B) (W : ℕ → ℕ → ℕ → ℕ → EReal)
    (b g be : ℕ → EReal) (hW : ∀ o i kh kw, IsR (W o i kh kw)) (hb : ∀ c, IsR (b c)) (hg : ∀ c, IsR (g c))
    (he : ∀ c, IsR (be c)) : Same 64 (actK (cvR K A W) g be) (stageR K B W b g be) := by
  intro n c h w hn _
  have hf : ∀ n r w, n < 8 → IsR (cvR K A W n c r w) := fun n r w hn =>
    cvR_isR K A W n c r w (fun c h w hc => (hAB n c h w hn hc).2) hW
  obtain ⟨h1, h2⟩ := bn_eq (cvR K A W) g be b c hf (hg c) (he c) (hb c) n h w hn
  refine ⟨?_, h2.celu⟩
  rw [actK, stageR, celu_eq, h1]
  refine congrArg celuR (bnR_congr _ _ g be c (fun n r w hn => ?_) n h w hn)
  rw [cvb, cvR_congr K A B W n c r w fun c h w hc => (hAB n c h w hn hc).1]

/-- Sums of arrays that agree agree. -/
theorem Same.add {K : ℕ} {A B A' B' : ℕ → ℕ → ℕ → ℕ → EReal} (h : Same K A B) (h' : Same K A' B') :
    Same K (addN A A') (addN B B') := fun n c r w hn hc =>
  ⟨congrArg₂ (· + ·) (h n c r w hn hc).1 (h' n c r w hn hc).1, (h n c r w hn hc).2.add (h' n c r w hn hc).2⟩

/-! ## The input -/

/-- In a channel that is finite and not constant, the product with the inverse root is the quotient by the root, and finite. -/
theorem chan_eq (p : ℕ → ℕ → EReal) (hp : ∀ h w, IsR (p h w))
    (hv : ∃ h w h' w', h < 256 ∧ w < 256 ∧ h' < 256 ∧ w' < 256 ∧ p h w ≠ p h' w') (r s : ℕ) :
    (p r s - chMean p) * Ideal.rsqrt (chVar p) = Ideal.div (p r s - chMean p) (Ideal.sqrt (chVar p))
      ∧ IsR ((p r s - chMean p) * Ideal.rsqrt (chVar p)) := by
  choose a ha using hp
  have m1 : chMean p = (((∑ h : Fin 256, ∑ w : Fin 256, a h w) / 65536 : ℝ) : EReal) := by
    rw [chMean, pix_eq, ← div_real _ _ (by norm_num)]
    congr 1
    simp only [coe_sum, ha]
  generalize (∑ h : Fin 256, ∑ w : Fin 256, a h w) / 65536 = M at m1
  have v1 : chVar p = (((∑ h : Fin 256, ∑ w : Fin 256, (a h w - M) * (a h w - M)) / 65535 : ℝ) : EReal) := by
    rw [chVar, pix1_eq, ← div_real _ _ (by norm_num), m1]
    congr 1
    simp only [coe_sum, ha, EReal.coe_mul, EReal.coe_sub]
  have hpos : 0 < (∑ h : Fin 256, ∑ w : Fin 256, (a h w - M) * (a h w - M)) / 65535 := by
    refine div_pos ?_ (by norm_num)
    refine lt_of_le_of_ne (Finset.sum_nonneg fun _ _ => Finset.sum_nonneg fun _ _ => mul_self_nonneg _) fun h0 => ?_
    have z : ∀ h w : Fin 256, a h w = M := by
      intro h w
      have h1 := (Finset.sum_eq_zero_iff_of_nonneg (fun (h : Fin 256) _ =>
        Finset.sum_nonneg fun (w : Fin 256) _ => mul_self_nonneg (a h w - M))).mp h0.symm h (Finset.mem_univ _)
      have h2 := (Finset.sum_eq_zero_iff_of_nonneg (fun (w : Fin 256) _ => mul_self_nonneg (a h w - M))).mp h1 w (Finset.mem_univ _)
      exact sub_eq_zero.mp (mul_self_eq_zero.mp h2)
    obtain ⟨h, w, h', w', a1, a2, a3, a4, hne⟩ := hv
    apply hne
    rw [ha, ha, z ⟨h, a1⟩ ⟨w, a2⟩, z ⟨h', a3⟩ ⟨w', a4⟩]
  rw [v1, m1, ha, rsqrt_real _ hpos, Ideal.sqrt_coe, if_neg (not_lt.mpr hpos.le),
    Ideal.div_coe (Real.sqrt_pos.mpr hpos).ne', one_div]
  refine ⟨rfl, ?_⟩
  rw [← EReal.coe_sub]
  exact (IsR.coe _).mul (IsR.coe _)

/-- The kernel's input channels are the reference's. -/
theorem input_same (X : ℕ → ℕ → ℕ → ℕ → EReal) (hX : ∀ n c h w, IsR (X n c h w))
    (hv : ∀ n c, n < 8 → c < 3 → ∃ h w h' w', h < 256 ∧ w < 256 ∧ h' < 256 ∧ w' < 256 ∧ X n c h w ≠ X n c h' w') :
    Same 6 (inputK X) (inputR X) := by
  intro n c h w hn hc
  unfold inputK inputR
  by_cases c3 : c < 3
  · rw [if_pos c3, if_pos c3]
    exact ⟨rfl, hX _ _ _ _⟩
  · rw [if_neg c3, if_neg c3]
    exact chan_eq (X n (c - 3)) (hX _ _) (hv n (c - 3) hn (by omega)) h w

/-! ## The network -/

namespace Par

variable (P : Par)

def r0 : ℕ → ℕ → ℕ → ℕ → EReal := stageR 6 (inputR P.x) P.w1 P.b1 P.g1 P.e1
def s1 : ℕ → ℕ → ℕ → ℕ → EReal := stageR 64 P.r0 (P.bw 0 0) (P.bb 0 0) (P.bg 0 0) (P.be 0 0)
def r1 : ℕ → ℕ → ℕ → ℕ → EReal := addN (stageR 64 P.s1 (P.bw 0 1) (P.bb 0 1) (P.bg 0 1) (P.be 0 1)) P.r0
def s2 : ℕ → ℕ → ℕ → ℕ → EReal := stageR 64 P.r1 (P.bw 1 0) (P.bb 1 0) (P.bg 1 0) (P.be 1 0)
def r2 : ℕ → ℕ → ℕ → ℕ → EReal := addN (stageR 64 P.s2 (P.bw 1 1) (P.bb 1 1) (P.bg 1 1) (P.be 1 1)) P.r1
def s3 : ℕ → ℕ → ℕ → ℕ → EReal := stageR 64 P.r2 (P.bw 2 0) (P.bb 2 0) (P.bg 2 0) (P.be 2 0)
def r3 : ℕ → ℕ → ℕ → ℕ → EReal := addN (stageR 64 P.s3 (P.bw 2 1) (P.bb 2 1) (P.bg 2 1) (P.be 2 1)) P.r2
/-- The reference's result. -/
def outR (n c h w : ℕ) : EReal := celuR (cvb 64 P.r3 P.w2 P.b2 n c h w) + P.x n c h w

/-- Finite arguments, no image channel constant. -/
structure Ok : Prop where
  x : ∀ n c h w, IsR (P.x n c h w)
  v : ∀ n c, n < 8 → c < 3 → ∃ h w h' w', h < 256 ∧ w < 256 ∧ h' < 256 ∧ w' < 256 ∧ P.x n c h w ≠ P.x n c h' w'
  w1 : ∀ o i h w, IsR (P.w1 o i h w)
  b1 : ∀ c, IsR (P.b1 c)
  g1 : ∀ c, IsR (P.g1 c)
  e1 : ∀ c, IsR (P.e1 c)
  bw : ∀ i j o k h w, IsR (P.bw i j o k h w)
  bb : ∀ i j c, IsR (P.bb i j c)
  bg : ∀ i j c, IsR (P.bg i j c)
  be : ∀ i j c, IsR (P.be i j c)

variable {P} in
/-- The kernel's result is the reference's. -/
theorem out_eq (h : P.Ok) (n c r w : ℕ) (hn : n < 8) : P.outK n c r w = P.outR n c r w := by
  have h0 : Same 64 P.a0 P.r0 := (input_same P.x h.x h.v).stage P.w1 P.b1 P.g1 P.e1 h.w1 h.b1 h.g1 h.e1
  have st : ∀ (i j : ℕ) {A B : ℕ → ℕ → ℕ → ℕ → EReal}, Same 64 A B →
      Same 64 (actK (cvR 64 A (P.bw i j)) (P.bg i j) (P.be i j))
        (stageR 64 B (P.bw i j) (P.bb i j) (P.bg i j) (P.be i j)) := fun i j _ _ hs =>
    hs.stage _ _ _ _ (h.bw i j) (h.bb i j) (h.bg i j) (h.be i j)
  have h1 : Same 64 P.a1 P.r1 := (st 0 1 (st 0 0 h0)).add h0
  have h2 : Same 64 P.a2 P.r2 := (st 1 1 (st 1 0 h1)).add h1
  have h3 : Same 64 P.a3 P.r3 := (st 2 1 (st 2 0 h2)).add h2
  rw [outK, outR, celu_eq, cvb, cvR_congr 64 P.a3 P.r3 P.w2 n c r w fun c h w hc => (h3 n c h w hn hc).1]

end Par

end Cert.Net

end
-- ==== Proof.RefNet.lean ====
/- The reference's result as the network in the arguments' entries. -/
module

public import proofs.«01_k».proof.Proof.RefStages
public import proofs.«01_k».proof.Proof.NetEq

@[expose] public section

set_option maxRecDepth 16384

noncomputable section

namespace Cert.ReferenceIdeal.Val

open Idealize.ShloMosaic Idealize.ShloMosaic.TcCoe Cert.ReferenceIdeal.Gen Cert.ReferenceIdeal Cert.ReferenceIdeal.Read
open Cert.Net

/-- The eleven arguments hold the entries that the network `P` is made of. -/
structure Holds (P : Par) (x0 : FVec Ideal S8x3x256x256 .f32) (x1 : FVec Ideal S64x6x3x3 .f32)
    (x2 x3 x4 : FVec Ideal S64 .f32) (x5 : FVec Ideal S3x2x64x64x3x3 .f32) (x6 x7 x8 : FVec Ideal S3x2x64 .f32)
    (x9 : FVec Ideal S3x64x3x3 .f32) (x10 : FVec Ideal S3 .f32) : Prop where
  x : ∀ y, x0 y = P.x (y 0).val (y 1).val (y 2).val (y 3).val
  w1 : ∀ y, x1 y = P.w1 (y 0).val (y 1).val (y 2).val (y 3).val
  b1 : ∀ y, x2 y = P.b1 (y 0).val
  g1 : ∀ y, x3 y = P.g1 (y 0).val
  e1 : ∀ y, x4 y = P.e1 (y 0).val
  bw : ∀ y, x5 y = P.bw (y 0).val (y 1).val (y 2).val (y 3).val (y 4).val (y 5).val
  bb : ∀ y, x6 y = P.bb (y 0).val (y 1).val (y 2).val
  bg : ∀ y, x7 y = P.bg (y 0).val (y 1).val (y 2).val
  be : ∀ y, x8 y = P.be (y 0).val (y 1).val (y 2).val
  w2 : ∀ y, x9 y = P.w2 (y 0).val (y 1).val (y 2).val (y 3).val
  b2 : ∀ y, x10 y = P.b2 (y 0).val

variable {P : Par} {x0 : FVec Ideal S8x3x256x256 .f32} {x1 : FVec Ideal S64x6x3x3 .f32}
  {x2 x3 x4 : FVec Ideal S64 .f32} {x5 : FVec Ideal S3x2x64x64x3x3 .f32} {x6 x7 x8 : FVec Ideal S3x2x64 .f32}
  {x9 : FVec Ideal S3x64x3x3 .f32} {x10 : FVec Ideal S3 .f32}
  (h : Holds P x0 x1 x2 x3 x4 x5 x6 x7 x8 x9 x10)
include h

/-- Filter `(i, j)` of the stages inside: convolution, batch normalisation, celu. -/
theorem Holds.inner (v : FVec Ideal S8x64x256x256 .f32) (X : ℕ → ℕ → ℕ → ℕ → EReal)
    (hv : ∀ y, v y = X (y 0).val (y 1).val (y 2).val (y 3).val) (i j : ℕ) (h1 h2 h3 h4 h5 h6 h7 h8)
    (y : S8x64x256x256.Idx) :
    rCelu (rNorm (rConv v (rFilter x5 i j h1 h2) (rRow x6 i j h3 h4)) (rRow x7 i j h5 h6) (rRow x8 i j h7 h8)) y
      = stageR 64 X (P.bw i j) (P.bb i j) (P.bg i j) (P.be i j) (y 0).val (y 1).val (y 2).val (y 3).val :=
  rCelu_apply _ _ (rNorm_apply _ _
    (rConv_apply v X hv (P.bw i j) _ (rFilter_apply x5 P.bw h.bw i j h1 h2) (P.bb i j) _
      (rRow_apply x6 P.bb h.bb i j h3 h4))
    (P.bg i j) (P.be i j) _ _ (rRow_apply x7 P.bg h.bg i j h5 h6) (rRow_apply x8 P.be h.be i j h7 h8)) y

omit h in
/-- The sum of two arrays, read by their entries. -/
theorem rAdd_apply (u v : FVec Ideal S8x64x256x256 .f32) (U V : ℕ → ℕ → ℕ → ℕ → EReal)
    (hu : ∀ y, u y = U (y 0).val (y 1).val (y 2).val (y 3).val)
    (hv : ∀ y, v y = V (y 0).val (y 1).val (y 2).val (y 3).val) (y : S8x64x256x256.Idx) :
    rAdd u v y = addN U V (y 0).val (y 1).val (y 2).val (y 3).val :=
  congrArg₂ (· + ·) (hu y) (hv y)

/-- The activations after the first stage. -/
theorem Holds.r0 (y : S8x64x256x256.Idx) : val_main_v98 (F := Ideal) x0 x1 x2 x3 x4 y
    = P.r0 (y 0).val (y 1).val (y 2).val (y 3).val := by
  rw [stage0_eq, conv0_eq, input_eq]
  exact rCelu_apply _ _ (rNorm_apply _ _
    (rConv6_apply _ _ (rInput_apply x0 P.x h.x) P.w1 _ h.w1 P.b1 _ h.b1) P.g1 P.e1 _ _ h.g1 h.e1) y

/-- Inside the first residual block. -/
theorem Holds.s1 (y : S8x64x256x256.Idx) : val_main_v196 (F := Ideal) x0 x1 x2 x3 x4 x5 x6 x7 x8 y
    = P.s1 (y 0).val (y 1).val (y 2).val (y 3).val := by
  rw [stage1_eq]
  exact h.inner _ _ h.r0 0 0 _ _ _ _ _ _ _ _ y

/-- After the first residual block. -/
theorem Holds.r1 (y : S8x64x256x256.Idx) : val_main_v287 (F := Ideal) x0 x1 x2 x3 x4 x5 x6 x7 x8 y
    = P.r1 (y 0).val (y 1).val (y 2).val (y 3).val := by
  rw [skip0_eq, stage2_eq]
  exact rAdd_apply _ _ _ _ (h.inner _ _ h.s1 0 1 _ _ _ _ _ _ _ _) h.r0 y

/-- Inside the second residual block. -/
theorem Holds.s2 (y : S8x64x256x256.Idx) : val_main_v385 (F := Ideal) x0 x1 x2 x3 x4 x5 x6 x7 x8 y
    = P.s2 (y 0).val (y 1).val (y 2).val (y 3).val := by
  rw [stage3_eq]
  exact h.inner _ _ h.r1 1 0 _ _ _ _ _ _ _ _ y

/-- After the second residual block. -/
theorem Holds.r2 (y : S8x64x256x256.Idx) : val_main_v476 (F := Ideal) x0 x1 x2 x3 x4 x5 x6 x7 x8 y
    = P.r2 (y 0).val (y 1).val (y 2).val (y 3).val := by
  rw [skip1_eq, stage4_eq]
  exact rAdd_apply _ _ _ _ (h.inner _ _ h.s2 1 1 _ _ _ _ _ _ _ _) h.r1 y

/-- Inside the third residual block. -/
theorem Holds.s3 (y : S8x64x256x256.Idx) : val_main_v574 (F := Ideal) x0 x1 x2 x3 x4 x5 x6 x7 x8 y
    = P.s3 (y 0).val (y 1).val (y 2).val (y 3).val := by
  rw [stage5_eq]
  exact h.inner _ _ h.r2 2 0 _ _ _ _ _ _ _ _ y

/-- After the third residual block. -/
theorem Holds.r3 (y : S8x64x256x256.Idx) : val_main_v665 (F := Ideal) x0 x1 x2 x3 x4 x5 x6 x7 x8 y
    = P.r3 (y 0).val (y 1).val (y 2).val (y 3).val := by
  rw [skip2_eq, stage6_eq]
  exact rAdd_apply _ _ _ _ (h.inner _ _ h.s3 2 1 _ _ _ _ _ _ _ _) h.r2 y

/-- The reference's result at an index is the network's. -/
theorem Holds.out (y : S8x3x256x256.Idx) : val_main_v724 (F := Ideal) x0 x1 x2 x3 x4 x5 x6 x7 x8 x9 x10 y
    = P.outR (y 0).val (y 1).val (y 2).val (y 3).val := by
  rw [final_eq]
  refine congrArg₂ (· + ·) ((rCelu3_apply _ y).trans ?_) (h.x y)
  exact congrArg celuR (rConv3_apply _ _ h.r3 P.w2 _ h.w2 P.b2 _ h.b2 y)

end Cert.ReferenceIdeal.Val

end
-- ==== Proof.Args.lean ====
/- The network that the arguments hold, and what the precondition says of it. -/
module

public import proofs.«01_k».proof.Proof.NetEq
public import proofs.«01_k».proof.Pre_finite_and_varied
public import proofs.«01_k».proof.Proof.Gen.Pre_finite_and_varied
public import Idealize.ShloMosaic.Lib.ValueIdxCore
public import Idealize.ShloMosaic.Lib.Pointwise.Reduce

@[expose] public section

set_option maxRecDepth 16384

noncomputable section

namespace Cert.Net

open Idealize.ShloMosaic Cert.Pre_finite_and_varied Cert.Pre_finite_and_varied.Facts

/-! ## Arrays by numbers -/

/-- The entry of an array at the coordinates `f`, zero outside. -/
def entry {s : Shape} (v : s.Idx → EReal) (f : Fin s.rank → ℕ) : EReal :=
  if h : ∀ a, f a < s.size a then v (fun a => ⟨f a, h a⟩) else 0

/-- At an index's own coordinates `entry` is the array's value. -/
theorem entry_val {s : Shape} (v : s.Idx → EReal) (y : s.Idx) : entry v (fun a => (y a).val) = v y := by
  unfold entry
  rw [dif_pos (fun a => (y a).isLt)]

/-- An array at an index is its entry at numbers equal to the coordinates. -/
theorem entry_at {s : Shape} (v : s.Idx → EReal) (f : Fin s.rank → ℕ) (y : s.Idx) (h : ∀ a, (y a).val = f a) :
    v y = entry v f := by
  rw [← entry_val v y]
  exact congrArg (entry v) (funext h)

/-- An array of finite values has finite entries everywhere. -/
theorem entry_finite {s : Shape} (v : s.Idx → EReal) (hv : ∀ y, IsR (v y)) (f : Fin s.rank → ℕ) : IsR (entry v f) := by
  unfold entry
  split
  · exact hv _
  · exact IsR.zero

/-- The network that the arguments hold. -/
def netOf (x0 : FVec Ideal S8x3x256x256 .f32) (x1 : FVec Ideal S64x6x3x3 .f32)
    (x2 x3 x4 : FVec Ideal S64 .f32) (x5 : FVec Ideal S3x2x64x64x3x3 .f32) (x6 x7 x8 : FVec Ideal S3x2x64 .f32)
    (x9 : FVec Ideal S3x64x3x3 .f32) (x10 : FVec Ideal S3 .f32) : Par where
  x n c h w := entry (s := S8x3x256x256) x0 ![n, c, h, w]
  w1 o i p q := entry (s := S64x6x3x3) x1 ![o, i, p, q]
  b1 o := entry (s := S64) x2 ![o]
  g1 o := entry (s := S64) x3 ![o]
  e1 o := entry (s := S64) x4 ![o]
  bw i j o k p q := entry (s := S3x2x64x64x3x3) x5 ![i, j, o, k, p, q]
  bb i j o := entry (s := S3x2x64) x6 ![i, j, o]
  bg i j o := entry (s := S3x2x64) x7 ![i, j, o]
  be i j o := entry (s := S3x2x64) x8 ![i, j, o]
  w2 o i p q := entry (s := S3x64x3x3) x9 ![o, i, p, q]
  b2 o := entry (s := S3) x10 ![o]

/-- An array of one axis, read by a number. -/
theorem read1 {n : Fin 1 → ℕ} (v : (⟨1, n⟩ : Shape).Idx → EReal) (y : (⟨1, n⟩ : Shape).Idx) :
    v y = entry v ![(y 0).val] :=
  entry_at v _ y fun a => by match a with | 0 => rfl

/-- An array of three axes, read by numbers. -/
theorem read3 {n : Fin 3 → ℕ} (v : (⟨3, n⟩ : Shape).Idx → EReal) (y : (⟨3, n⟩ : Shape).Idx) :
    v y = entry v ![(y 0).val, (y 1).val, (y 2).val] :=
  entry_at v _ y fun a => by match a with | 0 => rfl | 1 => rfl | 2 => rfl

/-- An array of four axes, read by numbers. -/
theorem read4 {n : Fin 4 → ℕ} (v : (⟨4, n⟩ : Shape).Idx → EReal) (y : (⟨4, n⟩ : Shape).Idx) :
    v y = entry v ![(y 0).val, (y 1).val, (y 2).val, (y 3).val] :=
  entry_at v _ y fun a => by match a with | 0 => rfl | 1 => rfl | 2 => rfl | 3 => rfl

/-- An array of six axes, read by numbers. -/
theorem read6 {n : Fin 6 → ℕ} (v : (⟨6, n⟩ : Shape).Idx → EReal) (y : (⟨6, n⟩ : Shape).Idx) :
    v y = entry v ![(y 0).val, (y 1).val, (y 2).val, (y 3).val, (y 4).val, (y 5).val] :=
  entry_at v _ y fun a => by
    match a with | 0 => rfl | 1 => rfl | 2 => rfl | 3 => rfl | 4 => rfl | 5 => rfl

/-! ## The precondition -/

/-- The word of +∞. -/
theorem inf_eq : Ideal.ofBits (.f32 : FTy) 0x7F800000#32 = ⊤ := by
  simp [Ideal.ofBits, Ideal.ieee]

/-- The word of −∞. -/
theorem neginf_eq : Ideal.ofBits (.f32 : FTy) 0xFF800000#32 = ⊥ := by
  simp [Ideal.ofBits, Ideal.ieee]

/-- A value whose absolute value is less than infinity is finite. -/
theorem isR_of_abs (x : EReal) (h : max x (-x) < ⊤) : IsR x := by
  induction x using EReal.rec with
  | bot => simp at h
  | top => simp at h
  | coe r => exact IsR.coe r

/-- A comparison that holds. -/
theorem lt_of_cmp (a b : EReal) (h : FloatOps.cmpf (F := Ideal) (φ := .f32) .olt a b = 1#1) : a < b := by
  have e : BitVec.ofBool (decide (a < b)) = 1#1 := h
  by_contra hc
  rw [decide_eq_false hc] at e
  exact absurd e (by decide)

/-- An array passes the test of finiteness only if its entries are finite. -/
theorem finite_of {s : Shape} (hb : S_.BroadcastsInDim s (![] : Fin 0 → Fin s.rank)) (v : FVec Ideal s .f32)
    (h : cmpf .olt (Host.absf v) (broadcastInDim s ![] hb (constant (F := Ideal) S_ .f32 0x7F800000#32)) = fun _ => 1#1)
    (y : s.Idx) : IsR (v y) := by
  have e : max (v y) (-(v y)) < Ideal.ofBits (.f32 : FTy) 0x7F800000#32 :=
    lt_of_cmp _ _ ((ValueIdx.cmpf_apply _ _ _ y).symm.trans (congrFun h y))
  rw [inf_eq] at e
  exact isR_of_abs _ e

/-- A minimum that is less than the maximum leaves two different entries. -/
theorem varied_of (v : FVec Ideal S8x3x256x256 .f32) (hr : S8x3x256x256.ReducesTo [2, 3] S8x3) (hu : 0 < S_.numel)
    (h : cmpf .olt (Host.reduce FloatOps.minimumf v (constant (F := Ideal) S_ .f32 0x7F800000#32) hr hu)
      (Host.reduce FloatOps.maximumf v (constant (F := Ideal) S_ .f32 0xFF800000#32) hr hu) = fun _ => 1#1)
    (j : S8x3.Idx) : ∃ i i' : S8x3x256x256.Idx, hr.drop i = j ∧ hr.drop i' = j ∧ v i ≠ v i' := by
  have lt := lt_of_cmp _ _ ((ValueIdx.cmpf_apply _ _ _ j).symm.trans (congrFun h j))
  rw [Ideal.minimumf_eq_min, Ideal.maximumf_eq_max, Host.reduce_eq_fold, Host.reduce_eq_fold] at lt
  have c1 : constant (F := Ideal) S_ .f32 0x7F800000#32 (Shape.Idx.first hu) = (⊤ : EReal) := inf_eq
  have c2 : constant (F := Ideal) S_ .f32 0xFF800000#32 (Shape.Idx.first hu) = (⊥ : EReal) := neginf_eq
  rw [c1, c2] at lt
  by_contra hc
  push Not at hc
  obtain ⟨t, ht1, ht2⟩ := exists_between lt
  have hl := (Finset.fold_min_lt (f := v) (b := (⊤ : EReal)) (c := t)
    (s := Finset.univ.filter fun i => hr.drop i = j)).1 ht1
  have hg := (Finset.lt_fold_max (f := v) (b := (⊥ : EReal)) (c := t)
    (s := Finset.univ.filter fun i => hr.drop i = j)).1 ht2
  rcases hl with hl | ⟨i, hi, hl⟩
  · exact absurd hl not_top_lt
  rcases hg with hg | ⟨i', hi', hg⟩
  · exact absurd hg not_lt_bot
  have q := hc i i' (Finset.mem_filter.1 hi).2 (Finset.mem_filter.1 hi').2
  rw [q] at hl
  exact absurd (hl.trans hg) (lt_irrefl _)

/-- What the precondition says of eleven arguments: nine arrays pass the test of finiteness, and in each channel of
    each image the minimum is less than the maximum. -/
def Tested (x0 : FVec Ideal S8x3x256x256 .f32) (x1 : FVec Ideal S64x6x3x3 .f32)
    (x2 x3 x4 : FVec Ideal S64 .f32) (x5 : FVec Ideal S3x2x64x64x3x3 .f32) (x6 x7 x8 : FVec Ideal S3x2x64 .f32)
    (x9 : FVec Ideal S3x64x3x3 .f32) (x10 : FVec Ideal S3 .f32) : Prop :=
  (fn (F := Ideal) x0 x1 x2 x3 x4 x5 x6 x7 x8 x9 x10).1 = (fun _ => 1#1)
  ∧ (fn (F := Ideal) x0 x1 x2 x3 x4 x5 x6 x7 x8 x9 x10).2.1 = (fun _ => 1#1)
  ∧ (fn (F := Ideal) x0 x1 x2 x3 x4 x5 x6 x7 x8 x9 x10).2.2.1 = (fun _ => 1#1)
  ∧ (fn (F := Ideal) x0 x1 x2 x3 x4 x5 x6 x7 x8 x9 x10).2.2.2.1 = (fun _ => 1#1)
  ∧ (fn (F := Ideal) x0 x1 x2 x3 x4 x5 x6 x7 x8 x9 x10).2.2.2.2.1 = (fun _ => 1#1)
  ∧ (fn (F := Ideal) x0 x1 x2 x3 x4 x5 x6 x7 x8 x9 x10).2.2.2.2.2.1 = (fun _ => 1#1)
  ∧ (fn (F := Ideal) x0 x1 x2 x3 x4 x5 x6 x7 x8 x9 x10).2.2.2.2.2.2.1 = (fun _ => 1#1)
  ∧ (fn (F := Ideal) x0 x1 x2 x3 x4 x5 x6 x7 x8 x9 x10).2.2.2.2.2.2.2.1 = (fun _ => 1#1)
  ∧ (fn (F := Ideal) x0 x1 x2 x3 x4 x5 x6 x7 x8 x9 x10).2.2.2.2.2.2.2.2.1 = (fun _ => 1#1)
  ∧ (fn (F := Ideal) x0 x1 x2 x3 x4 x5 x6 x7 x8 x9 x10).2.2.2.2.2.2.2.2.2 = (fun _ => 1#1)

/-- Tested arguments hold a network with finite entries and no constant image channel. -/
theorem netOf_ok (x0 : FVec Ideal S8x3x256x256 .f32) (x1 : FVec Ideal S64x6x3x3 .f32)
    (x2 x3 x4 : FVec Ideal S64 .f32) (x5 : FVec Ideal S3x2x64x64x3x3 .f32) (x6 x7 x8 : FVec Ideal S3x2x64 .f32)
    (x9 : FVec Ideal S3x64x3x3 .f32) (x10 : FVec Ideal S3 .f32)
    (h : Tested x0 x1 x2 x3 x4 x5 x6 x7 x8 x9 x10) : (netOf x0 x1 x2 x3 x4 x5 x6 x7 x8 x9 x10).Ok := by
  obtain ⟨h0, h1, h2, h3, h4, h5, h6, h7, h8, h9⟩ := h
  refine ⟨fun n c r w => entry_finite _ (finite_of bcast_S_S8x3x256x256 x0 h0) _, ?_,
    fun o i p q => entry_finite _ (finite_of bcast_S_S64x6x3x3 x1 h1) _,
    fun o => entry_finite _ (finite_of bcast_S_S64 x2 h2) _,
    fun o => entry_finite _ (finite_of bcast_S_S64 x3 h3) _,
    fun o => entry_finite _ (finite_of bcast_S_S64 x4 h4) _,
    fun i j o k p q => entry_finite _ (finite_of bcast_S_S3x2x64x64x3x3 x5 h5) _,
    fun i j o => entry_finite _ (finite_of bcast_S_S3x2x64 x6 h6) _,
    fun i j o => entry_finite _ (finite_of bcast_S_S3x2x64 x7 h7) _,
    fun i j o => entry_finite _ (finite_of bcast_S_S3x2x64 x8 h8) _⟩
  intro n c hn hc
  obtain ⟨i, i', e, e', ne⟩ := varied_of x0 reducesTo_S8x3x256x256_S8x3_d2_3 h_S_ h9 (ValueIdx.ix2 ⟨n, hn⟩ ⟨c, hc⟩)
  have at_ : ∀ i : S8x3x256x256.Idx, (reducesTo_S8x3x256x256_S8x3_d2_3).drop i = ValueIdx.ix2 ⟨n, hn⟩ ⟨c, hc⟩ →
      entry (s := S8x3x256x256) x0 ![n, c, (i 2).val, (i 3).val] = x0 i := fun i e => by
    have q0 : (i 0).val = n := congrArg Fin.val (congrFun e 0)
    have q1 : (i 1).val = c := congrArg Fin.val (congrFun e 1)
    rw [read4 x0 i, q0, q1]
  exact ⟨(i 2).val, (i 3).val, (i' 2).val, (i' 3).val, (i 2).isLt, (i 3).isLt, (i' 2).isLt, (i' 3).isLt,
    fun q => ne ((at_ i e).symm.trans (q.trans (at_ i' e')))⟩

end Cert.Net

end
-- ==== Proof.Equal.lean ====
/- From arguments that pass the precondition's tests, the kernel and the reference end with one result. -/
module

public import proofs.«01_k».proof.Defs
public import proofs.«01_k».proof.Proof.Chain
public import proofs.«01_k».proof.Proof.RefNet
public import proofs.«01_k».proof.Proof.Args
public import proofs.«01_k».proof.Proof.Gen.ReferenceIdeal.Run

@[expose] public section

set_option maxRecDepth 16384

noncomputable section

namespace Cert.Proof

open Idealize.ShloMosaic Idealize.ShloMosaic.TcCoe Idealize.SL.Sem Cert.Net
open Cert.KernelIdeal (S8x3x256x256 S64x6x3x3 S64 S3x2x64x64x3x3 S3x2x64 S3x64x3x3 S3)

section

variable (x0 : FVec Ideal S8x3x256x256 .f32) (x1 : FVec Ideal S64x6x3x3 .f32)
  (x2 x3 x4 : FVec Ideal S64 .f32) (x5 : FVec Ideal S3x2x64x64x3x3 .f32) (x6 x7 x8 : FVec Ideal S3x2x64 .f32)
  (x9 : FVec Ideal S3x64x3x3 .f32) (x10 : FVec Ideal S3 .f32)

/-- The arguments hold the entries of their network. -/
theorem holds : Cert.ReferenceIdeal.Val.Holds (netOf x0 x1 x2 x3 x4 x5 x6 x7 x8 x9 x10) x0 x1 x2 x3 x4 x5 x6 x7 x8 x9 x10 :=
  ⟨read4 _, read4 _, read1 _, read1 _, read1 _, read6 _, read3 _, read3 _, read3 _, read4 _, read1 _⟩

/-- The reference's result on tested arguments, entry by entry, is the kernel's network. -/
theorem reference_at (h : Tested x0 x1 x2 x3 x4 x5 x6 x7 x8 x9 x10) (y : S8x3x256x256.Idx) :
    Cert.ReferenceIdeal.Read.val_main_v724 (F := Ideal) x0 x1 x2 x3 x4 x5 x6 x7 x8 x9 x10 y
      = (netOf x0 x1 x2 x3 x4 x5 x6 x7 x8 x9 x10).outK (y 0).val (y 1).val (y 2).val (y 3).val :=
  ((holds x0 x1 x2 x3 x4 x5 x6 x7 x8 x9 x10).out y).trans
    ((netOf x0 x1 x2 x3 x4 x5 x6 x7 x8 x9 x10).out_eq (netOf_ok x0 x1 x2 x3 x4 x5 x6 x7 x8 x9 x10 h)
      _ _ _ _ (y 0).isLt).symm

/-- Equal arguments give the reference equal results. -/
theorem reference_congr {y0 : FVec Ideal S8x3x256x256 .f32} {y1 : FVec Ideal S64x6x3x3 .f32}
    {y2 y3 y4 : FVec Ideal S64 .f32} {y5 : FVec Ideal S3x2x64x64x3x3 .f32} {y6 y7 y8 : FVec Ideal S3x2x64 .f32}
    {y9 : FVec Ideal S3x64x3x3 .f32} {y10 : FVec Ideal S3 .f32}
    (e : y0 = x0 ∧ y1 = x1 ∧ y2 = x2 ∧ y3 = x3 ∧ y4 = x4 ∧ y5 = x5 ∧ y6 = x6 ∧ y7 = x7 ∧ y8 = x8 ∧ y9 = x9 ∧ y10 = x10) :
    Cert.ReferenceIdeal.Read.val_main_v724 (F := Ideal) y0 y1 y2 y3 y4 y5 y6 y7 y8 y9 y10
      = Cert.ReferenceIdeal.Read.val_main_v724 (F := Ideal) x0 x1 x2 x3 x4 x5 x6 x7 x8 x9 x10 := by
  obtain ⟨rfl, rfl, rfl, rfl, rfl, rfl, rfl, rfl, rfl, rfl, rfl⟩ := e
  rfl

end

section

open Cert.KernelIdeal Cert.KernelIdeal.Gen Cert.KernelIdeal.Val

variable (m : (ℓ : Loc nD τ sig) → Buf (Elt Ideal) ℓ) (ρ : Dev nD → PrngReg) (c : Dev nD)

/-- The network in a memory's arguments. -/
def net : Par := netOf (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))

/-- The kernel's arguments hold the network `net`. -/
theorem reads : Reads m c (net m c) :=
  ⟨read4 _, read4 _, read1 _, read1 _, read6 _, read3 _, read3 _, read4 _, read1 _⟩

/-- What the kernel's result array ends with. -/
def result : Buf (Elt Ideal) ((c : Thread nD τ).loc main_v355) := W63 m ρ c (Proc.devRef .tc main_v355)

/-- The kernel's result, entry by entry, is the network's. -/
theorem result_net (y : S8x3x256x256.Idx) :
    result m ρ c y = (net m c).outK (y 0).val (y 1).val (y 2).val (y 3).val :=
  result_at m ρ c (net m c) (reads m c) y

/-- The kernel ends with `result` in its result array and its arguments unchanged. -/
theorem kernel_run : θ_run defs (onTc (τ := τ) main) ⟨m, fun _ => 0, ρ⟩ (fun r => ∀ c : Dev nD,
    r.2.mem ((c : Thread nD τ).loc main_v355) = result m ρ c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)) :=
  (θ_run defs _ _).mono (fun r h c => ⟨h.1 c _ (mem_uc main_v355 (by decide)),
    (h.1 c _ (mem_uc main_arg0 (by decide))).trans (W63_main_arg0 m ρ c),
    (h.1 c _ (mem_uc main_arg1 (by decide))).trans (W63_main_arg1 m ρ c),
    (h.1 c _ (mem_uc main_arg2 (by decide))).trans (W63_main_arg2 m ρ c),
    (h.1 c _ (mem_uc main_arg3 (by decide))).trans (W63_main_arg3 m ρ c),
    (h.1 c _ (mem_uc main_arg4 (by decide))).trans (W63_main_arg4 m ρ c),
    (h.1 c _ (mem_uc main_arg5 (by decide))).trans (W63_main_arg5 m ρ c),
    (h.1 c _ (mem_uc main_arg6 (by decide))).trans (W63_main_arg6 m ρ c),
    (h.1 c _ (mem_uc main_arg7 (by decide))).trans (W63_main_arg7 m ρ c),
    (h.1 c _ (mem_uc main_arg8 (by decide))).trans (W63_main_arg8 m ρ c),
    (h.1 c _ (mem_uc main_arg9 (by decide))).trans (W63_main_arg9 m ρ c),
    (h.1 c _ (mem_uc main_arg10 (by decide))).trans (W63_main_arg10 m ρ c)⟩) (run_all m ρ)

end

/-- At exact arithmetic the kernel and the reference, from the same tested arguments, end with the same result. -/
theorem algebraic : Cert.algebraic_KernelIdeal_ReferenceIdeal_pre_finite_and_varied := by
  intro m ρ m' ρ' hp hagree
  refine ⟨result m ρ, kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v724_eq (F := Ideal) _).trans ?_
  refine (reference_congr _ _ _ _ _ _ _ _ _ _ _ (hagree c)).trans ?_
  funext y
  exact (reference_at _ _ _ _ _ _ _ _ _ _ _ (hp c) y).trans (result_net m ρ c y).symm

end Cert.Proof

end
-- ==== Proof.lean ====
/- The certificate: the kernel, its ideal reading and the reference run to the end, keep their arguments and leave every
   counter at zero; the ideal reading is the kernel's own text; and at exact arithmetic kernel and reference end with the
   same result on every input that meets the precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_varied
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to the end, keeps its arguments and leaves every counter at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- All the claims together. -/
theorem claim : Cert.Claim := ⟨Cert.Kernel.Gen.facts, Cert.KernelIdeal.Gen.facts, Cert.ReferenceIdeal.Gen.facts, Cert.Pre_finite_and_varied.Gen.facts,
  fun m ρ _ => Cert.Kernel.Gen.frame m ρ, fun m ρ _ => Cert.KernelIdeal.Gen.frame m ρ,
  fun m ρ _ => Cert.KernelIdeal.Gen.frame m ρ, reference_frame, fun m ρ _ => reference_frame m ρ trivial,
  trivial, algebraic⟩

end Cert.Proof

end
